-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_GUp (m : (ℓ : Loc Cert.GUp.nD Cert.GUp.τ Cert.GUp.sig) → Buf (Elt Bits) ℓ) : Prop :=
  True

def Pre_GUpIdeal (m : (ℓ : Loc Cert.GUpIdeal.nD Cert.GUpIdeal.τ Cert.GUpIdeal.sig) → Buf (Elt Ideal) ℓ) : Prop :=
  True

def Pre_GUpRefIdeal (m : (ℓ : Loc Cert.GUpRefIdeal.nD Cert.GUpRefIdeal.τ Cert.GUpRefIdeal.sig) → Buf (Elt Ideal) ℓ) : Prop :=
  True

def Pre_DHf (m : (ℓ : Loc Cert.DHf.nD Cert.DHf.τ Cert.DHf.sig) → Buf (Elt Bits) ℓ) : Prop :=
  True

def Pre_DHfIdeal (m : (ℓ : Loc Cert.DHfIdeal.nD Cert.DHfIdeal.τ Cert.DHfIdeal.sig) → Buf (Elt Ideal) ℓ) : Prop :=
  True

def Pre_DHfRefIdeal (m : (ℓ : Loc Cert.DHfRefIdeal.nD Cert.DHfRefIdeal.τ Cert.DHfRefIdeal.sig) → Buf (Elt Ideal) ℓ) : Prop :=
  True

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_DU (m : (ℓ : Loc Cert.DU.nD Cert.DU.τ Cert.DU.sig) → Buf (Elt Bits) ℓ) : Prop :=
  True

def Pre_DUIdeal (m : (ℓ : Loc Cert.DUIdeal.nD Cert.DUIdeal.τ Cert.DUIdeal.sig) → Buf (Elt Ideal) ℓ) : Prop :=
  True

def Pre_DURefIdeal (m : (ℓ : Loc Cert.DURefIdeal.nD Cert.DURefIdeal.τ Cert.DURefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GParIn (m : (ℓ : Loc Cert.GParIn.nD Cert.GParIn.τ Cert.GParIn.sig) → Buf (Elt Bits) ℓ) : Prop :=
  True

def Pre_GParInIdeal (m : (ℓ : Loc Cert.GParInIdeal.nD Cert.GParInIdeal.τ Cert.GParInIdeal.sig) → Buf (Elt Ideal) ℓ) : Prop :=
  True

def Pre_GParInRefIdeal (m : (ℓ : Loc Cert.GParInRefIdeal.nD Cert.GParInRefIdeal.τ Cert.GParInRefIdeal.sig) → Buf (Elt Ideal) ℓ) : Prop :=
  True

def Pre_DParIn (m : (ℓ : Loc Cert.DParIn.nD Cert.DParIn.τ Cert.DParIn.sig) → Buf (Elt Bits) ℓ) : Prop :=
  True

def Pre_DParInIdeal (m : (ℓ : Loc Cert.DParInIdeal.nD Cert.DParInIdeal.τ Cert.DParInIdeal.sig) → Buf (Elt Ideal) ℓ) : Prop :=
  True

def Pre_DParInRefIdeal (m : (ℓ : Loc Cert.DParInRefIdeal.nD Cert.DParInRefIdeal.τ Cert.DParInRefIdeal.sig) → Buf (Elt Ideal) ℓ) : Prop :=
  True

def Pre_GSgIn (m : (ℓ : Loc Cert.GSgIn.nD Cert.GSgIn.τ Cert.GSgIn.sig) → Buf (Elt Bits) ℓ) : Prop :=
  True

def Pre_GSgInIdeal (m : (ℓ : Loc Cert.GSgInIdeal.nD Cert.GSgInIdeal.τ Cert.GSgInIdeal.sig) → Buf (Elt Ideal) ℓ) : Prop :=
  True

def Pre_GSgInRefIdeal (m : (ℓ : Loc Cert.GSgInRefIdeal.nD Cert.GSgInRefIdeal.τ Cert.GSgInRefIdeal.sig) → Buf (Elt Ideal) ℓ) : Prop :=
  True

def Pre_DSgIn (m : (ℓ : Loc Cert.DSgIn.nD Cert.DSgIn.τ Cert.DSgIn.sig) → Buf (Elt Bits) ℓ) : Prop :=
  True

def Pre_DSgInIdeal (m : (ℓ : Loc Cert.DSgInIdeal.nD Cert.DSgInIdeal.τ Cert.DSgInIdeal.sig) → Buf (Elt Ideal) ℓ) : Prop :=
  True

def Pre_DSgInRefIdeal (m : (ℓ : Loc Cert.DSgInRefIdeal.nD Cert.DSgInRefIdeal.τ Cert.DSgInRefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_ParIn (m : (ℓ : Loc Cert.ParIn.nD Cert.ParIn.τ Cert.ParIn.sig) → Buf (Elt Bits) ℓ) : Prop :=
  True

def Pre_ParInIdeal (m : (ℓ : Loc Cert.ParInIdeal.nD Cert.ParInIdeal.τ Cert.ParInIdeal.sig) → Buf (Elt Ideal) ℓ) : Prop :=
  True

def Pre_ParInRefIdeal (m : (ℓ : Loc Cert.ParInRefIdeal.nD Cert.ParInRefIdeal.τ Cert.ParInRefIdeal.sig) → Buf (Elt Ideal) ℓ) : Prop :=
  True

def Pre_SgIn (m : (ℓ : Loc Cert.SgIn.nD Cert.SgIn.τ Cert.SgIn.sig) → Buf (Elt Bits) ℓ) : Prop :=
  True

def Pre_SgInIdeal (m : (ℓ : Loc Cert.SgInIdeal.nD Cert.SgInIdeal.τ Cert.SgInIdeal.sig) → Buf (Elt Ideal) ℓ) : Prop :=
  True

def Pre_SgInRefIdeal (m : (ℓ : Loc Cert.SgInRefIdeal.nD Cert.SgInRefIdeal.τ Cert.SgInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_conv [hPre_finite_conv : Cert.Pre_finite_conv.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2.2 = (fun _ => 1#1)

def Pre_BlockBwd (m : (ℓ : Loc Cert.BlockBwd.nD Cert.BlockBwd.τ Cert.BlockBwd.sig) → Buf (Elt Bits) ℓ) : Prop :=
  True

def Pre_BlockBwdIdeal (m : (ℓ : Loc Cert.BlockBwdIdeal.nD Cert.BlockBwdIdeal.τ Cert.BlockBwdIdeal.sig) → Buf (Elt Ideal) ℓ) : Prop :=
  True

def Pre_BlockBwdRefIdeal (m : (ℓ : Loc Cert.BlockBwdRefIdeal.nD Cert.BlockBwdRefIdeal.τ Cert.BlockBwdRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_BlockFwd (m : (ℓ : Loc Cert.BlockFwd.nD Cert.BlockFwd.τ Cert.BlockFwd.sig) → Buf (Elt Bits) ℓ) : Prop :=
  True

def Pre_BlockFwdIdeal (m : (ℓ : Loc Cert.BlockFwdIdeal.nD Cert.BlockFwdIdeal.τ Cert.BlockFwdIdeal.sig) → Buf (Elt Ideal) ℓ) : Prop :=
  True

def Pre_BlockFwdRefIdeal (m : (ℓ : Loc Cert.BlockFwdRefIdeal.nD Cert.BlockFwdRefIdeal.τ Cert.BlockFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GUp [hGUp : Cert.GUp.Facts] : Prop :=
  ∀ (m : (ℓ : Loc Cert.GUp.nD Cert.GUp.τ Cert.GUp.sig) → Buf (Elt Bits) ℓ) (g : Dev Cert.GUp.nD → PrngReg), Pre_GUp m →
    θ_run (Cert.GUp.defs (F := Bits)) (onTc (τ := Cert.GUp.τ) (Cert.GUp.main (F := Bits))) ⟨m, fun _ => 0, g⟩ (fun r => (∀ c : Dev Cert.GUp.nD,
      r.2.mem ((c.tc : Thread Cert.GUp.nD Cert.GUp.τ).loc Cert.GUp.main_arg0) = m ((c.tc : Thread Cert.GUp.nD Cert.GUp.τ).loc Cert.GUp.main_arg0)
      ∧ r.2.mem ((c.tc : Thread Cert.GUp.nD Cert.GUp.τ).loc Cert.GUp.main_arg1) = m ((c.tc : Thread Cert.GUp.nD Cert.GUp.τ).loc Cert.GUp.main_arg1))
      ∧ r.2.sem = fun _ => 0)

def quiescent_GUpIdeal [hGUpIdeal : Cert.GUpIdeal.Facts] : Prop :=
  ∀ (m : (ℓ : Loc Cert.GUpIdeal.nD Cert.GUpIdeal.τ Cert.GUpIdeal.sig) → Buf (Elt Ideal) ℓ) (g : Dev Cert.GUpIdeal.nD → PrngReg), Pre_GUpIdeal m →
    θ_run (Cert.GUpIdeal.defs (F := Ideal)) (onTc (τ := Cert.GUpIdeal.τ) (Cert.GUpIdeal.main (F := Ideal))) ⟨m, fun _ => 0, g⟩ (fun r => (∀ c : Dev Cert.GUpIdeal.nD,
      r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
      ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1))
      ∧ r.2.sem = fun _ => 0)

def quiescent_GUpRefIdeal [hGUpRefIdeal : Cert.GUpRefIdeal.Facts] : Prop :=
  ∀ (m : (ℓ : Loc Cert.GUpRefIdeal.nD Cert.GUpRefIdeal.τ Cert.GUpRefIdeal.sig) → Buf (Elt Ideal) ℓ) (g : Dev Cert.GUpRefIdeal.nD → PrngReg), Pre_GUpRefIdeal m →
    θ_run (Cert.GUpRefIdeal.defs (F := Ideal)) (onTc (τ := Cert.GUpRefIdeal.τ) (Cert.GUpRefIdeal.main (F := Ideal))) ⟨m, fun _ => 0, g⟩ (fun r => (∀ c : Dev Cert.GUpRefIdeal.nD,
      r.2.mem ((c.tc : Thread Cert.GUpRefIdeal.nD Cert.GUpRefIdeal.τ).loc Cert.GUpRefIdeal.main_arg0) = m ((c.tc : Thread Cert.GUpRefIdeal.nD Cert.GUpRefIdeal.τ).loc Cert.GUpRefIdeal.main_arg0)
      ∧ r.2.mem ((c.tc : Thread Cert.GUpRefIdeal.nD Cert.GUpRefIdeal.τ).loc Cert.GUpRefIdeal.main_arg1) = m ((c.tc : Thread Cert.GUpRefIdeal.nD Cert.GUpRefIdeal.τ).loc Cert.GUpRefIdeal.main_arg1))
      ∧ r.2.sem = fun _ => 0)

def quiescent_DHf [hDHf : Cert.DHf.Facts] : Prop :=
  ∀ (m : (ℓ : Loc Cert.DHf.nD Cert.DHf.τ Cert.DHf.sig) → Buf (Elt Bits) ℓ) (g : Dev Cert.DHf.nD → PrngReg), Pre_DHf m →
    θ_run (Cert.DHf.defs (F := Bits)) (onTc (τ := Cert.DHf.τ) (Cert.DHf.main (F := Bits))) ⟨m, fun _ => 0, g⟩ (fun r => (∀ c : Dev Cert.DHf.nD,
      r.2.mem ((c.tc : Thread Cert.DHf.nD Cert.DHf.τ).loc Cert.DHf.main_arg0) = m ((c.tc : Thread Cert.DHf.nD Cert.DHf.τ).loc Cert.DHf.main_arg0)
      ∧ r.2.mem ((c.tc : Thread Cert.DHf.nD Cert.DHf.τ).loc Cert.DHf.main_arg1) = m ((c.tc : Thread Cert.DHf.nD Cert.DHf.τ).loc Cert.DHf.main_arg1))
      ∧ r.2.sem = fun _ => 0)

def quiescent_DHfIdeal [hDHfIdeal : Cert.DHfIdeal.Facts] : Prop :=
  ∀ (m : (ℓ : Loc Cert.DHfIdeal.nD Cert.DHfIdeal.τ Cert.DHfIdeal.sig) → Buf (Elt Ideal) ℓ) (g : Dev Cert.DHfIdeal.nD → PrngReg), Pre_DHfIdeal m →
    θ_run (Cert.DHfIdeal.defs (F := Ideal)) (onTc (τ := Cert.DHfIdeal.τ) (Cert.DHfIdeal.main (F := Ideal))) ⟨m, fun _ => 0, g⟩ (fun r => (∀ c : Dev Cert.DHfIdeal.nD,
      r.2.mem ((c.tc : Thread Cert.DHfIdeal.nD Cert.DHfIdeal.τ).loc Cert.DHfIdeal.main_arg0) = m ((c.tc : Thread Cert.DHfIdeal.nD Cert.DHfIdeal.τ).loc Cert.DHfIdeal.main_arg0)
      ∧ r.2.mem ((c.tc : Thread Cert.DHfIdeal.nD Cert.DHfIdeal.τ).loc Cert.DHfIdeal.main_arg1) = m ((c.tc : Thread Cert.DHfIdeal.nD Cert.DHfIdeal.τ).loc Cert.DHfIdeal.main_arg1))
      ∧ r.2.sem = fun _ => 0)

def quiescent_DHfRefIdeal [hDHfRefIdeal : Cert.DHfRefIdeal.Facts] : Prop :=
  ∀ (m : (ℓ : Loc Cert.DHfRefIdeal.nD Cert.DHfRefIdeal.τ Cert.DHfRefIdeal.sig) → Buf (Elt Ideal) ℓ) (g : Dev Cert.DHfRefIdeal.nD → PrngReg), Pre_DHfRefIdeal m →
    θ_run (Cert.DHfRefIdeal.defs (F := Ideal)) (onTc (τ := Cert.DHfRefIdeal.τ) (Cert.DHfRefIdeal.main (F := Ideal))) ⟨m, fun _ => 0, g⟩ (fun r => (∀ c : Dev Cert.DHfRefIdeal.nD,
      r.2.mem ((c.tc : Thread Cert.DHfRefIdeal.nD Cert.DHfRefIdeal.τ).loc Cert.DHfRefIdeal.main_arg0) = m ((c.tc : Thread Cert.DHfRefIdeal.nD Cert.DHfRefIdeal.τ).loc Cert.DHfRefIdeal.main_arg0)
      ∧ r.2.mem ((c.tc : Thread Cert.DHfRefIdeal.nD Cert.DHfRefIdeal.τ).loc Cert.DHfRefIdeal.main_arg1) = m ((c.tc : Thread Cert.DHfRefIdeal.nD Cert.DHfRefIdeal.τ).loc Cert.DHfRefIdeal.main_arg1))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1))
      ∧ r.2.sem = fun _ => 0)

def quiescent_DU [hDU : Cert.DU.Facts] : Prop :=
  ∀ (m : (ℓ : Loc Cert.DU.nD Cert.DU.τ Cert.DU.sig) → Buf (Elt Bits) ℓ) (g : Dev Cert.DU.nD → PrngReg), Pre_DU m →
    θ_run (Cert.DU.defs (F := Bits)) (onTc (τ := Cert.DU.τ) (Cert.DU.main (F := Bits))) ⟨m, fun _ => 0, g⟩ (fun r => (∀ c : Dev Cert.DU.nD,
      r.2.mem ((c.tc : Thread Cert.DU.nD Cert.DU.τ).loc Cert.DU.main_arg0) = m ((c.tc : Thread Cert.DU.nD Cert.DU.τ).loc Cert.DU.main_arg0)
      ∧ r.2.mem ((c.tc : Thread Cert.DU.nD Cert.DU.τ).loc Cert.DU.main_arg1) = m ((c.tc : Thread Cert.DU.nD Cert.DU.τ).loc Cert.DU.main_arg1))
      ∧ r.2.sem = fun _ => 0)

def quiescent_DUIdeal [hDUIdeal : Cert.DUIdeal.Facts] : Prop :=
  ∀ (m : (ℓ : Loc Cert.DUIdeal.nD Cert.DUIdeal.τ Cert.DUIdeal.sig) → Buf (Elt Ideal) ℓ) (g : Dev Cert.DUIdeal.nD → PrngReg), Pre_DUIdeal m →
    θ_run (Cert.DUIdeal.defs (F := Ideal)) (onTc (τ := Cert.DUIdeal.τ) (Cert.DUIdeal.main (F := Ideal))) ⟨m, fun _ => 0, g⟩ (fun r => (∀ c : Dev Cert.DUIdeal.nD,
      r.2.mem ((c.tc : Thread Cert.DUIdeal.nD Cert.DUIdeal.τ).loc Cert.DUIdeal.main_arg0) = m ((c.tc : Thread Cert.DUIdeal.nD Cert.DUIdeal.τ).loc Cert.DUIdeal.main_arg0)
      ∧ r.2.mem ((c.tc : Thread Cert.DUIdeal.nD Cert.DUIdeal.τ).loc Cert.DUIdeal.main_arg1) = m ((c.tc : Thread Cert.DUIdeal.nD Cert.DUIdeal.τ).loc Cert.DUIdeal.main_arg1))
      ∧ r.2.sem = fun _ => 0)

def quiescent_DURefIdeal [hDURefIdeal : Cert.DURefIdeal.Facts] : Prop :=
  ∀ (m : (ℓ : Loc Cert.DURefIdeal.nD Cert.DURefIdeal.τ Cert.DURefIdeal.sig) → Buf (Elt Ideal) ℓ) (g : Dev Cert.DURefIdeal.nD → PrngReg), Pre_DURefIdeal m →
    θ_run (Cert.DURefIdeal.defs (F := Ideal)) (onTc (τ := Cert.DURefIdeal.τ) (Cert.DURefIdeal.main (F := Ideal))) ⟨m, fun _ => 0, g⟩ (fun r => (∀ c : Dev Cert.DURefIdeal.nD,
      r.2.mem ((c.tc : Thread Cert.DURefIdeal.nD Cert.DURefIdeal.τ).loc Cert.DURefIdeal.main_arg0) = m ((c.tc : Thread Cert.DURefIdeal.nD Cert.DURefIdeal.τ).loc Cert.DURefIdeal.main_arg0)
      ∧ r.2.mem ((c.tc : Thread Cert.DURefIdeal.nD Cert.DURefIdeal.τ).loc Cert.DURefIdeal.main_arg1) = m ((c.tc : Thread Cert.DURefIdeal.nD Cert.DURefIdeal.τ).loc Cert.DURefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_GParIn [hGParIn : Cert.GParIn.Facts] : Prop :=
  ∀ (m : (ℓ : Loc Cert.GParIn.nD Cert.GParIn.τ Cert.GParIn.sig) → Buf (Elt Bits) ℓ) (g : Dev Cert.GParIn.nD → PrngReg), Pre_GParIn m →
    θ_run (Cert.GParIn.defs (F := Bits)) (onTc (τ := Cert.GParIn.τ) (Cert.GParIn.main (F := Bits))) ⟨m, fun _ => 0, g⟩ (fun r => (∀ c : Dev Cert.GParIn.nD,
      r.2.mem ((c.tc : Thread Cert.GParIn.nD Cert.GParIn.τ).loc Cert.GParIn.main_arg0) = m ((c.tc : Thread Cert.GParIn.nD Cert.GParIn.τ).loc Cert.GParIn.main_arg0)
      ∧ r.2.mem ((c.tc : Thread Cert.GParIn.nD Cert.GParIn.τ).loc Cert.GParIn.main_arg1) = m ((c.tc : Thread Cert.GParIn.nD Cert.GParIn.τ).loc Cert.GParIn.main_arg1))
      ∧ r.2.sem = fun _ => 0)

def quiescent_GParInIdeal [hGParInIdeal : Cert.GParInIdeal.Facts] : Prop :=
  ∀ (m : (ℓ : Loc Cert.GParInIdeal.nD Cert.GParInIdeal.τ Cert.GParInIdeal.sig) → Buf (Elt Ideal) ℓ) (g : Dev Cert.GParInIdeal.nD → PrngReg), Pre_GParInIdeal m →
    θ_run (Cert.GParInIdeal.defs (F := Ideal)) (onTc (τ := Cert.GParInIdeal.τ) (Cert.GParInIdeal.main (F := Ideal))) ⟨m, fun _ => 0, g⟩ (fun r => (∀ c : Dev Cert.GParInIdeal.nD,
      r.2.mem ((c.tc : Thread Cert.GParInIdeal.nD Cert.GParInIdeal.τ).loc Cert.GParInIdeal.main_arg0) = m ((c.tc : Thread Cert.GParInIdeal.nD Cert.GParInIdeal.τ).loc Cert.GParInIdeal.main_arg0)
      ∧ r.2.mem ((c.tc : Thread Cert.GParInIdeal.nD Cert.GParInIdeal.τ).loc Cert.GParInIdeal.main_arg1) = m ((c.tc : Thread Cert.GParInIdeal.nD Cert.GParInIdeal.τ).loc Cert.GParInIdeal.main_arg1))
      ∧ r.2.sem = fun _ => 0)

def quiescent_GParInRefIdeal [hGParInRefIdeal : Cert.GParInRefIdeal.Facts] : Prop :=
  ∀ (m : (ℓ : Loc Cert.GParInRefIdeal.nD Cert.GParInRefIdeal.τ Cert.GParInRefIdeal.sig) → Buf (Elt Ideal) ℓ) (g : Dev Cert.GParInRefIdeal.nD → PrngReg), Pre_GParInRefIdeal m →
    θ_run (Cert.GParInRefIdeal.defs (F := Ideal)) (onTc (τ := Cert.GParInRefIdeal.τ) (Cert.GParInRefIdeal.main (F := Ideal))) ⟨m, fun _ => 0, g⟩ (fun r => (∀ c : Dev Cert.GParInRefIdeal.nD,
      r.2.mem ((c.tc : Thread Cert.GParInRefIdeal.nD Cert.GParInRefIdeal.τ).loc Cert.GParInRefIdeal.main_arg0) = m ((c.tc : Thread Cert.GParInRefIdeal.nD Cert.GParInRefIdeal.τ).loc Cert.GParInRefIdeal.main_arg0)
      ∧ r.2.mem ((c.tc : Thread Cert.GParInRefIdeal.nD Cert.GParInRefIdeal.τ).loc Cert.GParInRefIdeal.main_arg1) = m ((c.tc : Thread Cert.GParInRefIdeal.nD Cert.GParInRefIdeal.τ).loc Cert.GParInRefIdeal.main_arg1))
      ∧ r.2.sem = fun _ => 0)

def quiescent_DParIn [hDParIn : Cert.DParIn.Facts] : Prop :=
  ∀ (m : (ℓ : Loc Cert.DParIn.nD Cert.DParIn.τ Cert.DParIn.sig) → Buf (Elt Bits) ℓ) (g : Dev Cert.DParIn.nD → PrngReg), Pre_DParIn m →
    θ_run (Cert.DParIn.defs (F := Bits)) (onTc (τ := Cert.DParIn.τ) (Cert.DParIn.main (F := Bits))) ⟨m, fun _ => 0, g⟩ (fun r => (∀ c : Dev Cert.DParIn.nD,
      r.2.mem ((c.tc : Thread Cert.DParIn.nD Cert.DParIn.τ).loc Cert.DParIn.main_arg0) = m ((c.tc : Thread Cert.DParIn.nD Cert.DParIn.τ).loc Cert.DParIn.main_arg0)
      ∧ r.2.mem ((c.tc : Thread Cert.DParIn.nD Cert.DParIn.τ).loc Cert.DParIn.main_arg1) = m ((c.tc : Thread Cert.DParIn.nD Cert.DParIn.τ).loc Cert.DParIn.main_arg1))
      ∧ r.2.sem = fun _ => 0)

def quiescent_DParInIdeal [hDParInIdeal : Cert.DParInIdeal.Facts] : Prop :=
  ∀ (m : (ℓ : Loc Cert.DParInIdeal.nD Cert.DParInIdeal.τ Cert.DParInIdeal.sig) → Buf (Elt Ideal) ℓ) (g : Dev Cert.DParInIdeal.nD → PrngReg), Pre_DParInIdeal m →
    θ_run (Cert.DParInIdeal.defs (F := Ideal)) (onTc (τ := Cert.DParInIdeal.τ) (Cert.DParInIdeal.main (F := Ideal))) ⟨m, fun _ => 0, g⟩ (fun r => (∀ c : Dev Cert.DParInIdeal.nD,
      r.2.mem ((c.tc : Thread Cert.DParInIdeal.nD Cert.DParInIdeal.τ).loc Cert.DParInIdeal.main_arg0) = m ((c.tc : Thread Cert.DParInIdeal.nD Cert.DParInIdeal.τ).loc Cert.DParInIdeal.main_arg0)
      ∧ r.2.mem ((c.tc : Thread Cert.DParInIdeal.nD Cert.DParInIdeal.τ).loc Cert.DParInIdeal.main_arg1) = m ((c.tc : Thread Cert.DParInIdeal.nD Cert.DParInIdeal.τ).loc Cert.DParInIdeal.main_arg1))
      ∧ r.2.sem = fun _ => 0)

def quiescent_DParInRefIdeal [hDParInRefIdeal : Cert.DParInRefIdeal.Facts] : Prop :=
  ∀ (m : (ℓ : Loc Cert.DParInRefIdeal.nD Cert.DParInRefIdeal.τ Cert.DParInRefIdeal.sig) → Buf (Elt Ideal) ℓ) (g : Dev Cert.DParInRefIdeal.nD → PrngReg), Pre_DParInRefIdeal m →
    θ_run (Cert.DParInRefIdeal.defs (F := Ideal)) (onTc (τ := Cert.DParInRefIdeal.τ) (Cert.DParInRefIdeal.main (F := Ideal))) ⟨m, fun _ => 0, g⟩ (fun r => (∀ c : Dev Cert.DParInRefIdeal.nD,
      r.2.mem ((c.tc : Thread Cert.DParInRefIdeal.nD Cert.DParInRefIdeal.τ).loc Cert.DParInRefIdeal.main_arg0) = m ((c.tc : Thread Cert.DParInRefIdeal.nD Cert.DParInRefIdeal.τ).loc Cert.DParInRefIdeal.main_arg0)
      ∧ r.2.mem ((c.tc : Thread Cert.DParInRefIdeal.nD Cert.DParInRefIdeal.τ).loc Cert.DParInRefIdeal.main_arg1) = m ((c.tc : Thread Cert.DParInRefIdeal.nD Cert.DParInRefIdeal.τ).loc Cert.DParInRefIdeal.main_arg1))
      ∧ r.2.sem = fun _ => 0)

def quiescent_GSgIn [hGSgIn : Cert.GSgIn.Facts] : Prop :=
  ∀ (m : (ℓ : Loc Cert.GSgIn.nD Cert.GSgIn.τ Cert.GSgIn.sig) → Buf (Elt Bits) ℓ) (g : Dev Cert.GSgIn.nD → PrngReg), Pre_GSgIn m →
    θ_run (Cert.GSgIn.defs (F := Bits)) (onTc (τ := Cert.GSgIn.τ) (Cert.GSgIn.main (F := Bits))) ⟨m, fun _ => 0, g⟩ (fun r => (∀ c : Dev Cert.GSgIn.nD,
      r.2.mem ((c.tc : Thread Cert.GSgIn.nD Cert.GSgIn.τ).loc Cert.GSgIn.main_arg0) = m ((c.tc : Thread Cert.GSgIn.nD Cert.GSgIn.τ).loc Cert.GSgIn.main_arg0)
      ∧ r.2.mem ((c.tc : Thread Cert.GSgIn.nD Cert.GSgIn.τ).loc Cert.GSgIn.main_arg1) = m ((c.tc : Thread Cert.GSgIn.nD Cert.GSgIn.τ).loc Cert.GSgIn.main_arg1))
      ∧ r.2.sem = fun _ => 0)

def quiescent_GSgInIdeal [hGSgInIdeal : Cert.GSgInIdeal.Facts] : Prop :=
  ∀ (m : (ℓ : Loc Cert.GSgInIdeal.nD Cert.GSgInIdeal.τ Cert.GSgInIdeal.sig) → Buf (Elt Ideal) ℓ) (g : Dev Cert.GSgInIdeal.nD → PrngReg), Pre_GSgInIdeal m →
    θ_run (Cert.GSgInIdeal.defs (F := Ideal)) (onTc (τ := Cert.GSgInIdeal.τ) (Cert.GSgInIdeal.main (F := Ideal))) ⟨m, fun _ => 0, g⟩ (fun r => (∀ c : Dev Cert.GSgInIdeal.nD,
      r.2.mem ((c.tc : Thread Cert.GSgInIdeal.nD Cert.GSgInIdeal.τ).loc Cert.GSgInIdeal.main_arg0) = m ((c.tc : Thread Cert.GSgInIdeal.nD Cert.GSgInIdeal.τ).loc Cert.GSgInIdeal.main_arg0)
      ∧ r.2.mem ((c.tc : Thread Cert.GSgInIdeal.nD Cert.GSgInIdeal.τ).loc Cert.GSgInIdeal.main_arg1) = m ((c.tc : Thread Cert.GSgInIdeal.nD Cert.GSgInIdeal.τ).loc Cert.GSgInIdeal.main_arg1))
      ∧ r.2.sem = fun _ => 0)

def quiescent_GSgInRefIdeal [hGSgInRefIdeal : Cert.GSgInRefIdeal.Facts] : Prop :=
  ∀ (m : (ℓ : Loc Cert.GSgInRefIdeal.nD Cert.GSgInRefIdeal.τ Cert.GSgInRefIdeal.sig) → Buf (Elt Ideal) ℓ) (g : Dev Cert.GSgInRefIdeal.nD → PrngReg), Pre_GSgInRefIdeal m →
    θ_run (Cert.GSgInRefIdeal.defs (F := Ideal)) (onTc (τ := Cert.GSgInRefIdeal.τ) (Cert.GSgInRefIdeal.main (F := Ideal))) ⟨m, fun _ => 0, g⟩ (fun r => (∀ c : Dev Cert.GSgInRefIdeal.nD,
      r.2.mem ((c.tc : Thread Cert.GSgInRefIdeal.nD Cert.GSgInRefIdeal.τ).loc Cert.GSgInRefIdeal.main_arg0) = m ((c.tc : Thread Cert.GSgInRefIdeal.nD Cert.GSgInRefIdeal.τ).loc Cert.GSgInRefIdeal.main_arg0)
      ∧ r.2.mem ((c.tc : Thread Cert.GSgInRefIdeal.nD Cert.GSgInRefIdeal.τ).loc Cert.GSgInRefIdeal.main_arg1) = m ((c.tc : Thread Cert.GSgInRefIdeal.nD Cert.GSgInRefIdeal.τ).loc Cert.GSgInRefIdeal.main_arg1))
      ∧ r.2.sem = fun _ => 0)

def quiescent_DSgIn [hDSgIn : Cert.DSgIn.Facts] : Prop :=
  ∀ (m : (ℓ : Loc Cert.DSgIn.nD Cert.DSgIn.τ Cert.DSgIn.sig) → Buf (Elt Bits) ℓ) (g : Dev Cert.DSgIn.nD → PrngReg), Pre_DSgIn m →
    θ_run (Cert.DSgIn.defs (F := Bits)) (onTc (τ := Cert.DSgIn.τ) (Cert.DSgIn.main (F := Bits))) ⟨m, fun _ => 0, g⟩ (fun r => (∀ c : Dev Cert.DSgIn.nD,
      r.2.mem ((c.tc : Thread Cert.DSgIn.nD Cert.DSgIn.τ).loc Cert.DSgIn.main_arg0) = m ((c.tc : Thread Cert.DSgIn.nD Cert.DSgIn.τ).loc Cert.DSgIn.main_arg0)
      ∧ r.2.mem ((c.tc : Thread Cert.DSgIn.nD Cert.DSgIn.τ).loc Cert.DSgIn.main_arg1) = m ((c.tc : Thread Cert.DSgIn.nD Cert.DSgIn.τ).loc Cert.DSgIn.main_arg1))
      ∧ r.2.sem = fun _ => 0)

def quiescent_DSgInIdeal [hDSgInIdeal : Cert.DSgInIdeal.Facts] : Prop :=
  ∀ (m : (ℓ : Loc Cert.DSgInIdeal.nD Cert.DSgInIdeal.τ Cert.DSgInIdeal.sig) → Buf (Elt Ideal) ℓ) (g : Dev Cert.DSgInIdeal.nD → PrngReg), Pre_DSgInIdeal m →
    θ_run (Cert.DSgInIdeal.defs (F := Ideal)) (onTc (τ := Cert.DSgInIdeal.τ) (Cert.DSgInIdeal.main (F := Ideal))) ⟨m, fun _ => 0, g⟩ (fun r => (∀ c : Dev Cert.DSgInIdeal.nD,
      r.2.mem ((c.tc : Thread Cert.DSgInIdeal.nD Cert.DSgInIdeal.τ).loc Cert.DSgInIdeal.main_arg0) = m ((c.tc : Thread Cert.DSgInIdeal.nD Cert.DSgInIdeal.τ).loc Cert.DSgInIdeal.main_arg0)
      ∧ r.2.mem ((c.tc : Thread Cert.DSgInIdeal.nD Cert.DSgInIdeal.τ).loc Cert.DSgInIdeal.main_arg1) = m ((c.tc : Thread Cert.DSgInIdeal.nD Cert.DSgInIdeal.τ).loc Cert.DSgInIdeal.main_arg1))
      ∧ r.2.sem = fun _ => 0)

def quiescent_DSgInRefIdeal [hDSgInRefIdeal : Cert.DSgInRefIdeal.Facts] : Prop :=
  ∀ (m : (ℓ : Loc Cert.DSgInRefIdeal.nD Cert.DSgInRefIdeal.τ Cert.DSgInRefIdeal.sig) → Buf (Elt Ideal) ℓ) (g : Dev Cert.DSgInRefIdeal.nD → PrngReg), Pre_DSgInRefIdeal m →
    θ_run (Cert.DSgInRefIdeal.defs (F := Ideal)) (onTc (τ := Cert.DSgInRefIdeal.τ) (Cert.DSgInRefIdeal.main (F := Ideal))) ⟨m, fun _ => 0, g⟩ (fun r => (∀ c : Dev Cert.DSgInRefIdeal.nD,
      r.2.mem ((c.tc : Thread Cert.DSgInRefIdeal.nD Cert.DSgInRefIdeal.τ).loc Cert.DSgInRefIdeal.main_arg0) = m ((c.tc : Thread Cert.DSgInRefIdeal.nD Cert.DSgInRefIdeal.τ).loc Cert.DSgInRefIdeal.main_arg0)
      ∧ r.2.mem ((c.tc : Thread Cert.DSgInRefIdeal.nD Cert.DSgInRefIdeal.τ).loc Cert.DSgInRefIdeal.main_arg1) = m ((c.tc : Thread Cert.DSgInRefIdeal.nD Cert.DSgInRefIdeal.τ).loc Cert.DSgInRefIdeal.main_arg1))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1))
      ∧ r.2.sem = fun _ => 0)

def quiescent_ParIn [hParIn : Cert.ParIn.Facts] : Prop :=
  ∀ (m : (ℓ : Loc Cert.ParIn.nD Cert.ParIn.τ Cert.ParIn.sig) → Buf (Elt Bits) ℓ) (g : Dev Cert.ParIn.nD → PrngReg), Pre_ParIn m →
    θ_run (Cert.ParIn.defs (F := Bits)) (onTc (τ := Cert.ParIn.τ) (Cert.ParIn.main (F := Bits))) ⟨m, fun _ => 0, g⟩ (fun r => (∀ c : Dev Cert.ParIn.nD,
      r.2.mem ((c.tc : Thread Cert.ParIn.nD Cert.ParIn.τ).loc Cert.ParIn.main_arg0) = m ((c.tc : Thread Cert.ParIn.nD Cert.ParIn.τ).loc Cert.ParIn.main_arg0)
      ∧ r.2.mem ((c.tc : Thread Cert.ParIn.nD Cert.ParIn.τ).loc Cert.ParIn.main_arg1) = m ((c.tc : Thread Cert.ParIn.nD Cert.ParIn.τ).loc Cert.ParIn.main_arg1))
      ∧ r.2.sem = fun _ => 0)

def quiescent_ParInIdeal [hParInIdeal : Cert.ParInIdeal.Facts] : Prop :=
  ∀ (m : (ℓ : Loc Cert.ParInIdeal.nD Cert.ParInIdeal.τ Cert.ParInIdeal.sig) → Buf (Elt Ideal) ℓ) (g : Dev Cert.ParInIdeal.nD → PrngReg), Pre_ParInIdeal m →
    θ_run (Cert.ParInIdeal.defs (F := Ideal)) (onTc (τ := Cert.ParInIdeal.τ) (Cert.ParInIdeal.main (F := Ideal))) ⟨m, fun _ => 0, g⟩ (fun r => (∀ c : Dev Cert.ParInIdeal.nD,
      r.2.mem ((c.tc : Thread Cert.ParInIdeal.nD Cert.ParInIdeal.τ).loc Cert.ParInIdeal.main_arg0) = m ((c.tc : Thread Cert.ParInIdeal.nD Cert.ParInIdeal.τ).loc Cert.ParInIdeal.main_arg0)
      ∧ r.2.mem ((c.tc : Thread Cert.ParInIdeal.nD Cert.ParInIdeal.τ).loc Cert.ParInIdeal.main_arg1) = m ((c.tc : Thread Cert.ParInIdeal.nD Cert.ParInIdeal.τ).loc Cert.ParInIdeal.main_arg1))
      ∧ r.2.sem = fun _ => 0)

def quiescent_ParInRefIdeal [hParInRefIdeal : Cert.ParInRefIdeal.Facts] : Prop :=
  ∀ (m : (ℓ : Loc Cert.ParInRefIdeal.nD Cert.ParInRefIdeal.τ Cert.ParInRefIdeal.sig) → Buf (Elt Ideal) ℓ) (g : Dev Cert.ParInRefIdeal.nD → PrngReg), Pre_ParInRefIdeal m →
    θ_run (Cert.ParInRefIdeal.defs (F := Ideal)) (onTc (τ := Cert.ParInRefIdeal.τ) (Cert.ParInRefIdeal.main (F := Ideal))) ⟨m, fun _ => 0, g⟩ (fun r => (∀ c : Dev Cert.ParInRefIdeal.nD,
      r.2.mem ((c.tc : Thread Cert.ParInRefIdeal.nD Cert.ParInRefIdeal.τ).loc Cert.ParInRefIdeal.main_arg0) = m ((c.tc : Thread Cert.ParInRefIdeal.nD Cert.ParInRefIdeal.τ).loc Cert.ParInRefIdeal.main_arg0)
      ∧ r.2.mem ((c.tc : Thread Cert.ParInRefIdeal.nD Cert.ParInRefIdeal.τ).loc Cert.ParInRefIdeal.main_arg1) = m ((c.tc : Thread Cert.ParInRefIdeal.nD Cert.ParInRefIdeal.τ).loc Cert.ParInRefIdeal.main_arg1))
      ∧ r.2.sem = fun _ => 0)

def quiescent_SgIn [hSgIn : Cert.SgIn.Facts] : Prop :=
  ∀ (m : (ℓ : Loc Cert.SgIn.nD Cert.SgIn.τ Cert.SgIn.sig) → Buf (Elt Bits) ℓ) (g : Dev Cert.SgIn.nD → PrngReg), Pre_SgIn m →
    θ_run (Cert.SgIn.defs (F := Bits)) (onTc (τ := Cert.SgIn.τ) (Cert.SgIn.main (F := Bits))) ⟨m, fun _ => 0, g⟩ (fun r => (∀ c : Dev Cert.SgIn.nD,
      r.2.mem ((c.tc : Thread Cert.SgIn.nD Cert.SgIn.τ).loc Cert.SgIn.main_arg0) = m ((c.tc : Thread Cert.SgIn.nD Cert.SgIn.τ).loc Cert.SgIn.main_arg0)
      ∧ r.2.mem ((c.tc : Thread Cert.SgIn.nD Cert.SgIn.τ).loc Cert.SgIn.main_arg1) = m ((c.tc : Thread Cert.SgIn.nD Cert.SgIn.τ).loc Cert.SgIn.main_arg1))
      ∧ r.2.sem = fun _ => 0)

def quiescent_SgInIdeal [hSgInIdeal : Cert.SgInIdeal.Facts] : Prop :=
  ∀ (m : (ℓ : Loc Cert.SgInIdeal.nD Cert.SgInIdeal.τ Cert.SgInIdeal.sig) → Buf (Elt Ideal) ℓ) (g : Dev Cert.SgInIdeal.nD → PrngReg), Pre_SgInIdeal m →
    θ_run (Cert.SgInIdeal.defs (F := Ideal)) (onTc (τ := Cert.SgInIdeal.τ) (Cert.SgInIdeal.main (F := Ideal))) ⟨m, fun _ => 0, g⟩ (fun r => (∀ c : Dev Cert.SgInIdeal.nD,
      r.2.mem ((c.tc : Thread Cert.SgInIdeal.nD Cert.SgInIdeal.τ).loc Cert.SgInIdeal.main_arg0) = m ((c.tc : Thread Cert.SgInIdeal.nD Cert.SgInIdeal.τ).loc Cert.SgInIdeal.main_arg0)
      ∧ r.2.mem ((c.tc : Thread Cert.SgInIdeal.nD Cert.SgInIdeal.τ).loc Cert.SgInIdeal.main_arg1) = m ((c.tc : Thread Cert.SgInIdeal.nD Cert.SgInIdeal.τ).loc Cert.SgInIdeal.main_arg1))
      ∧ r.2.sem = fun _ => 0)

def quiescent_SgInRefIdeal [hSgInRefIdeal : Cert.SgInRefIdeal.Facts] : Prop :=
  ∀ (m : (ℓ : Loc Cert.SgInRefIdeal.nD Cert.SgInRefIdeal.τ Cert.SgInRefIdeal.sig) → Buf (Elt Ideal) ℓ) (g : Dev Cert.SgInRefIdeal.nD → PrngReg), Pre_SgInRefIdeal m →
    θ_run (Cert.SgInRefIdeal.defs (F := Ideal)) (onTc (τ := Cert.SgInRefIdeal.τ) (Cert.SgInRefIdeal.main (F := Ideal))) ⟨m, fun _ => 0, g⟩ (fun r => (∀ c : Dev Cert.SgInRefIdeal.nD,
      r.2.mem ((c.tc : Thread Cert.SgInRefIdeal.nD Cert.SgInRefIdeal.τ).loc Cert.SgInRefIdeal.main_arg0) = m ((c.tc : Thread Cert.SgInRefIdeal.nD Cert.SgInRefIdeal.τ).loc Cert.SgInRefIdeal.main_arg0)
      ∧ r.2.mem ((c.tc : Thread Cert.SgInRefIdeal.nD Cert.SgInRefIdeal.τ).loc Cert.SgInRefIdeal.main_arg1) = m ((c.tc : Thread Cert.SgInRefIdeal.nD Cert.SgInRefIdeal.τ).loc Cert.SgInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_finite_conv [hConvBwdRefIdeal : Cert.ConvBwdRefIdeal.Facts] [hPre_finite_conv : Cert.Pre_finite_conv.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_conv m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_BlockBwd [hBlockBwd : Cert.BlockBwd.Facts] : Prop :=
  ∀ (m : (ℓ : Loc Cert.BlockBwd.nD Cert.BlockBwd.τ Cert.BlockBwd.sig) → Buf (Elt Bits) ℓ) (g : Dev Cert.BlockBwd.nD → PrngReg), Pre_BlockBwd m →
    θ_run (Cert.BlockBwd.defs (F := Bits)) (onTc (τ := Cert.BlockBwd.τ) (Cert.BlockBwd.main (F := Bits))) ⟨m, fun _ => 0, g⟩ (fun r => (∀ c : Dev Cert.BlockBwd.nD,
      r.2.mem ((c.tc : Thread Cert.BlockBwd.nD Cert.BlockBwd.τ).loc Cert.BlockBwd.main_arg0) = m ((c.tc : Thread Cert.BlockBwd.nD Cert.BlockBwd.τ).loc Cert.BlockBwd.main_arg0)
      ∧ r.2.mem ((c.tc : Thread Cert.BlockBwd.nD Cert.BlockBwd.τ).loc Cert.BlockBwd.main_arg1) = m ((c.tc : Thread Cert.BlockBwd.nD Cert.BlockBwd.τ).loc Cert.BlockBwd.main_arg1)
      ∧ r.2.mem ((c.tc : Thread Cert.BlockBwd.nD Cert.BlockBwd.τ).loc Cert.BlockBwd.main_arg2) = m ((c.tc : Thread Cert.BlockBwd.nD Cert.BlockBwd.τ).loc Cert.BlockBwd.main_arg2)
      ∧ r.2.mem ((c.tc : Thread Cert.BlockBwd.nD Cert.BlockBwd.τ).loc Cert.BlockBwd.main_arg3) = m ((c.tc : Thread Cert.BlockBwd.nD Cert.BlockBwd.τ).loc Cert.BlockBwd.main_arg3)
      ∧ r.2.mem ((c.tc : Thread Cert.BlockBwd.nD Cert.BlockBwd.τ).loc Cert.BlockBwd.main_arg4) = m ((c.tc : Thread Cert.BlockBwd.nD Cert.BlockBwd.τ).loc Cert.BlockBwd.main_arg4)
      ∧ r.2.mem ((c.tc : Thread Cert.BlockBwd.nD Cert.BlockBwd.τ).loc Cert.BlockBwd.main_arg5) = m ((c.tc : Thread Cert.BlockBwd.nD Cert.BlockBwd.τ).loc Cert.BlockBwd.main_arg5)
      ∧ r.2.mem ((c.tc : Thread Cert.BlockBwd.nD Cert.BlockBwd.τ).loc Cert.BlockBwd.main_arg6) = m ((c.tc : Thread Cert.BlockBwd.nD Cert.BlockBwd.τ).loc Cert.BlockBwd.main_arg6)
      ∧ r.2.mem ((c.tc : Thread Cert.BlockBwd.nD Cert.BlockBwd.τ).loc Cert.BlockBwd.main_arg7) = m ((c.tc : Thread Cert.BlockBwd.nD Cert.BlockBwd.τ).loc Cert.BlockBwd.main_arg7))
      ∧ r.2.sem = fun _ => 0)

def quiescent_BlockBwdIdeal [hBlockBwdIdeal : Cert.BlockBwdIdeal.Facts] : Prop :=
  ∀ (m : (ℓ : Loc Cert.BlockBwdIdeal.nD Cert.BlockBwdIdeal.τ Cert.BlockBwdIdeal.sig) → Buf (Elt Ideal) ℓ) (g : Dev Cert.BlockBwdIdeal.nD → PrngReg), Pre_BlockBwdIdeal m →
    θ_run (Cert.BlockBwdIdeal.defs (F := Ideal)) (onTc (τ := Cert.BlockBwdIdeal.τ) (Cert.BlockBwdIdeal.main (F := Ideal))) ⟨m, fun _ => 0, g⟩ (fun r => (∀ c : Dev Cert.BlockBwdIdeal.nD,
      r.2.mem ((c.tc : Thread Cert.BlockBwdIdeal.nD Cert.BlockBwdIdeal.τ).loc Cert.BlockBwdIdeal.main_arg0) = m ((c.tc : Thread Cert.BlockBwdIdeal.nD Cert.BlockBwdIdeal.τ).loc Cert.BlockBwdIdeal.main_arg0)
      ∧ r.2.mem ((c.tc : Thread Cert.BlockBwdIdeal.nD Cert.BlockBwdIdeal.τ).loc Cert.BlockBwdIdeal.main_arg1) = m ((c.tc : Thread Cert.BlockBwdIdeal.nD Cert.BlockBwdIdeal.τ).loc Cert.BlockBwdIdeal.main_arg1)
      ∧ r.2.mem ((c.tc : Thread Cert.BlockBwdIdeal.nD Cert.BlockBwdIdeal.τ).loc Cert.BlockBwdIdeal.main_arg2) = m ((c.tc : Thread Cert.BlockBwdIdeal.nD Cert.BlockBwdIdeal.τ).loc Cert.BlockBwdIdeal.main_arg2)
      ∧ r.2.mem ((c.tc : Thread Cert.BlockBwdIdeal.nD Cert.BlockBwdIdeal.τ).loc Cert.BlockBwdIdeal.main_arg3) = m ((c.tc : Thread Cert.BlockBwdIdeal.nD Cert.BlockBwdIdeal.τ).loc Cert.BlockBwdIdeal.main_arg3)
      ∧ r.2.mem ((c.tc : Thread Cert.BlockBwdIdeal.nD Cert.BlockBwdIdeal.τ).loc Cert.BlockBwdIdeal.main_arg4) = m ((c.tc : Thread Cert.BlockBwdIdeal.nD Cert.BlockBwdIdeal.τ).loc Cert.BlockBwdIdeal.main_arg4)
      ∧ r.2.mem ((c.tc : Thread Cert.BlockBwdIdeal.nD Cert.BlockBwdIdeal.τ).loc Cert.BlockBwdIdeal.main_arg5) = m ((c.tc : Thread Cert.BlockBwdIdeal.nD Cert.BlockBwdIdeal.τ).loc Cert.BlockBwdIdeal.main_arg5)
      ∧ r.2.mem ((c.tc : Thread Cert.BlockBwdIdeal.nD Cert.BlockBwdIdeal.τ).loc Cert.BlockBwdIdeal.main_arg6) = m ((c.tc : Thread Cert.BlockBwdIdeal.nD Cert.BlockBwdIdeal.τ).loc Cert.BlockBwdIdeal.main_arg6)
      ∧ r.2.mem ((c.tc : Thread Cert.BlockBwdIdeal.nD Cert.BlockBwdIdeal.τ).loc Cert.BlockBwdIdeal.main_arg7) = m ((c.tc : Thread Cert.BlockBwdIdeal.nD Cert.BlockBwdIdeal.τ).loc Cert.BlockBwdIdeal.main_arg7))
      ∧ r.2.sem = fun _ => 0)

def quiescent_BlockBwdRefIdeal [hBlockBwdRefIdeal : Cert.BlockBwdRefIdeal.Facts] : Prop :=
  ∀ (m : (ℓ : Loc Cert.BlockBwdRefIdeal.nD Cert.BlockBwdRefIdeal.τ Cert.BlockBwdRefIdeal.sig) → Buf (Elt Ideal) ℓ) (g : Dev Cert.BlockBwdRefIdeal.nD → PrngReg), Pre_BlockBwdRefIdeal m →
    θ_run (Cert.BlockBwdRefIdeal.defs (F := Ideal)) (onTc (τ := Cert.BlockBwdRefIdeal.τ) (Cert.BlockBwdRefIdeal.main (F := Ideal))) ⟨m, fun _ => 0, g⟩ (fun r => (∀ c : Dev Cert.BlockBwdRefIdeal.nD,
      r.2.mem ((c.tc : Thread Cert.BlockBwdRefIdeal.nD Cert.BlockBwdRefIdeal.τ).loc Cert.BlockBwdRefIdeal.main_arg0) = m ((c.tc : Thread Cert.BlockBwdRefIdeal.nD Cert.BlockBwdRefIdeal.τ).loc Cert.BlockBwdRefIdeal.main_arg0)
      ∧ r.2.mem ((c.tc : Thread Cert.BlockBwdRefIdeal.nD Cert.BlockBwdRefIdeal.τ).loc Cert.BlockBwdRefIdeal.main_arg1) = m ((c.tc : Thread Cert.BlockBwdRefIdeal.nD Cert.BlockBwdRefIdeal.τ).loc Cert.BlockBwdRefIdeal.main_arg1)
      ∧ r.2.mem ((c.tc : Thread Cert.BlockBwdRefIdeal.nD Cert.BlockBwdRefIdeal.τ).loc Cert.BlockBwdRefIdeal.main_arg2) = m ((c.tc : Thread Cert.BlockBwdRefIdeal.nD Cert.BlockBwdRefIdeal.τ).loc Cert.BlockBwdRefIdeal.main_arg2)
      ∧ r.2.mem ((c.tc : Thread Cert.BlockBwdRefIdeal.nD Cert.BlockBwdRefIdeal.τ).loc Cert.BlockBwdRefIdeal.main_arg3) = m ((c.tc : Thread Cert.BlockBwdRefIdeal.nD Cert.BlockBwdRefIdeal.τ).loc Cert.BlockBwdRefIdeal.main_arg3)
      ∧ r.2.mem ((c.tc : Thread Cert.BlockBwdRefIdeal.nD Cert.BlockBwdRefIdeal.τ).loc Cert.BlockBwdRefIdeal.main_arg4) = m ((c.tc : Thread Cert.BlockBwdRefIdeal.nD Cert.BlockBwdRefIdeal.τ).loc Cert.BlockBwdRefIdeal.main_arg4)
      ∧ r.2.mem ((c.tc : Thread Cert.BlockBwdRefIdeal.nD Cert.BlockBwdRefIdeal.τ).loc Cert.BlockBwdRefIdeal.main_arg5) = m ((c.tc : Thread Cert.BlockBwdRefIdeal.nD Cert.BlockBwdRefIdeal.τ).loc Cert.BlockBwdRefIdeal.main_arg5)
      ∧ r.2.mem ((c.tc : Thread Cert.BlockBwdRefIdeal.nD Cert.BlockBwdRefIdeal.τ).loc Cert.BlockBwdRefIdeal.main_arg6) = m ((c.tc : Thread Cert.BlockBwdRefIdeal.nD Cert.BlockBwdRefIdeal.τ).loc Cert.BlockBwdRefIdeal.main_arg6)
      ∧ r.2.mem ((c.tc : Thread Cert.BlockBwdRefIdeal.nD Cert.BlockBwdRefIdeal.τ).loc Cert.BlockBwdRefIdeal.main_arg7) = m ((c.tc : Thread Cert.BlockBwdRefIdeal.nD Cert.BlockBwdRefIdeal.τ).loc Cert.BlockBwdRefIdeal.main_arg7))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_BlockFwd [hBlockFwd : Cert.BlockFwd.Facts] : Prop :=
  ∀ (m : (ℓ : Loc Cert.BlockFwd.nD Cert.BlockFwd.τ Cert.BlockFwd.sig) → Buf (Elt Bits) ℓ) (g : Dev Cert.BlockFwd.nD → PrngReg), Pre_BlockFwd m →
    θ_run (Cert.BlockFwd.defs (F := Bits)) (onTc (τ := Cert.BlockFwd.τ) (Cert.BlockFwd.main (F := Bits))) ⟨m, fun _ => 0, g⟩ (fun r => (∀ c : Dev Cert.BlockFwd.nD,
      r.2.mem ((c.tc : Thread Cert.BlockFwd.nD Cert.BlockFwd.τ).loc Cert.BlockFwd.main_arg0) = m ((c.tc : Thread Cert.BlockFwd.nD Cert.BlockFwd.τ).loc Cert.BlockFwd.main_arg0)
      ∧ r.2.mem ((c.tc : Thread Cert.BlockFwd.nD Cert.BlockFwd.τ).loc Cert.BlockFwd.main_arg1) = m ((c.tc : Thread Cert.BlockFwd.nD Cert.BlockFwd.τ).loc Cert.BlockFwd.main_arg1)
      ∧ r.2.mem ((c.tc : Thread Cert.BlockFwd.nD Cert.BlockFwd.τ).loc Cert.BlockFwd.main_arg2) = m ((c.tc : Thread Cert.BlockFwd.nD Cert.BlockFwd.τ).loc Cert.BlockFwd.main_arg2)
      ∧ r.2.mem ((c.tc : Thread Cert.BlockFwd.nD Cert.BlockFwd.τ).loc Cert.BlockFwd.main_arg3) = m ((c.tc : Thread Cert.BlockFwd.nD Cert.BlockFwd.τ).loc Cert.BlockFwd.main_arg3)
      ∧ r.2.mem ((c.tc : Thread Cert.BlockFwd.nD Cert.BlockFwd.τ).loc Cert.BlockFwd.main_arg4) = m ((c.tc : Thread Cert.BlockFwd.nD Cert.BlockFwd.τ).loc Cert.BlockFwd.main_arg4)
      ∧ r.2.mem ((c.tc : Thread Cert.BlockFwd.nD Cert.BlockFwd.τ).loc Cert.BlockFwd.main_arg5) = m ((c.tc : Thread Cert.BlockFwd.nD Cert.BlockFwd.τ).loc Cert.BlockFwd.main_arg5))
      ∧ r.2.sem = fun _ => 0)

def quiescent_BlockFwdIdeal [hBlockFwdIdeal : Cert.BlockFwdIdeal.Facts] : Prop :=
  ∀ (m : (ℓ : Loc Cert.BlockFwdIdeal.nD Cert.BlockFwdIdeal.τ Cert.BlockFwdIdeal.sig) → Buf (Elt Ideal) ℓ) (g : Dev Cert.BlockFwdIdeal.nD → PrngReg), Pre_BlockFwdIdeal m →
    θ_run (Cert.BlockFwdIdeal.defs (F := Ideal)) (onTc (τ := Cert.BlockFwdIdeal.τ) (Cert.BlockFwdIdeal.main (F := Ideal))) ⟨m, fun _ => 0, g⟩ (fun r => (∀ c : Dev Cert.BlockFwdIdeal.nD,
      r.2.mem ((c.tc : Thread Cert.BlockFwdIdeal.nD Cert.BlockFwdIdeal.τ).loc Cert.BlockFwdIdeal.main_arg0) = m ((c.tc : Thread Cert.BlockFwdIdeal.nD Cert.BlockFwdIdeal.τ).loc Cert.BlockFwdIdeal.main_arg0)
      ∧ r.2.mem ((c.tc : Thread Cert.BlockFwdIdeal.nD Cert.BlockFwdIdeal.τ).loc Cert.BlockFwdIdeal.main_arg1) = m ((c.tc : Thread Cert.BlockFwdIdeal.nD Cert.BlockFwdIdeal.τ).loc Cert.BlockFwdIdeal.main_arg1)
      ∧ r.2.mem ((c.tc : Thread Cert.BlockFwdIdeal.nD Cert.BlockFwdIdeal.τ).loc Cert.BlockFwdIdeal.main_arg2) = m ((c.tc : Thread Cert.BlockFwdIdeal.nD Cert.BlockFwdIdeal.τ).loc Cert.BlockFwdIdeal.main_arg2)
      ∧ r.2.mem ((c.tc : Thread Cert.BlockFwdIdeal.nD Cert.BlockFwdIdeal.τ).loc Cert.BlockFwdIdeal.main_arg3) = m ((c.tc : Thread Cert.BlockFwdIdeal.nD Cert.BlockFwdIdeal.τ).loc Cert.BlockFwdIdeal.main_arg3)
      ∧ r.2.mem ((c.tc : Thread Cert.BlockFwdIdeal.nD Cert.BlockFwdIdeal.τ).loc Cert.BlockFwdIdeal.main_arg4) = m ((c.tc : Thread Cert.BlockFwdIdeal.nD Cert.BlockFwdIdeal.τ).loc Cert.BlockFwdIdeal.main_arg4)
      ∧ r.2.mem ((c.tc : Thread Cert.BlockFwdIdeal.nD Cert.BlockFwdIdeal.τ).loc Cert.BlockFwdIdeal.main_arg5) = m ((c.tc : Thread Cert.BlockFwdIdeal.nD Cert.BlockFwdIdeal.τ).loc Cert.BlockFwdIdeal.main_arg5))
      ∧ r.2.sem = fun _ => 0)

def quiescent_BlockFwdRefIdeal [hBlockFwdRefIdeal : Cert.BlockFwdRefIdeal.Facts] : Prop :=
  ∀ (m : (ℓ : Loc Cert.BlockFwdRefIdeal.nD Cert.BlockFwdRefIdeal.τ Cert.BlockFwdRefIdeal.sig) → Buf (Elt Ideal) ℓ) (g : Dev Cert.BlockFwdRefIdeal.nD → PrngReg), Pre_BlockFwdRefIdeal m →
    θ_run (Cert.BlockFwdRefIdeal.defs (F := Ideal)) (onTc (τ := Cert.BlockFwdRefIdeal.τ) (Cert.BlockFwdRefIdeal.main (F := Ideal))) ⟨m, fun _ => 0, g⟩ (fun r => (∀ c : Dev Cert.BlockFwdRefIdeal.nD,
      r.2.mem ((c.tc : Thread Cert.BlockFwdRefIdeal.nD Cert.BlockFwdRefIdeal.τ).loc Cert.BlockFwdRefIdeal.main_arg0) = m ((c.tc : Thread Cert.BlockFwdRefIdeal.nD Cert.BlockFwdRefIdeal.τ).loc Cert.BlockFwdRefIdeal.main_arg0)
      ∧ r.2.mem ((c.tc : Thread Cert.BlockFwdRefIdeal.nD Cert.BlockFwdRefIdeal.τ).loc Cert.BlockFwdRefIdeal.main_arg1) = m ((c.tc : Thread Cert.BlockFwdRefIdeal.nD Cert.BlockFwdRefIdeal.τ).loc Cert.BlockFwdRefIdeal.main_arg1)
      ∧ r.2.mem ((c.tc : Thread Cert.BlockFwdRefIdeal.nD Cert.BlockFwdRefIdeal.τ).loc Cert.BlockFwdRefIdeal.main_arg2) = m ((c.tc : Thread Cert.BlockFwdRefIdeal.nD Cert.BlockFwdRefIdeal.τ).loc Cert.BlockFwdRefIdeal.main_arg2)
      ∧ r.2.mem ((c.tc : Thread Cert.BlockFwdRefIdeal.nD Cert.BlockFwdRefIdeal.τ).loc Cert.BlockFwdRefIdeal.main_arg3) = m ((c.tc : Thread Cert.BlockFwdRefIdeal.nD Cert.BlockFwdRefIdeal.τ).loc Cert.BlockFwdRefIdeal.main_arg3)
      ∧ r.2.mem ((c.tc : Thread Cert.BlockFwdRefIdeal.nD Cert.BlockFwdRefIdeal.τ).loc Cert.BlockFwdRefIdeal.main_arg4) = m ((c.tc : Thread Cert.BlockFwdRefIdeal.nD Cert.BlockFwdRefIdeal.τ).loc Cert.BlockFwdRefIdeal.main_arg4)
      ∧ r.2.mem ((c.tc : Thread Cert.BlockFwdRefIdeal.nD Cert.BlockFwdRefIdeal.τ).loc Cert.BlockFwdRefIdeal.main_arg5) = m ((c.tc : Thread Cert.BlockFwdRefIdeal.nD Cert.BlockFwdRefIdeal.τ).loc Cert.BlockFwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_GUp_GUpIdeal : Prop :=
  True

def algebraic_GUpIdeal_GUpRefIdeal [hGUpIdeal : Cert.GUpIdeal.Facts] [hGUpRefIdeal : Cert.GUpRefIdeal.Facts] : Prop :=
  ∀ (m : (ℓ : Loc Cert.GUpIdeal.nD Cert.GUpIdeal.τ Cert.GUpIdeal.sig) → Buf (Elt Ideal) ℓ) (g : Dev Cert.GUpIdeal.nD → PrngReg)
    (m' : (ℓ : Loc Cert.GUpRefIdeal.nD Cert.GUpRefIdeal.τ Cert.GUpRefIdeal.sig) → Buf (Elt Ideal) ℓ) (g' : Dev Cert.GUpRefIdeal.nD → PrngReg), Pre_GUpIdeal m →
    (∀ c : Dev Cert.GUpIdeal.nD,
      m' ((c.tc : Thread Cert.GUpRefIdeal.nD Cert.GUpRefIdeal.τ).loc Cert.GUpRefIdeal.main_arg0) = m ((c.tc : Thread Cert.GUpIdeal.nD Cert.GUpIdeal.τ).loc Cert.GUpIdeal.main_arg0)
      ∧ m' ((c.tc : Thread Cert.GUpRefIdeal.nD Cert.GUpRefIdeal.τ).loc Cert.GUpRefIdeal.main_arg1) = m ((c.tc : Thread Cert.GUpIdeal.nD Cert.GUpIdeal.τ).loc Cert.GUpIdeal.main_arg1)) →
    ∃ (v0 : (c : Dev Cert.GUpIdeal.nD) → Buf (Elt Ideal) ((c.tc : Thread Cert.GUpIdeal.nD Cert.GUpIdeal.τ).loc Cert.GUpIdeal.main_v4)),
      θ_run (Cert.GUpIdeal.defs (F := Ideal)) (onTc (τ := Cert.GUpIdeal.τ) (Cert.GUpIdeal.main (F := Ideal))) ⟨m, fun _ => 0, g⟩ (fun r => ∀ c : Dev Cert.GUpIdeal.nD,
          r.2.mem ((c.tc : Thread Cert.GUpIdeal.nD Cert.GUpIdeal.τ).loc Cert.GUpIdeal.main_v4) = v0 c
          ∧ r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
          ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1))
      ∧ θ_run (Cert.GUpRefIdeal.defs (F := Ideal)) (onTc (τ := Cert.GUpRefIdeal.τ) (Cert.GUpRefIdeal.main (F := Ideal))) ⟨m', fun _ => 0, g'⟩ (fun r => ∀ c : Dev Cert.GUpRefIdeal.nD,
          r.2.mem ((c.tc : Thread Cert.GUpRefIdeal.nD Cert.GUpRefIdeal.τ).loc Cert.GUpRefIdeal.main_v6) = v0 c
          ∧ r.2.mem ((c.tc : Thread Cert.GUpRefIdeal.nD Cert.GUpRefIdeal.τ).loc Cert.GUpRefIdeal.main_arg0) = m' ((c.tc : Thread Cert.GUpRefIdeal.nD Cert.GUpRefIdeal.τ).loc Cert.GUpRefIdeal.main_arg0)
          ∧ r.2.mem ((c.tc : Thread Cert.GUpRefIdeal.nD Cert.GUpRefIdeal.τ).loc Cert.GUpRefIdeal.main_arg1) = m' ((c.tc : Thread Cert.GUpRefIdeal.nD Cert.GUpRefIdeal.τ).loc Cert.GUpRefIdeal.main_arg1))

def preserves_DHf_DHfIdeal : Prop :=
  True

def algebraic_DHfIdeal_DHfRefIdeal [hDHfIdeal : Cert.DHfIdeal.Facts] [hDHfRefIdeal : Cert.DHfRefIdeal.Facts] : Prop :=
  ∀ (m : (ℓ : Loc Cert.DHfIdeal.nD Cert.DHfIdeal.τ Cert.DHfIdeal.sig) → Buf (Elt Ideal) ℓ) (g : Dev Cert.DHfIdeal.nD → PrngReg)
    (m' : (ℓ : Loc Cert.DHfRefIdeal.nD Cert.DHfRefIdeal.τ Cert.DHfRefIdeal.sig) → Buf (Elt Ideal) ℓ) (g' : Dev Cert.DHfRefIdeal.nD → PrngReg), Pre_DHfIdeal m →
    (∀ c : Dev Cert.DHfIdeal.nD,
      m' ((c.tc : Thread Cert.DHfRefIdeal.nD Cert.DHfRefIdeal.τ).loc Cert.DHfRefIdeal.main_arg0) = m ((c.tc : Thread Cert.DHfIdeal.nD Cert.DHfIdeal.τ).loc Cert.DHfIdeal.main_arg0)
      ∧ m' ((c.tc : Thread Cert.DHfRefIdeal.nD Cert.DHfRefIdeal.τ).loc Cert.DHfRefIdeal.main_arg1) = m ((c.tc : Thread Cert.DHfIdeal.nD Cert.DHfIdeal.τ).loc Cert.DHfIdeal.main_arg1)) →
    ∃ (v0 : (c : Dev Cert.DHfIdeal.nD) → Buf (Elt Ideal) ((c.tc : Thread Cert.DHfIdeal.nD Cert.DHfIdeal.τ).loc Cert.DHfIdeal.main_v6)),
      θ_run (Cert.DHfIdeal.defs (F := Ideal)) (onTc (τ := Cert.DHfIdeal.τ) (Cert.DHfIdeal.main (F := Ideal))) ⟨m, fun _ => 0, g⟩ (fun r => ∀ c : Dev Cert.DHfIdeal.nD,
          r.2.mem ((c.tc : Thread Cert.DHfIdeal.nD Cert.DHfIdeal.τ).loc Cert.DHfIdeal.main_v6) = v0 c
          ∧ r.2.mem ((c.tc : Thread Cert.DHfIdeal.nD Cert.DHfIdeal.τ).loc Cert.DHfIdeal.main_arg0) = m ((c.tc : Thread Cert.DHfIdeal.nD Cert.DHfIdeal.τ).loc Cert.DHfIdeal.main_arg0)
          ∧ r.2.mem ((c.tc : Thread Cert.DHfIdeal.nD Cert.DHfIdeal.τ).loc Cert.DHfIdeal.main_arg1) = m ((c.tc : Thread Cert.DHfIdeal.nD Cert.DHfIdeal.τ).loc Cert.DHfIdeal.main_arg1))
      ∧ θ_run (Cert.DHfRefIdeal.defs (F := Ideal)) (onTc (τ := Cert.DHfRefIdeal.τ) (Cert.DHfRefIdeal.main (F := Ideal))) ⟨m', fun _ => 0, g'⟩ (fun r => ∀ c : Dev Cert.DHfRefIdeal.nD,
          r.2.mem ((c.tc : Thread Cert.DHfRefIdeal.nD Cert.DHfRefIdeal.τ).loc Cert.DHfRefIdeal.main_v2) = v0 c
          ∧ r.2.mem ((c.tc : Thread Cert.DHfRefIdeal.nD Cert.DHfRefIdeal.τ).loc Cert.DHfRefIdeal.main_arg0) = m' ((c.tc : Thread Cert.DHfRefIdeal.nD Cert.DHfRefIdeal.τ).loc Cert.DHfRefIdeal.main_arg0)
          ∧ r.2.mem ((c.tc : Thread Cert.DHfRefIdeal.nD Cert.DHfRefIdeal.τ).loc Cert.DHfRefIdeal.main_arg1) = m' ((c.tc : Thread Cert.DHfRefIdeal.nD Cert.DHfRefIdeal.τ).loc Cert.DHfRefIdeal.main_arg1))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)) →
    ∃ (v0 : (c : Dev Cert.GDownIdeal.nD) → Buf (Elt Ideal) ((c.tc : Thread Cert.GDownIdeal.nD Cert.GDownIdeal.τ).loc Cert.GDownIdeal.main_v2)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v2) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v4) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1))

def preserves_DU_DUIdeal : Prop :=
  True

def algebraic_DUIdeal_DURefIdeal [hDUIdeal : Cert.DUIdeal.Facts] [hDURefIdeal : Cert.DURefIdeal.Facts] : Prop :=
  ∀ (m : (ℓ : Loc Cert.DUIdeal.nD Cert.DUIdeal.τ Cert.DUIdeal.sig) → Buf (Elt Ideal) ℓ) (g : Dev Cert.DUIdeal.nD → PrngReg)
    (m' : (ℓ : Loc Cert.DURefIdeal.nD Cert.DURefIdeal.τ Cert.DURefIdeal.sig) → Buf (Elt Ideal) ℓ) (g' : Dev Cert.DURefIdeal.nD → PrngReg), Pre_DUIdeal m →
    (∀ c : Dev Cert.DUIdeal.nD,
      m' ((c.tc : Thread Cert.DURefIdeal.nD Cert.DURefIdeal.τ).loc Cert.DURefIdeal.main_arg0) = m ((c.tc : Thread Cert.DUIdeal.nD Cert.DUIdeal.τ).loc Cert.DUIdeal.main_arg0)
      ∧ m' ((c.tc : Thread Cert.DURefIdeal.nD Cert.DURefIdeal.τ).loc Cert.DURefIdeal.main_arg1) = m ((c.tc : Thread Cert.DUIdeal.nD Cert.DUIdeal.τ).loc Cert.DUIdeal.main_arg1)) →
    ∃ (v0 : (c : Dev Cert.DUIdeal.nD) → Buf (Elt Ideal) ((c.tc : Thread Cert.DUIdeal.nD Cert.DUIdeal.τ).loc Cert.DUIdeal.main_v2)),
      θ_run (Cert.DUIdeal.defs (F := Ideal)) (onTc (τ := Cert.DUIdeal.τ) (Cert.DUIdeal.main (F := Ideal))) ⟨m, fun _ => 0, g⟩ (fun r => ∀ c : Dev Cert.DUIdeal.nD,
          r.2.mem ((c.tc : Thread Cert.DUIdeal.nD Cert.DUIdeal.τ).loc Cert.DUIdeal.main_v2) = v0 c
          ∧ r.2.mem ((c.tc : Thread Cert.DUIdeal.nD Cert.DUIdeal.τ).loc Cert.DUIdeal.main_arg0) = m ((c.tc : Thread Cert.DUIdeal.nD Cert.DUIdeal.τ).loc Cert.DUIdeal.main_arg0)
          ∧ r.2.mem ((c.tc : Thread Cert.DUIdeal.nD Cert.DUIdeal.τ).loc Cert.DUIdeal.main_arg1) = m ((c.tc : Thread Cert.DUIdeal.nD Cert.DUIdeal.τ).loc Cert.DUIdeal.main_arg1))
      ∧ θ_run (Cert.DURefIdeal.defs (F := Ideal)) (onTc (τ := Cert.DURefIdeal.τ) (Cert.DURefIdeal.main (F := Ideal))) ⟨m', fun _ => 0, g'⟩ (fun r => ∀ c : Dev Cert.DURefIdeal.nD,
          r.2.mem ((c.tc : Thread Cert.DURefIdeal.nD Cert.DURefIdeal.τ).loc Cert.DURefIdeal.main_v2) = v0 c
          ∧ r.2.mem ((c.tc : Thread Cert.DURefIdeal.nD Cert.DURefIdeal.τ).loc Cert.DURefIdeal.main_arg0) = m' ((c.tc : Thread Cert.DURefIdeal.nD Cert.DURefIdeal.τ).loc Cert.DURefIdeal.main_arg0)
          ∧ r.2.mem ((c.tc : Thread Cert.DURefIdeal.nD Cert.DURefIdeal.τ).loc Cert.DURefIdeal.main_arg1) = m' ((c.tc : Thread Cert.DURefIdeal.nD Cert.DURefIdeal.τ).loc Cert.DURefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_GParIn_GParInIdeal : Prop :=
  True

def algebraic_GParInIdeal_GParInRefIdeal [hGParInIdeal : Cert.GParInIdeal.Facts] [hGParInRefIdeal : Cert.GParInRefIdeal.Facts] : Prop :=
  ∀ (m : (ℓ : Loc Cert.GParInIdeal.nD Cert.GParInIdeal.τ Cert.GParInIdeal.sig) → Buf (Elt Ideal) ℓ) (g : Dev Cert.GParInIdeal.nD → PrngReg)
    (m' : (ℓ : Loc Cert.GParInRefIdeal.nD Cert.GParInRefIdeal.τ Cert.GParInRefIdeal.sig) → Buf (Elt Ideal) ℓ) (g' : Dev Cert.GParInRefIdeal.nD → PrngReg), Pre_GParInIdeal m →
    (∀ c : Dev Cert.GParInIdeal.nD,
      m' ((c.tc : Thread Cert.GParInRefIdeal.nD Cert.GParInRefIdeal.τ).loc Cert.GParInRefIdeal.main_arg0) = m ((c.tc : Thread Cert.GParInIdeal.nD Cert.GParInIdeal.τ).loc Cert.GParInIdeal.main_arg0)
      ∧ m' ((c.tc : Thread Cert.GParInRefIdeal.nD Cert.GParInRefIdeal.τ).loc Cert.GParInRefIdeal.main_arg1) = m ((c.tc : Thread Cert.GParInIdeal.nD Cert.GParInIdeal.τ).loc Cert.GParInIdeal.main_arg1)) →
    ∃ (v0 : (c : Dev Cert.GParInIdeal.nD) → Buf (Elt Ideal) ((c.tc : Thread Cert.GParInIdeal.nD Cert.GParInIdeal.τ).loc Cert.GParInIdeal.main_v2)),
      θ_run (Cert.GParInIdeal.defs (F := Ideal)) (onTc (τ := Cert.GParInIdeal.τ) (Cert.GParInIdeal.main (F := Ideal))) ⟨m, fun _ => 0, g⟩ (fun r => ∀ c : Dev Cert.GParInIdeal.nD,
          r.2.mem ((c.tc : Thread Cert.GParInIdeal.nD Cert.GParInIdeal.τ).loc Cert.GParInIdeal.main_v2) = v0 c
          ∧ r.2.mem ((c.tc : Thread Cert.GParInIdeal.nD Cert.GParInIdeal.τ).loc Cert.GParInIdeal.main_arg0) = m ((c.tc : Thread Cert.GParInIdeal.nD Cert.GParInIdeal.τ).loc Cert.GParInIdeal.main_arg0)
          ∧ r.2.mem ((c.tc : Thread Cert.GParInIdeal.nD Cert.GParInIdeal.τ).loc Cert.GParInIdeal.main_arg1) = m ((c.tc : Thread Cert.GParInIdeal.nD Cert.GParInIdeal.τ).loc Cert.GParInIdeal.main_arg1))
      ∧ θ_run (Cert.GParInRefIdeal.defs (F := Ideal)) (onTc (τ := Cert.GParInRefIdeal.τ) (Cert.GParInRefIdeal.main (F := Ideal))) ⟨m', fun _ => 0, g'⟩ (fun r => ∀ c : Dev Cert.GParInRefIdeal.nD,
          r.2.mem ((c.tc : Thread Cert.GParInRefIdeal.nD Cert.GParInRefIdeal.τ).loc Cert.GParInRefIdeal.main_v6) = v0 c
          ∧ r.2.mem ((c.tc : Thread Cert.GParInRefIdeal.nD Cert.GParInRefIdeal.τ).loc Cert.GParInRefIdeal.main_arg0) = m' ((c.tc : Thread Cert.GParInRefIdeal.nD Cert.GParInRefIdeal.τ).loc Cert.GParInRefIdeal.main_arg0)
          ∧ r.2.mem ((c.tc : Thread Cert.GParInRefIdeal.nD Cert.GParInRefIdeal.τ).loc Cert.GParInRefIdeal.main_arg1) = m' ((c.tc : Thread Cert.GParInRefIdeal.nD Cert.GParInRefIdeal.τ).loc Cert.GParInRefIdeal.main_arg1))

def preserves_DParIn_DParInIdeal : Prop :=
  True

def algebraic_DParInIdeal_DParInRefIdeal [hDParInIdeal : Cert.DParInIdeal.Facts] [hDParInRefIdeal : Cert.DParInRefIdeal.Facts] : Prop :=
  ∀ (m : (ℓ : Loc Cert.DParInIdeal.nD Cert.DParInIdeal.τ Cert.DParInIdeal.sig) → Buf (Elt Ideal) ℓ) (g : Dev Cert.DParInIdeal.nD → PrngReg)
    (m' : (ℓ : Loc Cert.DParInRefIdeal.nD Cert.DParInRefIdeal.τ Cert.DParInRefIdeal.sig) → Buf (Elt Ideal) ℓ) (g' : Dev Cert.DParInRefIdeal.nD → PrngReg), Pre_DParInIdeal m →
    (∀ c : Dev Cert.DParInIdeal.nD,
      m' ((c.tc : Thread Cert.DParInRefIdeal.nD Cert.DParInRefIdeal.τ).loc Cert.DParInRefIdeal.main_arg0) = m ((c.tc : Thread Cert.DParInIdeal.nD Cert.DParInIdeal.τ).loc Cert.DParInIdeal.main_arg0)
      ∧ m' ((c.tc : Thread Cert.DParInRefIdeal.nD Cert.DParInRefIdeal.τ).loc Cert.DParInRefIdeal.main_arg1) = m ((c.tc : Thread Cert.DParInIdeal.nD Cert.DParInIdeal.τ).loc Cert.DParInIdeal.main_arg1)) →
    ∃ (v0 : (c : Dev Cert.DParInIdeal.nD) → Buf (Elt Ideal) ((c.tc : Thread Cert.DParInIdeal.nD Cert.DParInIdeal.τ).loc Cert.DParInIdeal.main_v4)),
      θ_run (Cert.DParInIdeal.defs (F := Ideal)) (onTc (τ := Cert.DParInIdeal.τ) (Cert.DParInIdeal.main (F := Ideal))) ⟨m, fun _ => 0, g⟩ (fun r => ∀ c : Dev Cert.DParInIdeal.nD,
          r.2.mem ((c.tc : Thread Cert.DParInIdeal.nD Cert.DParInIdeal.τ).loc Cert.DParInIdeal.main_v4) = v0 c
          ∧ r.2.mem ((c.tc : Thread Cert.DParInIdeal.nD Cert.DParInIdeal.τ).loc Cert.DParInIdeal.main_arg0) = m ((c.tc : Thread Cert.DParInIdeal.nD Cert.DParInIdeal.τ).loc Cert.DParInIdeal.main_arg0)
          ∧ r.2.mem ((c.tc : Thread Cert.DParInIdeal.nD Cert.DParInIdeal.τ).loc Cert.DParInIdeal.main_arg1) = m ((c.tc : Thread Cert.DParInIdeal.nD Cert.DParInIdeal.τ).loc Cert.DParInIdeal.main_arg1))
      ∧ θ_run (Cert.DParInRefIdeal.defs (F := Ideal)) (onTc (τ := Cert.DParInRefIdeal.τ) (Cert.DParInRefIdeal.main (F := Ideal))) ⟨m', fun _ => 0, g'⟩ (fun r => ∀ c : Dev Cert.DParInRefIdeal.nD,
          r.2.mem ((c.tc : Thread Cert.DParInRefIdeal.nD Cert.DParInRefIdeal.τ).loc Cert.DParInRefIdeal.main_v2) = v0 c
          ∧ r.2.mem ((c.tc : Thread Cert.DParInRefIdeal.nD Cert.DParInRefIdeal.τ).loc Cert.DParInRefIdeal.main_arg0) = m' ((c.tc : Thread Cert.DParInRefIdeal.nD Cert.DParInRefIdeal.τ).loc Cert.DParInRefIdeal.main_arg0)
          ∧ r.2.mem ((c.tc : Thread Cert.DParInRefIdeal.nD Cert.DParInRefIdeal.τ).loc Cert.DParInRefIdeal.main_arg1) = m' ((c.tc : Thread Cert.DParInRefIdeal.nD Cert.DParInRefIdeal.τ).loc Cert.DParInRefIdeal.main_arg1))

def preserves_GSgIn_GSgInIdeal : Prop :=
  True

def algebraic_GSgInIdeal_GSgInRefIdeal [hGSgInIdeal : Cert.GSgInIdeal.Facts] [hGSgInRefIdeal : Cert.GSgInRefIdeal.Facts] : Prop :=
  ∀ (m : (ℓ : Loc Cert.GSgInIdeal.nD Cert.GSgInIdeal.τ Cert.GSgInIdeal.sig) → Buf (Elt Ideal) ℓ) (g : Dev Cert.GSgInIdeal.nD → PrngReg)
    (m' : (ℓ : Loc Cert.GSgInRefIdeal.nD Cert.GSgInRefIdeal.τ Cert.GSgInRefIdeal.sig) → Buf (Elt Ideal) ℓ) (g' : Dev Cert.GSgInRefIdeal.nD → PrngReg), Pre_GSgInIdeal m →
    (∀ c : Dev Cert.GSgInIdeal.nD,
      m' ((c.tc : Thread Cert.GSgInRefIdeal.nD Cert.GSgInRefIdeal.τ).loc Cert.GSgInRefIdeal.main_arg0) = m ((c.tc : Thread Cert.GSgInIdeal.nD Cert.GSgInIdeal.τ).loc Cert.GSgInIdeal.main_arg0)
      ∧ m' ((c.tc : Thread Cert.GSgInRefIdeal.nD Cert.GSgInRefIdeal.τ).loc Cert.GSgInRefIdeal.main_arg1) = m ((c.tc : Thread Cert.GSgInIdeal.nD Cert.GSgInIdeal.τ).loc Cert.GSgInIdeal.main_arg1)) →
    ∃ (v0 : (c : Dev Cert.GSgInIdeal.nD) → Buf (Elt Ideal) ((c.tc : Thread Cert.GSgInIdeal.nD Cert.GSgInIdeal.τ).loc Cert.GSgInIdeal.main_v2)),
      θ_run (Cert.GSgInIdeal.defs (F := Ideal)) (onTc (τ := Cert.GSgInIdeal.τ) (Cert.GSgInIdeal.main (F := Ideal))) ⟨m, fun _ => 0, g⟩ (fun r => ∀ c : Dev Cert.GSgInIdeal.nD,
          r.2.mem ((c.tc : Thread Cert.GSgInIdeal.nD Cert.GSgInIdeal.τ).loc Cert.GSgInIdeal.main_v2) = v0 c
          ∧ r.2.mem ((c.tc : Thread Cert.GSgInIdeal.nD Cert.GSgInIdeal.τ).loc Cert.GSgInIdeal.main_arg0) = m ((c.tc : Thread Cert.GSgInIdeal.nD Cert.GSgInIdeal.τ).loc Cert.GSgInIdeal.main_arg0)
          ∧ r.2.mem ((c.tc : Thread Cert.GSgInIdeal.nD Cert.GSgInIdeal.τ).loc Cert.GSgInIdeal.main_arg1) = m ((c.tc : Thread Cert.GSgInIdeal.nD Cert.GSgInIdeal.τ).loc Cert.GSgInIdeal.main_arg1))
      ∧ θ_run (Cert.GSgInRefIdeal.defs (F := Ideal)) (onTc (τ := Cert.GSgInRefIdeal.τ) (Cert.GSgInRefIdeal.main (F := Ideal))) ⟨m', fun _ => 0, g'⟩ (fun r => ∀ c : Dev Cert.GSgInRefIdeal.nD,
          r.2.mem ((c.tc : Thread Cert.GSgInRefIdeal.nD Cert.GSgInRefIdeal.τ).loc Cert.GSgInRefIdeal.main_v6) = v0 c
          ∧ r.2.mem ((c.tc : Thread Cert.GSgInRefIdeal.nD Cert.GSgInRefIdeal.τ).loc Cert.GSgInRefIdeal.main_arg0) = m' ((c.tc : Thread Cert.GSgInRefIdeal.nD Cert.GSgInRefIdeal.τ).loc Cert.GSgInRefIdeal.main_arg0)
          ∧ r.2.mem ((c.tc : Thread Cert.GSgInRefIdeal.nD Cert.GSgInRefIdeal.τ).loc Cert.GSgInRefIdeal.main_arg1) = m' ((c.tc : Thread Cert.GSgInRefIdeal.nD Cert.GSgInRefIdeal.τ).loc Cert.GSgInRefIdeal.main_arg1))

def preserves_DSgIn_DSgInIdeal : Prop :=
  True

def algebraic_DSgInIdeal_DSgInRefIdeal [hDSgInIdeal : Cert.DSgInIdeal.Facts] [hDSgInRefIdeal : Cert.DSgInRefIdeal.Facts] : Prop :=
  ∀ (m : (ℓ : Loc Cert.DSgInIdeal.nD Cert.DSgInIdeal.τ Cert.DSgInIdeal.sig) → Buf (Elt Ideal) ℓ) (g : Dev Cert.DSgInIdeal.nD → PrngReg)
    (m' : (ℓ : Loc Cert.DSgInRefIdeal.nD Cert.DSgInRefIdeal.τ Cert.DSgInRefIdeal.sig) → Buf (Elt Ideal) ℓ) (g' : Dev Cert.DSgInRefIdeal.nD → PrngReg), Pre_DSgInIdeal m →
    (∀ c : Dev Cert.DSgInIdeal.nD,
      m' ((c.tc : Thread Cert.DSgInRefIdeal.nD Cert.DSgInRefIdeal.τ).loc Cert.DSgInRefIdeal.main_arg0) = m ((c.tc : Thread Cert.DSgInIdeal.nD Cert.DSgInIdeal.τ).loc Cert.DSgInIdeal.main_arg0)
      ∧ m' ((c.tc : Thread Cert.DSgInRefIdeal.nD Cert.DSgInRefIdeal.τ).loc Cert.DSgInRefIdeal.main_arg1) = m ((c.tc : Thread Cert.DSgInIdeal.nD Cert.DSgInIdeal.τ).loc Cert.DSgInIdeal.main_arg1)) →
    ∃ (v0 : (c : Dev Cert.DSgInIdeal.nD) → Buf (Elt Ideal) ((c.tc : Thread Cert.DSgInIdeal.nD Cert.DSgInIdeal.τ).loc Cert.DSgInIdeal.main_v4)),
      θ_run (Cert.DSgInIdeal.defs (F := Ideal)) (onTc (τ := Cert.DSgInIdeal.τ) (Cert.DSgInIdeal.main (F := Ideal))) ⟨m, fun _ => 0, g⟩ (fun r => ∀ c : Dev Cert.DSgInIdeal.nD,
          r.2.mem ((c.tc : Thread Cert.DSgInIdeal.nD Cert.DSgInIdeal.τ).loc Cert.DSgInIdeal.main_v4) = v0 c
          ∧ r.2.mem ((c.tc : Thread Cert.DSgInIdeal.nD Cert.DSgInIdeal.τ).loc Cert.DSgInIdeal.main_arg0) = m ((c.tc : Thread Cert.DSgInIdeal.nD Cert.DSgInIdeal.τ).loc Cert.DSgInIdeal.main_arg0)
          ∧ r.2.mem ((c.tc : Thread Cert.DSgInIdeal.nD Cert.DSgInIdeal.τ).loc Cert.DSgInIdeal.main_arg1) = m ((c.tc : Thread Cert.DSgInIdeal.nD Cert.DSgInIdeal.τ).loc Cert.DSgInIdeal.main_arg1))
      ∧ θ_run (Cert.DSgInRefIdeal.defs (F := Ideal)) (onTc (τ := Cert.DSgInRefIdeal.τ) (Cert.DSgInRefIdeal.main (F := Ideal))) ⟨m', fun _ => 0, g'⟩ (fun r => ∀ c : Dev Cert.DSgInRefIdeal.nD,
          r.2.mem ((c.tc : Thread Cert.DSgInRefIdeal.nD Cert.DSgInRefIdeal.τ).loc Cert.DSgInRefIdeal.main_v2) = v0 c
          ∧ r.2.mem ((c.tc : Thread Cert.DSgInRefIdeal.nD Cert.DSgInRefIdeal.τ).loc Cert.DSgInRefIdeal.main_arg0) = m' ((c.tc : Thread Cert.DSgInRefIdeal.nD Cert.DSgInRefIdeal.τ).loc Cert.DSgInRefIdeal.main_arg0)
          ∧ r.2.mem ((c.tc : Thread Cert.DSgInRefIdeal.nD Cert.DSgInRefIdeal.τ).loc Cert.DSgInRefIdeal.main_arg1) = m' ((c.tc : Thread Cert.DSgInRefIdeal.nD Cert.DSgInRefIdeal.τ).loc Cert.DSgInRefIdeal.main_arg1))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)) →
    ∃ (v0 : (c : Dev Cert.GOutIdeal.nD) → Buf (Elt Ideal) ((c.tc : Thread Cert.GOutIdeal.nD Cert.GOutIdeal.τ).loc Cert.GOutIdeal.main_v2)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v2) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v4) = v0 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)) →
    ∃ (v0 : (c : Dev Cert.DOutIdeal.nD) → Buf (Elt Ideal) ((c.tc : Thread Cert.DOutIdeal.nD Cert.DOutIdeal.τ).loc Cert.DOutIdeal.main_v2)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v2) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v2) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1))

def preserves_ParIn_ParInIdeal : Prop :=
  True

def algebraic_ParInIdeal_ParInRefIdeal [hParInIdeal : Cert.ParInIdeal.Facts] [hParInRefIdeal : Cert.ParInRefIdeal.Facts] : Prop :=
  ∀ (m : (ℓ : Loc Cert.ParInIdeal.nD Cert.ParInIdeal.τ Cert.ParInIdeal.sig) → Buf (Elt Ideal) ℓ) (g : Dev Cert.ParInIdeal.nD → PrngReg)
    (m' : (ℓ : Loc Cert.ParInRefIdeal.nD Cert.ParInRefIdeal.τ Cert.ParInRefIdeal.sig) → Buf (Elt Ideal) ℓ) (g' : Dev Cert.ParInRefIdeal.nD → PrngReg), Pre_ParInIdeal m →
    (∀ c : Dev Cert.ParInIdeal.nD,
      m' ((c.tc : Thread Cert.ParInRefIdeal.nD Cert.ParInRefIdeal.τ).loc Cert.ParInRefIdeal.main_arg0) = m ((c.tc : Thread Cert.ParInIdeal.nD Cert.ParInIdeal.τ).loc Cert.ParInIdeal.main_arg0)
      ∧ m' ((c.tc : Thread Cert.ParInRefIdeal.nD Cert.ParInRefIdeal.τ).loc Cert.ParInRefIdeal.main_arg1) = m ((c.tc : Thread Cert.ParInIdeal.nD Cert.ParInIdeal.τ).loc Cert.ParInIdeal.main_arg1)) →
    ∃ (v0 : (c : Dev Cert.ParInIdeal.nD) → Buf (Elt Ideal) ((c.tc : Thread Cert.ParInIdeal.nD Cert.ParInIdeal.τ).loc Cert.ParInIdeal.main_v4)),
      θ_run (Cert.ParInIdeal.defs (F := Ideal)) (onTc (τ := Cert.ParInIdeal.τ) (Cert.ParInIdeal.main (F := Ideal))) ⟨m, fun _ => 0, g⟩ (fun r => ∀ c : Dev Cert.ParInIdeal.nD,
          r.2.mem ((c.tc : Thread Cert.ParInIdeal.nD Cert.ParInIdeal.τ).loc Cert.ParInIdeal.main_v4) = v0 c
          ∧ r.2.mem ((c.tc : Thread Cert.ParInIdeal.nD Cert.ParInIdeal.τ).loc Cert.ParInIdeal.main_arg0) = m ((c.tc : Thread Cert.ParInIdeal.nD Cert.ParInIdeal.τ).loc Cert.ParInIdeal.main_arg0)
          ∧ r.2.mem ((c.tc : Thread Cert.ParInIdeal.nD Cert.ParInIdeal.τ).loc Cert.ParInIdeal.main_arg1) = m ((c.tc : Thread Cert.ParInIdeal.nD Cert.ParInIdeal.τ).loc Cert.ParInIdeal.main_arg1))
      ∧ θ_run (Cert.ParInRefIdeal.defs (F := Ideal)) (onTc (τ := Cert.ParInRefIdeal.τ) (Cert.ParInRefIdeal.main (F := Ideal))) ⟨m', fun _ => 0, g'⟩ (fun r => ∀ c : Dev Cert.ParInRefIdeal.nD,
          r.2.mem ((c.tc : Thread Cert.ParInRefIdeal.nD Cert.ParInRefIdeal.τ).loc Cert.ParInRefIdeal.main_v0) = v0 c
          ∧ r.2.mem ((c.tc : Thread Cert.ParInRefIdeal.nD Cert.ParInRefIdeal.τ).loc Cert.ParInRefIdeal.main_arg0) = m' ((c.tc : Thread Cert.ParInRefIdeal.nD Cert.ParInRefIdeal.τ).loc Cert.ParInRefIdeal.main_arg0)
          ∧ r.2.mem ((c.tc : Thread Cert.ParInRefIdeal.nD Cert.ParInRefIdeal.τ).loc Cert.ParInRefIdeal.main_arg1) = m' ((c.tc : Thread Cert.ParInRefIdeal.nD Cert.ParInRefIdeal.τ).loc Cert.ParInRefIdeal.main_arg1))

def preserves_SgIn_SgInIdeal : Prop :=
  True

def algebraic_SgInIdeal_SgInRefIdeal [hSgInIdeal : Cert.SgInIdeal.Facts] [hSgInRefIdeal : Cert.SgInRefIdeal.Facts] : Prop :=
  ∀ (m : (ℓ : Loc Cert.SgInIdeal.nD Cert.SgInIdeal.τ Cert.SgInIdeal.sig) → Buf (Elt Ideal) ℓ) (g : Dev Cert.SgInIdeal.nD → PrngReg)
    (m' : (ℓ : Loc Cert.SgInRefIdeal.nD Cert.SgInRefIdeal.τ Cert.SgInRefIdeal.sig) → Buf (Elt Ideal) ℓ) (g' : Dev Cert.SgInRefIdeal.nD → PrngReg), Pre_SgInIdeal m →
    (∀ c : Dev Cert.SgInIdeal.nD,
      m' ((c.tc : Thread Cert.SgInRefIdeal.nD Cert.SgInRefIdeal.τ).loc Cert.SgInRefIdeal.main_arg0) = m ((c.tc : Thread Cert.SgInIdeal.nD Cert.SgInIdeal.τ).loc Cert.SgInIdeal.main_arg0)
      ∧ m' ((c.tc : Thread Cert.SgInRefIdeal.nD Cert.SgInRefIdeal.τ).loc Cert.SgInRefIdeal.main_arg1) = m ((c.tc : Thread Cert.SgInIdeal.nD Cert.SgInIdeal.τ).loc Cert.SgInIdeal.main_arg1)) →
    ∃ (v0 : (c : Dev Cert.SgInIdeal.nD) → Buf (Elt Ideal) ((c.tc : Thread Cert.SgInIdeal.nD Cert.SgInIdeal.τ).loc Cert.SgInIdeal.main_v4)),
      θ_run (Cert.SgInIdeal.defs (F := Ideal)) (onTc (τ := Cert.SgInIdeal.τ) (Cert.SgInIdeal.main (F := Ideal))) ⟨m, fun _ => 0, g⟩ (fun r => ∀ c : Dev Cert.SgInIdeal.nD,
          r.2.mem ((c.tc : Thread Cert.SgInIdeal.nD Cert.SgInIdeal.τ).loc Cert.SgInIdeal.main_v4) = v0 c
          ∧ r.2.mem ((c.tc : Thread Cert.SgInIdeal.nD Cert.SgInIdeal.τ).loc Cert.SgInIdeal.main_arg0) = m ((c.tc : Thread Cert.SgInIdeal.nD Cert.SgInIdeal.τ).loc Cert.SgInIdeal.main_arg0)
          ∧ r.2.mem ((c.tc : Thread Cert.SgInIdeal.nD Cert.SgInIdeal.τ).loc Cert.SgInIdeal.main_arg1) = m ((c.tc : Thread Cert.SgInIdeal.nD Cert.SgInIdeal.τ).loc Cert.SgInIdeal.main_arg1))
      ∧ θ_run (Cert.SgInRefIdeal.defs (F := Ideal)) (onTc (τ := Cert.SgInRefIdeal.τ) (Cert.SgInRefIdeal.main (F := Ideal))) ⟨m', fun _ => 0, g'⟩ (fun r => ∀ c : Dev Cert.SgInRefIdeal.nD,
          r.2.mem ((c.tc : Thread Cert.SgInRefIdeal.nD Cert.SgInRefIdeal.τ).loc Cert.SgInRefIdeal.main_v0) = v0 c
          ∧ r.2.mem ((c.tc : Thread Cert.SgInRefIdeal.nD Cert.SgInRefIdeal.τ).loc Cert.SgInRefIdeal.main_arg0) = m' ((c.tc : Thread Cert.SgInRefIdeal.nD Cert.SgInRefIdeal.τ).loc Cert.SgInRefIdeal.main_arg0)
          ∧ r.2.mem ((c.tc : Thread Cert.SgInRefIdeal.nD Cert.SgInRefIdeal.τ).loc Cert.SgInRefIdeal.main_arg1) = m' ((c.tc : Thread Cert.SgInRefIdeal.nD Cert.SgInRefIdeal.τ).loc Cert.SgInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_ConvBwd_ConvBwdIdeal : Prop :=
  True

def algebraic_ConvBwdIdeal_ConvBwdRefIdeal_pre_finite_conv [hConvBwdIdeal : Cert.ConvBwdIdeal.Facts] [hConvBwdRefIdeal : Cert.ConvBwdRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_conv m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)) (v2 : (c : Dev Cert.ConvBwdIdeal.nD) → Buf (Elt Ideal) ((c.tc : Thread Cert.ConvBwdIdeal.nD Cert.ConvBwdIdeal.τ).loc Cert.ConvBwdIdeal.main_v1_2)) (v3 : (c : Dev Cert.ConvBwdIdeal.nD) → Buf (Elt Ideal) ((c.tc : Thread Cert.ConvBwdIdeal.nD Cert.ConvBwdIdeal.τ).loc Cert.ConvBwdIdeal.main_v1_3)) (v4 : (c : Dev Cert.ConvBwdIdeal.nD) → Buf (Elt Ideal) ((c.tc : Thread Cert.ConvBwdIdeal.nD Cert.ConvBwdIdeal.τ).loc Cert.ConvBwdIdeal.main_v1_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_v1_3) = v3 c
          ∧ r.2.mem ((c.tc : Thread Cert.ConvBwdIdeal.nD Cert.ConvBwdIdeal.τ).loc Cert.ConvBwdIdeal.main_v1_4) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v74) = v0 c
          ∧ r.2.mem ((c.tc : Thread Cert.ConvBwdRefIdeal.nD Cert.ConvBwdRefIdeal.τ).loc Cert.ConvBwdRefIdeal.main_v75) = v1 c
          ∧ r.2.mem ((c.tc : Thread Cert.ConvBwdRefIdeal.nD Cert.ConvBwdRefIdeal.τ).loc Cert.ConvBwdRefIdeal.main_v76) = v2 c
          ∧ r.2.mem ((c.tc : Thread Cert.ConvBwdRefIdeal.nD Cert.ConvBwdRefIdeal.τ).loc Cert.ConvBwdRefIdeal.main_v78) = v3 c
          ∧ r.2.mem ((c.tc : Thread Cert.ConvBwdRefIdeal.nD Cert.ConvBwdRefIdeal.τ).loc Cert.ConvBwdRefIdeal.main_v80) = v4 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_BlockBwd_BlockBwdIdeal : Prop :=
  True

def algebraic_BlockBwdIdeal_BlockBwdRefIdeal [hBlockBwdIdeal : Cert.BlockBwdIdeal.Facts] [hBlockBwdRefIdeal : Cert.BlockBwdRefIdeal.Facts] : Prop :=
  ∀ (m : (ℓ : Loc Cert.BlockBwdIdeal.nD Cert.BlockBwdIdeal.τ Cert.BlockBwdIdeal.sig) → Buf (Elt Ideal) ℓ) (g : Dev Cert.BlockBwdIdeal.nD → PrngReg)
    (m' : (ℓ : Loc Cert.BlockBwdRefIdeal.nD Cert.BlockBwdRefIdeal.τ Cert.BlockBwdRefIdeal.sig) → Buf (Elt Ideal) ℓ) (g' : Dev Cert.BlockBwdRefIdeal.nD → PrngReg), Pre_BlockBwdIdeal m →
    (∀ c : Dev Cert.BlockBwdIdeal.nD,
      m' ((c.tc : Thread Cert.BlockBwdRefIdeal.nD Cert.BlockBwdRefIdeal.τ).loc Cert.BlockBwdRefIdeal.main_arg0) = m ((c.tc : Thread Cert.BlockBwdIdeal.nD Cert.BlockBwdIdeal.τ).loc Cert.BlockBwdIdeal.main_arg0)
      ∧ m' ((c.tc : Thread Cert.BlockBwdRefIdeal.nD Cert.BlockBwdRefIdeal.τ).loc Cert.BlockBwdRefIdeal.main_arg1) = m ((c.tc : Thread Cert.BlockBwdIdeal.nD Cert.BlockBwdIdeal.τ).loc Cert.BlockBwdIdeal.main_arg1)
      ∧ m' ((c.tc : Thread Cert.BlockBwdRefIdeal.nD Cert.BlockBwdRefIdeal.τ).loc Cert.BlockBwdRefIdeal.main_arg2) = m ((c.tc : Thread Cert.BlockBwdIdeal.nD Cert.BlockBwdIdeal.τ).loc Cert.BlockBwdIdeal.main_arg2)
      ∧ m' ((c.tc : Thread Cert.BlockBwdRefIdeal.nD Cert.BlockBwdRefIdeal.τ).loc Cert.BlockBwdRefIdeal.main_arg3) = m ((c.tc : Thread Cert.BlockBwdIdeal.nD Cert.BlockBwdIdeal.τ).loc Cert.BlockBwdIdeal.main_arg3)
      ∧ m' ((c.tc : Thread Cert.BlockBwdRefIdeal.nD Cert.BlockBwdRefIdeal.τ).loc Cert.BlockBwdRefIdeal.main_arg4) = m ((c.tc : Thread Cert.BlockBwdIdeal.nD Cert.BlockBwdIdeal.τ).loc Cert.BlockBwdIdeal.main_arg4)
      ∧ m' ((c.tc : Thread Cert.BlockBwdRefIdeal.nD Cert.BlockBwdRefIdeal.τ).loc Cert.BlockBwdRefIdeal.main_arg5) = m ((c.tc : Thread Cert.BlockBwdIdeal.nD Cert.BlockBwdIdeal.τ).loc Cert.BlockBwdIdeal.main_arg5)
      ∧ m' ((c.tc : Thread Cert.BlockBwdRefIdeal.nD Cert.BlockBwdRefIdeal.τ).loc Cert.BlockBwdRefIdeal.main_arg6) = m ((c.tc : Thread Cert.BlockBwdIdeal.nD Cert.BlockBwdIdeal.τ).loc Cert.BlockBwdIdeal.main_arg6)
      ∧ m' ((c.tc : Thread Cert.BlockBwdRefIdeal.nD Cert.BlockBwdRefIdeal.τ).loc Cert.BlockBwdRefIdeal.main_arg7) = m ((c.tc : Thread Cert.BlockBwdIdeal.nD Cert.BlockBwdIdeal.τ).loc Cert.BlockBwdIdeal.main_arg7)) →
    ∃ (v0 : (c : Dev Cert.BlockBwdIdeal.nD) → Buf (Elt Ideal) ((c.tc : Thread Cert.BlockBwdIdeal.nD Cert.BlockBwdIdeal.τ).loc Cert.BlockBwdIdeal.main_v4_0)) (v1 : (c : Dev Cert.BlockBwdIdeal.nD) → Buf (Elt Ideal) ((c.tc : Thread Cert.BlockBwdIdeal.nD Cert.BlockBwdIdeal.τ).loc Cert.BlockBwdIdeal.main_v4_1)) (v2 : (c : Dev Cert.BlockBwdIdeal.nD) → Buf (Elt Ideal) ((c.tc : Thread Cert.BlockBwdIdeal.nD Cert.BlockBwdIdeal.τ).loc Cert.BlockBwdIdeal.main_v4_2)) (v3 : (c : Dev Cert.BlockBwdIdeal.nD) → Buf (Elt Ideal) ((c.tc : Thread Cert.BlockBwdIdeal.nD Cert.BlockBwdIdeal.τ).loc Cert.BlockBwdIdeal.main_v4_3)) (v4 : (c : Dev Cert.BlockBwdIdeal.nD) → Buf (Elt Ideal) ((c.tc : Thread Cert.BlockBwdIdeal.nD Cert.BlockBwdIdeal.τ).loc Cert.BlockBwdIdeal.main_v4_4)) (v5 : (c : Dev Cert.BlockBwdIdeal.nD) → Buf (Elt Ideal) ((c.tc : Thread Cert.BlockBwdIdeal.nD Cert.BlockBwdIdeal.τ).loc Cert.BlockBwdIdeal.main_v4_5)),
      θ_run (Cert.BlockBwdIdeal.defs (F := Ideal)) (onTc (τ := Cert.BlockBwdIdeal.τ) (Cert.BlockBwdIdeal.main (F := Ideal))) ⟨m, fun _ => 0, g⟩ (fun r => ∀ c : Dev Cert.BlockBwdIdeal.nD,
          r.2.mem ((c.tc : Thread Cert.BlockBwdIdeal.nD Cert.BlockBwdIdeal.τ).loc Cert.BlockBwdIdeal.main_v4_0) = v0 c
          ∧ r.2.mem ((c.tc : Thread Cert.BlockBwdIdeal.nD Cert.BlockBwdIdeal.τ).loc Cert.BlockBwdIdeal.main_v4_1) = v1 c
          ∧ r.2.mem ((c.tc : Thread Cert.BlockBwdIdeal.nD Cert.BlockBwdIdeal.τ).loc Cert.BlockBwdIdeal.main_v4_2) = v2 c
          ∧ r.2.mem ((c.tc : Thread Cert.BlockBwdIdeal.nD Cert.BlockBwdIdeal.τ).loc Cert.BlockBwdIdeal.main_v4_3) = v3 c
          ∧ r.2.mem ((c.tc : Thread Cert.BlockBwdIdeal.nD Cert.BlockBwdIdeal.τ).loc Cert.BlockBwdIdeal.main_v4_4) = v4 c
          ∧ r.2.mem ((c.tc : Thread Cert.BlockBwdIdeal.nD Cert.BlockBwdIdeal.τ).loc Cert.BlockBwdIdeal.main_v4_5) = v5 c
          ∧ r.2.mem ((c.tc : Thread Cert.BlockBwdIdeal.nD Cert.BlockBwdIdeal.τ).loc Cert.BlockBwdIdeal.main_arg0) = m ((c.tc : Thread Cert.BlockBwdIdeal.nD Cert.BlockBwdIdeal.τ).loc Cert.BlockBwdIdeal.main_arg0)
          ∧ r.2.mem ((c.tc : Thread Cert.BlockBwdIdeal.nD Cert.BlockBwdIdeal.τ).loc Cert.BlockBwdIdeal.main_arg1) = m ((c.tc : Thread Cert.BlockBwdIdeal.nD Cert.BlockBwdIdeal.τ).loc Cert.BlockBwdIdeal.main_arg1)
          ∧ r.2.mem ((c.tc : Thread Cert.BlockBwdIdeal.nD Cert.BlockBwdIdeal.τ).loc Cert.BlockBwdIdeal.main_arg2) = m ((c.tc : Thread Cert.BlockBwdIdeal.nD Cert.BlockBwdIdeal.τ).loc Cert.BlockBwdIdeal.main_arg2)
          ∧ r.2.mem ((c.tc : Thread Cert.BlockBwdIdeal.nD Cert.BlockBwdIdeal.τ).loc Cert.BlockBwdIdeal.main_arg3) = m ((c.tc : Thread Cert.BlockBwdIdeal.nD Cert.BlockBwdIdeal.τ).loc Cert.BlockBwdIdeal.main_arg3)
          ∧ r.2.mem ((c.tc : Thread Cert.BlockBwdIdeal.nD Cert.BlockBwdIdeal.τ).loc Cert.BlockBwdIdeal.main_arg4) = m ((c.tc : Thread Cert.BlockBwdIdeal.nD Cert.BlockBwdIdeal.τ).loc Cert.BlockBwdIdeal.main_arg4)
          ∧ r.2.mem ((c.tc : Thread Cert.BlockBwdIdeal.nD Cert.BlockBwdIdeal.τ).loc Cert.BlockBwdIdeal.main_arg5) = m ((c.tc : Thread Cert.BlockBwdIdeal.nD Cert.BlockBwdIdeal.τ).loc Cert.BlockBwdIdeal.main_arg5)
          ∧ r.2.mem ((c.tc : Thread Cert.BlockBwdIdeal.nD Cert.BlockBwdIdeal.τ).loc Cert.BlockBwdIdeal.main_arg6) = m ((c.tc : Thread Cert.BlockBwdIdeal.nD Cert.BlockBwdIdeal.τ).loc Cert.BlockBwdIdeal.main_arg6)
          ∧ r.2.mem ((c.tc : Thread Cert.BlockBwdIdeal.nD Cert.BlockBwdIdeal.τ).loc Cert.BlockBwdIdeal.main_arg7) = m ((c.tc : Thread Cert.BlockBwdIdeal.nD Cert.BlockBwdIdeal.τ).loc Cert.BlockBwdIdeal.main_arg7))
      ∧ θ_run (Cert.BlockBwdRefIdeal.defs (F := Ideal)) (onTc (τ := Cert.BlockBwdRefIdeal.τ) (Cert.BlockBwdRefIdeal.main (F := Ideal))) ⟨m', fun _ => 0, g'⟩ (fun r => ∀ c : Dev Cert.BlockBwdRefIdeal.nD,
          r.2.mem ((c.tc : Thread Cert.BlockBwdRefIdeal.nD Cert.BlockBwdRefIdeal.τ).loc Cert.BlockBwdRefIdeal.main_v53) = v0 c
          ∧ r.2.mem ((c.tc : Thread Cert.BlockBwdRefIdeal.nD Cert.BlockBwdRefIdeal.τ).loc Cert.BlockBwdRefIdeal.main_v60) = v1 c
          ∧ r.2.mem ((c.tc : Thread Cert.BlockBwdRefIdeal.nD Cert.BlockBwdRefIdeal.τ).loc Cert.BlockBwdRefIdeal.main_v30) = v2 c
          ∧ r.2.mem ((c.tc : Thread Cert.BlockBwdRefIdeal.nD Cert.BlockBwdRefIdeal.τ).loc Cert.BlockBwdRefIdeal.main_v27) = v3 c
          ∧ r.2.mem ((c.tc : Thread Cert.BlockBwdRefIdeal.nD Cert.BlockBwdRefIdeal.τ).loc Cert.BlockBwdRefIdeal.main_v61) = v4 c
          ∧ r.2.mem ((c.tc : Thread Cert.BlockBwdRefIdeal.nD Cert.BlockBwdRefIdeal.τ).loc Cert.BlockBwdRefIdeal.main_v59) = v5 c
          ∧ r.2.mem ((c.tc : Thread Cert.BlockBwdRefIdeal.nD Cert.BlockBwdRefIdeal.τ).loc Cert.BlockBwdRefIdeal.main_arg0) = m' ((c.tc : Thread Cert.BlockBwdRefIdeal.nD Cert.BlockBwdRefIdeal.τ).loc Cert.BlockBwdRefIdeal.main_arg0)
          ∧ r.2.mem ((c.tc : Thread Cert.BlockBwdRefIdeal.nD Cert.BlockBwdRefIdeal.τ).loc Cert.BlockBwdRefIdeal.main_arg1) = m' ((c.tc : Thread Cert.BlockBwdRefIdeal.nD Cert.BlockBwdRefIdeal.τ).loc Cert.BlockBwdRefIdeal.main_arg1)
          ∧ r.2.mem ((c.tc : Thread Cert.BlockBwdRefIdeal.nD Cert.BlockBwdRefIdeal.τ).loc Cert.BlockBwdRefIdeal.main_arg2) = m' ((c.tc : Thread Cert.BlockBwdRefIdeal.nD Cert.BlockBwdRefIdeal.τ).loc Cert.BlockBwdRefIdeal.main_arg2)
          ∧ r.2.mem ((c.tc : Thread Cert.BlockBwdRefIdeal.nD Cert.BlockBwdRefIdeal.τ).loc Cert.BlockBwdRefIdeal.main_arg3) = m' ((c.tc : Thread Cert.BlockBwdRefIdeal.nD Cert.BlockBwdRefIdeal.τ).loc Cert.BlockBwdRefIdeal.main_arg3)
          ∧ r.2.mem ((c.tc : Thread Cert.BlockBwdRefIdeal.nD Cert.BlockBwdRefIdeal.τ).loc Cert.BlockBwdRefIdeal.main_arg4) = m' ((c.tc : Thread Cert.BlockBwdRefIdeal.nD Cert.BlockBwdRefIdeal.τ).loc Cert.BlockBwdRefIdeal.main_arg4)
          ∧ r.2.mem ((c.tc : Thread Cert.BlockBwdRefIdeal.nD Cert.BlockBwdRefIdeal.τ).loc Cert.BlockBwdRefIdeal.main_arg5) = m' ((c.tc : Thread Cert.BlockBwdRefIdeal.nD Cert.BlockBwdRefIdeal.τ).loc Cert.BlockBwdRefIdeal.main_arg5)
          ∧ r.2.mem ((c.tc : Thread Cert.BlockBwdRefIdeal.nD Cert.BlockBwdRefIdeal.τ).loc Cert.BlockBwdRefIdeal.main_arg6) = m' ((c.tc : Thread Cert.BlockBwdRefIdeal.nD Cert.BlockBwdRefIdeal.τ).loc Cert.BlockBwdRefIdeal.main_arg6)
          ∧ r.2.mem ((c.tc : Thread Cert.BlockBwdRefIdeal.nD Cert.BlockBwdRefIdeal.τ).loc Cert.BlockBwdRefIdeal.main_arg7) = m' ((c.tc : Thread Cert.BlockBwdRefIdeal.nD Cert.BlockBwdRefIdeal.τ).loc Cert.BlockBwdRefIdeal.main_arg7))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)
      ∧ m' ((c.tc : Thread Cert.FinalLossRefIdeal.nD Cert.FinalLossRefIdeal.τ).loc Cert.FinalLossRefIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v1_0)) (v1 : (c : Dev Cert.FinalLossIdeal.nD) → Buf (Elt Ideal) ((c.tc : Thread Cert.FinalLossIdeal.nD Cert.FinalLossIdeal.τ).loc Cert.FinalLossIdeal.main_v1_1)) (v2 : (c : Dev Cert.FinalLossIdeal.nD) → Buf (Elt Ideal) ((c.tc : Thread Cert.FinalLossIdeal.nD Cert.FinalLossIdeal.τ).loc Cert.FinalLossIdeal.main_v1_2)) (v3 : (c : Dev Cert.FinalLossIdeal.nD) → Buf (Elt Ideal) ((c.tc : Thread Cert.FinalLossIdeal.nD Cert.FinalLossIdeal.τ).loc Cert.FinalLossIdeal.main_v1_3)) (v4 : (c : Dev Cert.FinalLossIdeal.nD) → Buf (Elt Ideal) ((c.tc : Thread Cert.FinalLossIdeal.nD Cert.FinalLossIdeal.τ).loc Cert.FinalLossIdeal.main_v1_4)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v1_0) = v0 c
          ∧ r.2.mem ((c.tc : Thread Cert.FinalLossIdeal.nD Cert.FinalLossIdeal.τ).loc Cert.FinalLossIdeal.main_v1_1) = v1 c
          ∧ r.2.mem ((c.tc : Thread Cert.FinalLossIdeal.nD Cert.FinalLossIdeal.τ).loc Cert.FinalLossIdeal.main_v1_2) = v2 c
          ∧ r.2.mem ((c.tc : Thread Cert.FinalLossIdeal.nD Cert.FinalLossIdeal.τ).loc Cert.FinalLossIdeal.main_v1_3) = v3 c
          ∧ r.2.mem ((c.tc : Thread Cert.FinalLossIdeal.nD Cert.FinalLossIdeal.τ).loc Cert.FinalLossIdeal.main_v1_4) = v4 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v59) = v0 c
          ∧ r.2.mem ((c.tc : Thread Cert.FinalLossRefIdeal.nD Cert.FinalLossRefIdeal.τ).loc Cert.FinalLossRefIdeal.main_v53) = v1 c
          ∧ r.2.mem ((c.tc : Thread Cert.FinalLossRefIdeal.nD Cert.FinalLossRefIdeal.τ).loc Cert.FinalLossRefIdeal.main_v60) = v2 c
          ∧ r.2.mem ((c.tc : Thread Cert.FinalLossRefIdeal.nD Cert.FinalLossRefIdeal.τ).loc Cert.FinalLossRefIdeal.main_v58) = v3 c
          ∧ r.2.mem ((c.tc : Thread Cert.FinalLossRefIdeal.nD Cert.FinalLossRefIdeal.τ).loc Cert.FinalLossRefIdeal.main_v61) = v4 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3)
          ∧ r.2.mem ((c.tc : Thread Cert.FinalLossRefIdeal.nD Cert.FinalLossRefIdeal.τ).loc Cert.FinalLossRefIdeal.main_arg4) = m' ((c.tc : Thread Cert.FinalLossRefIdeal.nD Cert.FinalLossRefIdeal.τ).loc Cert.FinalLossRefIdeal.main_arg4))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)) (v3 : (c : Dev Cert.NormBwdIdeal.nD) → Buf (Elt Ideal) ((c.tc : Thread Cert.NormBwdIdeal.nD Cert.NormBwdIdeal.τ).loc Cert.NormBwdIdeal.main_v1_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_v1_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v50) = v0 c
          ∧ r.2.mem ((c.tc : Thread Cert.NormBwdRefIdeal.nD Cert.NormBwdRefIdeal.τ).loc Cert.NormBwdRefIdeal.main_v51) = v1 c
          ∧ r.2.mem ((c.tc : Thread Cert.NormBwdRefIdeal.nD Cert.NormBwdRefIdeal.τ).loc Cert.NormBwdRefIdeal.main_v27) = v2 c
          ∧ r.2.mem ((c.tc : Thread Cert.NormBwdRefIdeal.nD Cert.NormBwdRefIdeal.τ).loc Cert.NormBwdRefIdeal.main_v24) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_BlockFwd_BlockFwdIdeal : Prop :=
  True

def algebraic_BlockFwdIdeal_BlockFwdRefIdeal [hBlockFwdIdeal : Cert.BlockFwdIdeal.Facts] [hBlockFwdRefIdeal : Cert.BlockFwdRefIdeal.Facts] : Prop :=
  ∀ (m : (ℓ : Loc Cert.BlockFwdIdeal.nD Cert.BlockFwdIdeal.τ Cert.BlockFwdIdeal.sig) → Buf (Elt Ideal) ℓ) (g : Dev Cert.BlockFwdIdeal.nD → PrngReg)
    (m' : (ℓ : Loc Cert.BlockFwdRefIdeal.nD Cert.BlockFwdRefIdeal.τ Cert.BlockFwdRefIdeal.sig) → Buf (Elt Ideal) ℓ) (g' : Dev Cert.BlockFwdRefIdeal.nD → PrngReg), Pre_BlockFwdIdeal m →
    (∀ c : Dev Cert.BlockFwdIdeal.nD,
      m' ((c.tc : Thread Cert.BlockFwdRefIdeal.nD Cert.BlockFwdRefIdeal.τ).loc Cert.BlockFwdRefIdeal.main_arg0) = m ((c.tc : Thread Cert.BlockFwdIdeal.nD Cert.BlockFwdIdeal.τ).loc Cert.BlockFwdIdeal.main_arg0)
      ∧ m' ((c.tc : Thread Cert.BlockFwdRefIdeal.nD Cert.BlockFwdRefIdeal.τ).loc Cert.BlockFwdRefIdeal.main_arg1) = m ((c.tc : Thread Cert.BlockFwdIdeal.nD Cert.BlockFwdIdeal.τ).loc Cert.BlockFwdIdeal.main_arg1)
      ∧ m' ((c.tc : Thread Cert.BlockFwdRefIdeal.nD Cert.BlockFwdRefIdeal.τ).loc Cert.BlockFwdRefIdeal.main_arg2) = m ((c.tc : Thread Cert.BlockFwdIdeal.nD Cert.BlockFwdIdeal.τ).loc Cert.BlockFwdIdeal.main_arg2)
      ∧ m' ((c.tc : Thread Cert.BlockFwdRefIdeal.nD Cert.BlockFwdRefIdeal.τ).loc Cert.BlockFwdRefIdeal.main_arg3) = m ((c.tc : Thread Cert.BlockFwdIdeal.nD Cert.BlockFwdIdeal.τ).loc Cert.BlockFwdIdeal.main_arg3)
      ∧ m' ((c.tc : Thread Cert.BlockFwdRefIdeal.nD Cert.BlockFwdRefIdeal.τ).loc Cert.BlockFwdRefIdeal.main_arg4) = m ((c.tc : Thread Cert.BlockFwdIdeal.nD Cert.BlockFwdIdeal.τ).loc Cert.BlockFwdIdeal.main_arg4)
      ∧ m' ((c.tc : Thread Cert.BlockFwdRefIdeal.nD Cert.BlockFwdRefIdeal.τ).loc Cert.BlockFwdRefIdeal.main_arg5) = m ((c.tc : Thread Cert.BlockFwdIdeal.nD Cert.BlockFwdIdeal.τ).loc Cert.BlockFwdIdeal.main_arg5)) →
    ∃ (v0 : (c : Dev Cert.BlockFwdIdeal.nD) → Buf (Elt Ideal) ((c.tc : Thread Cert.BlockFwdIdeal.nD Cert.BlockFwdIdeal.τ).loc Cert.BlockFwdIdeal.main_v1_0)) (v1 : (c : Dev Cert.BlockFwdIdeal.nD) → Buf (Elt Ideal) ((c.tc : Thread Cert.BlockFwdIdeal.nD Cert.BlockFwdIdeal.τ).loc Cert.BlockFwdIdeal.main_v1_1)),
      θ_run (Cert.BlockFwdIdeal.defs (F := Ideal)) (onTc (τ := Cert.BlockFwdIdeal.τ) (Cert.BlockFwdIdeal.main (F := Ideal))) ⟨m, fun _ => 0, g⟩ (fun r => ∀ c : Dev Cert.BlockFwdIdeal.nD,
          r.2.mem ((c.tc : Thread Cert.BlockFwdIdeal.nD Cert.BlockFwdIdeal.τ).loc Cert.BlockFwdIdeal.main_v1_0) = v0 c
          ∧ r.2.mem ((c.tc : Thread Cert.BlockFwdIdeal.nD Cert.BlockFwdIdeal.τ).loc Cert.BlockFwdIdeal.main_v1_1) = v1 c
          ∧ r.2.mem ((c.tc : Thread Cert.BlockFwdIdeal.nD Cert.BlockFwdIdeal.τ).loc Cert.BlockFwdIdeal.main_arg0) = m ((c.tc : Thread Cert.BlockFwdIdeal.nD Cert.BlockFwdIdeal.τ).loc Cert.BlockFwdIdeal.main_arg0)
          ∧ r.2.mem ((c.tc : Thread Cert.BlockFwdIdeal.nD Cert.BlockFwdIdeal.τ).loc Cert.BlockFwdIdeal.main_arg1) = m ((c.tc : Thread Cert.BlockFwdIdeal.nD Cert.BlockFwdIdeal.τ).loc Cert.BlockFwdIdeal.main_arg1)
          ∧ r.2.mem ((c.tc : Thread Cert.BlockFwdIdeal.nD Cert.BlockFwdIdeal.τ).loc Cert.BlockFwdIdeal.main_arg2) = m ((c.tc : Thread Cert.BlockFwdIdeal.nD Cert.BlockFwdIdeal.τ).loc Cert.BlockFwdIdeal.main_arg2)
          ∧ r.2.mem ((c.tc : Thread Cert.BlockFwdIdeal.nD Cert.BlockFwdIdeal.τ).loc Cert.BlockFwdIdeal.main_arg3) = m ((c.tc : Thread Cert.BlockFwdIdeal.nD Cert.BlockFwdIdeal.τ).loc Cert.BlockFwdIdeal.main_arg3)
          ∧ r.2.mem ((c.tc : Thread Cert.BlockFwdIdeal.nD Cert.BlockFwdIdeal.τ).loc Cert.BlockFwdIdeal.main_arg4) = m ((c.tc : Thread Cert.BlockFwdIdeal.nD Cert.BlockFwdIdeal.τ).loc Cert.BlockFwdIdeal.main_arg4)
          ∧ r.2.mem ((c.tc : Thread Cert.BlockFwdIdeal.nD Cert.BlockFwdIdeal.τ).loc Cert.BlockFwdIdeal.main_arg5) = m ((c.tc : Thread Cert.BlockFwdIdeal.nD Cert.BlockFwdIdeal.τ).loc Cert.BlockFwdIdeal.main_arg5))
      ∧ θ_run (Cert.BlockFwdRefIdeal.defs (F := Ideal)) (onTc (τ := Cert.BlockFwdRefIdeal.τ) (Cert.BlockFwdRefIdeal.main (F := Ideal))) ⟨m', fun _ => 0, g'⟩ (fun r => ∀ c : Dev Cert.BlockFwdRefIdeal.nD,
          r.2.mem ((c.tc : Thread Cert.BlockFwdRefIdeal.nD Cert.BlockFwdRefIdeal.τ).loc Cert.BlockFwdRefIdeal.main_v2) = v0 c
          ∧ r.2.mem ((c.tc : Thread Cert.BlockFwdRefIdeal.nD Cert.BlockFwdRefIdeal.τ).loc Cert.BlockFwdRefIdeal.main_v22) = v1 c
          ∧ r.2.mem ((c.tc : Thread Cert.BlockFwdRefIdeal.nD Cert.BlockFwdRefIdeal.τ).loc Cert.BlockFwdRefIdeal.main_arg0) = m' ((c.tc : Thread Cert.BlockFwdRefIdeal.nD Cert.BlockFwdRefIdeal.τ).loc Cert.BlockFwdRefIdeal.main_arg0)
          ∧ r.2.mem ((c.tc : Thread Cert.BlockFwdRefIdeal.nD Cert.BlockFwdRefIdeal.τ).loc Cert.BlockFwdRefIdeal.main_arg1) = m' ((c.tc : Thread Cert.BlockFwdRefIdeal.nD Cert.BlockFwdRefIdeal.τ).loc Cert.BlockFwdRefIdeal.main_arg1)
          ∧ r.2.mem ((c.tc : Thread Cert.BlockFwdRefIdeal.nD Cert.BlockFwdRefIdeal.τ).loc Cert.BlockFwdRefIdeal.main_arg2) = m' ((c.tc : Thread Cert.BlockFwdRefIdeal.nD Cert.BlockFwdRefIdeal.τ).loc Cert.BlockFwdRefIdeal.main_arg2)
          ∧ r.2.mem ((c.tc : Thread Cert.BlockFwdRefIdeal.nD Cert.BlockFwdRefIdeal.τ).loc Cert.BlockFwdRefIdeal.main_arg3) = m' ((c.tc : Thread Cert.BlockFwdRefIdeal.nD Cert.BlockFwdRefIdeal.τ).loc Cert.BlockFwdRefIdeal.main_arg3)
          ∧ r.2.mem ((c.tc : Thread Cert.BlockFwdRefIdeal.nD Cert.BlockFwdRefIdeal.τ).loc Cert.BlockFwdRefIdeal.main_arg4) = m' ((c.tc : Thread Cert.BlockFwdRefIdeal.nD Cert.BlockFwdRefIdeal.τ).loc Cert.BlockFwdRefIdeal.main_arg4)
          ∧ r.2.mem ((c.tc : Thread Cert.BlockFwdRefIdeal.nD Cert.BlockFwdRefIdeal.τ).loc Cert.BlockFwdRefIdeal.main_arg5) = m' ((c.tc : Thread Cert.BlockFwdRefIdeal.nD Cert.BlockFwdRefIdeal.τ).loc Cert.BlockFwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v19) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def Claim : Prop :=
  ∃ (hKernel : Cert.Kernel.Facts) (hKernelIdeal : Cert.KernelIdeal.Facts) (hReferenceIdeal : Cert.ReferenceIdeal.Facts) (hGUp : Cert.GUp.Facts) (hGUpIdeal : Cert.GUpIdeal.Facts) (hGUpRefIdeal : Cert.GUpRefIdeal.Facts) (hDHf : Cert.DHf.Facts) (hDHfIdeal : Cert.DHfIdeal.Facts) (hDHfRefIdeal : Cert.DHfRefIdeal.Facts) (hGDown : Cert.GDown.Facts) (hGDownIdeal : Cert.GDownIdeal.Facts) (hGDownRefIdeal : Cert.GDownRefIdeal.Facts) (hDU : Cert.DU.Facts) (hDUIdeal : Cert.DUIdeal.Facts) (hDURefIdeal : Cert.DURefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hGParIn : Cert.GParIn.Facts) (hGParInIdeal : Cert.GParInIdeal.Facts) (hGParInRefIdeal : Cert.GParInRefIdeal.Facts) (hDParIn : Cert.DParIn.Facts) (hDParInIdeal : Cert.DParInIdeal.Facts) (hDParInRefIdeal : Cert.DParInRefIdeal.Facts) (hGSgIn : Cert.GSgIn.Facts) (hGSgInIdeal : Cert.GSgInIdeal.Facts) (hGSgInRefIdeal : Cert.GSgInRefIdeal.Facts) (hDSgIn : Cert.DSgIn.Facts) (hDSgInIdeal : Cert.DSgInIdeal.Facts) (hDSgInRefIdeal : Cert.DSgInRefIdeal.Facts) (hGOut : Cert.GOut.Facts) (hGOutIdeal : Cert.GOutIdeal.Facts) (hGOutRefIdeal : Cert.GOutRefIdeal.Facts) (hDOut : Cert.DOut.Facts) (hDOutIdeal : Cert.DOutIdeal.Facts) (hDOutRefIdeal : Cert.DOutRefIdeal.Facts) (hParIn : Cert.ParIn.Facts) (hParInIdeal : Cert.ParInIdeal.Facts) (hParInRefIdeal : Cert.ParInRefIdeal.Facts) (hSgIn : Cert.SgIn.Facts) (hSgInIdeal : Cert.SgInIdeal.Facts) (hSgInRefIdeal : Cert.SgInRefIdeal.Facts) (hOut : Cert.Out.Facts) (hOutIdeal : Cert.OutIdeal.Facts) (hOutRefIdeal : Cert.OutRefIdeal.Facts) (hConvBwd : Cert.ConvBwd.Facts) (hConvBwdIdeal : Cert.ConvBwdIdeal.Facts) (hConvBwdRefIdeal : Cert.ConvBwdRefIdeal.Facts) (hBlockBwd : Cert.BlockBwd.Facts) (hBlockBwdIdeal : Cert.BlockBwdIdeal.Facts) (hBlockBwdRefIdeal : Cert.BlockBwdRefIdeal.Facts) (hFinalLoss : Cert.FinalLoss.Facts) (hFinalLossIdeal : Cert.FinalLossIdeal.Facts) (hFinalLossRefIdeal : Cert.FinalLossRefIdeal.Facts) (hNormBwd : Cert.NormBwd.Facts) (hNormBwdIdeal : Cert.NormBwdIdeal.Facts) (hNormBwdRefIdeal : Cert.NormBwdRefIdeal.Facts) (hBlockFwd : Cert.BlockFwd.Facts) (hBlockFwdIdeal : Cert.BlockFwdIdeal.Facts) (hBlockFwdRefIdeal : Cert.BlockFwdRefIdeal.Facts) (hNormFwd : Cert.NormFwd.Facts) (hNormFwdIdeal : Cert.NormFwdIdeal.Facts) (hNormFwdRefIdeal : Cert.NormFwdRefIdeal.Facts) (hConvFwd : Cert.ConvFwd.Facts) (hConvFwdIdeal : Cert.ConvFwdIdeal.Facts) (hConvFwdRefIdeal : Cert.ConvFwdRefIdeal.Facts) (hPre_finite : Cert.Pre_finite.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GUp (hGUp := hGUp)
    ∧ quiescent_GUpIdeal (hGUpIdeal := hGUpIdeal)
    ∧ quiescent_GUpRefIdeal (hGUpRefIdeal := hGUpRefIdeal)
    ∧ quiescent_DHf (hDHf := hDHf)
    ∧ quiescent_DHfIdeal (hDHfIdeal := hDHfIdeal)
    ∧ quiescent_DHfRefIdeal (hDHfRefIdeal := hDHfRefIdeal)
    ∧ quiescent_GDown (hGDown := hGDown)
    ∧ quiescent_GDownIdeal (hGDownIdeal := hGDownIdeal)
    ∧ quiescent_GDownRefIdeal (hGDownRefIdeal := hGDownRefIdeal)
    ∧ quiescent_DU (hDU := hDU)
    ∧ quiescent_DUIdeal (hDUIdeal := hDUIdeal)
    ∧ quiescent_DURefIdeal (hDURefIdeal := hDURefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_GParIn (hGParIn := hGParIn)
    ∧ quiescent_GParInIdeal (hGParInIdeal := hGParInIdeal)
    ∧ quiescent_GParInRefIdeal (hGParInRefIdeal := hGParInRefIdeal)
    ∧ quiescent_DParIn (hDParIn := hDParIn)
    ∧ quiescent_DParInIdeal (hDParInIdeal := hDParInIdeal)
    ∧ quiescent_DParInRefIdeal (hDParInRefIdeal := hDParInRefIdeal)
    ∧ quiescent_GSgIn (hGSgIn := hGSgIn)
    ∧ quiescent_GSgInIdeal (hGSgInIdeal := hGSgInIdeal)
    ∧ quiescent_GSgInRefIdeal (hGSgInRefIdeal := hGSgInRefIdeal)
    ∧ quiescent_DSgIn (hDSgIn := hDSgIn)
    ∧ quiescent_DSgInIdeal (hDSgInIdeal := hDSgInIdeal)
    ∧ quiescent_DSgInRefIdeal (hDSgInRefIdeal := hDSgInRefIdeal)
    ∧ quiescent_GOut (hGOut := hGOut)
    ∧ quiescent_GOutIdeal (hGOutIdeal := hGOutIdeal)
    ∧ quiescent_GOutRefIdeal (hGOutRefIdeal := hGOutRefIdeal)
    ∧ quiescent_DOut (hDOut := hDOut)
    ∧ quiescent_DOutIdeal (hDOutIdeal := hDOutIdeal)
    ∧ quiescent_DOutRefIdeal (hDOutRefIdeal := hDOutRefIdeal)
    ∧ quiescent_ParIn (hParIn := hParIn)
    ∧ quiescent_ParInIdeal (hParInIdeal := hParInIdeal)
    ∧ quiescent_ParInRefIdeal (hParInRefIdeal := hParInRefIdeal)
    ∧ quiescent_SgIn (hSgIn := hSgIn)
    ∧ quiescent_SgInIdeal (hSgInIdeal := hSgInIdeal)
    ∧ quiescent_SgInRefIdeal (hSgInRefIdeal := hSgInRefIdeal)
    ∧ quiescent_Out (hOut := hOut)
    ∧ quiescent_OutIdeal (hOutIdeal := hOutIdeal)
    ∧ quiescent_OutRefIdeal (hOutRefIdeal := hOutRefIdeal)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdRefIdeal (hConvBwdRefIdeal := hConvBwdRefIdeal)
    ∧ quiescent_ConvBwdRefIdeal_pre_finite_conv (hConvBwdRefIdeal := hConvBwdRefIdeal) (hPre_finite_conv := hPre_finite_conv)
    ∧ quiescent_BlockBwd (hBlockBwd := hBlockBwd)
    ∧ quiescent_BlockBwdIdeal (hBlockBwdIdeal := hBlockBwdIdeal)
    ∧ quiescent_BlockBwdRefIdeal (hBlockBwdRefIdeal := hBlockBwdRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_BlockFwd (hBlockFwd := hBlockFwd)
    ∧ quiescent_BlockFwdIdeal (hBlockFwdIdeal := hBlockFwdIdeal)
    ∧ quiescent_BlockFwdRefIdeal (hBlockFwdRefIdeal := hBlockFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GUp_GUpIdeal
    ∧ algebraic_GUpIdeal_GUpRefIdeal (hGUpIdeal := hGUpIdeal) (hGUpRefIdeal := hGUpRefIdeal)
    ∧ preserves_DHf_DHfIdeal
    ∧ algebraic_DHfIdeal_DHfRefIdeal (hDHfIdeal := hDHfIdeal) (hDHfRefIdeal := hDHfRefIdeal)
    ∧ preserves_GDown_GDownIdeal
    ∧ algebraic_GDownIdeal_GDownRefIdeal (hGDownIdeal := hGDownIdeal) (hGDownRefIdeal := hGDownRefIdeal)
    ∧ preserves_DU_DUIdeal
    ∧ algebraic_DUIdeal_DURefIdeal (hDUIdeal := hDUIdeal) (hDURefIdeal := hDURefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_GParIn_GParInIdeal
    ∧ algebraic_GParInIdeal_GParInRefIdeal (hGParInIdeal := hGParInIdeal) (hGParInRefIdeal := hGParInRefIdeal)
    ∧ preserves_DParIn_DParInIdeal
    ∧ algebraic_DParInIdeal_DParInRefIdeal (hDParInIdeal := hDParInIdeal) (hDParInRefIdeal := hDParInRefIdeal)
    ∧ preserves_GSgIn_GSgInIdeal
    ∧ algebraic_GSgInIdeal_GSgInRefIdeal (hGSgInIdeal := hGSgInIdeal) (hGSgInRefIdeal := hGSgInRefIdeal)
    ∧ preserves_DSgIn_DSgInIdeal
    ∧ algebraic_DSgInIdeal_DSgInRefIdeal (hDSgInIdeal := hDSgInIdeal) (hDSgInRefIdeal := hDSgInRefIdeal)
    ∧ preserves_GOut_GOutIdeal
    ∧ algebraic_GOutIdeal_GOutRefIdeal (hGOutIdeal := hGOutIdeal) (hGOutRefIdeal := hGOutRefIdeal)
    ∧ preserves_DOut_DOutIdeal
    ∧ algebraic_DOutIdeal_DOutRefIdeal (hDOutIdeal := hDOutIdeal) (hDOutRefIdeal := hDOutRefIdeal)
    ∧ preserves_ParIn_ParInIdeal
    ∧ algebraic_ParInIdeal_ParInRefIdeal (hParInIdeal := hParInIdeal) (hParInRefIdeal := hParInRefIdeal)
    ∧ preserves_SgIn_SgInIdeal
    ∧ algebraic_SgInIdeal_SgInRefIdeal (hSgInIdeal := hSgInIdeal) (hSgInRefIdeal := hSgInRefIdeal)
    ∧ preserves_Out_OutIdeal
    ∧ algebraic_OutIdeal_OutRefIdeal (hOutIdeal := hOutIdeal) (hOutRefIdeal := hOutRefIdeal)
    ∧ preserves_ConvBwd_ConvBwdIdeal
    ∧ algebraic_ConvBwdIdeal_ConvBwdRefIdeal_pre_finite_conv (hConvBwdIdeal := hConvBwdIdeal) (hConvBwdRefIdeal := hConvBwdRefIdeal) (hPre_finite_conv := hPre_finite_conv)
    ∧ preserves_BlockBwd_BlockBwdIdeal
    ∧ algebraic_BlockBwdIdeal_BlockBwdRefIdeal (hBlockBwdIdeal := hBlockBwdIdeal) (hBlockBwdRefIdeal := hBlockBwdRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_NormBwd_NormBwdIdeal
    ∧ algebraic_NormBwdIdeal_NormBwdRefIdeal (hNormBwdIdeal := hNormBwdIdeal) (hNormBwdRefIdeal := hNormBwdRefIdeal)
    ∧ preserves_BlockFwd_BlockFwdIdeal
    ∧ algebraic_BlockFwdIdeal_BlockFwdRefIdeal (hBlockFwdIdeal := hBlockFwdIdeal) (hBlockFwdRefIdeal := hBlockFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ConvFwd_ConvFwdIdeal
    ∧ algebraic_ConvFwdIdeal_ConvFwdRefIdeal (hConvFwdIdeal := hConvFwdIdeal) (hConvFwdRefIdeal := hConvFwdRefIdeal)
-- ==== Pre_finite.lean ====
abbrev S4096x7168 : Shape := ⟨2, ![4096, 7168]⟩
abbrev S4096x2048 : Shape := ⟨2, ![4096, 2048]⟩
abbrev S4096x3072 : Shape := ⟨2, ![4096, 3072]⟩
abbrev S_ : Shape := ⟨0, ![]⟩
abbrev S4096x1024 : Shape := ⟨2, ![4096, 1024]⟩

class Facts : Prop where
  slices_S4096x7168_S4096x3072_0_0 : S4096x7168.Slices ![0, 0] S4096x3072
  bcast_S_S4096x3072 : S_.BroadcastsInDim S4096x3072 (![] : Fin 0 → Fin S4096x3072.rank)
  slices_S4096x2048_S4096x1024_0_0 : S4096x2048.Slices ![0, 0] S4096x1024
  bcast_S_S4096x1024 : S_.BroadcastsInDim S4096x1024 (![] : Fin 0 → Fin S4096x1024.rank)

variable [Facts]

def fn {F : FTy → Type} [FloatOps F] (main_arg0 : FVec F S4096x7168 .f32) (main_arg1 : FVec F S4096x2048 .f32) : IVec S4096x3072 1 × IVec S4096x1024 1 :=
  let main_v0 : FVec F S4096x3072 .f32 := (extractStridedSlice S4096x3072 ![0, 0] · slices_S4096x7168_S4096x3072_0_0) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x1024 .f32 := (extractStridedSlice S4096x1024 ![0, 0] · slices_S4096x2048_S4096x1024_0_0) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  (main_v3, main_v7)
-- ==== Pre_finite_conv.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S_ : Shape := ⟨0, ![]⟩

class Facts : Prop where
  bcast_S_S4096x11264 : S_.BroadcastsInDim S4096x11264 (![] : Fin 0 → Fin S4096x11264.rank)
  bcast_S_S3x11264 : S_.BroadcastsInDim S3x11264 (![] : Fin 0 → Fin S3x11264.rank)
  bcast_S_S11264 : S_.BroadcastsInDim S11264 (![] : Fin 0 → Fin S11264.rank)
  bcast_S_S4096x5632 : S_.BroadcastsInDim S4096x5632 (![] : Fin 0 → Fin S4096x5632.rank)

variable [Facts]

def fn {F : FTy → Type} [FloatOps F] (main_arg0 : FVec F S4096x11264 .f32) (main_arg1 : FVec F S3x11264 .f32) (main_arg2 : FVec F S11264 .f32) (main_arg3 : FVec F S4096x5632 .f32) : IVec S4096x11264 1 × IVec S3x11264 1 × IVec S11264 1 × IVec S4096x5632 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_v3 : FVec F S3x11264 .f32 := Host.absf main_arg1
  let main_cst_0 : FVec F S_ .f32 := constant S_ .f32 0x7F800000#32
  let main_v4 : FVec F S3x11264 .f32 := broadcastInDim S3x11264 ![] bcast_S_S3x11264 main_cst_0
  let main_v5 : IVec S3x11264 1 := cmpf .olt main_v3 main_v4
  let main_v6 : FVec F S11264 .f32 := Host.absf main_arg2
  let main_cst_1 : FVec F S_ .f32 := constant S_ .f32 0x7F800000#32
  let main_v7 : FVec F S11264 .f32 := broadcastInDim S11264 ![] bcast_S_S11264 main_cst_1
  let main_v8 : IVec S11264 1 := cmpf .olt main_v6 main_v7
  let main_v9 : FVec F S4096x5632 .f32 := Host.absf main_arg3
  let main_cst_2 : FVec F S_ .f32 := constant S_ .f32 0x7F800000#32
  let main_v10 : FVec F S4096x5632 .f32 := broadcastInDim S4096x5632 ![] bcast_S_S4096x5632 main_cst_2
  let main_v11 : IVec S4096x5632 1 := cmpf .olt main_v9 main_v10
  (main_v2, main_v5, main_v8, main_v11)
-- ==== Kernel.lean ====
abbrev S4096x7168 : Shape := ⟨2, ![4096, 7168]⟩
abbrev S4096x2048 : Shape := ⟨2, ![4096, 2048]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8 : Shape := ⟨2, ![4096, 8]⟩
abbrev S4096x8x1 : Shape := ⟨3, ![4096, 8, 1]⟩
abbrev S512x128 : Shape := ⟨2, ![512, 128]⟩
abbrev S4096x128 : Shape := ⟨2, ![4096, 128]⟩
abbrev S128x128 : Shape := ⟨2, ![128, 128]⟩
abbrev S512x1 : Shape := ⟨2, ![512, 1]⟩
abbrev S512x512 : Shape := ⟨2, ![512, 512]⟩
abbrev S512 : Shape := ⟨1, ![512]⟩

abbrev nBuf : Space → Nat
  | .hbm => 50
  | .vmem => 16
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S4096x1024, .f32⟩
  | .hbm, ⟨3, _⟩ => ⟨S4096x8x128, .f32⟩
  | .hbm, ⟨4, _⟩ => ⟨S8x4096x128, .f32⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S_, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S4096x8, .f32⟩
  | .hbm, ⟨44, _⟩ => ⟨S4096x8x1, .f32⟩
  | .hbm, ⟨45, _⟩ => ⟨S4096x8x128, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_9 : BitVec 32 := 0#32
  let arg1 : BitVec 32 := BitVec.ofNat 32 (i 1).val
  let v26 : BitVec 32 := Scalar.subi arg1 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_10 : BitVec 32 := 1#32
  ⟨c0_i32_9, v30, c1_i32_10⟩
def k0_mult1 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c512_i32_87 : BitVec 32 := 512#32
  let v312 : BitVec 32 := Scalar.muli arg10 c512_i32_87
  v312
def k0_off1 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c512_i32_87 : BitVec 32 := 512#32
  let v312 : BitVec 32 := Scalar.muli arg10 c512_i32_87
  let v313 : BitVec 32 := v312
  let v314 : Index := Scalar.indexCast v313
  let c0_88 : Index := 0#32
  ![v314.toNat, 0]
@[reducible] def k0_t2_loop (i : grid0.Coords) : Scf.Loop 32 :=
  let c0_i32_9 : BitVec 32 := 0#32
  let arg1 : BitVec 32 := BitVec.ofNat 32 (i 1).val
  let v26 : BitVec 32 := Scalar.subi arg1 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let v27 : BitVec 32 := Scalar.addi c0_i32_9 v26
  let c1_i32_11 : BitVec 32 := 1#32
  ⟨v30, v27, c1_i32_11⟩
def k0_mult2 (i : grid0.Coords) (k0_t2 : Fin (k0_t2_loop i).trips) : BitVec 32 :=
  let c0_i32_9 : BitVec 32 := 0#32
  let arg1 : BitVec 32 := BitVec.ofNat 32 (i 1).val
  let v26 : BitVec 32 := Scalar.subi arg1 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg10 : BitVec 32 := Scf.iv v30 c1_i32_11 k0_t2
  let c512_i32_87 : BitVec 32 := 512#32
  let v312 : BitVec 32 := Scalar.muli arg10 c512_i32_87
  v312
def k0_off2 (i : grid0.Coords) (k0_t2 : Fin (k0_t2_loop i).trips) : Fin 2 → Nat :=
  let c0_i32_9 : BitVec 32 := 0#32
  let arg1 : BitVec 32 := BitVec.ofNat 32 (i 1).val
  let v26 : BitVec 32 := Scalar.subi arg1 c0_i32_9
  let c1_i32 : BitVec 32 := 1#32
  let v28 : BitVec 32 := Scalar.divsi v26 c1_i32
  let v29 : BitVec 32 := Scalar.muli v28 c1_i32
  let v30 : BitVec 32 := Scalar.addi c0_i32_9 v29
  let c1_i32_11 : BitVec 32 := 1#32
  let arg10 : BitVec 32 := Scf.iv v30 c1_i32_11 k0_t2
  let c512_i32_87 : BitVec 32 := 512#32
  let v312 : BitVec 32 := Scalar.muli arg10 c512_i32_87
  let v313 : BitVec 32 := v312
  let v314 : Index := Scalar.indexCast v313
  let c0_88 : Index := 0#32
  ![v314.toNat, 0]
def k0_mult3 (i : grid0.Coords) : BitVec 32 :=
  let arg1 : BitVec 32 := BitVec.ofNat 32 (i 1).val
  let c512_i32 : BitVec 32 := 512#32
  let v33 : BitVec 32 := Scalar.muli arg1 c512_i32
  v33
def k0_off3 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v35 : Index := Scalar.indexCast v34
  let c0_12 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x7168 : Shape := ⟨2, ![4096, 7168]⟩
abbrev S4096x2048 : Shape := ⟨2, ![4096, 2048]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩

abbrev nBuf : Space → Nat
  | .hbm => 179
  | .vmem => 0
  | .smem => 0
  | _ => 0

abbrev hbmTy0_0 (i : Nat) : BufTy := match i % 128 with
  | 0 => ⟨S4096x7168, .f32⟩
  | 1 => ⟨S4096x2048, .f32⟩
  | 2 => ⟨S4096x1024, .f32⟩
  | 3 => ⟨S4096x1024, .f32⟩
  | 4 => ⟨S4096x1024, .f32⟩
  | 5 => ⟨S4096x8x128, .f32⟩
  | 6 => ⟨S8x4096x128, .f32⟩
  | 7 => ⟨S4096x8x128, .f32⟩
  | 8 => ⟨S8x4096x128, .f32⟩
  | 9 => ⟨S4096x8x128, .f32⟩
  | 10 => ⟨S8x4096x128, .f32⟩
  | 11 => ⟨S8x4096x4096, .f32⟩
  | 12 => ⟨S_, .f32⟩
  | 13 => ⟨S8x4096x4096, .f32⟩
  | 14 => ⟨S8x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .i1⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x4096x4096, .f32⟩
  | 119 => ⟨S8x4096x4096, .i1⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S8x4096x4096, .f32⟩
  | _ => ⟨S4096x7168, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S_, .f32⟩
  | 6 => ⟨S8x4096x4096, .i1⟩
  | 7 => ⟨S8x4096x4096, .f32⟩
  | 8 => ⟨S8x4096x4096, .f32⟩
  | 9 => ⟨S_, .f32⟩
  | 10 => ⟨S8x4096x4096, .f32⟩
  | 11 => ⟨S8x4096x128, .f32⟩
  | 12 => ⟨S4096x8x128, .f32⟩
  | 13 => ⟨S4096x1024, .f32⟩
  | 14 => ⟨S4096x1024, .f32⟩
  | 15 => ⟨S4096x8x128, .f32⟩
  | 16 => ⟨S8x4096x128, .f32⟩
  | 17 => ⟨S8x128x4096, .f32⟩
  | 18 => ⟨S8x4096x128, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S_, .f32⟩
  | 29 => ⟨S_, .f32⟩
  | 30 => ⟨S8x4096x4096, .f32⟩
  | 31 => ⟨S8x4096x4096, .f32⟩
  | 32 => ⟨S_, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .f32⟩
  | 43 => ⟨S8x4096x128, .f32⟩
  | 44 => ⟨S8x4096x128, .f32⟩
  | 45 => ⟨S4096x8x128, .f32⟩
  | 46 => ⟨S4096x1024, .f32⟩
  | 47 => ⟨S4096x8x128, .f32⟩
  | 48 => ⟨S4096x1024, .f32⟩
  | 49 => ⟨S4096x8x128, .f32⟩
  | 50 => ⟨S4096x1024, .f32⟩
  | _ => ⟨S4096x7168, .f32⟩

abbrev hbmTy (i : Nat) : BufTy := match i / 128 with
  | 0 => hbmTy0_0 i
  | 1 => hbmTy0_1 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== GUp.lean ====
abbrev S4096x2048 : Shape := ⟨2, ![4096, 2048]⟩
abbrev S4096x11264 : Shape := ⟨2, ![4096, 11264]⟩
abbrev S4096x2x5632 : Shape := ⟨3, ![4096, 2, 5632]⟩
abbrev S2x4096x5632 : Shape := ⟨3, ![2, 4096, 5632]⟩
abbrev S4x2048x2816 : Shape := ⟨3, ![4, 2048, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S4096x2048, .bf16⟩
  | .hbm, ⟨3, _⟩ => ⟨S4096x2x5632, .f32⟩
  | .hbm, ⟨4, _⟩ => ⟨S2x4096x5632, .f32⟩
  | .hbm, ⟨5, _⟩ => ⟨S2x4096x5632, .bf16⟩
  | .hbm, ⟨6, _⟩ => ⟨S4x2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GUpRefIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S11264x2048, .f32⟩
  | .hbm, ⟨6, _⟩ => ⟨S2048x11264, .f32⟩
  | .hbm, ⟨7, _⟩ => ⟨S2048x4x2816, .f32⟩
  | .hbm, ⟨8, _⟩ => ⟨S4x2048x2816, .f32⟩
  | .hbm, ⟨9, _⟩ => ⟨S4x2048x2816, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DHf.lean ====
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩
abbrev S2048x4x2816 : Shape := ⟨3, ![2048, 4, 2816]⟩
abbrev S4x2048x2816 : Shape := ⟨3, ![4, 2048, 2816]⟩
abbrev S4096x2048 : Shape := ⟨2, ![4096, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S4096x2x5632, .f32⟩
  | .hbm, ⟨3, _⟩ => ⟨S2x4096x5632, .f32⟩
  | .hbm, ⟨4, _⟩ => ⟨S2x4096x5632, .bf16⟩
  | .hbm, ⟨5, _⟩ => ⟨S2048x4x2816, .f32⟩
  | .hbm, ⟨6, _⟩ => ⟨S4x2048x2816, .f32⟩
  | .hbm, ⟨7, _⟩ => ⟨S4x2048x2816, .bf16⟩
  | .hbm, ⟨8, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHfRefIdeal.lean ====
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S4096x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GDown.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DU.lean ====
abbrev S5632x2048 : Shape := ⟨2, ![5632, 2048]⟩
abbrev S4096x2048 : Shape := ⟨2, ![4096, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S4096x2048, .bf16⟩
  | .hbm, ⟨3, _⟩ => ⟨S5632x2048, .bf16⟩
  | .hbm, ⟨4, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DURefIdeal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x2048, .bf16⟩
  | .hbm, ⟨3, _⟩ => ⟨S2048x4x2816, .f32⟩
  | .hbm, ⟨4, _⟩ => ⟨S4x2048x2816, .f32⟩
  | .hbm, ⟨5, _⟩ => ⟨S4x2048x2816, .bf16⟩
  | .hbm, ⟨6, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S5632x2048, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GParIn.lean ====
abbrev S4096x2048 : Shape := ⟨2, ![4096, 2048]⟩
abbrev S4096x7168 : Shape := ⟨2, ![4096, 7168]⟩
abbrev S4x2048x1792 : Shape := ⟨3, ![4, 2048, 1792]⟩
abbrev S1024x1024 : Shape := ⟨2, ![1024, 1024]⟩
abbrev S1024x896 : Shape := ⟨2, ![1024, 896]⟩
abbrev S1x1024x896 : Shape := ⟨3, ![1, 1024, 896]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x7168, .f32⟩
  | .hbm, ⟨2, _⟩ => ⟨S4096x2048, .bf16⟩
  | .hbm, ⟨3, _⟩ => ⟨S4096x7168, .bf16⟩
  | .hbm, ⟨4, _⟩ => ⟨S4x2048x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GParInRefIdeal.lean ====
abbrev S4096x2048 : Shape := ⟨2, ![4096, 2048]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩
abbrev S2048x4x1792 : Shape := ⟨3, ![2048, 4, 1792]⟩
abbrev S4x2048x1792 : Shape := ⟨3, ![4, 2048, 1792]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x7168, .f32⟩
  | .hbm, ⟨2, _⟩ => ⟨S_, .f32⟩
  | .hbm, ⟨3, _⟩ => ⟨S2048x7168, .f32⟩
  | .hbm, ⟨4, _⟩ => ⟨S4096x7168, .f32⟩
  | .hbm, ⟨5, _⟩ => ⟨S7168x2048, .f32⟩
  | .hbm, ⟨6, _⟩ => ⟨S2048x7168, .f32⟩
  | .hbm, ⟨7, _⟩ => ⟨S2048x4x1792, .f32⟩
  | .hbm, ⟨8, _⟩ => ⟨S4x2048x1792, .f32⟩
  | .hbm, ⟨9, _⟩ => ⟨S4x2048x1792, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DParIn.lean ====
abbrev S2048x7168 : Shape := ⟨2, ![2048, 7168]⟩
abbrev S4096x7168 : Shape := ⟨2, ![4096, 7168]⟩
abbrev S2048x4x1792 : Shape := ⟨3, ![2048, 4, 1792]⟩
abbrev S4x2048x1792 : Shape := ⟨3, ![4, 2048, 1792]⟩
abbrev S4096x2048 : Shape := ⟨2, ![4096, 2048]⟩
abbrev S1024x1792 : Shape := ⟨2, ![1024, 1792]⟩
abbrev S1x1024x1792 : Shape := ⟨3, ![1, 1024, 1792]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x7168, .f32⟩
  | .hbm, ⟨1, _⟩ => ⟨S4096x7168, .f32⟩
  | .hbm, ⟨2, _⟩ => ⟨S4096x7168, .bf16⟩
  | .hbm, ⟨3, _⟩ => ⟨S2048x4x1792, .f32⟩
  | .hbm, ⟨4, _⟩ => ⟨S4x2048x1792, .f32⟩
  | .hbm, ⟨5, _⟩ => ⟨S4x2048x1792, .bf16⟩
  | .hbm, ⟨6, _⟩ => ⟨S4096x2048, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DParInRefIdeal.lean ====
abbrev S2048x7168 : Shape := ⟨2, ![2048, 7168]⟩
abbrev S4096x7168 : Shape := ⟨2, ![4096, 7168]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S4096x7168, .f32⟩
  | .hbm, ⟨2, _⟩ => ⟨S_, .f32⟩
  | .hbm, ⟨3, _⟩ => ⟨S4096x2048, .f32⟩
  | .hbm, ⟨4, _⟩ => ⟨S4096x7168, .f32⟩
  | .hbm, ⟨5, _⟩ => ⟨S4096x2048, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GSgIn.lean ====
abbrev S4096x2048 : Shape := ⟨2, ![4096, 2048]⟩
abbrev S4096x4096 : Shape := ⟨2, ![4096, 4096]⟩
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S4096x4096, .bf16⟩
  | .hbm, ⟨4, _⟩ => ⟨S4x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GSgInRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S2048x4x1024, .f32⟩
  | .hbm, ⟨8, _⟩ => ⟨S4x2048x1024, .f32⟩
  | .hbm, ⟨9, _⟩ => ⟨S4x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DSgIn.lean ====
abbrev S2048x4096 : Shape := ⟨2, ![2048, 4096]⟩
abbrev S4096x4096 : Shape := ⟨2, ![4096, 4096]⟩
abbrev S2048x4x1024 : Shape := ⟨3, ![2048, 4, 1024]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .bf16⟩
  | .hbm, ⟨3, _⟩ => ⟨S2048x4x1024, .f32⟩
  | .hbm, ⟨4, _⟩ => ⟨S4x2048x1024, .f32⟩
  | .hbm, ⟨5, _⟩ => ⟨S4x2048x1024, .bf16⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSgInRefIdeal.lean ====
abbrev S2048x4096 : Shape := ⟨2, ![2048, 4096]⟩
abbrev S4096x4096 : Shape := ⟨2, ![4096, 4096]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GOut.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DOut.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutRefIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ParIn.lean ====
abbrev S4096x2048 : Shape := ⟨2, ![4096, 2048]⟩
abbrev S2048x7168 : Shape := ⟨2, ![2048, 7168]⟩
abbrev S2048x4x1792 : Shape := ⟨3, ![2048, 4, 1792]⟩
abbrev S4x2048x1792 : Shape := ⟨3, ![4, 2048, 1792]⟩
abbrev S4096x7168 : Shape := ⟨2, ![4096, 7168]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x7168, .f32⟩
  | .hbm, ⟨2, _⟩ => ⟨S4096x2048, .bf16⟩
  | .hbm, ⟨3, _⟩ => ⟨S2048x4x1792, .f32⟩
  | .hbm, ⟨4, _⟩ => ⟨S4x2048x1792, .f32⟩
  | .hbm, ⟨5, _⟩ => ⟨S4x2048x1792, .bf16⟩
  | .hbm, ⟨6, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ParInRefIdeal.lean ====
abbrev S4096x2048 : Shape := ⟨2, ![4096, 2048]⟩
abbrev S2048x7168 : Shape := ⟨2, ![2048, 7168]⟩
abbrev S4096x7168 : Shape := ⟨2, ![4096, 7168]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x7168, .f32⟩
  | .hbm, ⟨2, _⟩ => ⟨S4096x7168, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SgIn.lean ====
abbrev S4096x2048 : Shape := ⟨2, ![4096, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S2048x4x1024, .f32⟩
  | .hbm, ⟨4, _⟩ => ⟨S4x2048x1024, .f32⟩
  | .hbm, ⟨5, _⟩ => ⟨S4x2048x1024, .bf16⟩
  | .hbm, ⟨6, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SgInRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ConvBwd.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S1x11264 : Shape := ⟨2, ![1, 11264]⟩
abbrev S2x4096x5632 : Shape := ⟨3, ![2, 4096, 5632]⟩
abbrev S3x5632 : Shape := ⟨2, ![3, 5632]⟩
abbrev S1x5632 : Shape := ⟨2, ![1, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S2x512x512 : Shape := ⟨3, ![2, 512, 512]⟩
abbrev S504x512 : Shape := ⟨2, ![504, 512]⟩
abbrev S1x512x512 : Shape := ⟨3, ![1, 512, 512]⟩
abbrev S512 : Shape := ⟨1, ![512]⟩

abbrev nBuf : Space → Nat
  | .hbm => 10
  | .vmem => 34
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S4096x5632, .f32⟩
  | .hbm, ⟨4, _⟩ => ⟨S1x11264, .f32⟩
  | .hbm, ⟨5, _⟩ => ⟨S2x4096x5632, .bf16⟩
  | .hbm, ⟨6, _⟩ => ⟨S3x5632, .f32⟩
  | .hbm, ⟨7, _⟩ => ⟨S3x5632, .f32⟩
  | .hbm, ⟨8, _⟩ => ⟨S1x5632, .f32⟩
  | .hbm, ⟨9, _⟩ => ⟨S1x5632, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .f32⟩
  | .local _ .vmem, ⟨13, _⟩ => ⟨S512x512, .f32⟩
  | .local _ .vmem, ⟨14, _⟩ => ⟨S8x512, .f32⟩
  | .local _ .vmem, ⟨15, _⟩ => ⟨S8x512, .f32⟩
  | .local _ .vmem, ⟨16, _⟩ => ⟨S3x512, .f32⟩
  | .local _ .vmem, ⟨17, _⟩ => ⟨S3x512, .f32⟩
  | .local _ .vmem, ⟨18, _⟩ => ⟨S3x512, .f32⟩
  | .local _ .vmem, ⟨19, _⟩ => ⟨S3x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S2x512x512, .bf16⟩
  | .local _ .vmem, ⟨25, _⟩ => ⟨S2x512x512, .bf16⟩
  | .local _ .vmem, ⟨26, _⟩ => ⟨S3x512, .f32⟩
  | .local _ .vmem, ⟨27, _⟩ => ⟨S3x512, .f32⟩
  | .local _ .vmem, ⟨28, _⟩ => ⟨S3x512, .f32⟩
  | .local _ .vmem, ⟨29, _⟩ => ⟨S3x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let v3 : BitVec 32 := Scalar.addi arg0 c0_i32
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c11_i32 : BitVec 32 := 11#32
  let v3 : BitVec 32 := Scalar.addi arg0 c11_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let v3 : BitVec 32 := Scalar.addi arg0 c0_i32
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ConvBwdRefIdeal.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩
abbrev S4096x2x5632 : Shape := ⟨3, ![4096, 2, 5632]⟩
abbrev S2x4096x5632 : Shape := ⟨3, ![2, 4096, 5632]⟩
abbrev S3x5632 : Shape := ⟨2, ![3, 5632]⟩
abbrev S5632 : Shape := ⟨1, ![5632]⟩
abbrev S1x5632 : Shape := ⟨2, ![1, 5632]⟩

abbrev nBuf : Space → Nat
  | .hbm => 117
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S4096x5632, .f32⟩
  | .hbm, ⟨4, _⟩ => ⟨S_, .f32⟩
  | .hbm, ⟨5, _⟩ => ⟨S2x11264, .f32⟩
  | .hbm, ⟨6, _⟩ => ⟨S4098x11264, .f32⟩
  | .hbm, ⟨7, _⟩ => ⟨S_, .f32⟩
  | .hbm, ⟨8, _⟩ => ⟨S2x11264, .f32⟩
  | .hbm, ⟨9, _⟩ => ⟨S1x11264, .f32⟩
  | .hbm, ⟨10, _⟩ => ⟨S11264, .f32⟩
  | .hbm, ⟨11, _⟩ => ⟨S4096x11264, .f32⟩
  | .hbm, ⟨12, _⟩ => ⟨S1x11264, .f32⟩
  | .hbm, ⟨13, _⟩ => ⟨S4096x11264, .f32⟩
  | .hbm, ⟨14, _⟩ => ⟨S4096x11264, .f32⟩
  | .hbm, ⟨15, _⟩ => ⟨S_, .f32⟩
  | .hbm, ⟨16, _⟩ => ⟨S4096x11264, .f32⟩
  | .hbm, ⟨17, _⟩ => ⟨S4096x11264, .f32⟩
  | .hbm, ⟨18, _⟩ => ⟨S1x11264, .f32⟩
  | .hbm, ⟨19, _⟩ => ⟨S11264, .f32⟩
  | .hbm, ⟨20, _⟩ => ⟨S4096x11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S1x11264, .f32⟩
  | .hbm, ⟨26, _⟩ => ⟨S11264, .f32⟩
  | .hbm, ⟨27, _⟩ => ⟨S4096x11264, .f32⟩
  | .hbm, ⟨28, _⟩ => ⟨S1x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S1x11264, .f32⟩
  | .hbm, ⟨33, _⟩ => ⟨S4096x11264, .f32⟩
  | .hbm, ⟨34, _⟩ => ⟨S4096x11264, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S_, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x11264, .f32⟩
  | .hbm, ⟨58, _⟩ => ⟨S_, .f32⟩
  | .hbm, ⟨59, _⟩ => ⟨S11264, .f32⟩
  | .hbm, ⟨60, _⟩ => ⟨S1x11264, .f32⟩
  | .hbm, ⟨61, _⟩ => ⟨S_, .f32⟩
  | .hbm, ⟨62, _⟩ => ⟨S11264, .f32⟩
  | .hbm, ⟨63, _⟩ => ⟨S4096x11264, .f32⟩
  | .hbm, ⟨64, _⟩ => ⟨S4096x11264, .f32⟩
  | .hbm, ⟨65, _⟩ => ⟨S4096x11264, .f32⟩
  | .hbm, ⟨66, _⟩ => ⟨S_, .f32⟩
  | .hbm, ⟨67, _⟩ => ⟨S11264, .f32⟩
  | .hbm, ⟨68, _⟩ => ⟨S1x11264, .f32⟩
  | .hbm, ⟨69, _⟩ => ⟨S_, .f32⟩
  | .hbm, ⟨70, _⟩ => ⟨S11264, .f32⟩
  | .hbm, ⟨71, _⟩ => ⟨S_, .f32⟩
  | .hbm, ⟨72, _⟩ => ⟨S4098x11264, .f32⟩
  | .hbm, ⟨73, _⟩ => ⟨S1x11264, .f32⟩
  | .hbm, ⟨74, _⟩ => ⟨S_, .f32⟩
  | .hbm, ⟨75, _⟩ => ⟨S3x11264, .f32⟩
  | .hbm, ⟨76, _⟩ => ⟨S4096x11264, .f32⟩
  | .hbm, ⟨77, _⟩ => ⟨S4096x11264, .f32⟩
  | .hbm, ⟨78, _⟩ => ⟨S4096x11264, .f32⟩
  | .hbm, ⟨79, _⟩ => ⟨S_, .f32⟩
  | .hbm, ⟨80, _⟩ => ⟨S11264, .f32⟩
  | .hbm, ⟨81, _⟩ => ⟨S1x11264, .f32⟩
  | .hbm, ⟨82, _⟩ => ⟨S_, .f32⟩
  | .hbm, ⟨83, _⟩ => ⟨S11264, .f32⟩
  | .hbm, ⟨84, _⟩ => ⟨S_, .f32⟩
  | .hbm, ⟨85, _⟩ => ⟨S4098x11264, .f32⟩
  | .hbm, ⟨86, _⟩ => ⟨S4098x11264, .f32⟩
  | .hbm, ⟨87, _⟩ => ⟨S1x11264, .f32⟩
  | .hbm, ⟨88, _⟩ => ⟨S_, .f32⟩
  | .hbm, ⟨89, _⟩ => ⟨S3x11264, .f32⟩
  | .hbm, ⟨90, _⟩ => ⟨S3x11264, .f32⟩
  | .hbm, ⟨91, _⟩ => ⟨S4096x11264, .f32⟩
  | .hbm, ⟨92, _⟩ => ⟨S4096x11264, .f32⟩
  | .hbm, ⟨93, _⟩ => ⟨S4096x11264, .f32⟩
  | .hbm, ⟨94, _⟩ => ⟨S_, .f32⟩
  | .hbm, ⟨95, _⟩ => ⟨S11264, .f32⟩
  | .hbm, ⟨96, _⟩ => ⟨S1x11264, .f32⟩
  | .hbm, ⟨97, _⟩ => ⟨S_, .f32⟩
  | .hbm, ⟨98, _⟩ => ⟨S11264, .f32⟩
  | .hbm, ⟨99, _⟩ => ⟨S_, .f32⟩
  | .hbm, ⟨100, _⟩ => ⟨S4098x11264, .f32⟩
  | .hbm, ⟨101, _⟩ => ⟨S4098x11264, .f32⟩
  | .hbm, ⟨102, _⟩ => ⟨S1x11264, .f32⟩
  | .hbm, ⟨103, _⟩ => ⟨S_, .f32⟩
  | .hbm, ⟨104, _⟩ => ⟨S3x11264, .f32⟩
  | .hbm, ⟨105, _⟩ => ⟨S3x11264, .f32⟩
  | .hbm, ⟨106, _⟩ => ⟨S2x11264, .f32⟩
  | .hbm, ⟨107, _⟩ => ⟨S4096x11264, .f32⟩
  | .hbm, ⟨108, _⟩ => ⟨S4096x2x5632, .f32⟩
  | .hbm, ⟨109, _⟩ => ⟨S2x4096x5632, .f32⟩
  | .hbm, ⟨110, _⟩ => ⟨S2x4096x5632, .bf16⟩
  | .hbm, ⟨111, _⟩ => ⟨S3x5632, .f32⟩
  | .hbm, ⟨112, _⟩ => ⟨S3x5632, .f32⟩
  | .hbm, ⟨113, _⟩ => ⟨S5632, .f32⟩
  | .hbm, ⟨114, _⟩ => ⟨S1x5632, .f32⟩
  | .hbm, ⟨115, _⟩ => ⟨S5632, .f32⟩
  | .hbm, ⟨116, _⟩ => ⟨S1x5632, .f32⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== BlockBwd.lean ====
abbrev S4096x2048 : Shape := ⟨2, ![4096, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S4096x2048, .bf16⟩
  | .hbm, ⟨17, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== BlockBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S1x2048, .f32⟩
  | .hbm, ⟨82, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== FinalLoss.lean ====
abbrev S4096x2048 : Shape := ⟨2, ![4096, 2048]⟩
abbrev S1x2048 : Shape := ⟨2, ![1, 2048]⟩
abbrev S2048 : Shape := ⟨1, ![2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S1x128, .f32⟩
  | .hbm, ⟨7, _⟩ => ⟨S4096x2048, .f32⟩
  | .hbm, ⟨8, _⟩ => ⟨S4096x2048, .bf16⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalLossRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S4096x2048, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x2048, .f32⟩
  | .hbm, ⟨64, _⟩ => ⟨S4096x2048, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S1x128, .f32⟩
  | .hbm, ⟨83, _⟩ => ⟨S4096x2048, .bf16⟩
  | .hbm, ⟨84, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== BlockFwd.lean ====
abbrev S4096x2048 : Shape := ⟨2, ![4096, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BlockFwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== NormFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== ConvFwd.lean ====
abbrev S4096x11264 : Shape := ⟨2, ![4096, 11264]⟩
abbrev S3x11264 : Shape := ⟨2, ![3, 11264]⟩
abbrev S11264 : Shape := ⟨1, ![11264]⟩
abbrev S1x11264 : Shape := ⟨2, ![1, 11264]⟩
abbrev S4096x5632 : Shape := ⟨2, ![4096, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S504x512 : Shape := ⟨2, ![504, 512]⟩

abbrev nBuf : Space → Nat
  | .hbm => 5
  | .vmem => 18
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S4096x5632, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg1 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvFwdRefIdeal.lean ====
abbrev S4096x11264 : Shape := ⟨2, ![4096, 11264]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩
abbrev S4096x5632 : Shape := ⟨2, ![4096, 5632]⟩

abbrev nBuf : Space → Nat
  | .hbm => 45
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S_, .f32⟩
  | .hbm, ⟨4, _⟩ => ⟨S2x11264, .f32⟩
  | .hbm, ⟨5, _⟩ => ⟨S4098x11264, .f32⟩
  | .hbm, ⟨6, _⟩ => ⟨S1x11264, .f32⟩
  | .hbm, ⟨7, _⟩ => ⟨S11264, .f32⟩
  | .hbm, ⟨8, _⟩ => ⟨S4096x11264, .f32⟩
  | .hbm, ⟨9, _⟩ => ⟨S1x11264, .f32⟩
  | .hbm, ⟨10, _⟩ => ⟨S4096x11264, .f32⟩
  | .hbm, ⟨11, _⟩ => ⟨S4096x11264, .f32⟩
  | .hbm, ⟨12, _⟩ => ⟨S_, .f32⟩
  | .hbm, ⟨13, _⟩ => ⟨S4096x11264, .f32⟩
  | .hbm, ⟨14, _⟩ => ⟨S4096x11264, .f32⟩
  | .hbm, ⟨15, _⟩ => ⟨S1x11264, .f32⟩
  | .hbm, ⟨16, _⟩ => ⟨S11264, .f32⟩
  | .hbm, ⟨17, _⟩ => ⟨S4096x11264, .f32⟩
  | .hbm, ⟨18, _⟩ => ⟨S1x11264, .f32⟩
  | .hbm, ⟨19, _⟩ => ⟨S4096x11264, .f32⟩
  | .hbm, ⟨20, _⟩ => ⟨S4096x11264, .f32⟩
  | .hbm, ⟨21, _⟩ => ⟨S4096x11264, .f32⟩
  | .hbm, ⟨22, _⟩ => ⟨S1x11264, .f32⟩
  | .hbm, ⟨23, _⟩ => ⟨S11264, .f32⟩
  | .hbm, ⟨24, _⟩ => ⟨S4096x11264, .f32⟩
  | .hbm, ⟨25, _⟩ => ⟨S1x11264, .f32⟩
  | .hbm, ⟨26, _⟩ => ⟨S4096x11264, .f32⟩
  | .hbm, ⟨27, _⟩ => ⟨S4096x11264, .f32⟩
  | .hbm, ⟨28, _⟩ => ⟨S4096x11264, .f32⟩
  | .hbm, ⟨29, _⟩ => ⟨S1x11264, .f32⟩
  | .hbm, ⟨30, _⟩ => ⟨S4096x11264, .f32⟩
  | .hbm, ⟨31, _⟩ => ⟨S4096x11264, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Step.lean ====
module
public import proofs.«01_k».proof.Proof.Gen.KernelIdeal.Frame
public import Idealize.ShloMosaic.Lib.Pipeline.Value

@[expose] public section

/-! What one key step of the kernel computes, in the kernel's own operations: the names below are the intermediate
values of `key_step`, over any float carrier. A sub-block is 128 of a key block's 512 columns; `g` is what the causal
mask does to a value (nothing off the diagonal block, zero where the key is not strictly before the query on it). -/

set_option maxRecDepth 16384

noncomputable section

namespace Cert.KernelIdeal.Step

open Idealize.ShloMosaic Idealize.ShloMosaic.TcCoe
open Cert.KernelIdeal Cert.KernelIdeal.Gen

variable {F : FTy → Type} [FloatOps F]

/-- A sub-block's 512 rows by 128 columns. -/
abbrev V128 (F : FTy → Type) := FVec F S512x128 .f32
/-- A key block's 512 rows by 512 columns. -/
abbrev V512 (F : FTy → Type) := FVec F S512x512 .f32
/-- One number a row. -/
abbrev V1 (F : FTy → Type) := FVec F S512x1 .f32

/-- The scores of a key block. -/
def Z (q k : Vec F S512x128 .f32) : V512 F :=
  mulf (matmul dot_S512x128_S512x128_S512x512_1_1_0_0_n_n none (truncf .bf16 q bitsLt_bf16_f32) (truncf .bf16 k bitsLt_bf16_f32)
    (constant S512x512 .f32 0x00000000#32)) (broadcast S512x512 (Scalar.ofBits .f32 0x3DB504F3#32))

/-- The gradient of a key block's weights. -/
def DW (d v : Vec F S512x128 .f32) : V512 F :=
  matmul dot_S512x128_S512x128_S512x512_1_1_0_0_n_n none (truncf .bf16 d bitsLt_bf16_f32) (truncf .bf16 v bitsLt_bf16_f32)
    (constant S512x512 .f32 0x00000000#32)

/-- A constant sub-block. -/
def cst (b : BitVec 32) : V128 F := broadcast S512x128 (Scalar.ofBits .f32 b)

/-- softplus, as the kernel spells it. -/
def SP (z : V128 F) : V128 F :=
  addf (maximumf z (cst 0x00000000#32)) (log (addf (cst 0x3F800000#32) (exp (subf (cst 0x00000000#32) (absf z)))))

/-- log(1 - beta). -/
def LK (g : V128 F → V128 F) (z : V128 F) : V128 F := g (subf (cst 0x00000000#32) (SP z))

/-- A row's sums under a 0/1 matrix, from the two bf16 halves of the entries. -/
def SR (x : V128 F) (m : FVec F S128x128 .bf16) : V128 F :=
  addf (matmul dot_S512x128_S128x128_S512x128_1_0_0_1_n_n none (truncf .bf16 x bitsLt_bf16_f32) m (constant S512x128 .f32 0x00000000#32))
    (matmul dot_S512x128_S128x128_S512x128_1_0_0_1_n_n none
      (truncf .bf16 (subf x (extf .f32 (truncf .bf16 x bitsLt_bf16_f32) bitsLt_bf16_f32)) bitsLt_bf16_f32) m
      (constant S512x128 .f32 0x00000000#32))

/-- Adding a row's number to every column. -/
def addRow (x : V128 F) (c : V1 F) : V128 F := addf x (broadcastTo S512x128 c broadcasts_S512x1_S512x128)

/-- The weights of a sub-block. -/
def W (g : V128 F → V128 F) (tot : V128 F) (cp : V1 F) (z : V128 F) : V128 F :=
  g (exp (addf (subf z (SP z)) (subf tot (addRow (SR (LK g z) k0_pay103) cp))))

/-- The gradient of a sub-block's scores. -/
def DZ (g : V128 F → V128 F) (ce : V1 F) (z e : V128 F) : V128 F :=
  g (mulf (subf (mulf e (subf (cst 0x3F800000#32) (exp (subf z (SP z)))))
    (mulf (addRow (SR e k0_pay104) ce) (exp (subf z (SP z))))) (cst 0x3DB504F3#32))

/-- A running row sum after a sub-block. -/
def acc (c : V1 F) (x : V128 F) : V1 F :=
  addf c (shapeCast S512x1 (multiReduction .add [1] S512 x 0x00000000#32 reduces_S512x128_S512 (.inl rfl) rfl) shapeCasts_S512_S512x1)

/-- The four sub-blocks of a key block. -/
def c0 (x : V512 F) : V128 F := extractStridedSlice S512x128 ![0, 0] x slices_S512x512_o0_0_S512x128
@[inherit_doc c0] def c1 (x : V512 F) : V128 F := extractStridedSlice S512x128 ![0, 128] x slices_S512x512_o0_128_S512x128
@[inherit_doc c0] def c2 (x : V512 F) : V128 F := extractStridedSlice S512x128 ![0, 256] x slices_S512x512_o0_256_S512x128
@[inherit_doc c0] def c3 (x : V512 F) : V128 F := extractStridedSlice S512x128 ![0, 384] x slices_S512x512_o0_384_S512x128

/-- What the mask does on each of the four sub-blocks. -/
structure Mask (F : FTy → Type) where
  (g0 g1 g2 g3 : V128 F → V128 F)

/-- No mask. -/
def noMask : Mask F := ⟨fun x => x, fun x => x, fun x => x, fun x => x⟩

/-- Zero where the key (sub-block offset `o` and column) is not strictly before the query (the row). -/
def mask (o : BitVec 32) (x : V128 F) : V128 F :=
  select (cmpi .slt (addi (broadcast S512x128 o) (iota .tc S512x128 32 [1] iota_S512x128_d1_w32)) (iota .tc S512x128 32 [0] iota_S512x128_d0_w32))
    x (cst 0x00000000#32)

/-- The diagonal block's mask. -/
def diag : Mask F := ⟨mask 0#32, mask 128#32, mask 256#32, mask 384#32⟩

section Chain
variable (G : Mask F) (tot : V128 F) (z dw : V512 F) (cp ce : V1 F)

/-- The running sums of log(1 - beta), after 1, 2, 3 and 4 sub-blocks. -/
def cp1 : V1 F := acc cp (LK G.g0 (c0 z))
@[inherit_doc cp1] def cp2 : V1 F := acc (cp1 G z cp) (LK G.g1 (c1 z))
@[inherit_doc cp1] def cp3 : V1 F := acc (cp2 G z cp) (LK G.g2 (c2 z))
@[inherit_doc cp1] def cp4 : V1 F := acc (cp3 G z cp) (LK G.g3 (c3 z))

/-- The four sub-blocks' weights. -/
def w0 : V128 F := W G.g0 tot cp (c0 z)
@[inherit_doc w0] def w1 : V128 F := W G.g1 tot (cp1 G z cp) (c1 z)
@[inherit_doc w0] def w2 : V128 F := W G.g2 tot (cp2 G z cp) (c2 z)
@[inherit_doc w0] def w3 : V128 F := W G.g3 tot (cp3 G z cp) (c3 z)

/-- Weights times their gradients. -/
def e0 : V128 F := mulf (w0 G tot z cp) (c0 dw)
@[inherit_doc e0] def e1 : V128 F := mulf (w1 G tot z cp) (c1 dw)
@[inherit_doc e0] def e2 : V128 F := mulf (w2 G tot z cp) (c2 dw)
@[inherit_doc e0] def e3 : V128 F := mulf (w3 G tot z cp) (c3 dw)

/-- The running sums of those. -/
def ce1 : V1 F := acc ce (e0 G tot z dw cp)
@[inherit_doc ce1] def ce2 : V1 F := acc (ce1 G tot z dw cp ce) (e1 G tot z dw cp)
@[inherit_doc ce1] def ce3 : V1 F := acc (ce2 G tot z dw cp ce) (e2 G tot z dw cp)
@[inherit_doc ce1] def ce4 : V1 F := acc (ce3 G tot z dw cp ce) (e3 G tot z dw cp)

/-- The gradients of the four sub-blocks' scores. -/
def d0 : V128 F := DZ G.g0 ce (c0 z) (e0 G tot z dw cp)
@[inherit_doc d0] def d1 : V128 F := DZ G.g1 (ce1 G tot z dw cp ce) (c1 z) (e1 G tot z dw cp)
@[inherit_doc d0] def d2 : V128 F := DZ G.g2 (ce2 G tot z dw cp ce) (c2 z) (e2 G tot z dw cp)
@[inherit_doc d0] def d3 : V128 F := DZ G.g3 (ce3 G tot z dw cp ce) (c3 z) (e3 G tot z dw cp)

/-- Four sub-blocks side by side, in bf16. -/
def cat (a b c d : V128 F) : FVec F S512x512 .bf16 :=
  concatenate S512x512 1 [⟨S512x128, truncf .bf16 a bitsLt_bf16_f32⟩, ⟨S512x128, truncf .bf16 b bitsLt_bf16_f32⟩,
    ⟨S512x128, truncf .bf16 c bitsLt_bf16_f32⟩, ⟨S512x128, truncf .bf16 d bitsLt_bf16_f32⟩]
    concatenates_S512x128_S512x128_S512x128_S512x128_S512x512_d1

/-- A key block's weights. -/
def wAll : FVec F S512x512 .bf16 := cat (w0 G tot z cp) (w1 G tot z cp) (w2 G tot z cp) (w3 G tot z cp)
/-- The gradient of a key block's scores. -/
def dAll : FVec F S512x512 .bf16 := cat (d0 G tot z dw cp ce) (d1 G tot z dw cp ce) (d2 G tot z dw cp ce) (d3 G tot z dw cp ce)

end Chain

/-- Adding to the rows of a key block: `aᵀ b`. -/
def addTN (o : Vec F S512x128 .f32) (a : FVec F S512x512 .bf16) (b : Vec F S512x128 .f32) : V128 F :=
  addf (shapeCast S512x128 o shapeCasts_S512x128_S512x128)
    (matmul dot_S512x512_S512x128_S512x128_0_0_1_1_n_n none a (truncf .bf16 b bitsLt_bf16_f32) (constant S512x128 .f32 0x00000000#32))

/-- Adding to the rows of a query block: `a b`. -/
def addNN (o : Vec F S512x128 .f32) (a : FVec F S512x512 .bf16) (b : Vec F S512x128 .f32) : V128 F :=
  addf (shapeCast S512x128 o shapeCasts_S512x128_S512x128)
    (matmul dot_S512x512_S512x128_S512x128_1_0_0_1_n_n none a (truncf .bf16 b bitsLt_bf16_f32) (constant S512x128 .f32 0x00000000#32))

/-- The total block as the step reads it. -/
def tot (l : Vec F S512x128 .f32) : V128 F := shapeCast S512x128 l shapeCasts_S512x128_S512x128

variable (𝒱 : Variants) (c : Dev nD) (bd : Option 𝒱.V) (i : grid0.Coords)
  (arg2 : Memref sig .tc .vmem S512x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  (v5 v7 v9 : Vec F S512x128 .f32) (X3 : BufTy.Contents (Elt F) arg3.view.ty) (X4 : BufTy.Contents (Elt F) arg4.view.ty)
  (k : Fin (k0_t1_loop i).trips) (a : FVec F S512x1 .f32 × FVec F S512x1 .f32)
  (f7 : BufTy.Contents (Elt F) arg7.view.ty) (f8 : BufTy.Contents (Elt F) arg8.view.ty) (f9 : BufTy.Contents (Elt F) arg9.view.ty)

/-- The rows of key block `k`. -/
abbrev rows : Rect S4096x128 := Rect.unit (s := S4096x128) (k0_off1 i k) S512x128.size (k0_off1_inb i k)

/-- A whole query block. -/
abbrev whole : Rect S512x128 := Rect.unit (s := S512x128) ![0, 0] S512x128.size inb_S512x128_S512x128_0_0

theorem tripR_eq :
    tripR_k0_t1 (F := F) 𝒱 c bd i arg2 harg2 arg3 harg3 arg4 harg4 arg5 harg5 arg6 harg6 arg7 harg7 arg8 harg8 arg9 harg9 v5 v7 v9 X3 X4 k a f7 f8 f9
      = (cp4 noMask (Z v5 (View.readAt (Elt F) arg3.view (rows i k).toLoadRect X3)) a.1,
         ce4 noMask (tot v9) (Z v5 (View.readAt (Elt F) arg3.view (rows i k).toLoadRect X3)) (DW v7 (View.readAt (Elt F) arg4.view (rows i k).toLoadRect X4)) a.1 a.2) := by
  unfold tripR_k0_t1 trip_k0_t1
  rfl

theorem tripL_eq :
    tripL_k0_t1 (F := F) 𝒱 c bd i arg2 harg2 arg3 harg3 arg4 harg4 arg5 harg5 arg6 harg6 arg7 harg7 arg8 harg8 arg9 harg9 v5 v7 v9 X3 X4 k a f7 f8 f9
      = ([⟨whole, addNN (View.readAt (Elt F) arg7.view whole.toLoadRect f7)
            (dAll noMask (tot v9) (Z v5 (View.readAt (Elt F) arg3.view (rows i k).toLoadRect X3)) (DW v7 (View.readAt (Elt F) arg4.view (rows i k).toLoadRect X4)) a.1 a.2)
            (View.readAt (Elt F) arg3.view (rows i k).toLoadRect X3)⟩],
         [⟨rows i k, addTN (View.readAt (Elt F) arg8.view (rows i k).toLoadRect f8)
            (dAll noMask (tot v9) (Z v5 (View.readAt (Elt F) arg3.view (rows i k).toLoadRect X3)) (DW v7 (View.readAt (Elt F) arg4.view (rows i k).toLoadRect X4)) a.1 a.2)
            v5⟩],
         [⟨rows i k, addTN (View.readAt (Elt F) arg9.view (rows i k).toLoadRect f9)
            (wAll noMask (tot v9) (Z v5 (View.readAt (Elt F) arg3.view (rows i k).toLoadRect X3)) a.1)
            v7⟩]) := by
  unfold tripL_k0_t1 trip_k0_t1
  rfl

/-- The loop's state after its last trip. -/
abbrev S1 := st_k0_t1 (F := F) Variants.none c none i arg2 harg2 arg3 harg3 arg4 harg4 arg5 harg5 arg6 harg6 arg7 harg7 arg8 harg8 arg9 harg9
  v5 v7 v9 X3 X4 f7 f8 f9 (k0_pay105, k0_pay105) (k0_t1_loop i).trips

/-- The number of the query block. -/
def blockNo : BitVec 32 := Scalar.addi 0#32 (Scalar.muli (Scalar.divsi (Scalar.subi (BitVec.ofNat 32 (i 1).val) 0#32) 1#32) 1#32)

/-- The state after the loop's remainder, which has no trip. -/
abbrev S2 (g7 : BufTy.Contents (Elt F) arg7.view.ty) (g8 : BufTy.Contents (Elt F) arg8.view.ty) (g9 : BufTy.Contents (Elt F) arg9.view.ty) :=
  st_k0_t2 (F := F) Variants.none c none i arg2 harg2 arg3 harg3 arg4 harg4 arg5 harg5 arg6 harg6 arg7 harg7 arg8 harg8 arg9 harg9
    v5 v7 v9 (blockNo i) X3 X4 g7 g8 g9 ((S1 (F := F) c i arg2 harg2 arg3 harg3 arg4 harg4 arg5 harg5 arg6 harg6 arg7 harg7 arg8 harg8 arg9 harg9 v5 v7 v9 X3 X4 f7 f8 f9).1.1, (S1 (F := F) c i arg2 harg2 arg3 harg3 arg4 harg4 arg5 harg5 arg6 harg6 arg7 harg7 arg8 harg8 arg9 harg9 v5 v7 v9 X3 X4 f7 f8 f9).1.2) (k0_t2_loop i).trips

theorem trips2 : (k0_t2_loop i).trips = 0 := Nat.le_zero.mp (k0_t2_abs i).2.1

theorem S2_eq (g7 : BufTy.Contents (Elt F) arg7.view.ty) (g8 : BufTy.Contents (Elt F) arg8.view.ty) (g9 : BufTy.Contents (Elt F) arg9.view.ty) :
    S2 (F := F) c i arg2 harg2 arg3 harg3 arg4 harg4 arg5 harg5 arg6 harg6 arg7 harg7 arg8 harg8 arg9 harg9 v5 v7 v9 X3 X4 f7 f8 f9 g7 g8 g9 = (((S1 (F := F) c i arg2 harg2 arg3 harg3 arg4 harg4 arg5 harg5 arg6 harg6 arg7 harg7 arg8 harg8 arg9 harg9 v5 v7 v9 X3 X4 f7 f8 f9).1.1, (S1 (F := F) c i arg2 harg2 arg3 harg3 arg4 harg4 arg5 harg5 arg6 harg6 arg7 harg7 arg8 harg8 arg9 harg9 v5 v7 v9 X3 X4 f7 f8 f9).1.2), [], [], []) := by
  unfold S2
  rw [trips2]
  rfl

/-- The rows of the diagonal key block. -/
abbrev rowsD : Rect S4096x128 := Rect.unit (s := S4096x128) (k0_off3 i) S512x128.size (k0_off3_inb i)

/-- What the diagonal step leaves, as pieces of the three results' buffers, on top of the pieces `L` it finds there. -/
def fin7 (cp ce : V1 F) (L : List (View.Piece (Elt F) S512x128 .f32)) : List (View.Piece (Elt F) S512x128 .f32) :=
  ⟨whole, addNN (View.readAt (Elt F) arg7.view whole.toLoadRect (arg7.view.writes (Elt F) f7 L))
    (dAll diag (tot v9) (Z v5 (View.readAt (Elt F) arg3.view (rowsD i).toLoadRect X3)) (DW v7 (View.readAt (Elt F) arg4.view (rowsD i).toLoadRect X4)) cp ce)
    (View.readAt (Elt F) arg3.view (rowsD i).toLoadRect X3)⟩ :: L
@[inherit_doc fin7] def fin8 (cp ce : V1 F) (L : List (View.Piece (Elt F) S4096x128 .f32)) : List (View.Piece (Elt F) S4096x128 .f32) :=
  ⟨rowsD i, addTN (View.readAt (Elt F) arg8.view (rowsD i).toLoadRect (arg8.view.writes (Elt F) f8 L))
    (dAll diag (tot v9) (Z v5 (View.readAt (Elt F) arg3.view (rowsD i).toLoadRect X3)) (DW v7 (View.readAt (Elt F) arg4.view (rowsD i).toLoadRect X4)) cp ce)
    v5⟩ :: L
@[inherit_doc fin7] def fin9 (cp : V1 F) (L : List (View.Piece (Elt F) S4096x128 .f32)) : List (View.Piece (Elt F) S4096x128 .f32) :=
  ⟨rowsD i, addTN (View.readAt (Elt F) arg9.view (rowsD i).toLoadRect (arg9.view.writes (Elt F) f9 L))
    (wAll diag (tot v9) (Z v5 (View.readAt (Elt F) arg3.view (rowsD i).toLoadRect X3)) cp)
    v7⟩ :: L

end Cert.KernelIdeal.Step
-- ==== Proof.StepVal.lean ====
module
public import proofs.«01_k».proof.Proof.Step
public import Idealize.ShloMosaic.Lib.Pointwise
public import Idealize.ShloMosaic.Lib.ValueIdx
public import Idealize.ShloMosaic.Lib.WordCmp

@[expose] public section

/-! The kernel's operations on arrays of real numbers: each gives the array of the real expression. -/

set_option maxRecDepth 16384

noncomputable section

namespace Cert.KernelIdeal.Step

open Idealize.ShloMosaic Idealize.ShloMosaic.TcCoe
open Cert.KernelIdeal Cert.KernelIdeal.Gen
open Finset (range)

/-- The array of real numbers `r row column`. -/
def up {a b : ℕ} (r : ℕ → ℕ → ℝ) : (⟨2, ![a, b]⟩ : Shape).Idx → EReal := fun i => ((r (i 0).val (i 1).val : ℝ) : EReal)

/-- The scale, as the float word the program prints. -/
def c₀ : ℝ := (Ideal.ofBits .f32 0x3DB504F3#32 : EReal).toReal

theorem c₀_coe : (Ideal.ofBits .f32 0x3DB504F3#32 : EReal) = ((c₀ : ℝ) : EReal) := by
  have h : ∃ r : ℝ, (Ideal.ofBits .f32 0x3DB504F3#32 : EReal) = ((r : ℝ) : EReal) := by
    simp [Ideal.ofBits, Ideal.ieee, -EReal.coe_mul]
  obtain ⟨r, hr⟩ := h
  rw [c₀, hr]; rfl

/-- softplus of a number. -/
def sp (x : ℝ) : ℝ := max x 0 + Real.log (1 + Real.exp (0 - |x|))

theorem up_congr {a b : ℕ} {r r' : ℕ → ℕ → ℝ} (h : ∀ x y, x < a → y < b → r x y = r' x y) : (up r : (⟨2, ![a, b]⟩ : Shape).Idx → EReal) = up r' :=
  funext fun i => by unfold up; rw [h _ _ (i 0).isLt (i 1).isLt]

theorem cst_zero : cst (F := Ideal) 0x00000000#32 = up fun _ _ => 0 := by
  funext i
  simp [cst, up, broadcast, Scalar.ofBits, FloatOps.ofBits, Ideal.ofBits, Ideal.ieee]
theorem cst_one : cst (F := Ideal) 0x3F800000#32 = up fun _ _ => 1 := by
  funext i
  have : Ideal.ofBits .f32 0x3F800000#32 = 1 := by simp [Ideal.ofBits, Ideal.ieee, -EReal.coe_mul]; norm_num
  simp only [cst, up, EReal.coe_one]
  exact this
theorem cst_scale : cst (F := Ideal) 0x3DB504F3#32 = up fun _ _ => c₀ := by
  funext i
  exact c₀_coe

theorem coe_max' (x y : ℝ) : max ((x : ℝ) : EReal) ((y : ℝ) : EReal) = ((max x y : ℝ) : EReal) :=
  (EReal.coe_strictMono.monotone.map_max).symm

theorem sum_coe {n : ℕ} (f : ℕ → ℝ) : (∑ k : Fin n, ((f k.val : ℝ) : EReal)) = ((∑ k ∈ range n, f k : ℝ) : EReal) := by
  rw [← Fin.sum_univ_eq_sum_range]
  induction n with
  | zero => simp
  | succ n ih => rw [Fin.sum_univ_castSucc, Fin.sum_univ_castSucc, EReal.coe_add]; exact congrArg (· + _) ih

/-- A sum of products of real numbers. -/
theorem sum_mul_coe {n : ℕ} (f g : ℕ → ℝ) :
    (∑ k : Fin n, ((f k.val : ℝ) : EReal) * ((g k.val : ℝ) : EReal)) = ((∑ k ∈ range n, f k * g k : ℝ) : EReal) := by
  rw [← sum_coe]
  exact Finset.sum_congr rfl fun k _ => (EReal.coe_mul _ _).symm

variable {a b : ℕ} (x y : ℕ → ℕ → ℝ)

theorem addf_up : addf (F := Ideal) (s := ⟨2, ![a, b]⟩) (φ := .f32) (up x) (up y) = up fun r s => x r s + y r s := rfl
theorem subf_up : subf (F := Ideal) (s := ⟨2, ![a, b]⟩) (φ := .f32) (up x) (up y) = up fun r s => x r s - y r s := rfl
theorem mulf_up : mulf (F := Ideal) (s := ⟨2, ![a, b]⟩) (φ := .f32) (up x) (up y) = up fun r s => x r s * y r s :=
  funext fun i => (EReal.coe_mul _ _).symm
theorem exp_up : exp (F := Ideal) (s := ⟨2, ![a, b]⟩) (φ := .f32) (up x) = up fun r s => Real.exp (x r s) := rfl
theorem max_up : maximumf (F := Ideal) (s := ⟨2, ![a, b]⟩) (φ := .f32) (up x) (up y) = up fun r s => max (x r s) (y r s) :=
  funext fun i => coe_max' _ _
theorem abs_up : absf (F := Ideal) (s := ⟨2, ![a, b]⟩) (φ := .f32) (up x) = up fun r s => |x r s| :=
  funext fun i => by
    show max _ _ = _
    unfold up
    rw [← EReal.coe_neg, coe_max']
    rfl
theorem log_up (h : ∀ r s, 0 < x r s) : log (F := Ideal) (s := ⟨2, ![a, b]⟩) (φ := .f32) (up x) = up fun r s => Real.log (x r s) :=
  funext fun i => by
    show Ideal.log ((x (i 0).val (i 1).val : ℝ) : EReal) = _
    rw [Ideal.log_coe, if_neg (not_le.mpr (h _ _))]
    rfl

theorem SP_up : SP (F := Ideal) (up x) = up fun r s => sp (x r s) := by
  unfold SP
  rw [cst_zero, cst_one, max_up, abs_up, subf_up, exp_up, addf_up, log_up _ (fun r s => by positivity), addf_up]
  rfl

theorem Z_up : Z (F := Ideal) (up x) (up y) = up fun r s => (∑ d ∈ range 128, x r d * y s d) * c₀ := by
  funext i
  unfold Z up
  pointwise
  rw [c₀_coe, sum_mul_coe (fun d => x (i 0).val d) (fun d => y (i 1).val d), ← EReal.coe_mul]

theorem DW_up : DW (F := Ideal) (up x) (up y) = up fun r s => ∑ d ∈ range 128, x r d * y s d := by
  funext i
  unfold DW up
  pointwise
  rw [sum_mul_coe (fun d => x (i 0).val d) (fun d => y (i 1).val d)]

/-- A one-bit word as a number. -/
theorem bit_coe (p : Prop) [Decidable p] :
    (FloatOps.sitofp (F := Ideal) FTy.f32 (BitVec.setWidth 32 (BitVec.ofBool (decide p))) : EReal) = (((if p then 1 else 0 : ℝ)) : EReal) := by
  by_cases h : p
  · simp only [h, decide_true, if_true]
    show (((((1 : ℤ)) : ℝ)) : EReal) = _
    norm_num
  · simp only [h, decide_false, if_false]
    show (((((BitVec.setWidth 32 (BitVec.ofBool false)).toInt : ℤ) : ℝ)) : EReal) = _
    norm_num

theorem sum_le (f : ℕ → ℝ) {n k : ℕ} (h : k < n) :
    ∑ j ∈ range n, f j * (if j ≤ k then 1 else 0) = ∑ j ∈ range (k + 1), f j := by
  simp only [mul_ite, mul_one, mul_zero]
  rw [← Finset.sum_filter]
  congr 1
  ext j
  simp only [Finset.mem_filter, Finset.mem_range]
  omega
theorem sum_lt (f : ℕ → ℝ) {n k : ℕ} (h : k < n) :
    ∑ j ∈ range n, f j * (if j < k then 1 else 0) = ∑ j ∈ range k, f j := by
  simp only [mul_ite, mul_one, mul_zero]
  rw [← Finset.sum_filter]
  congr 1
  ext j
  simp only [Finset.mem_filter, Finset.mem_range]
  omega

theorem SR_upto : SR (F := Ideal) (up x) k0_pay103 = up fun r s => ∑ j ∈ range (s + 1), x r j := by
  funext i
  unfold SR up k0_pay103
  pointwise
  have hi : (i 1).val < 128 := (i 1).isLt
  have e : ∀ k : Fin 128, (FloatOps.sitofp (F := Ideal) FTy.f32 (BitVec.setWidth 32 (IntOp.cmpi CmpIPredicate.sle (BitVec.ofNat 32 k.val) (BitVec.ofNat 32 (i 1).val))) : EReal)
      = (((if k.val ≤ (i 1).val then 1 else 0 : ℝ)) : EReal) := fun k => by
    rw [WordCmp.cmpi_sle_ofNat (by omega) (by omega)]
    exact bit_coe _
  simp only [e, ← EReal.coe_sub, sub_self]
  rw [sum_mul_coe (fun k => x (i 0).val k) (fun k => if k ≤ (i 1).val then 1 else 0),
    sum_mul_coe (fun k => 0) (fun k => if k ≤ (i 1).val then 1 else 0), ← EReal.coe_add, sum_le _ hi]
  simp
theorem SR_before : SR (F := Ideal) (up x) k0_pay104 = up fun r s => ∑ j ∈ range s, x r j := by
  funext i
  unfold SR up k0_pay104
  pointwise
  have hi : (i 1).val < 128 := (i 1).isLt
  have e : ∀ k : Fin 128, (FloatOps.sitofp (F := Ideal) FTy.f32 (BitVec.setWidth 32 (IntOp.cmpi CmpIPredicate.slt (BitVec.ofNat 32 k.val) (BitVec.ofNat 32 (i 1).val))) : EReal)
      = (((if k.val < (i 1).val then 1 else 0 : ℝ)) : EReal) := fun k => by
    rw [WordCmp.cmpi_slt_ofNat (by omega) (by omega)]
    exact bit_coe _
  simp only [e, ← EReal.coe_sub, sub_self]
  rw [sum_mul_coe (fun k => x (i 0).val k) (fun k => if k < (i 1).val then 1 else 0),
    sum_mul_coe (fun k => 0) (fun k => if k < (i 1).val then 1 else 0), ← EReal.coe_add, sum_lt _ hi]
  simp

theorem acc_up (c : ℕ → ℝ) : acc (F := Ideal) (up fun r _ => c r) (up x) = up fun r _ => c r + ∑ j ∈ range 128, x r j := by
  funext i
  unfold acc up
  pointwise
  rw [sum_coe (fun j => x (i 0).val j), ← EReal.coe_add]

theorem addRow_up (c : ℕ → ℝ) : addRow (F := Ideal) (up x) (up fun r _ => c r) = up fun r s => x r s + c r := by
  funext i
  unfold addRow up
  pointwise
  rfl

theorem c0_up : c0 (F := Ideal) (up x) = up x := by
  funext i
  unfold c0 up
  pointwise
theorem c1_up : c1 (F := Ideal) (up x) = up fun r s => x r (128 + s) := by
  funext i
  unfold c1 up
  pointwise
theorem c2_up : c2 (F := Ideal) (up x) = up fun r s => x r (256 + s) := by
  funext i
  unfold c2 up
  pointwise
theorem c3_up : c3 (F := Ideal) (up x) = up fun r s => x r (384 + s) := by
  funext i
  unfold c3 up
  pointwise

theorem cat_up : cat (F := Ideal) (up x) (up fun r s => x r (128 + s)) (up fun r s => x r (256 + s)) (up fun r s => x r (384 + s)) = up x := by
  funext i
  unfold cat up
  pointwise
  split
  · rfl
  split
  · rw [show 128 + ((i 1).val - 128) = (i 1).val by omega]
  split
  · rw [show 256 + ((i 1).val - 128 - 128) = (i 1).val by omega]
  · rw [show 384 + ((i 1).val - 128 - 128 - 128) = (i 1).val by omega]

theorem mask_up (o : ℕ) (h : o ≤ 384) : mask (F := Ideal) (BitVec.ofNat 32 o) (up x) = up fun r s => if o + s < r then x r s else 0 := by
  funext i
  unfold mask
  rw [cst_zero]
  unfold up
  pointwise
  have h0 : (i 0).val < 512 := (i 0).isLt
  have h1 : (i 1).val < 128 := (i 1).isLt
  have e : IntOp.addi (BitVec.ofNat 32 o) (BitVec.ofNat 32 (i 1).val) = BitVec.ofNat 32 (o + (i 1).val) := (BitVec.ofNat_add o (i 1).val).symm
  rw [e, WordCmp.cmpi_slt_ofNat (by omega) (by omega)]
  by_cases hc : o + (i 1).val < (i 0).val
  · rw [if_pos hc, decide_eq_true hc]; rfl
  · rw [if_neg hc, decide_eq_false hc]; rfl

theorem addTN_up (o w q : ℕ → ℕ → ℝ) : addTN (F := Ideal) (up o) (up w) (up q) = up fun s d => o s d + ∑ t ∈ range 512, w t s * q t d := by
  funext i
  unfold addTN up
  pointwise
  rw [sum_mul_coe (fun t => w t (i 0).val) (fun t => q t (i 1).val), ← EReal.coe_add]

theorem addNN_up (o w q : ℕ → ℕ → ℝ) : addNN (F := Ideal) (up o) (up w) (up q) = up fun t d => o t d + ∑ s ∈ range 512, w t s * q s d := by
  funext i
  unfold addNN up
  pointwise
  rw [sum_mul_coe (fun s => w (i 0).val s) (fun s => q s (i 1).val), ← EReal.coe_add]

theorem tot_eq (l : Vec Ideal S512x128 .f32) : tot l = l := by
  funext i
  unfold tot
  pointwise

end Cert.KernelIdeal.Step
-- ==== Proof.Spec.lean ====
module
public import proofs.«01_k».proof.Proof.StepVal

@[expose] public section

/-! The gradient of one head of stick-breaking attention over the real numbers, and what one sub-block and one key
block of the kernel compute of it. -/

set_option maxRecDepth 16384

noncomputable section

namespace Cert.KernelIdeal.Step

open Idealize.ShloMosaic Idealize.ShloMosaic.TcCoe
open Cert.KernelIdeal Cert.KernelIdeal.Gen
open Finset (range)

/-- One head's queries, keys, values and the gradient of its output, `row column`. -/
structure Head where
  (q k v d : ℕ → ℕ → ℝ)

namespace Head
variable (A : Head)

/-- The score of query `t` on key `s`. -/
def z (t s : ℕ) : ℝ := (∑ d ∈ range 128, A.q t d * A.k s d) * c₀
/-- log(1 - beta), zero off the causal part. -/
def lk (t s : ℕ) : ℝ := if s < t then 0 - sp (A.z t s) else 0
/-- A query's sum of it. -/
def total (t : ℕ) : ℝ := ∑ s ∈ range 4096, A.lk t s
/-- The weight of query `t` on key `s`. -/
def w (t s : ℕ) : ℝ := if s < t then Real.exp (A.z t s - sp (A.z t s) + (A.total t - ∑ j ∈ range (s + 1), A.lk t j)) else 0
/-- The gradient of that weight. -/
def dw (t s : ℕ) : ℝ := ∑ d ∈ range 128, A.d t d * A.v s d
/-- Their product. -/
def e (t s : ℕ) : ℝ := A.w t s * A.dw t s
/-- beta. -/
def sig (t s : ℕ) : ℝ := Real.exp (A.z t s - sp (A.z t s))
/-- The gradient of the score (and of the scale). -/
def dz (t s : ℕ) : ℝ := if s < t then (A.e t s * (1 - A.sig t s) - (∑ j ∈ range s, A.e t j) * A.sig t s) * c₀ else 0
/-- The gradients of the queries, keys and values. -/
def dq (t d : ℕ) : ℝ := ∑ s ∈ range 4096, A.dz t s * A.k s d
@[inherit_doc dq] def dk (s d : ℕ) : ℝ := ∑ t ∈ range 4096, A.dz t s * A.q t d
@[inherit_doc dq] def dv (s d : ℕ) : ℝ := ∑ t ∈ range 4096, A.w t s * A.d t d

end Head

theorem sum_shift (f : ℕ → ℝ) (a n : ℕ) : ∑ j ∈ range a, f j + ∑ j ∈ range n, f (a + j) = ∑ j ∈ range (a + n), f j :=
  (Finset.sum_range_add f a n).symm

section Sub
variable (A : Head) (T S : ℕ) (g : V128 Ideal → V128 Ideal)
  (hg : ∀ x : ℕ → ℕ → ℝ, g (up x) = up fun r y => if S + y < T + r then x r y else 0)
include hg

theorem LK_val : LK g (up fun r y => A.z (T + r) (S + y)) = up fun r y => A.lk (T + r) (S + y) := by
  unfold LK
  rw [SP_up, cst_zero, subf_up, hg]
  rfl

theorem cp_val : acc (up fun r _ => ∑ s ∈ range S, A.lk (T + r) s) (LK g (up fun r y => A.z (T + r) (S + y)))
    = up fun r _ => ∑ s ∈ range (S + 128), A.lk (T + r) s := by
  rw [LK_val A T S g hg, acc_up]
  simp only [sum_shift]

theorem W_val : W g (up fun r _ => A.total (T + r)) (up fun r _ => ∑ s ∈ range S, A.lk (T + r) s) (up fun r y => A.z (T + r) (S + y))
    = up fun r y => A.w (T + r) (S + y) := by
  unfold W
  rw [LK_val A T S g hg, SR_upto, addRow_up, SP_up, subf_up, subf_up, addf_up, exp_up, hg]
  refine up_congr fun r y _ _ => ?_
  unfold Head.w
  rw [add_comm (∑ j ∈ range (y + 1), _), sum_shift (fun s => A.lk (T + r) s), ← add_assoc]

omit hg in
theorem ce_val : acc (F := Ideal) (up fun r _ => ∑ s ∈ range S, A.e (T + r) s) (up fun r y => A.e (T + r) (S + y))
    = up fun r _ => ∑ s ∈ range (S + 128), A.e (T + r) s := by
  rw [acc_up]
  simp only [sum_shift]

theorem DZ_val : DZ g (up fun r _ => ∑ s ∈ range S, A.e (T + r) s) (up fun r y => A.z (T + r) (S + y)) (up fun r y => A.e (T + r) (S + y))
    = up fun r y => A.dz (T + r) (S + y) := by
  unfold DZ
  rw [SR_before, addRow_up, SP_up, subf_up, exp_up, cst_one, cst_scale, subf_up, mulf_up, mulf_up, subf_up, mulf_up, hg]
  refine up_congr fun r y _ _ => ?_
  unfold Head.dz Head.sig
  rw [add_comm (∑ j ∈ range y, _), sum_shift (fun s => A.e (T + r) s)]

end Sub

section Block
variable (A : Head) (T S : ℕ) (G : Mask Ideal)
  (h0 : ∀ x : ℕ → ℕ → ℝ, G.g0 (up x) = up fun r y => if S + y < T + r then x r y else 0)
  (h1 : ∀ x : ℕ → ℕ → ℝ, G.g1 (up x) = up fun r y => if S + 128 + y < T + r then x r y else 0)
  (h2 : ∀ x : ℕ → ℕ → ℝ, G.g2 (up x) = up fun r y => if S + 256 + y < T + r then x r y else 0)
  (h3 : ∀ x : ℕ → ℕ → ℝ, G.g3 (up x) = up fun r y => if S + 384 + y < T + r then x r y else 0)
include h0 h1 h2 h3

/-- What one key step computes: keys `S` to `S + 511` for queries `T` to `T + 511`, the carried sums those of the keys before. -/
theorem block_val {z dw : V512 Ideal} {tt : V128 Ideal} {cp ce : V1 Ideal}
    (hz : z = up fun r s => A.z (T + r) (S + s)) (hdw : dw = up fun r s => A.dw (T + r) (S + s))
    (ht : tt = up fun r _ => A.total (T + r)) (hcp : cp = up fun r _ => ∑ s ∈ range S, A.lk (T + r) s)
    (hce : ce = up fun r _ => ∑ s ∈ range S, A.e (T + r) s) :
    cp4 G z cp = (up fun r _ => ∑ s ∈ range (S + 512), A.lk (T + r) s)
    ∧ ce4 G tt z dw cp ce = (up fun r _ => ∑ s ∈ range (S + 512), A.e (T + r) s)
    ∧ wAll G tt z cp = (up fun r s => A.w (T + r) (S + s))
    ∧ dAll G tt z dw cp ce = (up fun r s => A.dz (T + r) (S + s)) := by
  have z0 : c0 z = up fun r y => A.z (T + r) (S + y) := by rw [hz, c0_up]
  have z1 : c1 z = up fun r y => A.z (T + r) (S + 128 + y) := by rw [hz, c1_up]; simp only [add_assoc]
  have z2 : c2 z = up fun r y => A.z (T + r) (S + 256 + y) := by rw [hz, c2_up]; simp only [add_assoc]
  have z3 : c3 z = up fun r y => A.z (T + r) (S + 384 + y) := by rw [hz, c3_up]; simp only [add_assoc]
  have d0' : c0 dw = up fun r y => A.dw (T + r) (S + y) := by rw [hdw, c0_up]
  have d1' : c1 dw = up fun r y => A.dw (T + r) (S + 128 + y) := by rw [hdw, c1_up]; simp only [add_assoc]
  have d2' : c2 dw = up fun r y => A.dw (T + r) (S + 256 + y) := by rw [hdw, c2_up]; simp only [add_assoc]
  have d3' : c3 dw = up fun r y => A.dw (T + r) (S + 384 + y) := by rw [hdw, c3_up]; simp only [add_assoc]
  have p1 : cp1 G z cp = up fun r _ => ∑ s ∈ range (S + 128), A.lk (T + r) s := by
    unfold cp1; rw [hcp, z0, cp_val A T S _ h0]
  have p2 : cp2 G z cp = up fun r _ => ∑ s ∈ range (S + 256), A.lk (T + r) s := by
    unfold cp2; rw [p1, z1, cp_val A T (S + 128) _ h1]
  have p3 : cp3 G z cp = up fun r _ => ∑ s ∈ range (S + 384), A.lk (T + r) s := by
    unfold cp3; rw [p2, z2, cp_val A T (S + 256) _ h2]
  have p4 : cp4 G z cp = up fun r _ => ∑ s ∈ range (S + 512), A.lk (T + r) s := by
    unfold cp4; rw [p3, z3, cp_val A T (S + 384) _ h3]
  have w0' : w0 G tt z cp = up fun r y => A.w (T + r) (S + y) := by unfold w0; rw [ht, hcp, z0, W_val A T S _ h0]
  have w1' : w1 G tt z cp = up fun r y => A.w (T + r) (S + 128 + y) := by unfold w1; rw [ht, p1, z1, W_val A T (S + 128) _ h1]
  have w2' : w2 G tt z cp = up fun r y => A.w (T + r) (S + 256 + y) := by unfold w2; rw [ht, p2, z2, W_val A T (S + 256) _ h2]
  have w3' : w3 G tt z cp = up fun r y => A.w (T + r) (S + 384 + y) := by unfold w3; rw [ht, p3, z3, W_val A T (S + 384) _ h3]
  have e0' : e0 G tt z dw cp = up fun r y => A.e (T + r) (S + y) := by unfold e0; rw [w0', d0', mulf_up]; rfl
  have e1' : e1 G tt z dw cp = up fun r y => A.e (T + r) (S + 128 + y) := by unfold e1; rw [w1', d1', mulf_up]; rfl
  have e2' : e2 G tt z dw cp = up fun r y => A.e (T + r) (S + 256 + y) := by unfold e2; rw [w2', d2', mulf_up]; rfl
  have e3' : e3 G tt z dw cp = up fun r y => A.e (T + r) (S + 384 + y) := by unfold e3; rw [w3', d3', mulf_up]; rfl
  have q1 : ce1 G tt z dw cp ce = up fun r _ => ∑ s ∈ range (S + 128), A.e (T + r) s := by
    unfold ce1; rw [hce, e0', ce_val A T S]
  have q2 : ce2 G tt z dw cp ce = up fun r _ => ∑ s ∈ range (S + 256), A.e (T + r) s := by
    unfold ce2; rw [q1, e1', ce_val A T (S + 128)]
  have q3 : ce3 G tt z dw cp ce = up fun r _ => ∑ s ∈ range (S + 384), A.e (T + r) s := by
    unfold ce3; rw [q2, e2', ce_val A T (S + 256)]
  have q4 : ce4 G tt z dw cp ce = up fun r _ => ∑ s ∈ range (S + 512), A.e (T + r) s := by
    unfold ce4; rw [q3, e3', ce_val A T (S + 384)]
  have g0 : d0 G tt z dw cp ce = up fun r y => A.dz (T + r) (S + y) := by unfold d0; rw [hce, z0, e0', DZ_val A T S _ h0]
  have g1 : d1 G tt z dw cp ce = up fun r y => A.dz (T + r) (S + 128 + y) := by unfold d1; rw [q1, z1, e1', DZ_val A T (S + 128) _ h1]
  have g2 : d2 G tt z dw cp ce = up fun r y => A.dz (T + r) (S + 256 + y) := by unfold d2; rw [q2, z2, e2', DZ_val A T (S + 256) _ h2]
  have g3 : d3 G tt z dw cp ce = up fun r y => A.dz (T + r) (S + 384 + y) := by unfold d3; rw [q3, z3, e3', DZ_val A T (S + 384) _ h3]
  refine ⟨p4, q4, ?_, ?_⟩
  · unfold wAll
    rw [w0', w1', w2', w3']
    simp only [add_assoc]
    exact cat_up fun r s => A.w (T + r) (S + s)
  · unfold dAll
    rw [g0, g1, g2, g3]
    simp only [add_assoc]
    exact cat_up fun r s => A.dz (T + r) (S + s)

end Block

/-- Off the diagonal every key is before every query. -/
theorem noMask_val {T S n : ℕ} (h : S + n + 128 ≤ T) (x : ℕ → ℕ → ℝ) : (up x : V128 Ideal) = up fun r y => if S + n + y < T + r then x r y else 0 :=
  up_congr fun r y _ hy => by rw [if_pos (by omega)]

/-- On it the mask is the causal one. -/
theorem mask_val (T n : ℕ) (hn : n ≤ 384) (x : ℕ → ℕ → ℝ) :
    mask (F := Ideal) (BitVec.ofNat 32 n) (up x) = up fun r y => if T + n + y < T + r then x r y else 0 := by
  rw [mask_up _ _ hn]
  exact up_congr fun r y _ _ => by
    by_cases h : n + y < r
    · rw [if_pos h, if_pos (by omega)]
    · rw [if_neg h, if_neg (by omega)]

section
variable (A : Head) (T S : ℕ) {q k v d : Vec Ideal S512x128 .f32} {tt : V128 Ideal} {cp ce : V1 Ideal}
  (hq : q = up fun r y => A.q (T + r) y) (hk : k = up fun r y => A.k (S + r) y)
  (hv : v = up fun r y => A.v (S + r) y) (hd : d = up fun r y => A.d (T + r) y)
  (ht : tt = up fun r _ => A.total (T + r)) (hcp : cp = up fun r _ => ∑ s ∈ range S, A.lk (T + r) s)
  (hce : ce = up fun r _ => ∑ s ∈ range S, A.e (T + r) s)
include hq hk hv hd ht hcp hce

/-- A key step off the diagonal. -/
theorem off_diag (h : S + 512 ≤ T) :
    cp4 noMask (Z q k) cp = (up fun r _ => ∑ s ∈ range (S + 512), A.lk (T + r) s)
    ∧ ce4 noMask tt (Z q k) (DW d v) cp ce = (up fun r _ => ∑ s ∈ range (S + 512), A.e (T + r) s)
    ∧ wAll noMask tt (Z q k) cp = (up fun r s => A.w (T + r) (S + s))
    ∧ dAll noMask tt (Z q k) (DW d v) cp ce = (up fun r s => A.dz (T + r) (S + s)) :=
  block_val A T S noMask (fun x => noMask_val (n := 0) (by omega) x) (fun x => noMask_val (by omega) x)
    (fun x => noMask_val (by omega) x) (fun x => noMask_val (by omega) x)
    (by rw [hq, hk, Z_up]; rfl) (by rw [hd, hv, DW_up]; rfl) ht hcp hce

/-- The key step on the diagonal. -/
theorem on_diag (h : S = T) :
    wAll diag tt (Z q k) cp = (up fun r s => A.w (T + r) (S + s))
    ∧ dAll diag tt (Z q k) (DW d v) cp ce = (up fun r s => A.dz (T + r) (S + s)) := by
  subst h
  exact (block_val A S S diag (fun x => mask_val S 0 (by omega) x) (fun x => mask_val S 128 (by omega) x)
    (fun x => mask_val S 256 (by omega) x) (fun x => mask_val S 384 (by omega) x)
    (by rw [hq, hk, Z_up]; rfl) (by rw [hd, hv, DW_up]; rfl) ht hcp hce).2.2

end

end Cert.KernelIdeal.Step
-- ==== Proof.HostVal.lean ====
module
public import proofs.«01_k».proof.Proof.Spec
public import Idealize.ShloMosaic.Lib.Pointwise

@[expose] public section

/-! Host operations on arrays of real numbers with a head axis: each gives the array of the real expression. -/

set_option maxRecDepth 16384

noncomputable section

namespace Cert.KernelIdeal.Step

open Idealize.ShloMosaic Idealize.ShloMosaic.TcCoe
open Finset (range)

/-- The array of real numbers `r head row column`. -/
def up3 {a b c : ℕ} (r : ℕ → ℕ → ℕ → ℝ) : (⟨3, ![a, b, c]⟩ : Shape).Idx → EReal := fun i => ((r (i 0).val (i 1).val (i 2).val : ℝ) : EReal)

theorem up3_congr {a b c : ℕ} {r r' : ℕ → ℕ → ℕ → ℝ} (h : ∀ x y z, x < a → y < b → z < c → r x y z = r' x y z) :
    (up3 r : (⟨3, ![a, b, c]⟩ : Shape).Idx → EReal) = up3 r' :=
  funext fun i => by unfold up3; rw [h _ _ _ (i 0).isLt (i 1).isLt (i 2).isLt]

variable {a b c : ℕ} (x y : ℕ → ℕ → ℕ → ℝ)

theorem addf_up3 : addf (F := Ideal) (s := ⟨3, ![a, b, c]⟩) (φ := .f32) (up3 x) (up3 y) = up3 fun h r s => x h r s + y h r s := rfl
theorem subf_up3 : subf (F := Ideal) (s := ⟨3, ![a, b, c]⟩) (φ := .f32) (up3 x) (up3 y) = up3 fun h r s => x h r s - y h r s := rfl
theorem mulf_up3 : mulf (F := Ideal) (s := ⟨3, ![a, b, c]⟩) (φ := .f32) (up3 x) (up3 y) = up3 fun h r s => x h r s * y h r s :=
  funext fun i => (EReal.coe_mul _ _).symm
theorem negf_up3 : Host.negf (F := Ideal) (s := ⟨3, ![a, b, c]⟩) (φ := .f32) (up3 x) = up3 fun h r s => -x h r s := rfl
theorem exp_up3 : Host.exp (F := Ideal) (s := ⟨3, ![a, b, c]⟩) (φ := .f32) (up3 x) = up3 fun h r s => Real.exp (x h r s) := rfl
theorem max_up3 : maximumf (F := Ideal) (s := ⟨3, ![a, b, c]⟩) (φ := .f32) (up3 x) (up3 y) = up3 fun h r s => max (x h r s) (y h r s) :=
  funext fun i => coe_max' _ _
theorem abs_up3 : Host.absf (F := Ideal) (s := ⟨3, ![a, b, c]⟩) (φ := .f32) (up3 x) = up3 fun h r s => |x h r s| :=
  funext fun i => by
    show max _ _ = _
    unfold up3
    rw [← EReal.coe_neg, coe_max']
    rfl
theorem log1p_up3 (h : ∀ i r s, 0 < 1 + x i r s) : Host.log1p (F := Ideal) (s := ⟨3, ![a, b, c]⟩) (φ := .f32) (up3 x) = up3 fun i r s => Real.log (1 + x i r s) :=
  funext fun i => by
    show Ideal.log (1 + ((x (i 0).val (i 1).val (i 2).val : ℝ) : EReal)) = _
    rw [show (1 : EReal) + ((x (i 0).val (i 1).val (i 2).val : ℝ) : EReal) = ((1 + x (i 0).val (i 1).val (i 2).val : ℝ) : EReal) by rw [EReal.coe_add]; rfl,
      Ideal.log_coe, if_neg (not_le.mpr (h _ _ _))]
    rfl

theorem inf_word : Ideal.ofBits .f32 0x7F800000#32 = (⊤ : EReal) := by simp [Ideal.ofBits, Ideal.ieee]
theorem zero_word : Ideal.ofBits .f32 0x00000000#32 = ((0 : ℝ) : EReal) := by simp [Ideal.ofBits, Ideal.ieee]

/-- An unordered comparison of an array with itself finds nothing at the exact numbers. -/
theorem select_une (p q : (⟨3, ![a, b, c]⟩ : Shape).Idx → EReal) (z : FVec Ideal ⟨3, ![a, b, c]⟩ .f32) :
    select (α := EReal) (cmpf (F := Ideal) (φ := .f32) .une z z) p q = q := by
  funext i
  unfold select cmpf
  simp [FloatOps.cmpf, Ideal.cmp, Scalar.select]

/-- No real number is the infinity. -/
theorem select_inf (p q : (⟨3, ![a, b, c]⟩ : Shape).Idx → EReal) (z : FVec Ideal ⟨3, ![a, b, c]⟩ .f32) (hz : z = fun _ => ⊤) :
    select (α := EReal) (cmpf (F := Ideal) (φ := .f32) .oeq (up3 x) z) p q = q := by
  subst hz
  funext i
  unfold select cmpf up3
  simp [FloatOps.cmpf, Ideal.cmp, Scalar.select]

theorem sp_neg (x : ℝ) : sp (-x) = sp x - x := by
  unfold sp
  rw [abs_neg]
  rcases le_total x 0 with h | h
  · rw [max_eq_right h, max_eq_left (by linarith)]; ring
  · rw [max_eq_left h, max_eq_right (by linarith)]; ring

theorem exp_sp (x : ℝ) : Real.exp (sp x) = 1 + Real.exp x := by
  unfold sp
  rw [Real.exp_add, Real.exp_log (by positivity)]
  rcases le_total x 0 with h | h
  · rw [max_eq_right h, abs_of_nonpos h]; simp
  · rw [max_eq_left h, abs_of_nonneg h, mul_add, mul_one, ← Real.exp_add]; simp [add_comm]

theorem exp_neg_sp (x : ℝ) : Real.exp (0 - sp x) = 1 - Real.exp (x - sp x) := by
  have h := exp_sp x
  have hp := Real.exp_pos (sp x)
  rw [Real.exp_sub, Real.exp_sub, Real.exp_zero]
  field_simp
  linarith

/-- The left fold of a sum. -/
theorem foldl_sum {α M : Type*} [AddCommMonoid M] (g : α → M) (l : List α) (v : M) : l.foldl (fun r n => r + g n) v = v + (l.map g).sum := by
  induction l generalizing v with
  | nil => simp
  | cons p l ih => rw [List.foldl_cons, ih, List.map_cons, List.sum_cons, add_assoc]

/-- A window over the last axis: the sum over the window's places that fall in the array. -/
theorem window_up3 {lo hi : ℕ} {u : Shape} (init : u.Idx → EReal) (h : (⟨3, ![a, b, c]⟩ : Shape).ReduceWindows ![1, 1, c] ![1, 1, 1] ![0, 0, lo] ![0, 0, hi] ⟨3, ![a, b, c]⟩)
    (hu : 0 < u.numel) (hi0 : ∀ i, init i = ((0 : ℝ) : EReal)) :
    Host.reduceWindowAdd (F := Ideal) (s := ⟨3, ![a, b, c]⟩) (φ := .f32) ![1, 1, c] ![1, 1, 1] ![0, 0, lo] ![0, 0, hi] (up3 x) init h hu
      = up3 fun i r s => ∑ n ∈ range c, if lo ≤ s + n ∧ s + n - lo < c then x i r (s + n - lo) else 0 := by
  funext j
  show Host.reduceWindow (s := ⟨3, ![a, b, c]⟩) (· + ·) ![1, 1, c] ![1, 1, 1] ![0, 0, lo] ![0, 0, hi] (up3 x) (fun _ : u.Idx => init _) h hu j = _
  unfold Host.reduceWindow
  dsimp only
  rw [hi0]
  refine (foldl_sum _ _ _).trans ?_
  rw [EReal.coe_zero, zero_add, ← Fin.sum_univ_def]
  let W : Shape := ⟨3, ![1, 1, c]⟩
  let g : W.Idx → EReal := fun w => ((if lo ≤ (j 2).val + (w 2).val ∧ (j 2).val + (w 2).val - lo < c then x (j 0).val (j 1).val ((j 2).val + (w 2).val - lo) else 0 : ℝ) : EReal)
  refine (Finset.sum_congr rfl fun n _ => (?_ : _ = g (W.rowMajor.symm n))).trans ?_
  · have w0 : (W.rowMajor.symm n 0).val = 0 := Nat.lt_one_iff.mp (W.rowMajor.symm n 0).isLt
    have w1 : (W.rowMajor.symm n 1).val = 0 := Nat.lt_one_iff.mp (W.rowMajor.symm n 1).isLt
    have j0 : (j 0).val < a := (j 0).isLt
    have j1 : (j 1).val < b := (j 1).isLt
    by_cases hin : lo ≤ (j 2).val + (W.rowMajor.symm n 2).val ∧ (j 2).val + (W.rowMajor.symm n 2).val - lo < c
    · rw [dif_pos]
      · show ((x ((j 0).val * 1 + (W.rowMajor.symm n 0).val - 0) ((j 1).val * 1 + (W.rowMajor.symm n 1).val - 0) ((j 2).val * 1 + (W.rowMajor.symm n 2).val - lo) : ℝ) : EReal) = g _
        show _ = ((if lo ≤ (j 2).val + (W.rowMajor.symm n 2).val ∧ (j 2).val + (W.rowMajor.symm n 2).val - lo < c then _ else 0 : ℝ) : EReal)
        rw [if_pos hin, w0, w1]
        simp
      · intro d
        match d with
        | 0 => show 0 ≤ (j 0).val * 1 + (W.rowMajor.symm n 0).val ∧ (j 0).val * 1 + (W.rowMajor.symm n 0).val - 0 < a; omega
        | 1 => show 0 ≤ (j 1).val * 1 + (W.rowMajor.symm n 1).val ∧ (j 1).val * 1 + (W.rowMajor.symm n 1).val - 0 < b; omega
        | 2 => show lo ≤ (j 2).val * 1 + (W.rowMajor.symm n 2).val ∧ (j 2).val * 1 + (W.rowMajor.symm n 2).val - lo < c; omega
    · rw [dif_neg]
      · show _ = ((if lo ≤ (j 2).val + (W.rowMajor.symm n 2).val ∧ (j 2).val + (W.rowMajor.symm n 2).val - lo < c then _ else 0 : ℝ) : EReal)
        rw [if_neg hin]
        exact EReal.coe_zero.symm
      · intro hall
        have := hall 2
        change lo ≤ (j 2).val * 1 + (W.rowMajor.symm n 2).val ∧ (j 2).val * 1 + (W.rowMajor.symm n 2).val - lo < c at this
        omega
  · refine (Equiv.sum_comp W.rowMajor.symm g).trans ?_
    rw [sum_idx3]
    simp only [Finset.univ_unique, Finset.sum_singleton]
    exact sum_coe (fun n => if lo ≤ (j 2).val + n ∧ (j 2).val + n - lo < c then x (j 0).val (j 1).val ((j 2).val + n - lo) else 0)

/-- The sum up to and including `s`, as such a window. -/
theorem window_upto (f : ℕ → ℝ) {m s : ℕ} (hs : s ≤ m) :
    ∑ k ∈ range (m + 1), (if m ≤ s + k ∧ s + k - m < m + 1 then f (s + k - m) else 0) = ∑ k ∈ range (s + 1), f k := by
  rw [← Finset.sum_filter]
  refine Finset.sum_nbij' (fun k => s + k - m) (fun k => k + m - s) ?_ ?_ ?_ ?_ ?_ <;>
    simp only [Finset.mem_filter, Finset.mem_range] <;> intros
  · omega
  · omega
  · omega
  · omega
  · trivial

/-- The sum from `s` on, as such a window. -/
theorem window_from (f : ℕ → ℝ) {n s : ℕ} (hs : s < n) :
    ∑ k ∈ range n, (if 0 ≤ s + k ∧ s + k - 0 < n then f (s + k - 0) else 0) = ∑ k ∈ range n, f k - ∑ k ∈ range s, f k := by
  rw [← Finset.sum_range_add_sum_Ico f hs.le, add_sub_cancel_left, ← Finset.sum_filter]
  refine Finset.sum_nbij' (fun k => s + k) (fun k => k - s) ?_ ?_ ?_ ?_ ?_ <;>
    simp only [Finset.mem_filter, Finset.mem_range, Finset.mem_Ico] <;> intros
  · omega
  · omega
  · omega
  · omega
  · trivial

/-- An entry of an array as a real number. -/
def ent {r c : ℕ} (x : (⟨2, ![r, c]⟩ : Shape).Idx → EReal) (i j : ℕ) : ℝ :=
  if h : i < r ∧ j < c then (x (ix2 ⟨i, h.1⟩ ⟨j, h.2⟩)).toReal else 0

theorem ent_coe {r c : ℕ} (x : (⟨2, ![r, c]⟩ : Shape).Idx → EReal) (i : Fin r) (j : Fin c) (h : ∃ v : ℝ, x (ix2 i j) = ((v : ℝ) : EReal)) :
    x (ix2 i j) = ((ent x i.val j.val : ℝ) : EReal) := by
  obtain ⟨v, hv⟩ := h
  unfold ent
  rw [dif_pos ⟨i.isLt, j.isLt⟩]
  show x (ix2 i j) = (((x (ix2 i j)).toReal : ℝ) : EReal)
  rw [hv]
  rfl

/-- Head `h` of the attention: its queries, keys and values are columns of the projection `P`, the gradient of its output is columns of `D`. -/
def heads (P : (⟨2, ![4096, 7168]⟩ : Shape).Idx → EReal) (D : (⟨2, ![4096, 2048]⟩ : Shape).Idx → EReal) (h : ℕ) : Head where
  q t d := ent P t (h * 128 + d)
  k t d := ent P t (1024 + (h * 128 + d))
  v t d := ent P t (2048 + (h * 128 + d))
  d t d := ent D t (h * 128 + d)

/-- The columns the attention reads hold real numbers. -/
structure Fin2 (P : (⟨2, ![4096, 7168]⟩ : Shape).Idx → EReal) (D : (⟨2, ![4096, 2048]⟩ : Shape).Idx → EReal) : Prop where
  p : ∀ i j, j.val < 3072 → ∃ v : ℝ, P (ix2 i j) = ((v : ℝ) : EReal)
  d : ∀ i j, j.val < 1024 → ∃ v : ℝ, D (ix2 i j) = ((v : ℝ) : EReal)

end Cert.KernelIdeal.Step
-- ==== Proof.PreFinite.lean ====
module
public import proofs.«01_k».proof.Pre_finite
public import proofs.«01_k».proof.Proof.HostVal
public import Idealize.ShloMosaic.Lib.Decide

@[expose] public section

/-! The precondition: the columns the attention reads hold real numbers. -/

set_option maxRecDepth 16384

noncomputable section

namespace Cert.Pre_finite

open Idealize.ShloMosaic Cert.KernelIdeal.Step

instance facts : Cert.Pre_finite.Facts where
  slices_S4096x7168_S4096x3072_0_0 := by decide
  bcast_S_S4096x3072 := by decide
  slices_S4096x2048_S4096x1024_0_0 := by decide
  bcast_S_S4096x1024 := by decide

/-- A number whose size is below infinity is real. -/
theorem real_of_lt (x : EReal) (h : Ideal.cmp .olt (max x (-x)) ⊤ = 1#1) : ∃ v : ℝ, x = ((v : ℝ) : EReal) := by
  induction x with
  | bot => simp [Ideal.cmp] at h
  | coe v => exact ⟨v, rfl⟩
  | top => simp [Ideal.cmp] at h

/-- What the precondition says of the two argument arrays. -/
theorem fin2 (P : FVec Ideal S4096x7168 .f32) (D : FVec Ideal S4096x2048 .f32)
    (h : (fn (F := Ideal) P D).1 = (fun _ => 1#1) ∧ (fn (F := Ideal) P D).2 = fun _ => 1#1) : Fin2 P D where
  p i j hj := by
    have e := congrFun h.1 (ix2 i ⟨j.val, hj⟩)
    unfold fn at e
    dsimp only at e
    unfold cmpf Host.absf extractStridedSlice broadcastInDim constant at e
    have e' : Ideal.cmp .olt (max (P (ix2 i j)) (-P (ix2 i j))) (Ideal.ofBits .f32 0x7F800000#32) = 1#1 := by
      refine Eq.trans ?_ e
      rw [show ix2 i j = _ from ?_]
      · rfl
      · funext a; fin_cases a <;> (apply Fin.ext; simp)
    rw [inf_word] at e'
    exact real_of_lt _ e'
  d i j hj := by
    have e := congrFun h.2 (ix2 i ⟨j.val, hj⟩)
    unfold fn at e
    dsimp only at e
    unfold cmpf Host.absf extractStridedSlice broadcastInDim constant at e
    have e' : Ideal.cmp .olt (max (D (ix2 i j)) (-D (ix2 i j))) (Ideal.ofBits .f32 0x7F800000#32) = 1#1 := by
      refine Eq.trans ?_ e
      rw [show ix2 i j = _ from ?_]
      · rfl
      · funext a; fin_cases a <;> (apply Fin.ext; simp)
    rw [inf_word] at e'
    exact real_of_lt _ e'

end Cert.Pre_finite
-- ==== Proof.Ref.lean ====
module
public import proofs.«01_k».proof.Proof.HostVal
public import proofs.«01_k».proof.Proof.Gen.ReferenceIdeal
public import Idealize.ShloMosaic.Lib.Pointwise
public import Idealize.ShloMosaic.Lib.WordCmp

@[expose] public section

/-! The steps of the attention and of its gradient, as the reference's operations, and their values over the real numbers. -/

set_option maxRecDepth 16384

noncomputable section

namespace Cert.ReferenceIdeal.Ref

open Cert.ReferenceIdeal Cert.ReferenceIdeal.Gen Idealize.ShloMosaic Idealize.ShloMosaic.TcCoe
open Cert.KernelIdeal.Step
open Finset (range)

/-- A matrix of scores for every head. -/
abbrev Z := FVec Ideal S8x4096x4096 .f32
/-- One operand, head by head. -/
abbrev Hd := FVec Ideal S8x4096x128 .f32

def zc : Z := broadcastInDim S8x4096x4096 ![] bcast_S_S8x4096x4096 (constant S_ .f32 0x00000000#32)
def zi : Z := broadcastInDim S8x4096x4096 ![] bcast_S_S8x4096x4096 (id (constant S_ .f32 0x00000000#32))
def infc : Z := broadcastInDim S8x4096x4096 ![] bcast_S_S8x4096x4096 (constant S_ .f32 0x7F800000#32)
def scl : Z := broadcastInDim S8x4096x4096 ![] bcast_S_S8x4096x4096 (constant S_ .f32 0x3DB504F3#32)
def zero1 : FVec Ideal S_ .f32 := broadcastInDim S_ ![] bcast_S_S_ (constant S_ .f32 0x00000000#32)
/-- Key before query. -/
def msk : IVec S8x4096x4096 1 := broadcastInDim S8x4096x4096 ![1, 2] bcast_S4096x4096_S8x4096x4096_1_2 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- The operands: queries, keys, values, the output's gradient. -/
def hq (P : FVec Ideal S4096x7168 .f32) : Hd := transpose S8x4096x128 [1, 0, 2] (shapeCast _ (extractStridedSlice S4096x1024 ![0, 0] P slices_S4096x7168_S4096x1024_0_0) shapeCasts_S4096x1024_S4096x8x128) transposes_S4096x8x128_S8x4096x128_1_0_2
@[inherit_doc hq] def hk (P : FVec Ideal S4096x7168 .f32) : Hd := transpose S8x4096x128 [1, 0, 2] (shapeCast _ (extractStridedSlice S4096x1024 ![0, 1024] P slices_S4096x7168_S4096x1024_0_1024) shapeCasts_S4096x1024_S4096x8x128) transposes_S4096x8x128_S8x4096x128_1_0_2
@[inherit_doc hq] def hv (P : FVec Ideal S4096x7168 .f32) : Hd := transpose S8x4096x128 [1, 0, 2] (shapeCast _ (extractStridedSlice S4096x1024 ![0, 2048] P slices_S4096x7168_S4096x1024_0_2048) shapeCasts_S4096x1024_S4096x8x128) transposes_S4096x8x128_S8x4096x128_1_0_2
@[inherit_doc hq] def hd (D : FVec Ideal S4096x2048 .f32) : Hd := transpose S8x4096x128 [1, 0, 2] (shapeCast _ (extractStridedSlice S4096x1024 ![0, 0] D slices_S4096x2048_S4096x1024_0_0) shapeCasts_S4096x1024_S4096x8x128) transposes_S4096x8x128_S8x4096x128_1_0_2
/-- The products of rows. -/
def dots (p q : Hd) : Z := Host.dotGeneral dot_S8x4096x128_S8x4096x128_S8x4096x4096_2_2_1_1_0_0 none p q
/-- The scores. -/
def zz (P : FVec Ideal S4096x7168 .f32) : Z := mulf (dots (hq P) (hk P)) scl
/-- log(1 + exp x). -/
def splus (x : Z) : Z := select (cmpf .une (subf x zc) (subf x zc)) (addf x zc) (addf (maximumf x zc) (Host.log1p (Host.exp (Host.negf (Host.absf (subf x zc))))))
/-- Its derivative. -/
def dsp (x : Z) : Z := Host.exp (subf (select (cmpf .oeq x infc) zc x) (select (cmpf .oeq (splus x) infc) zc (splus x)))
/-- log(1 - beta) on the causal part. -/
def lk (z : Z) : Z := select msk (Host.negf (splus (Host.negf (Host.negf z)))) zi
/-- Its sums from each key on. -/
def rc (l : Z) : Z := Host.reduceWindowAdd ![1, 1, 4096] ![1, 1, 1] ![0, 0, 0] ![0, 0, 4095] l zero1 reduceWindows_S8x4096x4096_S8x4096x4096_w1s1p0_0_w1s1p0_0_w4096s1p0_4095 h_S_
/-- Sums up to each key. -/
def cs (l : Z) : Z := Host.reduceWindowAdd ![1, 1, 4096] ![1, 1, 1] ![0, 0, 4095] ![0, 0, 0] l zero1 reduceWindows_S8x4096x4096_S8x4096x4096_w1s1p0_0_w1s1p0_0_w4096s1p4095_0 h_S_
/-- The weights, before the mask. -/
def ew (z : Z) : Z := Host.exp (addf (Host.negf (splus (Host.negf z))) (subf (rc (lk z)) (lk z)))
/-- The weights. -/
def ww (z : Z) : Z := select msk (ew z) zi
/-- Gradient of the weights times the weights. -/
def ee (z : Z) (p : Hd) (q : Hd) : Z := mulf (select msk (dots p q) zc) (ew z)
/-- The gradient of the scores, from `e`. -/
def dzz (z e : Z) : Z := mulf (addf (Host.negf (mulf (Host.negf e) (dsp (Host.negf z)))) (Host.negf (Host.negf (mulf (Host.negf (select msk (addf (Host.negf e) (cs e)) zc)) (dsp (Host.negf (Host.negf z))))))) scl
/-- Heads side by side again. -/
def merge (x : Hd) : FVec Ideal S4096x1024 .f32 := shapeCast _ (transpose S4096x8x128 [1, 0, 2] x transposes_S8x4096x128_S4096x8x128_1_0_2) shapeCasts_S4096x8x128_S4096x1024
/-- The gradients of queries, keys and values, in the operations. -/
def rq (P : FVec Ideal S4096x7168 .f32) (D : FVec Ideal S4096x2048 .f32) : FVec Ideal S4096x1024 .f32 := merge (Host.dotGeneral dot_S8x4096x4096_S8x4096x128_S8x4096x128_2_1_1_2_0_0 none (dzz (zz P) (ee (zz P) (hd D) (hv P))) (hk P))
@[inherit_doc rq] def rk (P : FVec Ideal S4096x7168 .f32) (D : FVec Ideal S4096x2048 .f32) : FVec Ideal S4096x1024 .f32 := merge (Host.dotGeneral dot_S8x4096x4096_S8x4096x128_S8x4096x128_1_1_2_2_0_0 none (dzz (zz P) (ee (zz P) (hd D) (hv P))) (hq P))
@[inherit_doc rq] def rv (P : FVec Ideal S4096x7168 .f32) (D : FVec Ideal S4096x2048 .f32) : FVec Ideal S4096x1024 .f32 := merge (transpose S8x4096x128 [0, 2, 1] (Host.dotGeneral dot_S8x4096x128_S8x4096x4096_S8x128x4096_1_1_2_2_0_0 none (hd D) (ww (zz P))) transposes_S8x128x4096_S8x4096x128_0_2_1)

theorem zc_up : zc = up3 fun _ _ _ => 0 := funext fun _ => zero_word
theorem zi_up : zi = up3 fun _ _ _ => 0 := funext fun _ => zero_word
theorem infc_top : infc = fun _ => (⊤ : EReal) := funext fun _ => inf_word
theorem scl_up : scl = up3 fun _ _ _ => c₀ := funext fun _ => c₀_coe
theorem zero1_eq (i : S_.Idx) : zero1 i = ((0 : ℝ) : EReal) := zero_word

theorem msk_up (x y : ℕ → ℕ → ℕ → ℝ) : select (α := EReal) msk (up3 x) (up3 y) = up3 fun h t s => if s < t then x h t s else y h t s := by
  funext i
  unfold msk
  pointwise
  rw [WordCmp.cmpi_slt_ofNat (by have : (i 2).val < 4096 := (i 2).isLt; omega) (by have : (i 1).val < 4096 := (i 1).isLt; omega)]
  unfold up3
  by_cases h : (i 2).val < (i 1).val <;> simp [h, Scalar.select]

theorem dots_up (p q : ℕ → ℕ → ℕ → ℝ) : dots (up3 p) (up3 q) = up3 fun h t s => ∑ d ∈ range 128, p h t d * q h s d := by
  funext i
  unfold dots
  pointwise
  exact sum_mul_coe (fun d => p (i 0).val (i 1).val d) (fun d => q (i 0).val (i 2).val d)

theorem splus_up (x : ℕ → ℕ → ℕ → ℝ) : splus (up3 x) = up3 fun h t s => sp (x h t s) := by
  unfold splus
  rw [zc_up, select_une, subf_up3, abs_up3, negf_up3, exp_up3, log1p_up3 _ (fun _ _ _ => by positivity), max_up3, addf_up3]
  refine up3_congr fun _ _ _ _ _ _ => ?_
  unfold sp
  rw [sub_zero, zero_sub]

theorem dsp_up (x : ℕ → ℕ → ℕ → ℝ) : dsp (up3 x) = up3 fun h t s => Real.exp (x h t s - sp (x h t s)) := by
  unfold dsp
  rw [splus_up, select_inf _ _ _ _ infc_top, select_inf _ _ _ _ infc_top, subf_up3, exp_up3]

theorem rc_up (x : ℕ → ℕ → ℕ → ℝ) : rc (up3 x) = up3 fun h t s => ∑ j ∈ range 4096, x h t j - ∑ j ∈ range s, x h t j := by
  unfold rc
  refine (window_up3 _ _ _ _ zero1_eq).trans (up3_congr fun h t s _ _ hs => ?_)
  exact window_from (fun j => x h t j) hs

theorem cs_up (x : ℕ → ℕ → ℕ → ℝ) : cs (up3 x) = up3 fun h t s => ∑ j ∈ range (s + 1), x h t j := by
  unfold cs
  refine (window_up3 _ _ _ _ zero1_eq).trans (up3_congr fun h t s _ _ hs => ?_)
  exact window_upto (m := 4095) (fun j => x h t j) (by omega)

theorem merge_up (x : ℕ → ℕ → ℕ → ℝ) : merge (up3 x) = up fun t c => x (c / 128) t (c % 128) := by
  funext i
  unfold merge
  pointwise
  rfl

section Val
variable (P : FVec Ideal S4096x7168 .f32) (D : FVec Ideal S4096x2048 .f32) (H : Fin2 P D)
include H

theorem hq_up : hq P = up3 fun h t d => (heads P D h).q t d := by
  funext i
  have h0 : (i 0).val < 8 := (i 0).isLt
  have h2 : (i 2).val < 128 := (i 2).isLt
  unfold hq
  pointwise
  refine (ent_coe P _ _ (H.p _ _ ?_)).trans ?_
  · dsimp only; omega
  · simp [up3, heads]
theorem hk_up : hk P = up3 fun h t d => (heads P D h).k t d := by
  funext i
  have h0 : (i 0).val < 8 := (i 0).isLt
  have h2 : (i 2).val < 128 := (i 2).isLt
  unfold hk
  pointwise
  refine (ent_coe P _ _ (H.p _ _ ?_)).trans ?_
  · dsimp only; omega
  · simp [up3, heads]
theorem hv_up : hv P = up3 fun h t d => (heads P D h).v t d := by
  funext i
  have h0 : (i 0).val < 8 := (i 0).isLt
  have h2 : (i 2).val < 128 := (i 2).isLt
  unfold hv
  pointwise
  refine (ent_coe P _ _ (H.p _ _ ?_)).trans ?_
  · dsimp only; omega
  · simp [up3, heads]
theorem hd_up : hd D = up3 fun h t d => (heads P D h).d t d := by
  funext i
  have h0 : (i 0).val < 8 := (i 0).isLt
  have h2 : (i 2).val < 128 := (i 2).isLt
  unfold hd
  pointwise
  refine (ent_coe D _ _ (H.d _ _ ?_)).trans ?_
  · dsimp only; omega
  · simp [up3, heads]

theorem zz_up : zz P = up3 fun h t s => (heads P D h).z t s := by
  unfold zz
  rw [hq_up P D H, hk_up P D H, dots_up, scl_up, mulf_up3]
  rfl

theorem lk_up : lk (zz P) = up3 fun h t s => (heads P D h).lk t s := by
  unfold lk
  rw [zz_up P D H, negf_up3, negf_up3, splus_up, negf_up3, zi_up, msk_up]
  refine up3_congr fun h t s _ _ _ => ?_
  unfold Head.lk
  rw [neg_neg, zero_sub]

/-- The weight of every pair, causal or not. -/
def wfree (A : Head) (t s : ℕ) : ℝ := Real.exp (A.z t s - sp (A.z t s) + (A.total t - ∑ j ∈ range (s + 1), A.lk t j))

theorem ew_up : ew (zz P) = up3 fun h t s => wfree (heads P D h) t s := by
  unfold ew
  rw [lk_up P D H, zz_up P D H, negf_up3, splus_up, negf_up3, rc_up, subf_up3, addf_up3, exp_up3]
  refine up3_congr fun h t s _ _ _ => ?_
  unfold wfree Head.total
  rw [sp_neg, Finset.sum_range_succ _ s]
  ring_nf

theorem ww_up : ww (zz P) = up3 fun h t s => (heads P D h).w t s := by
  unfold ww
  rw [ew_up P D H, zi_up, msk_up]
  rfl

theorem ee_up : ee (zz P) (hd D) (hv P) = up3 fun h t s => (heads P D h).e t s := by
  unfold ee
  rw [ew_up P D H, hd_up P D H, hv_up P D H, dots_up, zc_up, msk_up, mulf_up3]
  refine up3_congr fun h t s _ _ _ => ?_
  unfold Head.e Head.w Head.dw wfree
  by_cases hc : s < t
  · rw [if_pos hc, if_pos hc]; ring
  · rw [if_neg hc, if_neg hc, zero_mul, zero_mul]

theorem dzz_up : dzz (zz P) (ee (zz P) (hd D) (hv P)) = up3 fun h t s => (heads P D h).dz t s := by
  unfold dzz
  rw [ee_up P D H, zz_up P D H]
  simp only [negf_up3, dsp_up, cs_up, addf_up3, zc_up, msk_up, mulf_up3, scl_up]
  refine up3_congr fun h t s _ _ _ => ?_
  have hs := exp_neg_sp ((heads P D h).z t s)
  rw [sp_neg, neg_neg, Finset.sum_range_succ, show -(heads P D h).z t s - (sp ((heads P D h).z t s) - (heads P D h).z t s) = 0 - sp ((heads P D h).z t s) by ring, hs]
  unfold Head.dz Head.sig
  by_cases hc : s < t
  · rw [if_pos hc, if_pos hc]; ring
  · rw [if_neg hc, if_neg hc]
    unfold Head.e Head.w
    rw [if_neg hc]; ring_nf

/-- The gradient of the queries, in real numbers. -/
theorem rq_up : rq P D = up fun t c => (heads P D (c / 128)).dq t (c % 128) := by
  unfold rq
  rw [dzz_up P D H, hk_up P D H]
  refine (congrArg merge (?_ : _ = up3 fun h t d => (heads P D h).dq t d)).trans (merge_up _)
  funext i
  pointwise
  exact sum_mul_coe (fun s => (heads P D (i 0).val).dz (i 1).val s) (fun s => (heads P D (i 0).val).k s (i 2).val)
/-- The gradient of the keys, in real numbers. -/
theorem rk_up : rk P D = up fun t c => (heads P D (c / 128)).dk t (c % 128) := by
  unfold rk
  rw [dzz_up P D H, hq_up P D H]
  refine (congrArg merge (?_ : _ = up3 fun h t d => (heads P D h).dk t d)).trans (merge_up _)
  funext i
  pointwise
  exact sum_mul_coe (fun s => (heads P D (i 0).val).dz s (i 1).val) (fun s => (heads P D (i 0).val).q s (i 2).val)
/-- The gradient of the values, in real numbers. -/
theorem rv_up : rv P D = up fun t c => (heads P D (c / 128)).dv t (c % 128) := by
  unfold rv
  rw [ww_up P D H, hd_up P D H]
  refine (congrArg merge (?_ : _ = up3 fun h t d => (heads P D h).dv t d)).trans (merge_up _)
  funext i
  pointwise
  refine (sum_mul_coe (fun s => (heads P D (i 0).val).d s (i 2).val) (fun s => (heads P D (i 0).val).w s (i 1).val)).trans ?_
  unfold up3 Head.dv
  simp only [mul_comm]

end Val

end Cert.ReferenceIdeal.Ref
-- ==== Proof.HostL.lean ====
module
public import proofs.«01_k».proof.Proof.Ref
public import proofs.«01_k».proof.Proof.Gen.KernelIdeal.Value
public import Idealize.ShloMosaic.Lib.StableHlo.RunRead

@[expose] public section

/-! The array of row totals that the program computes before the kernel call. -/

set_option maxRecDepth 16384

noncomputable section

namespace Cert.KernelIdeal.Step

open Cert.KernelIdeal Cert.KernelIdeal.Gen Idealize.ShloMosaic Idealize.ShloMosaic.TcCoe
open Finset (range)

/-- A query's total, on each of its head's 128 lanes. -/
def ltot (l : FVec Ideal S8x4096x4096 .f32) : FVec Ideal S4096x1024 .f32 :=
  shapeCast _ (broadcastInDim S4096x8x128 ![0, 1, 2] bcast_S4096x8x1_S4096x8x128_0_1_2 (broadcastInDim S4096x8x1 ![0, 1] bcast_S4096x8_S4096x8x1_0_1 (transpose S4096x8 [1, 0] (Host.reduceAdd l (constant S_ .f32 0x00000000#32) reducesTo_S8x4096x4096_S8x4096_d2 h_S_) transposes_S8x4096_S4096x8_1_0))) shapeCasts_S4096x8x128_S4096x1024

theorem V_L (m : (ℓ : Loc nD τ sig) → Buf (Elt Ideal) ℓ) (c : Dev nD) :
    V m c main_v23 = ltot (Cert.ReferenceIdeal.Ref.lk (Cert.ReferenceIdeal.Ref.zz (m ((c : Thread nD τ).loc main_arg0)))) := by
  simp only [V, List.flatten_cons, List.flatten_nil, List.append_nil, hostOps0, hostOps0_1, hostOps0_2, hostOps0_3, hostOps0_4, List.cons_append, List.nil_append, StableHlo.TRef.binary, StableHlo.TRef.nullary, StableHlo.TRef.ternary, StableHlo.TRef.unary, StableHlo.TRef.toBuf, StableHlo.TRef.ofBuf, cast_eq]
  after_results_simp
  rfl

theorem ltot_up (x : ℕ → ℕ → ℕ → ℝ) : ltot (up3 x) = up fun t c => ∑ s ∈ range 4096, x (c / 128) t s := by
  funext i
  unfold ltot
  pointwise
  exact sum_coe (fun s => x ((i 1).val / 128) (i 0).val s)

/-- The totals, in real numbers. -/
theorem V_L_up (m : (ℓ : Loc nD τ sig) → Buf (Elt Ideal) ℓ) (c : Dev nD) (D : FVec Ideal S4096x2048 .f32) (H : Fin2 (m ((c : Thread nD τ).loc main_arg0)) D) :
    V m c main_v23 = up fun t j => (heads (m ((c : Thread nD τ).loc main_arg0)) D (j / 128)).total t := by
  rw [V_L, Cert.ReferenceIdeal.Ref.lk_up _ D H, ltot_up]
  rfl

end Cert.KernelIdeal.Step
-- ==== Proof.Blocks.lean ====
module
public import proofs.«01_k».proof.Proof.HostL
public import Idealize.ShloMosaic.Lib.Pipeline.ValueKit

@[expose] public section

/-! Each grid point's input blocks, in real numbers: point `t` is query block `t % 8` of head `t / 8`. -/

set_option maxRecDepth 16384

noncomputable section

namespace Cert.KernelIdeal.Step

open Cert.KernelIdeal Cert.KernelIdeal.Gen Idealize.ShloMosaic Idealize.ShloMosaic.TcCoe
open Finset (range)

theorem ix0 : ∀ t : Fin cfg0.N, win0_0.index t (0 : Fin 2) = t.val % 8 ∧ win0_0.index t (1 : Fin 2) = t.val / 8 := (by decide +kernel : ∀ t : Fin grid0.N, _)
theorem ix1 : ∀ t : Fin cfg0.N, win0_1.index t (0 : Fin 2) = 0 ∧ win0_1.index t (1 : Fin 2) = 8 + t.val / 8 := (by decide +kernel : ∀ t : Fin grid0.N, _)
theorem ix2' : ∀ t : Fin cfg0.N, win0_2.index t (0 : Fin 2) = 0 ∧ win0_2.index t (1 : Fin 2) = 16 + t.val / 8 := (by decide +kernel : ∀ t : Fin grid0.N, _)
theorem ix3' : ∀ t : Fin cfg0.N, win0_3.index t (0 : Fin 2) = t.val % 8 ∧ win0_3.index t (1 : Fin 2) = t.val / 8 := (by decide +kernel : ∀ t : Fin grid0.N, _)
theorem ix4' : ∀ t : Fin cfg0.N, win0_4.index t (0 : Fin 2) = t.val % 8 ∧ win0_4.index t (1 : Fin 2) = t.val / 8 := (by decide +kernel : ∀ t : Fin grid0.N, _)
theorem ix5' : ∀ t : Fin cfg0.N, win0_5.index t (0 : Fin 2) = t.val % 8 ∧ win0_5.index t (1 : Fin 2) = t.val / 8 := (by decide +kernel : ∀ t : Fin grid0.N, _)
theorem ix6' : ∀ t : Fin cfg0.N, win0_6.index t (0 : Fin 2) = 0 ∧ win0_6.index t (1 : Fin 2) = t.val / 8 := (by decide +kernel : ∀ t : Fin grid0.N, _)
theorem ix7' : ∀ t : Fin cfg0.N, win0_7.index t (0 : Fin 2) = 0 ∧ win0_7.index t (1 : Fin 2) = t.val / 8 := (by decide +kernel : ∀ t : Fin grid0.N, _)
theorem i1_val : ∀ t : Fin cfg0.N, (grid0.coords t 1).val = t.val % 8 := (by decide +kernel : ∀ t : Fin grid0.N, _)

theorem ent_at {r c : ℕ} (x : (⟨2, ![r, c]⟩ : Shape).Idx → EReal) (j : (⟨2, ![r, c]⟩ : Shape).Idx) (a b : ℕ)
    (h : ∃ v : ℝ, x j = ((v : ℝ) : EReal)) (ha : (j 0).val = a) (hb : (j 1).val = b) : x j = ((ent x a b : ℝ) : EReal) := by
  subst ha hb
  have e := ent_coe x (j 0) (j 1) (by rw [ix2_eta]; exact h)
  rwa [ix2_eta] at e

section
variable (m : (ℓ : Loc nD τ sig) → Buf (Elt Ideal) ℓ) (c : Dev nD)
  (H : Fin2 (m ((c : Thread nD τ).loc main_arg0)) (m ((c : Thread nD τ).loc main_arg1)))

/-- The head of grid point `t`. -/
abbrev hA (n : ℕ) : Head := heads (m ((c : Thread nD τ).loc main_arg0)) (m ((c : Thread nD τ).loc main_arg1)) n

include H

theorem fin_p (j : S4096x7168.Idx) (h : (j 1).val < 3072) : ∃ v : ℝ, (m ((c : Thread nD τ).loc main_arg0) : S4096x7168.Idx → EReal) j = ((v : ℝ) : EReal) := by
  have := H.p (j 0) (j 1) h
  rwa [ix2_eta] at this
theorem fin_d (j : S4096x2048.Idx) (h : (j 1).val < 1024) : ∃ v : ℝ, (m ((c : Thread nD τ).loc main_arg1) : S4096x2048.Idx → EReal) j = ((v : ℝ) : EReal) := by
  have := H.d (j 0) (j 1) h
  rwa [ix2_eta] at this

theorem blk0 (t : Fin cfg0.N) : (iblk m c 0 t : Vec Ideal S512x128 .f32) = up fun r y => (hA m c (t.val / 8)).q (512 * (t.val % 8) + r) y := by
  funext i
  obtain ⟨e0, e1⟩ := ix0 t
  have ht : t.val < 64 := t.isLt
  have h1 : (i 1).val < 128 := (i 1).isLt
  show V m c main_arg0 (((cfg0.win 0).blk t).view.emb i) = _
  rw [V_main_arg0]
  have a0 : ((((cfg0.win 0).blk t).view.emb i : S4096x7168.Idx) 0).val = 512 * (t.val % 8) + (i 0).val := by
    blk_simp [e0]; omega
  have a1 : ((((cfg0.win 0).blk t).view.emb i : S4096x7168.Idx) 1).val = t.val / 8 * 128 + (i 1).val := by
    blk_simp [e1]
  exact ent_at _ _ _ _ (fin_p m c H _ (by rw [a1]; omega)) a0 a1

theorem blk1 (t : Fin cfg0.N) : (iblk m c 1 t : Vec Ideal S4096x128 .f32) = up (hA m c (t.val / 8)).k := by
  funext i
  obtain ⟨e0, e1⟩ := ix1 t
  have ht : t.val < 64 := t.isLt
  have h1 : (i 1).val < 128 := (i 1).isLt
  show V m c main_arg0 (((cfg0.win 1).blk t).view.emb i) = _
  rw [V_main_arg0]
  have a0 : ((((cfg0.win 1).blk t).view.emb i : S4096x7168.Idx) 0).val = (i 0).val := by
    blk_simp [e0]
  have a1 : ((((cfg0.win 1).blk t).view.emb i : S4096x7168.Idx) 1).val = 1024 + (t.val / 8 * 128 + (i 1).val) := by
    blk_simp [e1]; omega
  exact ent_at _ _ _ _ (fin_p m c H _ (by rw [a1]; omega)) a0 a1

theorem blk2 (t : Fin cfg0.N) : (iblk m c 2 t : Vec Ideal S4096x128 .f32) = up (hA m c (t.val / 8)).v := by
  funext i
  obtain ⟨e0, e1⟩ := ix2' t
  have ht : t.val < 64 := t.isLt
  have h1 : (i 1).val < 128 := (i 1).isLt
  show V m c main_arg0 (((cfg0.win 2).blk t).view.emb i) = _
  rw [V_main_arg0]
  have a0 : ((((cfg0.win 2).blk t).view.emb i : S4096x7168.Idx) 0).val = (i 0).val := by
    blk_simp [e0]
  have a1 : ((((cfg0.win 2).blk t).view.emb i : S4096x7168.Idx) 1).val = 2048 + (t.val / 8 * 128 + (i 1).val) := by
    blk_simp [e1]; omega
  exact ent_at _ _ _ _ (fin_p m c H _ (by rw [a1]; omega)) a0 a1

theorem blk3 (t : Fin cfg0.N) : (iblk m c 3 t : Vec Ideal S512x128 .f32) = up fun r y => (hA m c (t.val / 8)).d (512 * (t.val % 8) + r) y := by
  funext i
  obtain ⟨e0, e1⟩ := ix3' t
  have ht : t.val < 64 := t.isLt
  have h1 : (i 1).val < 128 := (i 1).isLt
  show V m c main_arg1 (((cfg0.win 3).blk t).view.emb i) = _
  rw [V_main_arg1]
  have a0 : ((((cfg0.win 3).blk t).view.emb i : S4096x2048.Idx) 0).val = 512 * (t.val % 8) + (i 0).val := by
    blk_simp [e0]; omega
  have a1 : ((((cfg0.win 3).blk t).view.emb i : S4096x2048.Idx) 1).val = t.val / 8 * 128 + (i 1).val := by
    blk_simp [e1]
  exact ent_at _ _ _ _ (fin_d m c H _ (by rw [a1]; omega)) a0 a1

theorem blk4 (t : Fin cfg0.N) : (iblk m c 4 t : Vec Ideal S512x128 .f32) = up fun r _ => (hA m c (t.val / 8)).total (512 * (t.val % 8) + r) := by
  funext i
  obtain ⟨e0, e1⟩ := ix4' t
  have ht : t.val < 64 := t.isLt
  have h1 : (i 1).val < 128 := (i 1).isLt
  show V m c main_v23 (((cfg0.win 4).blk t).view.emb i) = _
  rw [V_L_up m c _ H]
  have a0 : ((((cfg0.win 4).blk t).view.emb i : S4096x1024.Idx) 0).val = 512 * (t.val % 8) + (i 0).val := by
    blk_simp [e0]; omega
  have a1 : ((((cfg0.win 4).blk t).view.emb i : S4096x1024.Idx) 1).val = t.val / 8 * 128 + (i 1).val := by
    blk_simp [e1]
  unfold up
  rw [a0, a1]
  beta_reduce
  rw [show (t.val / 8 * 128 + (i 1).val) / 128 = t.val / 8 by omega]

end

end Cert.KernelIdeal.Step
-- ==== Proof.CaseOut.lean ====
module
public import proofs.«01_k».proof.Proof.Step

@[expose] public section

/-! What each case of the kernel's body leaves in the buffers of its three results, as pieces: the loop's, and on
top of them the diagonal step's. -/

set_option maxRecDepth 16384

noncomputable section

namespace Cert.KernelIdeal.Step

open Idealize.ShloMosaic Idealize.ShloMosaic.TcCoe
open Cert.KernelIdeal Cert.KernelIdeal.Gen

variable {F : FTy → Type} [FloatOps F]

/-- A whole query block as the body loads it. -/
abbrev v5 (a : Memref sig .tc .vmem S512x128 .f32) (h : a.IsWhole) (x : Vec F S512x128 .f32) : Vec F S512x128 .f32 :=
  View.readAt (Elt F) a.view whole.toLoadRect (h.unread x)

/-- The zeros the body stores first. -/
def z7 : List (View.Piece (Elt F) S512x128 .f32) := [⟨whole, k0_pay99⟩]
/-- A whole head's keys. -/
abbrev wholeK : Rect S4096x128 := Rect.unit (s := S4096x128) ![0, 0] S4096x128.size inb_S4096x128_S4096x128_0_0
@[inherit_doc z7] def z8 : List (View.Piece (Elt F) S4096x128 .f32) := [⟨wholeK, k0_pay97⟩]
@[inherit_doc z7] def z9 : List (View.Piece (Elt F) S4096x128 .f32) := [⟨wholeK, k0_pay98⟩]

section A
variable (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (hc0 : cond0_0 i)
    (x0 : Vec F S512x128 .f32) (x1 : Vec F S4096x128 .f32) (x2 : Vec F S4096x128 .f32) (x3 : Vec F S512x128 .f32) (x4 : Vec F S512x128 .f32)

/-- The loop's last state in case A. -/
abbrev S1A := S1 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9)

/-- Case A, result buffer 7. -/
theorem runA7 : (kernelRun0_A (F := F) c i arg2 harg2 arg3 harg3 arg4 harg4 arg5 harg5 arg6 harg6 arg7 harg7 arg8 harg8 arg9 harg9 hc0 x0 x1 x2 x3 x4).1
    = fin7 (F := F) i arg3 arg4 arg7 (v5 arg2 harg2 x0) (v5 arg5 harg5 x3) (v5 arg6 harg6 x4) (harg3.unread x1) (harg4.unread x2) arg7.view.junk (S1A (F := F) c i arg2 harg2 arg3 harg3 arg4 harg4 arg5 harg5 arg6 harg6 arg7 harg7 arg8 harg8 arg9 harg9 x0 x1 x2 x3 x4).1.1 (S1A (F := F) c i arg2 harg2 arg3 harg3 arg4 harg4 arg5 harg5 arg6 harg6 arg7 harg7 arg8 harg8 arg9 harg9 x0 x1 x2 x3 x4).1.2 ((S1A (F := F) c i arg2 harg2 arg3 harg3 arg4 harg4 arg5 harg5 arg6 harg6 arg7 harg7 arg8 harg8 arg9 harg9 x0 x1 x2 x3 x4).2.1 ++ z7) := by
  have h := S2_eq (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))
  refine Eq.trans (b := fin7 (F := F) i arg3 arg4 arg7 (v5 arg2 harg2 x0) (v5 arg5 harg5 x3) (v5 arg6 harg6 x4) (harg3.unread x1) (harg4.unread x2) arg7.view.junk (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))).1.1 (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))).1.2 ((S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))).2.1 ++ ((S1A (F := F) c i arg2 harg2 arg3 harg3 arg4 harg4 arg5 harg5 arg6 harg6 arg7 harg7 arg8 harg8 arg9 harg9 x0 x1 x2 x3 x4).2.1 ++ z7))) ?_ ?_
  · clear h
    unfold kernelRun0_A
    rfl
  · rw [h]
    rfl

/-- Case A, result buffer 8. -/
theorem runA8 : (kernelRun0_A (F := F) c i arg2 harg2 arg3 harg3 arg4 harg4 arg5 harg5 arg6 harg6 arg7 harg7 arg8 harg8 arg9 harg9 hc0 x0 x1 x2 x3 x4).2.1
    = fin8 (F := F) i arg3 arg4 arg8 (v5 arg2 harg2 x0) (v5 arg5 harg5 x3) (v5 arg6 harg6 x4) (harg3.unread x1) (harg4.unread x2) arg8.view.junk (S1A (F := F) c i arg2 harg2 arg3 harg3 arg4 harg4 arg5 harg5 arg6 harg6 arg7 harg7 arg8 harg8 arg9 harg9 x0 x1 x2 x3 x4).1.1 (S1A (F := F) c i arg2 harg2 arg3 harg3 arg4 harg4 arg5 harg5 arg6 harg6 arg7 harg7 arg8 harg8 arg9 harg9 x0 x1 x2 x3 x4).1.2 ((S1A (F := F) c i arg2 harg2 arg3 harg3 arg4 harg4 arg5 harg5 arg6 harg6 arg7 harg7 arg8 harg8 arg9 harg9 x0 x1 x2 x3 x4).2.2.1 ++ z8) := by
  have h := S2_eq (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))
  refine Eq.trans (b := fin8 (F := F) i arg3 arg4 arg8 (v5 arg2 harg2 x0) (v5 arg5 harg5 x3) (v5 arg6 harg6 x4) (harg3.unread x1) (harg4.unread x2) arg8.view.junk (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))).1.1 (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))).1.2 ((S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))).2.2.1 ++ ((S1A (F := F) c i arg2 harg2 arg3 harg3 arg4 harg4 arg5 harg5 arg6 harg6 arg7 harg7 arg8 harg8 arg9 harg9 x0 x1 x2 x3 x4).2.2.1 ++ z8))) ?_ ?_
  · clear h
    unfold kernelRun0_A
    rfl
  · rw [h]
    rfl

/-- Case A, result buffer 9. -/
theorem runA9 : (kernelRun0_A (F := F) c i arg2 harg2 arg3 harg3 arg4 harg4 arg5 harg5 arg6 harg6 arg7 harg7 arg8 harg8 arg9 harg9 hc0 x0 x1 x2 x3 x4).2.2.1
    = fin9 (F := F) i arg3 arg9 (v5 arg2 harg2 x0) (v5 arg5 harg5 x3) (v5 arg6 harg6 x4) (harg3.unread x1) arg9.view.junk (S1A (F := F) c i arg2 harg2 arg3 harg3 arg4 harg4 arg5 harg5 arg6 harg6 arg7 harg7 arg8 harg8 arg9 harg9 x0 x1 x2 x3 x4).1.1 ((S1A (F := F) c i arg2 harg2 arg3 harg3 arg4 harg4 arg5 harg5 arg6 harg6 arg7 harg7 arg8 harg8 arg9 harg9 x0 x1 x2 x3 x4).2.2.2 ++ z9) := by
  have h := S2_eq (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))
  refine Eq.trans (b := fin9 (F := F) i arg3 arg9 (v5 arg2 harg2 x0) (v5 arg5 harg5 x3) (v5 arg6 harg6 x4) (harg3.unread x1) arg9.view.junk (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))).1.1 ((S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (arg8.view.writes (Elt F) arg8.view.junk z8) (arg9.view.writes (Elt F) arg9.view.junk z9) (arg7.view.writes (Elt F) arg7.view.junk ((S1A (F := F) c i arg2 harg2 arg3 harg3 arg4 harg4 arg5 harg5 arg6 harg6 arg7 harg7 arg8 harg8 arg9 harg9 x0 x1 x2 x3 x4).2.1 ++ z7)) (arg8.view.writes (Elt F) arg8.view.junk ((S1A (F := F) c i arg2 harg2 arg3 harg3 arg4 harg4 arg5 harg5 arg6 harg6 arg7 harg7 arg8 harg8 arg9 harg9 x0 x1 x2 x3 x4).2.2.1 ++ z8)) (arg9.view.writes (Elt F) arg9.view.junk ((S1A (F := F) c i arg2 harg2 arg3 harg3 arg4 harg4 arg5 harg5 arg6 harg6 arg7 harg7 arg8 harg8 arg9 harg9 x0 x1 x2 x3 x4).2.2.2 ++ z9))).2.2.2 ++ ((S1A (F := F) c i arg2 harg2 arg3 harg3 arg4 harg4 arg5 harg5 arg6 harg6 arg7 harg7 arg8 harg8 arg9 harg9 x0 x1 x2 x3 x4).2.2.2 ++ z9))) ?_ ?_
  · clear h
    unfold kernelRun0_A
    rfl
  · rw [h]
    rfl

end A

section B
variable (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole) (hc0 : ¬cond0_0 i)
    (x0 : Vec F S512x128 .f32) (x1 : Vec F S4096x128 .f32) (x2 : Vec F S4096x128 .f32) (x3 : Vec F S512x128 .f32) (x4 : Vec F S512x128 .f32) (xo6 : Vec F S4096x128 .f32) (xo7 : Vec F S4096x128 .f32)

/-- The loop's last state in case B. -/
abbrev S1B := S1 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7)

/-- Case B, result buffer 7. -/
theorem runB7 : (kernelRun0_B (F := F) c i arg2 harg2 arg3 harg3 arg4 harg4 arg5 harg5 arg6 harg6 arg7 harg7 arg8 harg8 arg9 harg9 hc0 x0 x1 x2 x3 x4 xo6 xo7).1
    = fin7 (F := F) i arg3 arg4 arg7 (v5 arg2 harg2 x0) (v5 arg5 harg5 x3) (v5 arg6 harg6 x4) (harg3.unread x1) (harg4.unread x2) arg7.view.junk (S1B (F := F) c i arg2 harg2 arg3 harg3 arg4 harg4 arg5 harg5 arg6 harg6 arg7 harg7 arg8 harg8 arg9 harg9 x0 x1 x2 x3 x4 xo6 xo7).1.1 (S1B (F := F) c i arg2 harg2 arg3 harg3 arg4 harg4 arg5 harg5 arg6 harg6 arg7 harg7 arg8 harg8 arg9 harg9 x0 x1 x2 x3 x4 xo6 xo7).1.2 ((S1B (F := F) c i arg2 harg2 arg3 harg3 arg4 harg4 arg5 harg5 arg6 harg6 arg7 harg7 arg8 harg8 arg9 harg9 x0 x1 x2 x3 x4 xo6 xo7).2.1 ++ z7) := by
  have h := S2_eq (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))
  refine Eq.trans (b := fin7 (F := F) i arg3 arg4 arg7 (v5 arg2 harg2 x0) (v5 arg5 harg5 x3) (v5 arg6 harg6 x4) (harg3.unread x1) (harg4.unread x2) arg7.view.junk (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))).1.1 (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))).1.2 ((S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))).2.1 ++ ((S1B (F := F) c i arg2 harg2 arg3 harg3 arg4 harg4 arg5 harg5 arg6 harg6 arg7 harg7 arg8 harg8 arg9 harg9 x0 x1 x2 x3 x4 xo6 xo7).2.1 ++ z7))) ?_ ?_
  · clear h
    unfold kernelRun0_B
    rfl
  · rw [h]
    rfl

/-- Case B, result buffer 8. -/
theorem runB8 : (kernelRun0_B (F := F) c i arg2 harg2 arg3 harg3 arg4 harg4 arg5 harg5 arg6 harg6 arg7 harg7 arg8 harg8 arg9 harg9 hc0 x0 x1 x2 x3 x4 xo6 xo7).2.1
    = fin8 (F := F) i arg3 arg4 arg8 (v5 arg2 harg2 x0) (v5 arg5 harg5 x3) (v5 arg6 harg6 x4) (harg3.unread x1) (harg4.unread x2) (harg8.unread xo6) (S1B (F := F) c i arg2 harg2 arg3 harg3 arg4 harg4 arg5 harg5 arg6 harg6 arg7 harg7 arg8 harg8 arg9 harg9 x0 x1 x2 x3 x4 xo6 xo7).1.1 (S1B (F := F) c i arg2 harg2 arg3 harg3 arg4 harg4 arg5 harg5 arg6 harg6 arg7 harg7 arg8 harg8 arg9 harg9 x0 x1 x2 x3 x4 xo6 xo7).1.2 ((S1B (F := F) c i arg2 harg2 arg3 harg3 arg4 harg4 arg5 harg5 arg6 harg6 arg7 harg7 arg8 harg8 arg9 harg9 x0 x1 x2 x3 x4 xo6 xo7).2.2.1) := by
  have h := S2_eq (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))
  refine Eq.trans (b := fin8 (F := F) i arg3 arg4 arg8 (v5 arg2 harg2 x0) (v5 arg5 harg5 x3) (v5 arg6 harg6 x4) (harg3.unread x1) (harg4.unread x2) (harg8.unread xo6) (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))).1.1 (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))).1.2 ((S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))).2.2.1 ++ (S1B (F := F) c i arg2 harg2 arg3 harg3 arg4 harg4 arg5 harg5 arg6 harg6 arg7 harg7 arg8 harg8 arg9 harg9 x0 x1 x2 x3 x4 xo6 xo7).2.2.1)) ?_ ?_
  · clear h
    unfold kernelRun0_B
    rfl
  · rw [h]
    rfl

/-- Case B, result buffer 9. -/
theorem runB9 : (kernelRun0_B (F := F) c i arg2 harg2 arg3 harg3 arg4 harg4 arg5 harg5 arg6 harg6 arg7 harg7 arg8 harg8 arg9 harg9 hc0 x0 x1 x2 x3 x4 xo6 xo7).2.2.1
    = fin9 (F := F) i arg3 arg9 (v5 arg2 harg2 x0) (v5 arg5 harg5 x3) (v5 arg6 harg6 x4) (harg3.unread x1) (harg9.unread xo7) (S1B (F := F) c i arg2 harg2 arg3 harg3 arg4 harg4 arg5 harg5 arg6 harg6 arg7 harg7 arg8 harg8 arg9 harg9 x0 x1 x2 x3 x4 xo6 xo7).1.1 ((S1B (F := F) c i arg2 harg2 arg3 harg3 arg4 harg4 arg5 harg5 arg6 harg6 arg7 harg7 arg8 harg8 arg9 harg9 x0 x1 x2 x3 x4 xo6 xo7).2.2.2) := by
  have h := S2_eq (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))
  refine Eq.trans (b := fin9 (F := F) i arg3 arg9 (v5 arg2 harg2 x0) (v5 arg5 harg5 x3) (v5 arg6 harg6 x4) (harg3.unread x1) (harg9.unread xo7) (S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))).1.1 ((S2 (F := F) c i arg2 harg2 arg3 harg3 arg4 harg4 arg5 harg5 arg6 harg6 arg7 harg7 arg8 harg8 arg9 harg9 (v5 arg2 harg2 x0) (v5 arg5 harg5 x3) (v5 arg6 harg6 x4) (harg3.unread x1) (harg4.unread x2) (arg7.view.writes (Elt F) arg7.view.junk z7) (harg8.unread xo6) (harg9.unread xo7) (arg7.view.writes (Elt F) arg7.view.junk ((S1B (F := F) c i arg2 harg2 arg3 harg3 arg4 harg4 arg5 harg5 arg6 harg6 arg7 harg7 arg8 harg8 arg9 harg9 x0 x1 x2 x3 x4 xo6 xo7).2.1 ++ z7)) (arg8.view.writes (Elt F) (harg8.unread xo6) ((S1B (F := F) c i arg2 harg2 arg3 harg3 arg4 harg4 arg5 harg5 arg6 harg6 arg7 harg7 arg8 harg8 arg9 harg9 x0 x1 x2 x3 x4 xo6 xo7).2.2.1)) (arg9.view.writes (Elt F) (harg9.unread xo7) ((S1B (F := F) c i arg2 harg2 arg3 harg3 arg4 harg4 arg5 harg5 arg6 harg6 arg7 harg7 arg8 harg8 arg9 harg9 x0 x1 x2 x3 x4 xo6 xo7).2.2.2))).2.2.2 ++ (S1B (F := F) c i arg2 harg2 arg3 harg3 arg4 harg4 arg5 harg5 arg6 harg6 arg7 harg7 arg8 harg8 arg9 harg9 x0 x1 x2 x3 x4 xo6 xo7).2.2.2)) ?_ ?_
  · clear h
    unfold kernelRun0_B
    rfl
  · rw [h]
    rfl

end B

end Cert.KernelIdeal.Step
-- ==== Proof.Loop.lean ====
module
public import proofs.«01_k».proof.Proof.Spec
public import proofs.«01_k».proof.Proof.CaseOut
public import Idealize.ShloMosaic.Lib.WritesUnit

@[expose] public section

/-! The kernel's loop over the key blocks, and the diagonal step after it, over real numbers: what they leave in the
buffers of the three gradients. -/

set_option maxRecDepth 16384

noncomputable section

namespace Cert.KernelIdeal.Step

open Idealize.ShloMosaic Idealize.ShloMosaic.TcCoe
open Cert.KernelIdeal Cert.KernelIdeal.Gen
open Finset (range)

/-- The loop runs over the key blocks left of the query block. -/
theorem trips_eq : ∀ i : grid0.Coords, (k0_t1_loop i).trips = (i 1).val := by decide +kernel

section Rows
variable {κ : Kind} {sp : Space} (v : View sig κ sp S4096x128 .f32) {f : v.ty.Contents (Elt Ideal)} {o : ℕ → ℕ → ℝ}

/-- A load of 512 rows of a buffer that holds `o`. -/
theorem readAt_rows (n : ℕ) {off : Fin 2 → ℕ} {inb} (ho : off = ![n, 0]) (hf : v.read (Elt Ideal) f = up o) :
    View.readAt (Elt Ideal) v (Rect.unit (s := S4096x128) off S512x128.size inb).toLoadRect f = up fun r y => o (n + r) y := by
  subst ho
  rw [View.readAt_eq_ld, hf]
  funext x
  show ((o (n + 1 * (x 0).val) (0 + 1 * (x 1).val) : ℝ) : EReal) = _
  rw [one_mul, one_mul, Nat.zero_add]
  rfl

/-- A store of 512 rows `p` over a buffer that holds `o`. -/
theorem read_rows (n : ℕ) {off : Fin 2 → ℕ} {inb} (ho : off = ![n, 0]) (L : List (View.Piece (Elt Ideal) S4096x128 .f32))
    (hf : v.read (Elt Ideal) (v.writes (Elt Ideal) f L) = up o) (p : ℕ → ℕ → ℝ) (w : Vec Ideal S512x128 .f32) (hw : w = up p) :
    v.read (Elt Ideal) (v.writes (Elt Ideal) f (⟨Rect.unit (s := S4096x128) off S512x128.size inb, w⟩ :: L))
      = up fun s d => if n ≤ s ∧ s < n + 512 then p (s - n) d else o s d := by
  funext y
  unfold up
  beta_reduce
  by_cases h : n ≤ (y 0).val ∧ (y 0).val < n + 512
  · rw [if_pos h]
    have := View.read_writes_cons_rows_of_mem (Val := Elt Ideal) v f inb w L y (fun a => ⟨![(y 0).val - n, (y 1).val] a, by
      have h1 : (y 1).val < 128 := (y 1).isLt
      match a with
      | 0 => show (y 0).val - n < 512; omega
      | 1 => exact h1⟩) ho (by show (y 0).val = n + ((y 0).val - n); omega) rfl
    rw [this, hw]
    rfl
  · rw [if_neg h, View.read_writes_cons_rows_of_not_mem (Val := Elt Ideal) (W := 512) v f inb w L y ho rfl (by omega), hf]
    rfl
end Rows

section Whole
variable {κ : Kind} {sp : Space} (v : View sig κ sp S512x128 .f32) {f : v.ty.Contents (Elt Ideal)}

/-- A load of a whole block. -/
theorem readAt_whole : View.readAt (Elt Ideal) v whole.toLoadRect f = v.read (Elt Ideal) f := by
  rw [View.readAt_eq_ld]
  exact View.ld_unit_zero (S := S512x128) (funext fun a => by fin_cases a <;> rfl) _ _

/-- A store of a whole block. -/
theorem read_whole (w : Vec Ideal S512x128 .f32) (L : List (View.Piece (Elt Ideal) S512x128 .f32)) :
    v.read (Elt Ideal) (v.writes (Elt Ideal) f (⟨whole, w⟩ :: L)) = w := by
  funext y
  exact View.read_writes_cons_rows_of_mem (Val := Elt Ideal) (o := 0) v f inb_S512x128_S512x128_0_0 w L y y rfl (Nat.zero_add _).symm rfl
end Whole

/-- One more row block of a sum over queries. -/
theorem rows_next (g : ℕ → ℕ → ℕ → ℝ) (T n : ℕ) :
    (up (a := 4096) (b := 128) fun s d => if 512 * n ≤ s ∧ s < 512 * n + 512
        then (∑ t ∈ range (if 512 * n + (s - 512 * n) < 512 * n then T + 512 else T), g t (512 * n + (s - 512 * n)) d) + ∑ t ∈ range 512, g (T + t) (512 * n + (s - 512 * n)) d
        else ∑ t ∈ range (if s < 512 * n then T + 512 else T), g t s d)
      = up fun s d => ∑ t ∈ range (if s < 512 * (n + 1) then T + 512 else T), g t s d := by
  refine up_congr fun s d _ _ => ?_
  by_cases h : 512 * n ≤ s ∧ s < 512 * n + 512
  · rw [if_pos h, if_neg (by omega), if_pos (by omega), show 512 * n + (s - 512 * n) = s by omega]
    exact sum_shift (fun t => g t s d) T 512
  · rw [if_neg h]
    by_cases h' : s < 512 * n
    · rw [if_pos h', if_pos (by omega)]
    · rw [if_neg h', if_neg (by omega)]

/-- A store of the next row block, with this query block's terms added. -/
theorem rows_add {κ : Kind} {sp : Space} (v : View sig κ sp S4096x128 .f32) {f : v.ty.Contents (Elt Ideal)} (g : ℕ → ℕ → ℕ → ℝ) (T n : ℕ)
    {off : Fin 2 → ℕ} {inb} (ho : off = ![512 * n, 0]) (L : List (View.Piece (Elt Ideal) S4096x128 .f32))
    (hf : v.read (Elt Ideal) (v.writes (Elt Ideal) f L) = up fun s d => ∑ t ∈ range (if s < 512 * n then T + 512 else T), g t s d)
    (w : Vec Ideal S512x128 .f32)
    (hw : w = up fun s d => (∑ t ∈ range (if 512 * n + s < 512 * n then T + 512 else T), g t (512 * n + s) d) + ∑ t ∈ range 512, g (T + t) (512 * n + s) d) :
    v.read (Elt Ideal) (v.writes (Elt Ideal) f (⟨Rect.unit (s := S4096x128) off S512x128.size inb, w⟩ :: L))
      = up fun s d => ∑ t ∈ range (if s < 512 * (n + 1) then T + 512 else T), g t s d :=
  (read_rows v (512 * n) ho L hf _ w hw).trans (rows_next g T n)

theorem pay105_up : (k0_pay105 : FVec Ideal S512x1 .f32) = up fun _ _ => 0 := by
  funext i
  simp [k0_pay105, up, broadcast, Scalar.ofBits, FloatOps.ofBits, Ideal.ofBits, Ideal.ieee]

section Loop
variable (A : Head) (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole)
  {v5 v7 v9 : Vec Ideal S512x128 .f32} {X3 : BufTy.Contents (Elt Ideal) arg3.view.ty} {X4 : BufTy.Contents (Elt Ideal) arg4.view.ty}
  {f7 : BufTy.Contents (Elt Ideal) arg7.view.ty} {f8 : BufTy.Contents (Elt Ideal) arg8.view.ty} {f9 : BufTy.Contents (Elt Ideal) arg9.view.ty}

/-- The state before key block `n`: the running sums of the rows over the keys before it, the partial gradient of the
queries, and the gradients of the keys and of the values with this query block added on the rows before it. -/
def Inv (f7 : BufTy.Contents (Elt Ideal) arg7.view.ty) (f8 : BufTy.Contents (Elt Ideal) arg8.view.ty) (f9 : BufTy.Contents (Elt Ideal) arg9.view.ty)
    (T n : ℕ) (st : (V1 Ideal × V1 Ideal) × List (View.Piece (Elt Ideal) S512x128 .f32) × List (View.Piece (Elt Ideal) S4096x128 .f32) × List (View.Piece (Elt Ideal) S4096x128 .f32)) : Prop :=
  st.1.1 = (up fun r _ => ∑ s ∈ range (512 * n), A.lk (T + r) s)
  ∧ st.1.2 = (up fun r _ => ∑ s ∈ range (512 * n), A.e (T + r) s)
  ∧ arg7.view.read (Elt Ideal) (arg7.view.writes (Elt Ideal) f7 st.2.1) = (up fun r d => ∑ s ∈ range (512 * n), A.dz (T + r) s * A.k s d)
  ∧ arg8.view.read (Elt Ideal) (arg8.view.writes (Elt Ideal) f8 st.2.2.1) = (up fun s d => ∑ t ∈ range (if s < 512 * n then T + 512 else T), A.dz t s * A.q t d)
  ∧ arg9.view.read (Elt Ideal) (arg9.view.writes (Elt Ideal) f9 st.2.2.2) = (up fun s d => ∑ t ∈ range (if s < 512 * n then T + 512 else T), A.w t s * A.d t d)

variable {T : ℕ} (hT : T = 512 * (i 1).val)
  (h5 : v5 = up fun r y => A.q (T + r) y) (h7 : v7 = up fun r y => A.d (T + r) y) (h9 : v9 = up fun r _ => A.total (T + r))
  (hX3 : arg3.view.read (Elt Ideal) X3 = up A.k) (hX4 : arg4.view.read (Elt Ideal) X4 = up A.v)
  (h0 : arg7.view.read (Elt Ideal) f7 = up fun _ _ => 0)
  (h8 : arg8.view.read (Elt Ideal) f8 = up fun s d => ∑ t ∈ range T, A.dz t s * A.q t d)
  (h9' : arg9.view.read (Elt Ideal) f9 = up fun s d => ∑ t ∈ range T, A.w t s * A.d t d)

include hT h5 h7 h9 hX3 hX4 in
theorem inv_step (k : Fin (k0_t1_loop i).trips)
    (h : Inv A arg7 arg8 arg9 f7 f8 f9 T k.val (st_k0_t1 (F := Ideal) Variants.none c none i arg2 harg2 arg3 harg3 arg4 harg4 arg5 harg5 arg6 harg6 arg7 harg7 arg8 harg8 arg9 harg9 v5 v7 v9 X3 X4 f7 f8 f9 (k0_pay105, k0_pay105) k.val)) :
    Inv A arg7 arg8 arg9 f7 f8 f9 T (k.val + 1) (st_k0_t1 (F := Ideal) Variants.none c none i arg2 harg2 arg3 harg3 arg4 harg4 arg5 harg5 arg6 harg6 arg7 harg7 arg8 harg8 arg9 harg9 v5 v7 v9 X3 X4 f7 f8 f9 (k0_pay105, k0_pay105) (k.val + 1)) := by
  have hk : k.val < (i 1).val := lt_of_lt_of_eq k.isLt (trips_eq i)
  rw [st_k0_t1_succ]
  generalize st_k0_t1 (F := Ideal) Variants.none c none i arg2 harg2 arg3 harg3 arg4 harg4 arg5 harg5 arg6 harg6 arg7 harg7 arg8 harg8 arg9 harg9 v5 v7 v9 X3 X4 f7 f8 f9 (k0_pay105, k0_pay105) k.val = st at h ⊢
  obtain ⟨hc, he, i7, i8, i9⟩ := h
  have hK : View.readAt (Elt Ideal) arg3.view (rows i k).toLoadRect X3 = (up fun r y => A.k (512 * k.val + r) y) := readAt_rows arg3.view (512 * k.val) (k0_off1_eq i k) hX3
  have hV : View.readAt (Elt Ideal) arg4.view (rows i k).toLoadRect X4 = (up fun r y => A.v (512 * k.val + r) y) := readAt_rows arg4.view (512 * k.val) (k0_off1_eq i k) hX4
  obtain ⟨o1, o2, o3, o4⟩ := off_diag A T (512 * k.val) h5 hK hV h7 ((tot_eq v9).trans h9) hc he (by omega)
  rw [tripR_eq, tripL_eq]
  refine ⟨o1, o2, ?_, ?_, ?_⟩
  · refine (read_whole arg7.view _ _).trans ?_
    rw [readAt_whole, i7, o4, hK, addNN_up]
    exact up_congr fun r d _ _ => sum_shift (fun s => A.dz (T + r) s * A.k s d) _ _
  · refine rows_add arg8.view (fun t s d => A.dz t s * A.q t d) T k.val (k0_off1_eq i k) _ i8 _ ?_
    rw [readAt_rows arg8.view (512 * k.val) (k0_off1_eq i k) i8, o4, h5, addTN_up]
  · refine rows_add arg9.view (fun t s d => A.w t s * A.d t d) T k.val (k0_off1_eq i k) _ i9 _ ?_
    rw [readAt_rows arg9.view (512 * k.val) (k0_off1_eq i k) i9, o3, h7, addTN_up]

include hT h5 h7 h9 hX3 hX4 h0 h8 h9' in
/-- The state after the loop. -/
theorem inv_loop : Inv A arg7 arg8 arg9 f7 f8 f9 T (i 1).val (S1 (F := Ideal) c i arg2 harg2 arg3 harg3 arg4 harg4 arg5 harg5 arg6 harg6 arg7 harg7 arg8 harg8 arg9 harg9 v5 v7 v9 X3 X4 f7 f8 f9) := by
  have key : ∀ n, n ≤ (k0_t1_loop i).trips → Inv A arg7 arg8 arg9 f7 f8 f9 T n (st_k0_t1 (F := Ideal) Variants.none c none i arg2 harg2 arg3 harg3 arg4 harg4 arg5 harg5 arg6 harg6 arg7 harg7 arg8 harg8 arg9 harg9 v5 v7 v9 X3 X4 f7 f8 f9 (k0_pay105, k0_pay105) n) := by
    intro n
    induction n with
    | zero =>
      intro _
      refine ⟨?_, ?_, ?_, ?_, ?_⟩
      · exact pay105_up.trans (up_congr fun _ _ _ _ => by simp)
      · exact pay105_up.trans (up_congr fun _ _ _ _ => by simp)
      · exact h0.trans (up_congr fun _ _ _ _ => by simp)
      · exact h8.trans (up_congr fun _ _ _ _ => by simp)
      · exact h9'.trans (up_congr fun _ _ _ _ => by simp)
    | succ n ih =>
      intro hn
      exact inv_step A c i arg2 harg2 arg3 harg3 arg4 harg4 arg5 harg5 arg6 harg6 arg7 harg7 arg8 harg8 arg9 harg9 hT h5 h7 h9 hX3 hX4 ⟨n, hn⟩ (ih (Nat.le_of_succ_le hn))
  have := key _ le_rfl
  rw [trips_eq] at this
  unfold S1
  rw [trips_eq]
  exact this

variable {L7 : List (View.Piece (Elt Ideal) S512x128 .f32)} {L8 L9 : List (View.Piece (Elt Ideal) S4096x128 .f32)} {cp ce : V1 Ideal}
  (hinv : Inv A arg7 arg8 arg9 f7 f8 f9 T (i 1).val ((cp, ce), L7, L8, L9))

theorem dz_zero {t s : ℕ} (h : t ≤ s) : A.dz t s = 0 := if_neg (by omega)
theorem w_zero {t s : ℕ} (h : t ≤ s) : A.w t s = 0 := if_neg (by omega)

/-- The rows of a sum over queries after the diagonal step: every row has the sum up to this query block's end. -/
theorem rows_last (g : ℕ → ℕ → ℕ → ℝ) (hg : ∀ t s d, t ≤ s → g t s d = 0) (n : ℕ) :
    (up (a := 4096) (b := 128) fun s d => ∑ t ∈ range (if s < 512 * (n + 1) then 512 * n + 512 else 512 * n), g t s d)
      = up fun s d => ∑ t ∈ range (512 * n + 512), g t s d := by
  refine up_congr fun s d _ _ => ?_
  by_cases h : s < 512 * (n + 1)
  · rw [if_pos h]
  · rw [if_neg h]
    refine Finset.sum_subset (fun t ht => by simp only [Finset.mem_range] at *; omega) fun t ht _ => hg t s d ?_
    simp only [Finset.mem_range] at ht
    omega

include hT h5 h7 h9 hX3 hX4 hinv in
/-- What the diagonal step leaves: the gradient of the query block, and those of the keys and values summed up to this
query block's end. -/
theorem last_val :
    arg7.view.read (Elt Ideal) (arg7.view.writes (Elt Ideal) f7 (fin7 (F := Ideal) i arg3 arg4 arg7 v5 v7 v9 X3 X4 f7 cp ce L7)) = (up fun r d => ∑ s ∈ range (T + 512), A.dz (T + r) s * A.k s d)
    ∧ arg8.view.read (Elt Ideal) (arg8.view.writes (Elt Ideal) f8 (fin8 (F := Ideal) i arg3 arg4 arg8 v5 v7 v9 X3 X4 f8 cp ce L8)) = (up fun s d => ∑ t ∈ range (T + 512), A.dz t s * A.q t d)
    ∧ arg9.view.read (Elt Ideal) (arg9.view.writes (Elt Ideal) f9 (fin9 (F := Ideal) i arg3 arg9 v5 v7 v9 X3 f9 cp L9)) = (up fun s d => ∑ t ∈ range (T + 512), A.w t s * A.d t d) := by
  obtain ⟨hc, he, i7, i8, i9⟩ := hinv
  have hK : View.readAt (Elt Ideal) arg3.view (rowsD i).toLoadRect X3 = (up fun r y => A.k (512 * (i 1).val + r) y) := readAt_rows arg3.view (512 * (i 1).val) (k0_off3_eq i) hX3
  have hV : View.readAt (Elt Ideal) arg4.view (rowsD i).toLoadRect X4 = (up fun r y => A.v (512 * (i 1).val + r) y) := readAt_rows arg4.view (512 * (i 1).val) (k0_off3_eq i) hX4
  obtain ⟨o3, o4⟩ := on_diag A T (512 * (i 1).val) h5 hK hV h7 ((tot_eq v9).trans h9) hc he hT.symm
  refine ⟨?_, ?_, ?_⟩
  · unfold fin7
    refine (read_whole arg7.view _ _).trans ?_
    rw [readAt_whole, i7, o4, hK, addNN_up]
    refine up_congr fun r d _ _ => ?_
    rw [hT]
    exact sum_shift (fun s => A.dz (512 * (i 1).val + r) s * A.k s d) _ _
  · unfold fin8
    refine (rows_add arg8.view (fun t s d => A.dz t s * A.q t d) T (i 1).val (k0_off3_eq i) _ i8 _ ?_).trans ?_
    · rw [readAt_rows arg8.view (512 * (i 1).val) (k0_off3_eq i) i8, o4, h5, addTN_up]
    · rw [hT]
      exact rows_last (fun t s d => A.dz t s * A.q t d) (fun t s d h => by show A.dz t s * _ = 0; rw [dz_zero A h, zero_mul]) _
  · unfold fin9
    refine (rows_add arg9.view (fun t s d => A.w t s * A.d t d) T (i 1).val (k0_off3_eq i) _ i9 _ ?_).trans ?_
    · rw [readAt_rows arg9.view (512 * (i 1).val) (k0_off3_eq i) i9, o3, h7, addTN_up]
    · rw [hT]
      exact rows_last (fun t s d => A.w t s * A.d t d) (fun t s d h => by show A.w t s * _ = 0; rw [w_zero A h, zero_mul]) _

end Loop

end Cert.KernelIdeal.Step
-- ==== Proof.Point.lean ====
module
public import proofs.«01_k».proof.Proof.Loop

@[expose] public section

/-! What one grid point leaves in the buffers of the three gradients, over real numbers. -/

set_option maxRecDepth 16384

noncomputable section

namespace Cert.KernelIdeal.Step

open Idealize.ShloMosaic Idealize.ShloMosaic.TcCoe
open Cert.KernelIdeal Cert.KernelIdeal.Gen
open Finset (range)

theorem pay99_up : (k0_pay99 : FVec Ideal S512x128 .f32) = up fun _ _ => 0 := by
  funext i
  simp [k0_pay99, up, broadcast, Scalar.ofBits, FloatOps.ofBits, Ideal.ofBits, Ideal.ieee]
theorem pay97_up : (k0_pay97 : FVec Ideal S4096x128 .f32) = up fun _ _ => 0 := by
  funext i
  simp [k0_pay97, up, broadcast, Scalar.ofBits, FloatOps.ofBits, Ideal.ofBits, Ideal.ieee]
theorem pay98_up : (k0_pay98 : FVec Ideal S4096x128 .f32) = up fun _ _ => 0 := by
  funext i
  simp [k0_pay98, up, broadcast, Scalar.ofBits, FloatOps.ofBits, Ideal.ofBits, Ideal.ieee]

/-- A store of a whole head. -/
theorem read_wholeK {κ : Kind} {sp : Space} (v : View sig κ sp S4096x128 .f32) {f : v.ty.Contents (Elt Ideal)} (w : Vec Ideal S4096x128 .f32)
    (L : List (View.Piece (Elt Ideal) S4096x128 .f32)) : v.read (Elt Ideal) (v.writes (Elt Ideal) f (⟨wholeK, w⟩ :: L)) = w := by
  funext y
  exact View.read_writes_cons_rows_of_mem (Val := Elt Ideal) (o := 0) v f inb_S4096x128_S4096x128_0_0 w L y y rfl (Nat.zero_add _).symm rfl

theorem v5_eq (a : Memref sig .tc .vmem S512x128 .f32) (h : a.IsWhole) (x : Vec Ideal S512x128 .f32) : v5 (F := Ideal) a h x = x :=
  (readAt_whole a.view).trans (h.read_unread x)

section
variable (A : Head) (c : Dev nD) (i : grid0.Coords) (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x128 .f32) (harg8 : arg8.IsWhole) (arg9 : Memref sig .tc .vmem S4096x128 .f32) (harg9 : arg9.IsWhole)
  {x0 x3 x4 : Vec Ideal S512x128 .f32} {x1 x2 : Vec Ideal S4096x128 .f32} {T : ℕ} (hT : T = 512 * (i 1).val)
  (h0 : x0 = up fun r y => A.q (T + r) y) (h1 : x1 = up A.k) (h2 : x2 = up A.v) (h3 : x3 = up fun r y => A.d (T + r) y)
  (h4 : x4 = up fun r _ => A.total (T + r))

include hT h0 h1 h2 h3 h4

/-- A head's first query block: the gradients of the keys and the values start here. -/
theorem outA (hc0 : cond0_0 i) (hz : T = 0) :
    out0_A_5 (F := Ideal) c i arg2 harg2 arg3 harg3 arg4 harg4 arg5 harg5 arg6 harg6 arg7 harg7 arg8 harg8 arg9 harg9 hc0 x0 x1 x2 x3 x4 = (up fun r d => ∑ s ∈ range (T + 512), A.dz (T + r) s * A.k s d)
    ∧ out0_A_6 (F := Ideal) c i arg2 harg2 arg3 harg3 arg4 harg4 arg5 harg5 arg6 harg6 arg7 harg7 arg8 harg8 arg9 harg9 hc0 x0 x1 x2 x3 x4 = (up fun s d => ∑ t ∈ range (T + 512), A.dz t s * A.q t d)
    ∧ out0_A_7 (F := Ideal) c i arg2 harg2 arg3 harg3 arg4 harg4 arg5 harg5 arg6 harg6 arg7 harg7 arg8 harg8 arg9 harg9 hc0 x0 x1 x2 x3 x4 = (up fun s d => ∑ t ∈ range (T + 512), A.w t s * A.d t d) := by
  have hi := inv_loop A c i arg2 harg2 arg3 harg3 arg4 harg4 arg5 harg5 arg6 harg6 arg7 harg7 arg8 harg8 arg9 harg9 (v5 := v5 (F := Ideal) arg2 harg2 x0) (v7 := v5 (F := Ideal) arg5 harg5 x3) (v9 := v5 (F := Ideal) arg6 harg6 x4)
    (X3 := harg3.unread x1) (X4 := harg4.unread x2) (f7 := arg7.view.writes (Elt Ideal) arg7.view.junk z7)
    (f8 := arg8.view.writes (Elt Ideal) arg8.view.junk z8) (f9 := arg9.view.writes (Elt Ideal) arg9.view.junk z9) hT
    ((v5_eq _ _ _).trans h0) ((v5_eq _ _ _).trans h3) ((v5_eq _ _ _).trans h4) ((harg3.read_unread _).trans h1) ((harg4.read_unread _).trans h2)
    ((read_whole _ _ _).trans pay99_up)
    ((read_wholeK _ _ _).trans (pay97_up.trans (up_congr fun _ _ _ _ => by rw [hz]; simp)))
    ((read_wholeK _ _ _).trans (pay98_up.trans (up_congr fun _ _ _ _ => by rw [hz]; simp)))
  have hl := last_val A i arg3 arg4 arg7 arg8 arg9 (v5 := v5 (F := Ideal) arg2 harg2 x0) (v7 := v5 (F := Ideal) arg5 harg5 x3) (v9 := v5 (F := Ideal) arg6 harg6 x4)
    (X3 := harg3.unread x1) (X4 := harg4.unread x2) (f7 := arg7.view.junk) (f8 := arg8.view.junk) (f9 := arg9.view.junk)
    (L7 := (S1A (F := Ideal) c i arg2 harg2 arg3 harg3 arg4 harg4 arg5 harg5 arg6 harg6 arg7 harg7 arg8 harg8 arg9 harg9 x0 x1 x2 x3 x4).2.1 ++ z7) (L8 := (S1A (F := Ideal) c i arg2 harg2 arg3 harg3 arg4 harg4 arg5 harg5 arg6 harg6 arg7 harg7 arg8 harg8 arg9 harg9 x0 x1 x2 x3 x4).2.2.1 ++ z8)
    (L9 := (S1A (F := Ideal) c i arg2 harg2 arg3 harg3 arg4 harg4 arg5 harg5 arg6 harg6 arg7 harg7 arg8 harg8 arg9 harg9 x0 x1 x2 x3 x4).2.2.2 ++ z9) (cp := (S1A (F := Ideal) c i arg2 harg2 arg3 harg3 arg4 harg4 arg5 harg5 arg6 harg6 arg7 harg7 arg8 harg8 arg9 harg9 x0 x1 x2 x3 x4).1.1) (ce := (S1A (F := Ideal) c i arg2 harg2 arg3 harg3 arg4 harg4 arg5 harg5 arg6 harg6 arg7 harg7 arg8 harg8 arg9 harg9 x0 x1 x2 x3 x4).1.2) hT
    ((v5_eq _ _ _).trans h0) ((v5_eq _ _ _).trans h3) ((v5_eq _ _ _).trans h4) ((harg3.read_unread _).trans h1) ((harg4.read_unread _).trans h2)
    ⟨hi.1, hi.2.1, (congrArg _ (View.writes_append _ _ _ _)).trans hi.2.2.1, (congrArg _ (View.writes_append _ _ _ _)).trans hi.2.2.2.1, (congrArg _ (View.writes_append _ _ _ _)).trans hi.2.2.2.2⟩
  refine ⟨?_, ?_, ?_⟩
  · unfold out0_A_5
    rw [View.read_writes_of_cover _ _ arg7.view arg7.view.junk _ (cover0_A_5 c i arg2 harg2 arg3 harg3 arg4 harg4 arg5 harg5 arg6 harg6 arg7 harg7 arg8 harg8 arg9 harg9 hc0 x0 x1 x2 x3 x4), runA7]
    exact hl.1
  · unfold out0_A_6
    rw [View.read_writes_of_cover _ _ arg8.view arg8.view.junk _ (cover0_A_6 c i arg2 harg2 arg3 harg3 arg4 harg4 arg5 harg5 arg6 harg6 arg7 harg7 arg8 harg8 arg9 harg9 hc0 x0 x1 x2 x3 x4), runA8]
    exact hl.2.1
  · unfold out0_A_7
    rw [View.read_writes_of_cover _ _ arg9.view arg9.view.junk _ (cover0_A_7 c i arg2 harg2 arg3 harg3 arg4 harg4 arg5 harg5 arg6 harg6 arg7 harg7 arg8 harg8 arg9 harg9 hc0 x0 x1 x2 x3 x4), runA9]
    exact hl.2.2

/-- A later query block: over what the blocks before it left. -/
theorem outB (hc0 : ¬cond0_0 i) {xo6 xo7 : Vec Ideal S4096x128 .f32}
    (h6 : xo6 = up fun s d => ∑ t ∈ range T, A.dz t s * A.q t d) (h7 : xo7 = up fun s d => ∑ t ∈ range T, A.w t s * A.d t d) :
    out0_B_5 (F := Ideal) c i arg2 harg2 arg3 harg3 arg4 harg4 arg5 harg5 arg6 harg6 arg7 harg7 arg8 harg8 arg9 harg9 hc0 x0 x1 x2 x3 x4 xo6 xo7 = (up fun r d => ∑ s ∈ range (T + 512), A.dz (T + r) s * A.k s d)
    ∧ out0_B_6 (F := Ideal) c i arg2 harg2 arg3 harg3 arg4 harg4 arg5 harg5 arg6 harg6 arg7 harg7 arg8 harg8 arg9 harg9 hc0 x0 x1 x2 x3 x4 xo6 xo7 = (up fun s d => ∑ t ∈ range (T + 512), A.dz t s * A.q t d)
    ∧ out0_B_7 (F := Ideal) c i arg2 harg2 arg3 harg3 arg4 harg4 arg5 harg5 arg6 harg6 arg7 harg7 arg8 harg8 arg9 harg9 hc0 x0 x1 x2 x3 x4 xo6 xo7 = (up fun s d => ∑ t ∈ range (T + 512), A.w t s * A.d t d) := by
  have hi := inv_loop A c i arg2 harg2 arg3 harg3 arg4 harg4 arg5 harg5 arg6 harg6 arg7 harg7 arg8 harg8 arg9 harg9 (v5 := v5 (F := Ideal) arg2 harg2 x0) (v7 := v5 (F := Ideal) arg5 harg5 x3) (v9 := v5 (F := Ideal) arg6 harg6 x4)
    (X3 := harg3.unread x1) (X4 := harg4.unread x2) (f7 := arg7.view.writes (Elt Ideal) arg7.view.junk z7)
    (f8 := harg8.unread xo6) (f9 := harg9.unread xo7) hT
    ((v5_eq _ _ _).trans h0) ((v5_eq _ _ _).trans h3) ((v5_eq _ _ _).trans h4) ((harg3.read_unread _).trans h1) ((harg4.read_unread _).trans h2)
    ((read_whole _ _ _).trans pay99_up) ((harg8.read_unread _).trans h6) ((harg9.read_unread _).trans h7)
  have hl := last_val A i arg3 arg4 arg7 arg8 arg9 (v5 := v5 (F := Ideal) arg2 harg2 x0) (v7 := v5 (F := Ideal) arg5 harg5 x3) (v9 := v5 (F := Ideal) arg6 harg6 x4)
    (X3 := harg3.unread x1) (X4 := harg4.unread x2) (f7 := arg7.view.junk) (f8 := harg8.unread xo6) (f9 := harg9.unread xo7)
    (L7 := (S1B (F := Ideal) c i arg2 harg2 arg3 harg3 arg4 harg4 arg5 harg5 arg6 harg6 arg7 harg7 arg8 harg8 arg9 harg9 x0 x1 x2 x3 x4 xo6 xo7).2.1 ++ z7) (L8 := (S1B (F := Ideal) c i arg2 harg2 arg3 harg3 arg4 harg4 arg5 harg5 arg6 harg6 arg7 harg7 arg8 harg8 arg9 harg9 x0 x1 x2 x3 x4 xo6 xo7).2.2.1)
    (L9 := (S1B (F := Ideal) c i arg2 harg2 arg3 harg3 arg4 harg4 arg5 harg5 arg6 harg6 arg7 harg7 arg8 harg8 arg9 harg9 x0 x1 x2 x3 x4 xo6 xo7).2.2.2) (cp := (S1B (F := Ideal) c i arg2 harg2 arg3 harg3 arg4 harg4 arg5 harg5 arg6 harg6 arg7 harg7 arg8 harg8 arg9 harg9 x0 x1 x2 x3 x4 xo6 xo7).1.1) (ce := (S1B (F := Ideal) c i arg2 harg2 arg3 harg3 arg4 harg4 arg5 harg5 arg6 harg6 arg7 harg7 arg8 harg8 arg9 harg9 x0 x1 x2 x3 x4 xo6 xo7).1.2) hT
    ((v5_eq _ _ _).trans h0) ((v5_eq _ _ _).trans h3) ((v5_eq _ _ _).trans h4) ((harg3.read_unread _).trans h1) ((harg4.read_unread _).trans h2)
    ⟨hi.1, hi.2.1, (congrArg _ (View.writes_append _ _ _ _)).trans hi.2.2.1, hi.2.2.2.1, hi.2.2.2.2⟩
  refine ⟨?_, ?_, ?_⟩
  · unfold out0_B_5
    rw [View.read_writes_of_cover _ _ arg7.view arg7.view.junk _ (cover0_B_5 c i arg2 harg2 arg3 harg3 arg4 harg4 arg5 harg5 arg6 harg6 arg7 harg7 arg8 harg8 arg9 harg9 hc0 x0 x1 x2 x3 x4 xo6 xo7), runB7]
    exact hl.1
  · unfold out0_B_6
    rw [runB8]
    exact hl.2.1
  · unfold out0_B_7
    rw [runB9]
    exact hl.2.2
end

end Cert.KernelIdeal.Step
-- ==== Proof.Grid.lean ====
module
public import proofs.«01_k».proof.Proof.Blocks
public import proofs.«01_k».proof.Proof.Point

@[expose] public section

/-! The kernel's result arrays: what each grid point leaves, by induction over the points of a head, and the arrays the
blocks make up. -/

set_option maxRecDepth 16384

noncomputable section

namespace Cert.KernelIdeal.Step

open Cert.KernelIdeal Cert.KernelIdeal.Gen Idealize.ShloMosaic Idealize.ShloMosaic.TcCoe
open Finset (range)

variable (m : (ℓ : Loc nD τ sig) → Buf (Elt Ideal) ℓ) (c : Dev nD)
  (H : Fin2 (m ((c : Thread nD τ).loc main_arg0)) (m ((c : Thread nD τ).loc main_arg1)))

/-- What point `n` leaves in the three output blocks. -/
def After (n : ℕ) (o : Vec Ideal S512x128 .f32 × Vec Ideal S4096x128 .f32 × Vec Ideal S4096x128 .f32) : Prop :=
  (o.1 = (up fun r d => ∑ s ∈ range (512 * (n % 8) + 512), (hA m c (n / 8)).dz (512 * (n % 8) + r) s * (hA m c (n / 8)).k s d))
  ∧ (o.2.1 = (up fun s d => ∑ t ∈ range (512 * (n % 8) + 512), (hA m c (n / 8)).dz t s * (hA m c (n / 8)).q t d))
  ∧ (o.2.2 = (up fun s d => ∑ t ∈ range (512 * (n % 8) + 512), (hA m c (n / 8)).w t s * (hA m c (n / 8)).d t d))

include H

theorem ptA (t : Fin cfg0.N) (h0 : t.val % 8 = 0) : After m c t.val (outsAt0 (F := Ideal) m c t.val t.isLt) := by
  have hT : 512 * (t.val % 8) = 512 * (grid0.coords t 1).val := by rw [i1_val]
  rw [outsAt0_A m c t h0]
  unfold After
  dsimp only
  exact outA (hA m c (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    hT (blk0 m c H t) (blk1 m c H t) (blk2 m c H t) (blk3 m c H t) (blk4 m c H t) ((hcond0_0 t).mpr h0) (by rw [h0])

theorem ptB (t : Fin cfg0.N) (h0 : ¬t.val % 8 = 0) (ih : After m c (t.val - 1) (outsAt0 (F := Ideal) m c (t.val - 1) (Nat.lt_of_le_of_lt (Nat.sub_le _ _) t.isLt))) :
    After m c t.val (outsAt0 (F := Ideal) m c t.val t.isLt) := by
  have hT : 512 * (t.val % 8) = 512 * (grid0.coords t 1).val := by rw [i1_val]
  have e1 : (t.val - 1) / 8 = t.val / 8 := by omega
  have e2 : 512 * ((t.val - 1) % 8) + 512 = 512 * (t.val % 8) := by omega
  obtain ⟨-, i6, i7⟩ := ih
  rw [e1, e2] at i6 i7
  rw [outsAt0_B m c t h0]
  unfold After
  dsimp only
  exact outB (hA m c (t.val / 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    hT (blk0 m c H t) (blk1 m c H t) (blk2 m c H t) (blk3 m c H t) (blk4 m c H t) (fun h => h0 ((hcond0_0 t).mp h)) i6 i7

theorem outs_val (n : ℕ) : ∀ hn : n < cfg0.N, After m c n (outsAt0 (F := Ideal) m c n hn) := by
  induction n with
  | zero => exact fun hn => ptA m c H ⟨0, hn⟩ rfl
  | succ n ih =>
    intro hn
    by_cases h0 : (n + 1) % 8 = 0
    · exact ptA m c H ⟨n + 1, hn⟩ h0
    · exact ptB m c H ⟨n + 1, hn⟩ h0 (ih (Nat.lt_of_succ_lt hn))

omit H in
theorem sum_full (f : ℕ → ℝ) {T : ℕ} (hT : T ≤ 4096) (hf : ∀ s, T ≤ s → f s = 0) : ∑ s ∈ range T, f s = ∑ s ∈ range 4096, f s :=
  Finset.sum_subset (fun s hs => by simp only [Finset.mem_range] at *; omega) (fun s _ hs => hf s (by simpa using hs))

/-- The gradient of the queries. -/
theorem arr5 : (dats (F := Ideal) m 0 c).arrAt 5 cfg0.N = (up fun t j => (hA m c (j / 128)).dq t (j % 128)) := by
  refine (dats m 0 c).arrAt_eq_of_covers 5 _ (by decide +kernel) fun t hf y => ?_
  obtain ⟨e0, e1⟩ := ix5' t
  have ht : t.val < 64 := t.isLt
  have h0 : (y 0).val < 512 := (y 0).isLt
  have h1 : (y 1).val < 128 := (y 1).isLt
  blk_simp
  rw [after0_5, (outs_val m c H t.val t.isLt).1]
  have a0 : ((((cfg0.win 5).blk t).view.emb y : S4096x1024.Idx) 0).val = 512 * (t.val % 8) + (y 0).val := by
    blk_simp [e0]; omega
  have a1 : ((((cfg0.win 5).blk t).view.emb y : S4096x1024.Idx) 1).val = t.val / 8 * 128 + (y 1).val := by
    blk_simp [e1]
  unfold up
  rw [a0, a1]
  beta_reduce
  rw [show (t.val / 8 * 128 + (y 1).val) / 128 = t.val / 8 by omega, show (t.val / 8 * 128 + (y 1).val) % 128 = (y 1).val by omega]
  unfold Head.dq
  rw [sum_full _ (by omega) fun s hs => by rw [dz_zero _ (by omega), zero_mul]]

/-- The gradient of the keys. -/
theorem arr6 : (dats (F := Ideal) m 0 c).arrAt 6 cfg0.N = (up fun t j => (hA m c (j / 128)).dk t (j % 128)) := by
  refine (dats m 0 c).arrAt_eq_of_covers 6 _ (by decide +kernel) fun t hf y => ?_
  obtain ⟨e0, e1⟩ := ix6' t
  have h7 := (flush0_6 t).mp hf
  have ht : t.val < 64 := t.isLt
  have h1 : (y 1).val < 128 := (y 1).isLt
  blk_simp
  rw [after0_6, (outs_val m c H t.val t.isLt).2.1]
  have a0 : ((((cfg0.win 6).blk t).view.emb y : S4096x1024.Idx) 0).val = (y 0).val := by
    blk_simp [e0]
  have a1 : ((((cfg0.win 6).blk t).view.emb y : S4096x1024.Idx) 1).val = t.val / 8 * 128 + (y 1).val := by
    blk_simp [e1]
  unfold up
  rw [a0, a1]
  beta_reduce
  rw [show (t.val / 8 * 128 + (y 1).val) / 128 = t.val / 8 by omega, show (t.val / 8 * 128 + (y 1).val) % 128 = (y 1).val by omega, h7]
  rfl

/-- The gradient of the values. -/
theorem arr7 : (dats (F := Ideal) m 0 c).arrAt 7 cfg0.N = (up fun t j => (hA m c (j / 128)).dv t (j % 128)) := by
  refine (dats m 0 c).arrAt_eq_of_covers 7 _ (by decide +kernel) fun t hf y => ?_
  obtain ⟨e0, e1⟩ := ix7' t
  have h7 := (flush0_7 t).mp hf
  have ht : t.val < 64 := t.isLt
  have h1 : (y 1).val < 128 := (y 1).isLt
  blk_simp
  rw [after0_7, (outs_val m c H t.val t.isLt).2.2]
  have a0 : ((((cfg0.win 7).blk t).view.emb y : S4096x1024.Idx) 0).val = (y 0).val := by
    blk_simp [e0]
  have a1 : ((((cfg0.win 7).blk t).view.emb y : S4096x1024.Idx) 1).val = t.val / 8 * 128 + (y 1).val := by
    blk_simp [e1]
  unfold up
  rw [a0, a1]
  beta_reduce
  rw [show (t.val / 8 * 128 + (y 1).val) / 128 = t.val / 8 by omega, show (t.val / 8 * 128 + (y 1).val) % 128 = (y 1).val by omega, h7]
  rfl

end Cert.KernelIdeal.Step
-- ==== Proof.RefRun.lean ====
module
public import proofs.«01_k».proof.Proof.Ref
public import proofs.«01_k».proof.Proof.Gen.ReferenceIdeal.Run
public import Idealize.ShloMosaic.Lib.Pointwise
public import Idealize.ShloMosaic.Lib.WordCmp

@[expose] public section

/-! The reference's results are those operations of the arguments. -/

set_option maxRecDepth 16384

noncomputable section

namespace Cert.ReferenceIdeal.Ref

open Cert.ReferenceIdeal Cert.ReferenceIdeal.Gen Idealize.ShloMosaic Idealize.ShloMosaic.TcCoe
open Cert.KernelIdeal.Step

theorem res52 (m : (ℓ : Loc nD τ sig) → Buf (Elt Ideal) ℓ) (c : Dev nD) :
    Value.res_main_v52 (F := Ideal) m c = rv (m ((c.tc : Thread nD τ).loc main_arg0)) (m ((c.tc : Thread nD τ).loc main_arg1)) := by
  unfold Value.res_main_v52
  rfl
theorem res54 (m : (ℓ : Loc nD τ sig) → Buf (Elt Ideal) ℓ) (c : Dev nD) :
    Value.res_main_v54 (F := Ideal) m c = rk (m ((c.tc : Thread nD τ).loc main_arg0)) (m ((c.tc : Thread nD τ).loc main_arg1)) := by
  unfold Value.res_main_v54
  rfl
theorem res56 (m : (ℓ : Loc nD τ sig) → Buf (Elt Ideal) ℓ) (c : Dev nD) :
    Value.res_main_v56 (F := Ideal) m c = rq (m ((c.tc : Thread nD τ).loc main_arg0)) (m ((c.tc : Thread nD τ).loc main_arg1)) := by
  unfold Value.res_main_v56
  rfl

end Cert.ReferenceIdeal.Ref
-- ==== Proof.Sums.lean ====
module
public import Idealize.ShloMosaic.Lib.Pointwise
public import Idealize.ShloMosaic.Lib.ValueIdx
public import Mathlib.Algebra.BigOperators.Intervals

@[expose] public section

/-! Arrays of extended reals by natural-number indices, and an accumulator that a product's grid adds its blocks into. No
finiteness is asked anywhere: addition of extended reals is commutative and associative. -/

noncomputable section

namespace Cert.Prod

open Idealize.ShloMosaic
open Finset (range)

/-- The matrix with entries `f row column`. -/
def at2 {r c : ℕ} (f : ℕ → ℕ → EReal) : (⟨2, ![r, c]⟩ : Shape).Idx → EReal := fun i => f (i 0).val (i 1).val
/-- The array with entries `f plane row column`. -/
def at3 {p r c : ℕ} (f : ℕ → ℕ → ℕ → EReal) : (⟨3, ![p, r, c]⟩ : Shape).Idx → EReal := fun i => f (i 0).val (i 1).val (i 2).val

/-- The entry at row `a`, column `b` of a matrix. -/
def rd {r c : ℕ} (x : (⟨2, ![r, c]⟩ : Shape).Idx → EReal) (a b : ℕ) : EReal :=
  if h : a < r ∧ b < c then x (ix2 ⟨a, h.1⟩ ⟨b, h.2⟩) else 0

theorem rd_at {r c : ℕ} (x : (⟨2, ![r, c]⟩ : Shape).Idx → EReal) (j : (⟨2, ![r, c]⟩ : Shape).Idx) (a b : ℕ)
    (ha : (j 0).val = a) (hb : (j 1).val = b) : x j = rd x a b := by
  subst ha hb
  unfold rd
  rw [dif_pos ⟨(j 0).isLt, (j 1).isLt⟩]
  exact congrArg x (ix2_eta j).symm

theorem at2_congr {r c : ℕ} {f g : ℕ → ℕ → EReal} (h : ∀ x y, x < r → y < c → f x y = g x y) :
    (at2 f : (⟨2, ![r, c]⟩ : Shape).Idx → EReal) = at2 g :=
  funext fun i => h _ _ (i 0).isLt (i 1).isLt

/-- An accumulator over a grid whose last axis has `K` steps: reset with the first block's sum, then one block's sum added at
each step, it holds the sum over everything met in the run. -/
theorem acc_fold {r c N : ℕ} (K tk : ℕ) (p : ℕ → ℕ → ℕ → ℕ → EReal)
    (o : ∀ n, n < N → (⟨2, ![r, c]⟩ : Shape).Idx → EReal)
    (h0 : ∀ n (h : n < N), n % K = 0 → o n h = at2 fun r d => ∑ k ∈ range tk, p (n / K) r d k)
    (h1 : ∀ n (h : n < N) (a : ℕ → ℕ → EReal), ¬n % K = 0 → o (n - 1) (Nat.lt_of_le_of_lt (Nat.sub_le _ _) h) = at2 a →
      o n h = at2 fun r d => a r d + ∑ k ∈ range tk, p (n / K) r d (tk * (n % K) + k)) :
    ∀ n (h : n < N), o n h = at2 fun r d => ∑ k ∈ range (tk * (n % K) + tk), p (n / K) r d k := by
  intro n
  induction n with
  | zero =>
    intro h
    rw [h0 0 h (Nat.zero_mod _), Nat.zero_mod, Nat.mul_zero, Nat.zero_add]
  | succ n ih =>
    intro h
    by_cases hm : (n + 1) % K = 0
    · rw [h0 _ h hm, hm, Nat.mul_zero, Nat.zero_add]
    · have hd : (n + 1) / K = n / K := by
        rw [Nat.succ_div, if_neg fun hk => hm (Nat.mod_eq_zero_of_dvd hk), Nat.add_zero]
      have hs : (n + 1) % K = n % K + 1 := by
        have a := Nat.div_add_mod (n + 1) K
        have b := Nat.div_add_mod n K
        rw [hd] at a
        omega
      rw [h1 _ h _ hm (ih _), hd, hs]
      refine congrArg at2 (funext fun r => funext fun d => ?_)
      rw [Nat.mul_add_one]
      exact (Finset.sum_range_add ..).symm

end Cert.Prod
-- ==== Proof.ConvPay.lean ====
module
public import proofs.«01_k».proof.Proof.Sums
public import proofs.«01_k».proof.Proof.Gen.ConvBwdIdeal.Skeleton
public import Idealize.ShloMosaic.Lib.Pointwise
public import Idealize.ShloMosaic.Lib.ValueIdx
public import Idealize.ShloMosaic.Lib.WordCmp

@[expose] public section

set_option maxRecDepth 16384

noncomputable section

namespace Cert.ConvBwdIdeal.Conv

open Cert.ConvBwdIdeal Cert.ConvBwdIdeal.Gen Idealize.ShloMosaic Idealize.ShloMosaic.TcCoe
open Cert.Prod
open Finset (range)

/-- The tile `X` moved down by `n` rows, the freed rows taken from the end of the eight rows `P` before it, or zero at the top. -/
def dn (n : ℕ) (z : Bool) (X P : ℕ → ℕ → EReal) (r d : ℕ) : EReal := if r < n then (if z then 0 else P (r + 8 - n) d) else X (r - n) d
/-- The tile `X` moved up by `n` rows, the freed rows taken from the eight rows `N` after it, or zero at the bottom. -/
def up (n : ℕ) (z : Bool) (X N : ℕ → ℕ → EReal) (r d : ℕ) : EReal := if r + n < 512 then X (r + n) d else if z then 0 else N (r + n - 512) d
/-- The three taps' sum. -/
def cv (b : ℕ → EReal) (w : ℕ → ℕ → EReal) (t0 t1 t2 : ℕ → ℕ → EReal) (r d : ℕ) : EReal := b d + w 0 d * t0 r d + w 1 d * t1 r d + w 2 d * t2 r d
/-- The logistic function, as the kernel writes it. -/
def sg (x : EReal) : EReal := Ideal.div 1 (1 + Ideal.exp (0 - x))

theorem sel_lt (n k : ℕ) (hn : n < 512) (hk : k < 512) (x y : EReal) :
    Scalar.select (IntOp.cmpi CmpIPredicate.slt (BitVec.ofNat 32 n) (BitVec.ofNat 32 k)) x y = if n < k then x else y := by
  rw [WordCmp.cmpi_slt_ofNat (by omega) (by omega)]
  by_cases h : n < k <;> simp [h, Scalar.select]
theorem sel_ge (n k : ℕ) (hn : n < 512) (hk : k < 512) (x y : EReal) :
    Scalar.select (IntOp.cmpi CmpIPredicate.sge (BitVec.ofNat 32 n) (BitVec.ofNat 32 k)) x y = if k ≤ n then x else y := by
  rw [WordCmp.cmpi_sge_ofNat (by omega) (by omega)]
  by_cases h : k ≤ n <;> simp [h, Scalar.select]

variable (i : grid0.Coords) (X P N : ℕ → ℕ → EReal)

/-- Whether the grid point is its column's first. -/
abbrev fst : BitVec 1 := Scalar.cmpi .eq (BitVec.ofNat 32 (i 1).val) 0#32
/-- Whether it is its last. -/
abbrev lst : BitVec 1 := Scalar.cmpi .eq (BitVec.ofNat 32 (i 1).val) 7#32

theorem sel_fst (x y : EReal) : Scalar.select (fst i) x y = if decide ((i 1).val = 0) = true then x else y := by
  have h := (i 1).isLt
  unfold fst Scalar.cmpi
  rw [WordCmp.cmpi_eq_ofNat (show (i 1).val < 2 ^ 32 by change (i 1).val < 8 at h; omega) (by omega)]
  by_cases h : (i 1).val = 0 <;> simp [h, Scalar.select]
theorem sel_lst (x y : EReal) : Scalar.select (lst i) x y = if decide ((i 1).val = 7) = true then x else y := by
  have h := (i 1).isLt
  unfold lst Scalar.cmpi
  rw [WordCmp.cmpi_eq_ofNat (show (i 1).val < 2 ^ 32 by change (i 1).val < 8 at h; omega) (by omega)]
  by_cases h : (i 1).val = 7 <;> simp [h, Scalar.select]

theorem dn_eq (n : ℕ) (z : Bool) (r d : ℕ) (hn : n < 8) (h0 : 0 < n) (hr : r < 512) :
    (if _ : r < 8 then (if r < n then (if z = true then 0 else P ((r + 8 - n) % 8) d) else X ((r + 512 - n) % 512) d)
      else X ((8 + (r - 8) + 512 - n) % 512) d) = dn n z X P r d := by
  unfold dn
  split_ifs
  all_goals first
    | rfl
    | omega
    | (congr 1; omega)
theorem dn8_eq (n r d : ℕ) (hn : n < 8) (h0 : 0 < n) (hr : r < 8) :
    (if r < n then X (504 + (r + 8 - n) % 8) d else N ((r + 8 - n) % 8) d) = dn n false N (fun r d => X (504 + r) d) r d := by
  unfold dn
  split_ifs
  all_goals first
    | contradiction
    | (congr 1; omega)
theorem up_eq (n k l : ℕ) (z : Bool) (r d : ℕ) (hn : n < 8) (h0 : 0 < n) (hk : k = 512 - n) (hl : l = 8 - n) (hr : r < 512) :
    (if _ : r < 504 then X ((r + 512 - k) % 512) d else
      if l ≤ r - 504 then (if z = true then 0 else N ((r - 504 + 8 - l) % 8) d) else X ((504 + (r - 504) + 512 - k) % 512) d) = up n z X N r d := by
  subst hk hl
  unfold up
  split_ifs
  all_goals first
    | rfl
    | omega
    | (congr 1; omega)

theorem pay2_at : k0_pay2 (F := Ideal) i (at2 X) (at2 P) = at2 (dn 2 (decide ((i 1).val = 0)) X P) := by
  funext y
  have h : (y 0).val < 512 := (y 0).isLt
  unfold k0_pay2 at2
  pointwise
  rw [sel_lt _ 2 h (by omega), sel_fst]
  exact dn_eq X P 2 _ _ _ (by omega) (by omega) h

theorem pay3_at : k0_pay3 (F := Ideal) i (at2 X) (at2 P) = at2 (dn 1 (decide ((i 1).val = 0)) X P) := by
  funext y
  have h : (y 0).val < 512 := (y 0).isLt
  unfold k0_pay3 at2
  pointwise
  rw [sel_lt _ 1 h (by omega), sel_fst]
  exact dn_eq X P 1 _ _ _ (by omega) (by omega) h

theorem pay8_at : k0_pay8 (F := Ideal) (k0_pay4 (at2 X)) (k0_pay5 i (at2 P)) k0_pay6 (k0_pay7 (at2 X)) = at2 (dn 2 (decide ((i 1).val = 0)) X P) := by
  funext y
  have h : (y 0).val < 512 := (y 0).isLt
  unfold k0_pay8 k0_pay7 k0_pay6 k0_pay5 k0_pay4 at2
  pointwise
  rw [sel_lt _ 2 h (by omega), sel_fst]
  exact dn_eq X P 2 _ _ _ (by omega) (by omega) h

theorem pay9_at : k0_pay9 (F := Ideal) (fst i) (at2 X) (at2 P) = at2 (dn 1 (decide ((i 1).val = 0)) X P) := by
  funext y
  have h : (y 0).val < 512 := (y 0).isLt
  unfold k0_pay9 at2
  pointwise
  rw [sel_lt _ 1 h (by omega), sel_fst]
  exact dn_eq X P 1 _ _ _ (by omega) (by omega) h

theorem pay16_at : k0_pay16 (F := Ideal) (at2 X) (at2 N) = at2 (dn 2 false N fun r d => X (504 + r) d) := by
  funext y
  have h : (y 0).val < 8 := (y 0).isLt
  unfold k0_pay16 k0_pay15 at2
  pointwise
  rw [sel_lt _ 2 (by omega) (by omega)]
  exact dn8_eq X N 2 _ _ (by omega) (by omega) h
theorem pay17_at : k0_pay17 (F := Ideal) (at2 X) (at2 N) = at2 (dn 1 false N fun r d => X (504 + r) d) := by
  funext y
  have h : (y 0).val < 8 := (y 0).isLt
  unfold k0_pay17 k0_pay15 at2
  pointwise
  rw [sel_lt _ 1 (by omega) (by omega)]
  exact dn8_eq X N 1 _ _ (by omega) (by omega) h
theorem pay19_at : k0_pay19 (F := Ideal) (at2 X) (at2 N) = at2 (dn 2 false N fun r d => X (504 + r) d) := pay16_at X N
theorem pay20_at : k0_pay20 (F := Ideal) (at2 X) (at2 N) = at2 (dn 1 false N fun r d => X (504 + r) d) := pay17_at X N

variable (b c w0 w1 w2 : ℕ → EReal) (w : ℕ → ℕ → EReal) (t0 t1 t2 u D : ℕ → ℕ → EReal)

/-- A row of 512 entries. -/
abbrev row (b : ℕ → EReal) : FVec Ideal S1x512 .f32 := at2 fun _ => b

theorem pay10_at : k0_pay10 (F := Ideal) (at2 t2) (at2 t0) (at2 t1) (row b) (row (w 0)) (row (w 1)) (row (w 2)) = at2 (cv b w t0 t1 t2) := by
  funext y
  unfold k0_pay10 row at2 cv
  pointwise
theorem pay21_at : k0_pay21 (F := Ideal) (at2 t2) (at2 t0) (at2 t1) (row b) (row (w 0)) (row (w 1)) (row (w 2)) = at2 (cv b w t0 t1 t2) := by
  funext y
  unfold k0_pay21 row at2 cv
  pointwise

/-- The gradient of the gate's half. -/
def dgate (u G V : ℕ → ℕ → EReal) (r d : ℕ) : EReal := u r d * V r d * (sg (G r d) * (1 + G r d * (1 - sg (G r d))))
/-- The gradient of the other half. -/
def dval (u G : ℕ → ℕ → EReal) (r d : ℕ) : EReal := u r d * G r d * sg (G r d)

theorem pay13_at (G : ℕ → ℕ → EReal) : k0_pay13 (F := Ideal) (at2 X) (at2 G)
    (k0_pay11 (fst i) (at2 X) (at2 P) (k0_pay4 (at2 X)) (k0_pay5 i (at2 P)) k0_pay6 (k0_pay7 (at2 X)) (row b) (row (w 0)) (row (w 1))) (row (w 2)) (at2 u)
    = at2 (dgate u G (cv b w (dn 2 (decide ((i 1).val = 0)) X P) (dn 1 (decide ((i 1).val = 0)) X P) X)) := by
  unfold k0_pay11
  rw [pay8_at, pay9_at]
  funext y
  unfold k0_pay13 k0_pay12 row at2 dgate cv sg
  pointwise
theorem pay14_at (G : ℕ → ℕ → EReal) : k0_pay14 (F := Ideal) (at2 G) (at2 u) = at2 (dval u G) := by
  funext y
  unfold k0_pay14 k0_pay12 at2 dval sg
  pointwise
theorem pay25_at (G : ℕ → ℕ → EReal) : k0_pay25 (F := Ideal) (at2 t2) (at2 t0) (at2 t1) (at2 G) (k0_pay22 (row b)) (k0_pay23 (row (w 0))) (row (w 1)) (row (w 2)) (at2 u)
    = at2 (dgate u G (cv b w t0 t1 t2)) := by
  funext y
  unfold k0_pay25 k0_pay24 k0_pay23 k0_pay22 row at2 dgate cv sg
  pointwise
theorem pay26_at (G : ℕ → ℕ → EReal) : k0_pay26 (F := Ideal) (at2 G) (at2 u) = at2 (dval u G) := by
  funext y
  unfold k0_pay26 k0_pay24 at2 dval sg
  pointwise

/-- The transposed convolution. -/
def ct (w : ℕ → ℕ → EReal) (z : Bool) (D N : ℕ → ℕ → EReal) (r d : ℕ) : EReal := w 2 d * D r d + w 1 d * up 1 z D N r d + w 0 d * up 2 z D N r d

theorem pay34_at : k0_pay34 (F := Ideal) (lst i) (at2 X) (at2 N) (row b) = at2 fun r d => b d * up 1 (decide ((i 1).val = 7)) X N r d := by
  funext y
  have h : (y 0).val < 512 := (y 0).isLt
  unfold k0_pay34 row at2
  pointwise
  rw [sel_ge _ 7 (by omega) (by omega), sel_lst, up_eq X N 1 511 7 _ _ _ (by omega) (by omega) (by omega) (by omega) h]
theorem pay35_at : k0_pay35 (F := Ideal) (lst i) (at2 D) (at2 N) (k0_pay33 (at2 D) (row (w 2))) (k0_pay34 (lst i) (at2 D) (at2 N) (row (w 1))) (row (w 0))
    = at3 fun _ => ct w (decide ((i 1).val = 7)) D N := by
  rw [pay34_at]
  funext y
  have h : (y 1).val < 512 := (y 1).isLt
  unfold k0_pay35 k0_pay33 row at2 at3 ct
  pointwise
  rw [sel_ge _ 6 (by omega) (by omega), sel_lst, up_eq D N 2 510 6 _ _ _ (by omega) (by omega) (by omega) (by omega) h]
theorem pay32_at (v116 v125 v133 v148 v152 v164 : FVec Ideal S8x512 .f32) (v150 v156 v160 : FVec Ideal S1x512 .f32)
    (e : k0_pay25 (F := Ideal) v116 v125 v133 v148 v150 v152 v156 v160 v164 = at2 N) :
    k0_pay32 (F := Ideal) (lst i) (at2 D) (at2 N) (k0_pay27 (at2 D) (row (w 2))) (row (w 1)) (k0_pay28 (at2 D))
      (k0_pay29 (lst i) v116 v125 v133 v148 v150 v152 v156 v160 v164) k0_pay30 (k0_pay31 (at2 D)) (row (w 0))
    = at3 fun _ => ct w (decide ((i 1).val = 7)) D N := by
  unfold k0_pay29
  rw [e]
  funext y
  have h : (y 1).val < 512 := (y 1).isLt
  unfold k0_pay32 k0_pay31 k0_pay30 k0_pay28 k0_pay27 row at2 at3 ct
  pointwise
  rw [sel_ge _ 6 (by omega) (by omega), sel_ge _ 7 (by omega) (by omega), sel_lst, sel_lst, up_eq D N 2 510 6 _ _ _ (by omega) (by omega) (by omega) (by omega) h,
    up_eq D N 1 511 7 _ _ _ (by omega) (by omega) (by omega) (by omega) h]

theorem pay40_at : k0_pay40 (F := Ideal) (at2 X) (at2 D) (row b) = row fun d => b d + ∑ r ∈ range 512, D r d * X r d := by
  funext y
  unfold k0_pay40 row at2
  pointwise
  exact congrArg _ (Finset.sum_range fun r => D r (y 1).val * X r (y 1).val).symm
theorem pay46_at : k0_pay46 (F := Ideal) (at2 D) (row b) = row fun d => b d + ∑ r ∈ range 512, D r d := by
  funext y
  unfold k0_pay46 row at2
  pointwise
  exact congrArg _ (Finset.sum_range fun r => D r (y 1).val).symm
theorem pay1_at : k0_pay1 (F := Ideal) (at2 D) (row b) = row fun d => b d + ∑ r ∈ range 512, D r d := pay46_at b D
theorem pay41_at : k0_pay41 (F := Ideal) (at2 X) (at2 D) (row b) = row fun d => b d + ∑ r ∈ range 512, D r d * X r d := pay40_at X b D
theorem pay42_at : k0_pay42 (F := Ideal) (at2 X) (at2 D) (row b) = row fun d => b d + ∑ r ∈ range 512, D r d * X r d := pay40_at X b D
theorem pay43_at : k0_pay43 (F := Ideal) (at2 X) (at2 D) (row b) = row fun d => b d + ∑ r ∈ range 512, D r d * X r d := pay40_at X b D
theorem pay44_at : k0_pay44 (F := Ideal) (at2 X) (at2 D) (row b) = row fun d => b d + ∑ r ∈ range 512, D r d * X r d := pay40_at X b D
theorem pay45_at : k0_pay45 (F := Ideal) (at2 X) (at2 D) (row b) = row fun d => b d + ∑ r ∈ range 512, D r d * X r d := pay40_at X b D

theorem zero3 : k0_pay36 (F := Ideal) = at2 fun _ _ => 0 := by
  funext y
  unfold k0_pay36 at2
  pointwise
theorem zero1 : k0_pay38 (F := Ideal) = row fun _ => 0 := by
  funext y
  unfold k0_pay38 row at2
  pointwise

end Cert.ConvBwdIdeal.Conv
-- ==== Proof.ConvSpec.lean ====
module
public import proofs.«01_k».proof.Proof.ConvPay

@[expose] public section

/-! The gradient of the gated causal convolution as sums over rows, for one half of the channels at a time, and what one tile of
512 rows with eight rows of its neighbours computes of it. -/

noncomputable section

namespace Cert.ConvBwdIdeal.Conv

open Idealize.ShloMosaic
open Cert.Prod
open Finset (range)

/-- Row `t` of the operand under tap `k`: zero before the first row. -/
def tap (A : ℕ → ℕ → EReal) (k t c : ℕ) : EReal := if t + k < 2 then 0 else A (t + k - 2) c
/-- The convolution. -/
def pre (A W : ℕ → ℕ → EReal) (B : ℕ → EReal) (t c : ℕ) : EReal := B c + W 0 c * tap A 0 t c + W 1 c * tap A 1 t c + W 2 c * A t c
/-- Row `t + n`, zero past the last. -/
def ahead (E : ℕ → ℕ → EReal) (n t c : ℕ) : EReal := if t + n < 4096 then E (t + n) c else 0
/-- The operand's gradient, from the convolution's. -/
def da (W E : ℕ → ℕ → EReal) (t c : ℕ) : EReal := W 2 c * E t c + W 1 c * ahead E 1 t c + W 0 c * ahead E 2 t c
/-- The taps' gradient. -/
def dw (A E : ℕ → ℕ → EReal) (k c : ℕ) : EReal := ∑ t ∈ range 4096, E t c * tap A k t c
/-- The bias's gradient. -/
def db (E : ℕ → ℕ → EReal) (c : ℕ) : EReal := ∑ t ∈ range 4096, E t c

/-- The tile of rows from `512 i` and columns from `512 j`. -/
def tl (f : ℕ → ℕ → EReal) (i j r d : ℕ) : EReal := f (512 * i + r) (512 * j + d)
/-- A row's part from column `512 j`. -/
def tr (b : ℕ → EReal) (j d : ℕ) : EReal := b (512 * j + d)

variable (A W : ℕ → ℕ → EReal) (B : ℕ → EReal) (P N : ℕ → ℕ → EReal) (i j : ℕ)

theorem dn2_tile (h : 0 < i → ∀ r d, P r d = A (512 * i - 8 + r) (512 * j + d)) :
    dn 2 (decide (i = 0)) (tl A i j) P = tl (tap A 0) i j := by
  funext r d
  unfold dn tl tap
  simp only [decide_eq_true_eq]
  split_ifs
  all_goals first
    | rfl
    | omega
    | exact congrArg (A · _) (by omega)
    | exact (h (by omega) _ _).trans (congrArg (A · _) (by omega))
theorem dn2_next : dn 2 false (tl A (i + 1) j) (fun r d => tl A i j (504 + r) d) = tl (tap A 0) (i + 1) j := by
  funext r d
  unfold dn tl tap
  split_ifs
  all_goals first
    | contradiction
    | omega
    | exact congrArg (A · _) (by omega)
theorem dn1_tile (h : 0 < i → ∀ r d, P r d = A (512 * i - 8 + r) (512 * j + d)) :
    dn 1 (decide (i = 0)) (tl A i j) P = tl (tap A 1) i j := by
  funext r d
  unfold dn tl tap
  simp only [decide_eq_true_eq]
  split_ifs
  all_goals first
    | rfl
    | omega
    | exact congrArg (A · _) (by omega)
    | exact (h (by omega) _ _).trans (congrArg (A · _) (by omega))
theorem dn1_next : dn 1 false (tl A (i + 1) j) (fun r d => tl A i j (504 + r) d) = tl (tap A 1) (i + 1) j := by
  funext r d
  unfold dn tl tap
  split_ifs
  all_goals first
    | contradiction
    | omega
    | exact congrArg (A · _) (by omega)

/-- The convolution on a tile. -/
theorem cv_tile (h : 0 < i → ∀ r d, P r d = A (512 * i - 8 + r) (512 * j + d)) :
    cv (tr B j) (fun k => tr (W k) j) (dn 2 (decide (i = 0)) (tl A i j) P) (dn 1 (decide (i = 0)) (tl A i j) P) (tl A i j) = tl (pre A W B) i j := by
  rw [dn2_tile A P i j h, dn1_tile A P i j h]; rfl
/-- The convolution on the rows after a tile. -/
theorem cv_next : cv (tr B j) (fun k => tr (W k) j) (dn 2 false (tl A (i + 1) j) fun r d => tl A i j (504 + r) d)
      (dn 1 false (tl A (i + 1) j) fun r d => tl A i j (504 + r) d) (tl A (i + 1) j) = tl (pre A W B) (i + 1) j := by
  rw [dn2_next, dn1_next]; rfl

theorem up_tile (E : ℕ → ℕ → EReal) (n r d : ℕ) (h8 : n < 8) (hr : r < 512) (hi : i < 8) (h : i < 7 → N = tl E (i + 1) j) :
    up n (decide (i = 7)) (tl E i j) N r d = tl (ahead E n) i j r d := by
  unfold up tl ahead
  simp only [decide_eq_true_eq]
  split_ifs
  all_goals first
    | rfl
    | omega
    | exact congrArg (E · _) (by omega)
    | (rw [h (by omega)]; exact congrArg (E · _) (by omega))
/-- The transposed convolution on a tile. -/
theorem ct_tile (E : ℕ → ℕ → EReal) (r d : ℕ) (hr : r < 512) (hi : i < 8) (h : i < 7 → N = tl E (i + 1) j) :
    ct (fun k => tr (W k) j) (decide (i = 7)) (tl E i j) N r d = tl (da W E) i j r d := by
  unfold ct
  rw [up_tile N i j E 1 r d (by omega) hr hi h, up_tile N i j E 2 r d (by omega) hr hi h]
  rfl

end Cert.ConvBwdIdeal.Conv
-- ==== Proof.ConvRows.lean ====
module
public import proofs.«01_k».proof.Proof.ConvSpec
public import proofs.«01_k».proof.Proof.Gen.ConvBwdIdeal.Value
public import Idealize.ShloMosaic.Lib.Pipeline.ValueKit
public import Idealize.ShloMosaic.Lib.Pipeline.RowLoads

@[expose] public section

/-! Blocks stored and loaded one row, or one plane, at a time. -/

noncomputable section

namespace Cert.ConvBwdIdeal.Conv

open Cert.ConvBwdIdeal Cert.ConvBwdIdeal.Gen Idealize.ShloMosaic Idealize.ShloMosaic.TcCoe
open Cert.Prod

theorem hz : (![0, 0] : Fin 2 → Nat) = fun _ => 0 := funext fun a => by fin_cases a <;> rfl

theorem ld_row (f : ℕ → ℕ → EReal) (k : ℕ) (h) :
    View.ld (Val := Elt Idealize.ShloMosaic.Ideal) (S := S3x512) (e' := .f32) (at2 f) (Rect.unit ![k, 0] ![1, 512] h) = row (f k) := by
  funext y
  have h0 : (y 0).val < 1 := (y 0).isLt
  have e0 : ((Rect.unit (s := S3x512) ![k, 0] ![1, 512] h).idx y 0).val = k + (y 0).val := Rect.idx_unit_val (s := S3x512) ![k, 0] ![1, 512] h y 0
  have e1 : ((Rect.unit (s := S3x512) ![k, 0] ![1, 512] h).idx y 1).val = 0 + (y 1).val := Rect.idx_unit_val (s := S3x512) ![k, 0] ![1, 512] h y 1
  show f _ _ = f k _
  rw [e0, e1]
  exact congrArg₂ f (by omega) (by omega)

/-- A stored row is read back on its row and nowhere else. -/
theorem canon_row (f : ℕ → EReal) (k : ℕ) (h) (L : List (View.Piece (Elt Idealize.ShloMosaic.Ideal) S3x512 .f32)) (y : S3x512.Idx) :
    View.canon (⟨Rect.unit ![k, 0] ![1, 512] h, row f⟩ :: L) y = if (y 0).val = k then f (y 1).val else View.canon L y := by
  by_cases e : (y 0).val = k
  · rw [if_pos e]
    have hy : y = (Rect.unit (s := S3x512) ![k, 0] ![1, 512] h).emb (ix2 (0 : Fin 1) ⟨(y 1).val, (y 1).isLt⟩ : S1x512.Idx) := by
      funext a
      apply Fin.ext
      rw [ValueKit.rect_emb_unit_val]
      fin_cases a
      · exact e
      · exact (Nat.zero_add _).symm
    conv_lhs => rw [hy]
    rw [View.canon_cons_emb]
    rfl
  · rw [if_neg e]
    refine View.canon_cons_of_not_mem _ _ fun hm => e ?_
    have := (Rect.mem_set_unit (inb := h).mp hm) 0
    simp at this
    omega

/-- The three rows of a block, as a function of the row. -/
def rows (f0 f1 f2 : ℕ → EReal) (k d : ℕ) : EReal := if k = 2 then f2 d else if k = 1 then f1 d else f0 d

theorem canon_rows (f0 f1 f2 : ℕ → EReal) (h0 h1 h2) (L : List (View.Piece (Elt Idealize.ShloMosaic.Ideal) S3x512 .f32)) :
    View.canon (⟨Rect.unit ![2, 0] ![1, 512] h2, row f2⟩ :: ⟨Rect.unit ![1, 0] ![1, 512] h1, row f1⟩ :: ⟨Rect.unit ![0, 0] ![1, 512] h0, row f0⟩ :: L)
      = at2 (rows f0 f1 f2) := by
  funext y
  have h : (y 0).val < 3 := (y 0).isLt
  rw [canon_row, canon_row, canon_row]
  unfold at2 rows
  split_ifs
  · rfl
  · rfl
  · rfl
  · omega

section Cov
variable {m : Memref sig .tc .vmem S3x512 .f32} (f g0 g1 : ℕ → EReal) (h0 h1 h2 h3)

theorem cov_row0 (h) (Z : ℕ → ℕ → EReal) :
    m.view.readCov [(⟨Rect.unit ![0, 0] ![3, 512] h, at2 Z⟩ : View.Piece (Elt Idealize.ShloMosaic.Ideal) S3x512 .f32)] (Rect.unit ![0, 0] ![1, 512] h0).toLoadRect = row (Z 0) := by
  rw [View.readCov_eq_canon', View.canon_cons_unit_zero hz]
  exact ld_row Z 0 h0
theorem cov_row1 (h) (Z : ℕ → ℕ → EReal) (p0 : Vec Idealize.ShloMosaic.Ideal S1x512 .f32) :
    m.view.readCov [(⟨Rect.unit ![0, 0] ![1, 512] h0, p0⟩ : View.Piece (Elt Idealize.ShloMosaic.Ideal) S3x512 .f32), ⟨Rect.unit ![0, 0] ![3, 512] h, at2 Z⟩] (Rect.unit ![1, 0] ![1, 512] h1).toLoadRect = row (Z 1) := by
  refine (View.readCov_cons_of_rows_disjoint (k := 1) (k' := 1) m.view 0 1 (by omega) p0 _ h0 h1).trans ?_
  rw [View.readCov_eq_canon', View.canon_cons_unit_zero hz]
  exact ld_row Z 1 h1
theorem cov_row2 (h) (Z : ℕ → ℕ → EReal) (p0 p1 : Vec Idealize.ShloMosaic.Ideal S1x512 .f32) :
    m.view.readCov [(⟨Rect.unit ![1, 0] ![1, 512] h1, p1⟩ : View.Piece (Elt Idealize.ShloMosaic.Ideal) S3x512 .f32), ⟨Rect.unit ![0, 0] ![1, 512] h0, p0⟩, ⟨Rect.unit ![0, 0] ![3, 512] h, at2 Z⟩] (Rect.unit ![2, 0] ![1, 512] h2).toLoadRect = row (Z 2) := by
  refine (View.readCov_cons_of_rows_disjoint (k := 1) (k' := 1) m.view 1 2 (by omega) p1 _ h1 h2).trans ?_
  refine (View.readCov_cons_of_rows_disjoint (k := 1) (k' := 1) m.view 0 2 (by omega) p0 _ h0 h2).trans ?_
  rw [View.readCov_eq_canon', View.canon_cons_unit_zero hz]
  exact ld_row Z 2 h2
end Cov

/-- Two stored planes make the block. -/
theorem canon_planes (f g : ℕ → ℕ → EReal) (h0 h1) :
    View.canon [(⟨Rect.unit ![1, 0, 0] ![1, 512, 512] h1, at3 fun _ => g⟩ : View.Piece (Elt Idealize.ShloMosaic.Ideal) S2x512x512 .bf16), ⟨Rect.unit ![0, 0, 0] ![1, 512, 512] h0, at3 fun _ => f⟩]
      = at3 fun p => if p = 1 then g else f := by
  funext y
  have h : (y 0).val < 2 := (y 0).isLt
  have hy (k : ℕ) (hk) (e : (y 0).val = k) : y = (Rect.unit (s := S2x512x512) ![k, 0, 0] ![1, 512, 512] hk).emb (ix3 (0 : Fin 1) ⟨(y 1).val, (y 1).isLt⟩ ⟨(y 2).val, (y 2).isLt⟩ : S1x512x512.Idx) := by
    funext a
    apply Fin.ext
    rw [ValueKit.rect_emb_unit_val]
    fin_cases a
    · exact e
    · exact (Nat.zero_add _).symm
    · exact (Nat.zero_add _).symm
  by_cases e : (y 0).val = 1
  · conv_lhs => rw [hy 1 h1 e]
    rw [View.canon_cons_emb]
    show g _ _ = (if (y 0).val = 1 then g else f) _ _
    rw [if_pos e]
    rfl
  · rw [View.canon_cons_of_not_mem]
    · conv_lhs => rw [hy 0 h0 (by omega)]
      rw [View.canon_cons_emb]
      show f _ _ = (if (y 0).val = 1 then g else f) _ _
      rw [if_neg e]
      rfl
    · intro hm
      have := (Rect.mem_set_unit (inb := h1).mp hm) 0
      simp at this
      omega

end Cert.ConvBwdIdeal.Conv
-- ==== Proof.ConvCase.lean ====
module
public import proofs.«01_k».proof.Proof.ConvRows

@[expose] public section

/-! What each kind of grid point leaves in the five output blocks. -/

set_option maxRecDepth 16384

noncomputable section

namespace Cert.ConvBwdIdeal.Conv

open Cert.ConvBwdIdeal Cert.ConvBwdIdeal.Gen Idealize.ShloMosaic Idealize.ShloMosaic.TcCoe
open Cert.Prod

variable (c : Dev nD) (i : grid0.Coords) (arg2 : Memref sig .tc .vmem S512x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S512x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole) (arg9 : Memref sig .tc .vmem S8x512 .f32) (harg9 : arg9.IsWhole) (arg10 : Memref sig .tc .vmem S3x512 .f32) (harg10 : arg10.IsWhole) (arg11 : Memref sig .tc .vmem S3x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S2x512x512 .bf16) (harg14 : arg14.IsWhole) (arg15 : Memref sig .tc .vmem S3x512 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S1x512 .f32) (harg18 : arg18.IsWhole)

variable (X P N Xv Pv Nv u un w wv o ov : ℕ → ℕ → EReal) (b bv s sv : ℕ → EReal)

/-- The gate's half of the convolution on the block, and the other half. -/
abbrev cG : ℕ → ℕ → EReal := cv b w (dn 2 (decide ((i 1).val = 0)) X P) (dn 1 (decide ((i 1).val = 0)) X P) X
/-- The block's gradient of the gate's half. -/
abbrev gG : ℕ → ℕ → EReal := dgate u (cG i X P w b) (cG i Xv Pv wv bv)
/-- The block's gradient of the other half. -/
abbrev gV : ℕ → ℕ → EReal := dval u (cG i X P w b)
/-- The first rows of the next block's convolution. -/
abbrev cN : ℕ → ℕ → EReal := cv b w (dn 2 false N fun r d => X (504 + r) d) (dn 1 false N fun r d => X (504 + r) d) N
/-- A weight gradient's three rows, one block's products added. -/
abbrev aw (D : ℕ → ℕ → EReal) : ℕ → ℕ → EReal :=
  rows (fun d => o 0 d + ∑ r ∈ Finset.range 512, D r d * dn 2 (decide ((i 1).val = 0)) X P r d)
    (fun d => o 1 d + ∑ r ∈ Finset.range 512, D r d * dn 1 (decide ((i 1).val = 0)) X P r d) (fun d => o 2 d + ∑ r ∈ Finset.range 512, D r d * X r d)

theorem case12A (h0 : cond0_0 i) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) = at3 fun p => if p = 1 then ct wv (decide ((i 1).val = 7)) (gV i X P u w b) (dval un (cN X N w b)) else ct w (decide ((i 1).val = 7)) (gG i X P Xv Pv u w wv b bv) (dgate un (cN X N w b) (cN Xv Nv wv bv)) := by
  unfold out0_A_12
  rw [View.read_writes_eq_canon _ _ _ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv))]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S8x512) hz, View.ld_unit_zero (S := S1x512) hz, shapeCast_self, ld_row]
  rw [pay2_at, pay3_at, pay10_at, pay13_at, pay14_at, pay16_at, pay17_at, pay19_at, pay20_at, pay21_at, pay26_at, pay35_at,
    pay25_at, pay32_at (e := pay25_at ..)]
  exact canon_planes _ _ _ _
theorem case13A (h0 : cond0_0 i) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) = at2 (aw i X P (fun _ _ => 0) (gG i X P Xv Pv u w wv b bv)) := by
  unfold out0_A_13
  rw [View.read_writes_eq_canon _ _ _ (cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv))]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S8x512) hz, View.ld_unit_zero (S := S1x512) hz, shapeCast_self, ld_row]
  rw [zero3, cov_row0, cov_row1, cov_row2]
  rw [pay2_at, pay3_at, pay10_at, pay13_at, pay40_at, pay42_at, pay44_at]
  exact canon_rows _ _ _ _ _ _ _
theorem case14A (h0 : cond0_0 i) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) = at2 (aw i Xv Pv (fun _ _ => 0) (gV i X P u w b)) := by
  unfold out0_A_14
  rw [View.read_writes_eq_canon _ _ _ (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv))]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S8x512) hz, View.ld_unit_zero (S := S1x512) hz, shapeCast_self, ld_row]
  rw [show k0_pay37 (F := Ideal) = at2 fun _ _ => 0 from zero3, cov_row0, cov_row1, cov_row2]
  rw [pay2_at, pay3_at, pay10_at, pay14_at, pay8_at, pay9_at, pay41_at, pay43_at, pay45_at]
  exact canon_rows _ _ _ _ _ _ _
theorem case15A (h0 : cond0_0 i) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) = row fun d => 0 + ∑ r ∈ Finset.range 512, gG i X P Xv Pv u w wv b bv r d := by
  unfold out0_A_15
  rw [View.read_writes_eq_canon _ _ _ (cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv))]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S8x512) hz, View.ld_unit_zero (S := S1x512) hz, shapeCast_self, ld_row]
  rw [zero1, View.readCov_unit_zero (S := S1x512) _ hz]
  rw [pay2_at, pay3_at, pay10_at, pay13_at, pay46_at]
  rw [View.canon_cons_unit_zero hz]
theorem case16A (h0 : cond0_0 i) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) = row fun d => 0 + ∑ r ∈ Finset.range 512, gV i X P u w b r d := by
  unfold out0_A_16
  rw [View.read_writes_eq_canon _ _ _ (cover0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv))]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S8x512) hz, View.ld_unit_zero (S := S1x512) hz, shapeCast_self, ld_row]
  rw [show k0_pay39 (F := Ideal) = row fun _ => 0 from zero1, View.readCov_unit_zero (S := S1x512) _ hz]
  rw [pay2_at, pay3_at, pay10_at, pay14_at, pay1_at]
  rw [View.canon_cons_unit_zero hz]
theorem case12B (h0 : ¬cond0_0 i) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv) = at3 fun p => if p = 1 then ct wv (decide ((i 1).val = 7)) (gV i X P u w b) (dval un (cN X N w b)) else ct w (decide ((i 1).val = 7)) (gG i X P Xv Pv u w wv b bv) (dgate un (cN X N w b) (cN Xv Nv wv bv)) := by
  unfold out0_B_12
  rw [View.read_writes_eq_canon _ _ _ (cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv))]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) hz, View.ld_unit_zero (S := S8x512) hz, View.ld_unit_zero (S := S1x512) hz, shapeCast_self, ld_row]
  rw [pay2_at, pay3_at, pay10_at, pay13_at, pay14_at, pay16_at, pay17_at, pay19_at, pay20_at, pay21_at, pay26_at, pay35_at,
    pay25_at, pay32_at (e := pay25_at ..)]
  exact canon_planes _ _ _ _
theorem case13B (h0 : ¬cond0_0 i) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv) = at2 (aw i X P o (gG i X P Xv Pv u w wv b bv)) := by
  unfold out0_B_13
  rw [View.read_writes_eq_canon _ _ _ (cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv))]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, View.ld_unit_zero (S := S512x512) hz, View.ld_unit_zero (S := S8x512) hz, View.ld_unit_zero (S := S1x512) hz, shapeCast_self, ld_row]
  rw [pay2_at, pay3_at, pay10_at, pay13_at, pay40_at, pay42_at, pay44_at]
  exact canon_rows _ _ _ _ _ _ _
theorem case14B (h0 : ¬cond0_0 i) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv) = at2 (aw i Xv Pv ov (gV i X P u w b)) := by
  unfold out0_B_14
  rw [View.read_writes_eq_canon _ _ _ (cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv))]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, View.ld_unit_zero (S := S512x512) hz, View.ld_unit_zero (S := S8x512) hz, View.ld_unit_zero (S := S1x512) hz, shapeCast_self, ld_row]
  rw [pay2_at, pay3_at, pay10_at, pay14_at, pay8_at, pay9_at, pay41_at, pay43_at, pay45_at]
  exact canon_rows _ _ _ _ _ _ _
theorem case15B (h0 : ¬cond0_0 i) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv) = row fun d => s d + ∑ r ∈ Finset.range 512, gG i X P Xv Pv u w wv b bv r d := by
  unfold out0_B_15
  rw [View.read_writes_eq_canon _ _ _ (cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv))]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S512x512) hz, View.ld_unit_zero (S := S8x512) hz, View.ld_unit_zero (S := S1x512) hz, shapeCast_self, ld_row]
  rw [pay2_at, pay3_at, pay10_at, pay13_at, pay46_at]
  rw [View.canon_unit_zero hz]
theorem case16B (h0 : ¬cond0_0 i) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv) = row fun d => sv d + ∑ r ∈ Finset.range 512, gV i X P u w b r d := by
  unfold out0_B_16
  rw [View.read_writes_eq_canon _ _ _ (cover0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 (at2 X) (at2 P) (at2 N) (at2 Xv) (at2 Pv) (at2 Nv) (at2 u) (at2 un) (at2 w) (at2 wv) (row b) (row bv) (at2 o) (at2 ov) (row s) (row sv))]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg18.read_unread, View.ld_unit_zero (S := S512x512) hz, View.ld_unit_zero (S := S8x512) hz, View.ld_unit_zero (S := S1x512) hz, shapeCast_self, ld_row]
  rw [pay2_at, pay3_at, pay10_at, pay14_at, pay1_at]
  rw [View.canon_unit_zero hz]

end Cert.ConvBwdIdeal.Conv
-- ==== Proof.ConvArr.lean ====
module
public import proofs.«01_k».proof.Proof.ConvCase
public import proofs.«01_k».proof.Proof.Sums

@[expose] public section

/-! The five arrays the call leaves. -/

set_option maxRecDepth 16384

noncomputable section

namespace Cert.ConvBwdIdeal.Conv

open Cert.ConvBwdIdeal Cert.ConvBwdIdeal.Gen Idealize.ShloMosaic Idealize.ShloMosaic.TcCoe
open Cert.Prod
open Finset (range)

/-! ## The specification -/

/-- The value half of a matrix's columns. -/
abbrev hi (f : ℕ → ℕ → EReal) : ℕ → ℕ → EReal := fun t c => f t (5632 + c)
/-- The value half of a row. -/
abbrev hi1 (b : ℕ → EReal) : ℕ → EReal := fun c => b (5632 + c)
/-- A vector's entry. -/
def rd1 {n : ℕ} (x : (⟨1, ![n]⟩ : Shape).Idx → EReal) (a : ℕ) : EReal := if h : a < n then x (ix1 ⟨a, h⟩) else 0

theorem rd1_at {n : ℕ} (x : (⟨1, ![n]⟩ : Shape).Idx → EReal) (j : (⟨1, ![n]⟩ : Shape).Idx) (a : ℕ) (ha : (j 0).val = a) : x j = rd1 x a := by
  subst ha
  unfold rd1
  rw [dif_pos (show (j 0).val < n from (j 0).isLt)]
  exact congrArg x (ix1_eta j).symm
theorem at2_rd {r c : ℕ} (x : (⟨2, ![r, c]⟩ : Shape).Idx → EReal) : at2 (rd x) = x := funext fun j => (rd_at x j _ _ rfl rfl).symm
theorem row_rd (x : FVec Ideal S1x512 .f32) : row (rd x 0) = x := funext fun j => (rd_at x j _ _ (by have := (j 0).isLt; change _ < 1 at this; omega) rfl).symm

variable (A W : ℕ → ℕ → EReal) (B : ℕ → EReal) (U : ℕ → ℕ → EReal)

/-- The gradient of the convolution's gate half. -/
abbrev eG : ℕ → ℕ → EReal := dgate U (pre A W B) (pre (hi A) (hi W) (hi1 B))
/-- The gradient of its value half. -/
abbrev eV : ℕ → ℕ → EReal := dval U (pre A W B)

/-! ## A tile's part of it -/

section tile
variable (i : grid0.Coords) (I j : ℕ) (hI : (i 1).val = I) (P Pv : ℕ → ℕ → EReal)
  (hP : 0 < I → ∀ r d, P r d = A (512 * I - 8 + r) (512 * j + d)) (hPv : 0 < I → ∀ r d, Pv r d = hi A (512 * I - 8 + r) (512 * j + d))
include hI

theorem cG_tile (A W : ℕ → ℕ → EReal) (B : ℕ → EReal) (P : ℕ → ℕ → EReal) (hP : 0 < I → ∀ r d, P r d = A (512 * I - 8 + r) (512 * j + d)) :
    cG i (tl A I j) P (fun k => tr (W k) j) (tr B j) = tl (pre A W B) I j := by
  unfold cG
  rw [hI]
  exact cv_tile A W B P I j hP
include hP hPv
theorem gG_tile : gG i (tl A I j) P (tl (hi A) I j) Pv (tl U I j) (fun k => tr (W k) j) (fun k => tr (hi W k) j) (tr B j) (tr (hi1 B) j) = tl (eG A W B U) I j := by
  unfold gG
  rw [cG_tile i I j hI A W B P hP, cG_tile i I j hI (hi A) (hi W) (hi1 B) Pv hPv]
  rfl
omit hPv
theorem gV_tile : gV i (tl A I j) P (tl U I j) (fun k => tr (W k) j) (tr B j) = tl (eV A W B U) I j := by
  unfold gV
  rw [cG_tile i I j hI A W B P hP]
  rfl
theorem aw_tile (o E : ℕ → ℕ → EReal) (k d : ℕ) (hk : k < 3) :
    aw i (tl A I j) P o (tl E I j) k d = o k d + ∑ r ∈ range 512, E (512 * I + r) (512 * j + d) * tap A k (512 * I + r) (512 * j + d) := by
  unfold aw rows
  rw [hI, dn2_tile A P I j hP, dn1_tile A P I j hP]
  split_ifs with h h'
  · subst h
    rfl
  · subst h'
    rfl
  · obtain rfl : k = 0 := by omega
    rfl
end tile

/-- The convolution's gradient just below a tile. -/
theorem next_tile (I j : ℕ) (N Nv un : ℕ → ℕ → EReal) (hN : N = tl A (I + 1) j) (hNv : Nv = tl (hi A) (I + 1) j) (hun : un = tl U (I + 1) j) :
    dgate un (cN (tl A I j) N (fun k => tr (W k) j) (tr B j)) (cN (tl (hi A) I j) Nv (fun k => tr (hi W k) j) (tr (hi1 B) j)) = tl (eG A W B U) (I + 1) j
    ∧ dval un (cN (tl A I j) N (fun k => tr (W k) j) (tr B j)) = tl (eV A W B U) (I + 1) j := by
  subst hN hNv hun
  unfold cN
  rw [cv_next A W B I j, cv_next (hi A) (hi W) (hi1 B) I j]
  exact ⟨rfl, rfl⟩

/-! ## The blocks the grid points read -/

theorem co : ∀ t : Fin cfg0.N, (grid0.coords t 1).val = t.val % 8 := (by decide +kernel : ∀ t : Fin grid0.N, (grid0.coords t 1).val = t.val % 8)
theorem ix0 : ∀ t : Fin cfg0.N, win0_0.index t (0 : Fin 2) = t.val % 8 ∧ win0_0.index t (1 : Fin 2) = t.val / 8 := (by decide +kernel : ∀ t : Fin grid0.N, _)
theorem ix1 : ∀ t : Fin cfg0.N, win0_1.index t (0 : Fin 2) = t.val % 8 * 64 - 1 ∧ win0_1.index t (1 : Fin 2) = t.val / 8 := (by decide +kernel : ∀ t : Fin grid0.N, _)
theorem ix2 : ∀ t : Fin cfg0.N, win0_2.index t (0 : Fin 2) = min ((t.val % 8 + 1) * 64) 511 ∧ win0_2.index t (1 : Fin 2) = t.val / 8 := (by decide +kernel : ∀ t : Fin grid0.N, _)
theorem ix3 : ∀ t : Fin cfg0.N, win0_3.index t (0 : Fin 2) = t.val % 8 ∧ win0_3.index t (1 : Fin 2) = t.val / 8 + 11 := (by decide +kernel : ∀ t : Fin grid0.N, _)
theorem ix4 : ∀ t : Fin cfg0.N, win0_4.index t (0 : Fin 2) = t.val % 8 * 64 - 1 ∧ win0_4.index t (1 : Fin 2) = t.val / 8 + 11 := (by decide +kernel : ∀ t : Fin grid0.N, _)
theorem ix5 : ∀ t : Fin cfg0.N, win0_5.index t (0 : Fin 2) = min ((t.val % 8 + 1) * 64) 511 ∧ win0_5.index t (1 : Fin 2) = t.val / 8 + 11 := (by decide +kernel : ∀ t : Fin grid0.N, _)
theorem ix6 : ∀ t : Fin cfg0.N, win0_6.index t (0 : Fin 2) = t.val % 8 ∧ win0_6.index t (1 : Fin 2) = t.val / 8 := (by decide +kernel : ∀ t : Fin grid0.N, _)
theorem ix7 : ∀ t : Fin cfg0.N, win0_7.index t (0 : Fin 2) = min ((t.val % 8 + 1) * 64) 511 ∧ win0_7.index t (1 : Fin 2) = t.val / 8 := (by decide +kernel : ∀ t : Fin grid0.N, _)
theorem ix8 : ∀ t : Fin cfg0.N, win0_8.index t (0 : Fin 2) = 0 ∧ win0_8.index t (1 : Fin 2) = t.val / 8 := (by decide +kernel : ∀ t : Fin grid0.N, _)
theorem ix9 : ∀ t : Fin cfg0.N, win0_9.index t (0 : Fin 2) = 0 ∧ win0_9.index t (1 : Fin 2) = t.val / 8 + 11 := (by decide +kernel : ∀ t : Fin grid0.N, _)
theorem ix10 : ∀ t : Fin cfg0.N, win0_10.index t (0 : Fin 2) = 0 ∧ win0_10.index t (1 : Fin 2) = t.val / 8 := (by decide +kernel : ∀ t : Fin grid0.N, _)
theorem ix11 : ∀ t : Fin cfg0.N, win0_11.index t (0 : Fin 2) = 0 ∧ win0_11.index t (1 : Fin 2) = t.val / 8 + 11 := (by decide +kernel : ∀ t : Fin grid0.N, _)
theorem ix13 : ∀ t : Fin cfg0.N, win0_13.index t (0 : Fin 2) = 0 ∧ win0_13.index t (1 : Fin 2) = t.val / 8 := (by decide +kernel : ∀ t : Fin grid0.N, _)
theorem ix14 : ∀ t : Fin cfg0.N, win0_14.index t (0 : Fin 2) = 0 ∧ win0_14.index t (1 : Fin 2) = t.val / 8 := (by decide +kernel : ∀ t : Fin grid0.N, _)
theorem ix15 : ∀ t : Fin cfg0.N, win0_15.index t (0 : Fin 2) = 0 ∧ win0_15.index t (1 : Fin 2) = t.val / 8 := (by decide +kernel : ∀ t : Fin grid0.N, _)
theorem ix16 : ∀ t : Fin cfg0.N, win0_16.index t (0 : Fin 2) = 0 ∧ win0_16.index t (1 : Fin 2) = t.val / 8 := (by decide +kernel : ∀ t : Fin grid0.N, _)
theorem ix12 : ∀ t : Fin cfg0.N, win0_12.index t (0 : Fin 3) = 0 ∧ win0_12.index t (1 : Fin 3) = t.val % 8 ∧ win0_12.index t (2 : Fin 3) = t.val / 8 := (by decide +kernel : ∀ t : Fin grid0.N, _)

variable (m : (ℓ : Loc nD τ sig) → Buf (Elt Ideal) ℓ) (c : Dev nD)

/-- The arguments, by row and column: the operand, the taps, the bias, the gradient of the gate's output. -/
abbrev mA : ℕ → ℕ → EReal := rd (m ((c : Thread nD τ).loc main_arg0))
@[inherit_doc mA] abbrev mW : ℕ → ℕ → EReal := rd (m ((c : Thread nD τ).loc main_arg1))
@[inherit_doc mA] abbrev mB : ℕ → EReal := rd1 (m ((c : Thread nD τ).loc main_arg2))
@[inherit_doc mA] abbrev mU : ℕ → ℕ → EReal := rd (m ((c : Thread nD τ).loc main_arg3))

theorem V_b : V m c main_v0 = at2 fun _ => mB m c := by
  simp only [V, List.flatten_cons, List.flatten_nil, List.append_nil, hostOps0, List.cons_append, List.nil_append]
  after_results_simp
  funext i
  unfold at2
  pointwise
  exact rd1_at _ _ _ (by simp)

variable (t : Fin cfg0.N)

theorem blk0 : (iblk m c 0 t : Vec Ideal S512x512 .f32) = at2 (tl (mA m c) (t.val % 8) (t.val / 8)) := by
  funext i
  obtain ⟨e0, e1⟩ := ix0 t
  show V m c main_arg0 (((cfg0.win 0).blk t).view.emb i) = _
  rw [V_main_arg0]
  refine rd_at _ _ _ _ ?_ ?_
  · blk_simp [e0, e1]; omega
  · blk_simp [e0, e1]; omega
theorem blk3 : (iblk m c 3 t : Vec Ideal S512x512 .f32) = at2 (tl (hi (mA m c)) (t.val % 8) (t.val / 8)) := by
  funext i
  obtain ⟨e0, e1⟩ := ix3 t
  show V m c main_arg0 (((cfg0.win 3).blk t).view.emb i) = _
  rw [V_main_arg0]
  refine rd_at _ _ _ _ ?_ ?_
  · blk_simp [e0, e1]; omega
  · blk_simp [e0, e1]; omega
theorem blk6 : (iblk m c 6 t : Vec Ideal S512x512 .f32) = at2 (tl (mU m c) (t.val % 8) (t.val / 8)) := by
  funext i
  obtain ⟨e0, e1⟩ := ix6 t
  show V m c main_arg3 (((cfg0.win 6).blk t).view.emb i) = _
  rw [V_main_arg3]
  refine rd_at _ _ _ _ ?_ ?_
  · blk_simp [e0, e1]; omega
  · blk_simp [e0, e1]; omega
theorem blk1 : (iblk m c 1 t : Vec Ideal S8x512 .f32) = at2 fun r d => mA m c (8 * (t.val % 8 * 64 - 1) + r) (512 * (t.val / 8) + d) := by
  funext i
  obtain ⟨e0, e1⟩ := ix1 t
  show V m c main_arg0 (((cfg0.win 1).blk t).view.emb i) = _
  rw [V_main_arg0]
  refine rd_at _ _ _ _ ?_ ?_
  · blk_simp [e0, e1]; omega
  · blk_simp [e0, e1]; omega
theorem blk4 : (iblk m c 4 t : Vec Ideal S8x512 .f32) = at2 fun r d => (hi (mA m c)) (8 * (t.val % 8 * 64 - 1) + r) (512 * (t.val / 8) + d) := by
  funext i
  obtain ⟨e0, e1⟩ := ix4 t
  show V m c main_arg0 (((cfg0.win 4).blk t).view.emb i) = _
  rw [V_main_arg0]
  refine rd_at _ _ _ _ ?_ ?_
  · blk_simp [e0, e1]; omega
  · blk_simp [e0, e1]; omega
theorem blk2 : (iblk m c 2 t : Vec Ideal S8x512 .f32) = at2 fun r d => mA m c (8 * min ((t.val % 8 + 1) * 64) 511 + r) (512 * (t.val / 8) + d) := by
  funext i
  obtain ⟨e0, e1⟩ := ix2 t
  show V m c main_arg0 (((cfg0.win 2).blk t).view.emb i) = _
  rw [V_main_arg0]
  refine rd_at _ _ _ _ ?_ ?_
  · blk_simp [e0, e1]; omega
  · blk_simp [e0, e1]; omega
theorem blk5 : (iblk m c 5 t : Vec Ideal S8x512 .f32) = at2 fun r d => (hi (mA m c)) (8 * min ((t.val % 8 + 1) * 64) 511 + r) (512 * (t.val / 8) + d) := by
  funext i
  obtain ⟨e0, e1⟩ := ix5 t
  show V m c main_arg0 (((cfg0.win 5).blk t).view.emb i) = _
  rw [V_main_arg0]
  refine rd_at _ _ _ _ ?_ ?_
  · blk_simp [e0, e1]; omega
  · blk_simp [e0, e1]; omega
theorem blk7 : (iblk m c 7 t : Vec Ideal S8x512 .f32) = at2 fun r d => mU m c (8 * min ((t.val % 8 + 1) * 64) 511 + r) (512 * (t.val / 8) + d) := by
  funext i
  obtain ⟨e0, e1⟩ := ix7 t
  show V m c main_arg3 (((cfg0.win 7).blk t).view.emb i) = _
  rw [V_main_arg3]
  refine rd_at _ _ _ _ ?_ ?_
  · blk_simp [e0, e1]; omega
  · blk_simp [e0, e1]; omega
theorem blk8 : (iblk m c 8 t : Vec Ideal S3x512 .f32) = at2 fun k => tr (mW m c k) (t.val / 8) := by
  funext i
  obtain ⟨e0, e1⟩ := ix8 t
  show V m c main_arg1 (((cfg0.win 8).blk t).view.emb i) = _
  rw [V_main_arg1]
  refine rd_at _ _ _ _ ?_ ?_
  · blk_simp [e0, e1]
  · blk_simp [e0, e1]; omega
theorem blk9 : (iblk m c 9 t : Vec Ideal S3x512 .f32) = at2 fun k => tr (hi (mW m c) k) (t.val / 8) := by
  funext i
  obtain ⟨e0, e1⟩ := ix9 t
  show V m c main_arg1 (((cfg0.win 9).blk t).view.emb i) = _
  rw [V_main_arg1]
  refine rd_at _ _ _ _ ?_ ?_
  · blk_simp [e0, e1]
  · blk_simp [e0, e1]; omega
theorem blk10 : (iblk m c 10 t : Vec Ideal S1x512 .f32) = row (tr (mB m c) (t.val / 8)) := by
  funext i
  obtain ⟨e0, e1⟩ := ix10 t
  show V m c main_v0 (((cfg0.win 10).blk t).view.emb i) = _
  rw [V_b]
  unfold row at2 tr
  refine congrArg (mB m c) ?_
  blk_simp [e0, e1]; omega
theorem blk11 : (iblk m c 11 t : Vec Ideal S1x512 .f32) = row (tr (hi1 (mB m c)) (t.val / 8)) := by
  funext i
  obtain ⟨e0, e1⟩ := ix11 t
  show V m c main_v0 (((cfg0.win 11).blk t).view.emb i) = _
  rw [V_b]
  unfold row at2 tr
  refine congrArg (mB m c) ?_
  blk_simp [e0, e1]; omega

/-! ## What the grid points leave -/

/-- The convolution's gradient, its two halves, of the arguments. -/
abbrev mG : ℕ → ℕ → EReal := eG (mA m c) (mW m c) (mB m c) (mU m c)
@[inherit_doc mG] abbrev mV : ℕ → ℕ → EReal := eV (mA m c) (mW m c) (mB m c) (mU m c)

/-- The eight rows before the tile, and the eight after it. -/
abbrev pv (f : ℕ → ℕ → EReal) (n : ℕ) : ℕ → ℕ → EReal := fun r d => f (8 * (n % 8 * 64 - 1) + r) (512 * (n / 8) + d)
@[inherit_doc pv] abbrev nx (f : ℕ → ℕ → EReal) (n : ℕ) : ℕ → ℕ → EReal := fun r d => f (8 * min ((n % 8 + 1) * 64) 511 + r) (512 * (n / 8) + d)

theorem pv_eq (f : ℕ → ℕ → EReal) (n : ℕ) (h : 0 < n % 8) (r d : ℕ) : pv f n r d = f (512 * (n % 8) - 8 + r) (512 * (n / 8) + d) :=
  congrArg (f · _) (by omega)
theorem nx_eq (f : ℕ → ℕ → EReal) (n : ℕ) (h : n % 8 < 7) : nx f n = tl f (n % 8 + 1) (n / 8) :=
  funext fun r => funext fun d => congrArg (f · _) (by omega)

theorem gG_pt : gG (grid0.coords t) (tl (mA m c) (t.val % 8) (t.val / 8)) (pv (mA m c) t) (tl (hi (mA m c)) (t.val % 8) (t.val / 8)) (pv (hi (mA m c)) t) (tl (mU m c) (t.val % 8) (t.val / 8))
      (fun k => tr (mW m c k) (t.val / 8)) (fun k => tr (hi (mW m c) k) (t.val / 8)) (tr (mB m c) (t.val / 8)) (tr (hi1 (mB m c)) (t.val / 8)) = tl (mG m c) (t.val % 8) (t.val / 8) :=
  gG_tile _ _ _ _ _ _ _ (co t) _ _ (pv_eq _ _) (pv_eq _ _)
theorem gV_pt : gV (grid0.coords t) (tl (mA m c) (t.val % 8) (t.val / 8)) (pv (mA m c) t) (tl (mU m c) (t.val % 8) (t.val / 8))
      (fun k => tr (mW m c k) (t.val / 8)) (tr (mB m c) (t.val / 8)) = tl (mV m c) (t.val % 8) (t.val / 8) :=
  gV_tile _ _ _ _ _ _ _ (co t) _ (pv_eq _ _)

/-- The operand's gradient on the point's tile. -/
theorem da_pt : (at3 fun p => if p = 1 then ct (fun k => tr (hi (mW m c) k) (t.val / 8)) (decide ((grid0.coords t 1).val = 7)) (tl (mV m c) (t.val % 8) (t.val / 8))
        (dval (nx (mU m c) t) (cN (tl (mA m c) (t.val % 8) (t.val / 8)) (nx (mA m c) t) (fun k => tr (mW m c k) (t.val / 8)) (tr (mB m c) (t.val / 8))))
      else ct (fun k => tr (mW m c k) (t.val / 8)) (decide ((grid0.coords t 1).val = 7)) (tl (mG m c) (t.val % 8) (t.val / 8))
        (dgate (nx (mU m c) t) (cN (tl (mA m c) (t.val % 8) (t.val / 8)) (nx (mA m c) t) (fun k => tr (mW m c k) (t.val / 8)) (tr (mB m c) (t.val / 8)))
          (cN (tl (hi (mA m c)) (t.val % 8) (t.val / 8)) (nx (hi (mA m c)) t) (fun k => tr (hi (mW m c) k) (t.val / 8)) (tr (hi1 (mB m c)) (t.val / 8)))) :
        S2x512x512.Idx → EReal)
    = at3 fun p => tl (if p = 1 then da (hi (mW m c)) (mV m c) else da (mW m c) (mG m c)) (t.val % 8) (t.val / 8) := by
  funext y
  have hr : (y 1).val < 512 := (y 1).isLt
  have hn (h : t.val % 8 < 7) := next_tile (mA m c) (mW m c) (mB m c) (mU m c) (t.val % 8) (t.val / 8) _ _ _ (nx_eq (mA m c) t h) (nx_eq (hi (mA m c)) t h) (nx_eq (mU m c) t h)
  unfold at3
  rw [co t]
  dsimp only
  split_ifs
  · exact ct_tile _ _ _ _ _ _ _ hr (by omega) fun h => (hn h).2
  · exact ct_tile _ _ _ _ _ _ _ hr (by omega) fun h => (hn h).1

/-- The terms of the taps' gradient, and of the bias's, in block `q` of the columns. -/
abbrev tW (f E : ℕ → ℕ → EReal) (q k d n : ℕ) : EReal := E n (512 * q + d) * tap f k n (512 * q + d)
@[inherit_doc tW] abbrev tB (E : ℕ → ℕ → EReal) (q _k d n : ℕ) : EReal := E n (512 * q + d)

theorem aw_pt (f o E : ℕ → ℕ → EReal) : (at2 (aw (grid0.coords t) (tl f (t.val % 8) (t.val / 8)) (pv f t) o (tl E (t.val % 8) (t.val / 8))) : S3x512.Idx → EReal)
    = at2 fun k d => o k d + ∑ r ∈ range 512, tW f E (t.val / 8) k d (512 * (t.val % 8) + r) :=
  at2_congr fun k d hk _ => aw_tile f _ _ _ (co t) _ (pv_eq _ _) o E k d hk

theorem ptA (h : t.val % 8 = 0) : outsAt0 (F := Ideal) m c t.val t.isLt
    = (at3 fun p => tl (if p = 1 then da (hi (mW m c)) (mV m c) else da (mW m c) (mG m c)) (t.val % 8) (t.val / 8),
      at2 fun k d => ∑ r ∈ range 512, tW (mA m c) (mG m c) (t.val / 8) k d r, at2 fun k d => ∑ r ∈ range 512, tW (hi (mA m c)) (mV m c) (t.val / 8) k d r,
      at2 fun k d => ∑ r ∈ range 512, tB (mG m c) (t.val / 8) k d r, at2 fun k d => ∑ r ∈ range 512, tB (mV m c) (t.val / 8) k d r) := by
  rw [outsAt0_A m c t h, blk0, blk1, blk2, blk3, blk4, blk5, blk6, blk7, blk8, blk9, blk10, blk11]
  rw [case12A, case13A, case14A, case15A, case16A, gG_pt, gV_pt, aw_pt, aw_pt, da_pt, h]
  simp only [Nat.mul_zero, Nat.zero_add, zero_add, tl]

theorem ptB (o ov s sv : ℕ → ℕ → EReal) (h : ¬t.val % 8 = 0)
    (e1 : (outsAt0 (F := Ideal) m c (t.val - 1) (Nat.lt_of_le_of_lt (Nat.sub_le _ _) t.isLt)).2.1 = at2 o)
    (e2 : (outsAt0 (F := Ideal) m c (t.val - 1) (Nat.lt_of_le_of_lt (Nat.sub_le _ _) t.isLt)).2.2.1 = at2 ov)
    (e3 : (outsAt0 (F := Ideal) m c (t.val - 1) (Nat.lt_of_le_of_lt (Nat.sub_le _ _) t.isLt)).2.2.2.1 = at2 s)
    (e4 : (outsAt0 (F := Ideal) m c (t.val - 1) (Nat.lt_of_le_of_lt (Nat.sub_le _ _) t.isLt)).2.2.2.2 = at2 sv) :
    outsAt0 (F := Ideal) m c t.val t.isLt
    = (at3 fun p => tl (if p = 1 then da (hi (mW m c)) (mV m c) else da (mW m c) (mG m c)) (t.val % 8) (t.val / 8),
      at2 fun k d => o k d + ∑ r ∈ range 512, tW (mA m c) (mG m c) (t.val / 8) k d (512 * (t.val % 8) + r),
      at2 fun k d => ov k d + ∑ r ∈ range 512, tW (hi (mA m c)) (mV m c) (t.val / 8) k d (512 * (t.val % 8) + r),
      at2 fun k d => s k d + ∑ r ∈ range 512, tB (mG m c) (t.val / 8) k d (512 * (t.val % 8) + r),
      at2 fun k d => sv k d + ∑ r ∈ range 512, tB (mV m c) (t.val / 8) k d (512 * (t.val % 8) + r)) := by
  have hs (f : ℕ → ℕ → EReal) : (at2 f : FVec Ideal S1x512 .f32) = row (f 0) :=
    at2_congr fun x y hx _ => by rw [show x = 0 by omega]
  rw [outsAt0_B m c t h, e1, e2, e3, e4, blk0, blk1, blk2, blk3, blk4, blk5, blk6, blk7, blk8, blk9, blk10, blk11, hs s, hs sv]
  rw [case12B, case13B, case14B, case15B, case16B, gG_pt, gV_pt, aw_pt, aw_pt, da_pt]
  refine Prod.ext rfl (Prod.ext rfl (Prod.ext rfl (Prod.ext ?_ ?_)))
  · exact (hs fun k d => s k d + ∑ r ∈ range 512, tB (mG m c) (t.val / 8) k d (512 * (t.val % 8) + r)).symm
  · exact (hs fun k d => sv k d + ∑ r ∈ range 512, tB (mV m c) (t.val / 8) k d (512 * (t.val % 8) + r)).symm

/-! ## The arrays -/

theorem acc13 : ∀ n (h : n < cfg0.N), (outsAt0 (F := Ideal) m c n h).2.1 = at2 fun k d => ∑ r ∈ range (512 * (n % 8) + 512), tW (mA m c) (mG m c) (n / 8) k d r :=
  acc_fold 8 512 (tW (mA m c) (mG m c)) _ (fun n h hm => congrArg (·.2.1) (ptA m c ⟨n, h⟩ hm))
    fun n h a hm ih => congrArg (·.2.1) (ptB m c ⟨n, h⟩ a _ _ _ hm ih (at2_rd _).symm (at2_rd _).symm (at2_rd _).symm)
theorem acc14 : ∀ n (h : n < cfg0.N), (outsAt0 (F := Ideal) m c n h).2.2.1 = at2 fun k d => ∑ r ∈ range (512 * (n % 8) + 512), tW (hi (mA m c)) (mV m c) (n / 8) k d r :=
  acc_fold 8 512 (tW (hi (mA m c)) (mV m c)) _ (fun n h hm => congrArg (·.2.2.1) (ptA m c ⟨n, h⟩ hm))
    fun n h a hm ih => congrArg (·.2.2.1) (ptB m c ⟨n, h⟩ _ a _ _ hm (at2_rd _).symm ih (at2_rd _).symm (at2_rd _).symm)
theorem acc15 : ∀ n (h : n < cfg0.N), (outsAt0 (F := Ideal) m c n h).2.2.2.1 = at2 fun k d => ∑ r ∈ range (512 * (n % 8) + 512), tB (mG m c) (n / 8) k d r :=
  acc_fold 8 512 (tB (mG m c)) _ (fun n h hm => congrArg (·.2.2.2.1) (ptA m c ⟨n, h⟩ hm))
    fun n h a hm ih => congrArg (·.2.2.2.1) (ptB m c ⟨n, h⟩ _ _ a _ hm (at2_rd _).symm (at2_rd _).symm ih (at2_rd _).symm)
theorem acc16 : ∀ n (h : n < cfg0.N), (outsAt0 (F := Ideal) m c n h).2.2.2.2 = at2 fun k d => ∑ r ∈ range (512 * (n % 8) + 512), tB (mV m c) (n / 8) k d r :=
  acc_fold 8 512 (tB (mV m c)) _ (fun n h hm => congrArg (·.2.2.2.2) (ptA m c ⟨n, h⟩ hm))
    fun n h a hm ih => congrArg (·.2.2.2.2) (ptB m c ⟨n, h⟩ _ _ _ a hm (at2_rd _).symm (at2_rd _).symm (at2_rd _).symm ih)
theorem da_val : (outsAt0 (F := Ideal) m c t.val t.isLt).1 = at3 fun p => tl (if p = 1 then da (hi (mW m c)) (mV m c) else da (mW m c) (mG m c)) (t.val % 8) (t.val / 8) := by
  by_cases h : t.val % 8 = 0
  · exact congrArg (·.1) (ptA m c t h)
  · exact congrArg (·.1) (ptB m c t _ _ _ _ h (at2_rd _).symm (at2_rd _).symm (at2_rd _).symm (at2_rd _).symm)

theorem arr12 : (dats (F := Ideal) m 0 c).arrAt 12 cfg0.N = (at3 fun p => if p = 1 then da (hi (mW m c)) (mV m c) else da (mW m c) (mG m c)) := by
  refine (dats m 0 c).arrAt_eq_of_covers 12 _ (by decide +kernel) fun t hf y => ?_
  obtain ⟨e0, e1, e2⟩ := ix12 t
  blk_simp
  rw [after0_12, da_val m c t]
  have a0 : ((((cfg0.win 12).blk t).view.emb y : S2x4096x5632.Idx) 0).val = (y 0).val := by
    blk_simp [e0]
  have a1 : ((((cfg0.win 12).blk t).view.emb y : S2x4096x5632.Idx) 1).val = 512 * (t.val % 8) + (y 1).val := by
    blk_simp [e1]; omega
  have a2 : ((((cfg0.win 12).blk t).view.emb y : S2x4096x5632.Idx) 2).val = 512 * (t.val / 8) + (y 2).val := by
    blk_simp [e2]; omega
  unfold at3
  rw [a0, a1, a2]
  rfl
theorem arr13 : (dats (F := Ideal) m 0 c).arrAt 13 cfg0.N = (at2 (dw (mA m c) (mG m c))) := by
  refine (dats m 0 c).arrAt_eq_of_covers 13 _ (by decide +kernel) fun t hf y => ?_
  obtain ⟨e0, e1⟩ := ix13 t
  have hm := (flush0_13 t).mp hf
  blk_simp
  rw [after0_13, acc13 m c t.val t.isLt, hm]
  have a0 : ((((cfg0.win 13).blk t).view.emb y : S3x5632.Idx) 0).val = (y 0).val := by
    blk_simp [e0]
  have a1 : ((((cfg0.win 13).blk t).view.emb y : S3x5632.Idx) 1).val = 512 * (t.val / 8) + (y 1).val := by
    blk_simp [e1]; omega
  unfold at2
  rw [a0, a1]
  rfl
theorem arr14 : (dats (F := Ideal) m 0 c).arrAt 14 cfg0.N = (at2 (dw (hi (mA m c)) (mV m c))) := by
  refine (dats m 0 c).arrAt_eq_of_covers 14 _ (by decide +kernel) fun t hf y => ?_
  obtain ⟨e0, e1⟩ := ix14 t
  have hm := (flush0_14 t).mp hf
  blk_simp
  rw [after0_14, acc14 m c t.val t.isLt, hm]
  have a0 : ((((cfg0.win 14).blk t).view.emb y : S3x5632.Idx) 0).val = (y 0).val := by
    blk_simp [e0]
  have a1 : ((((cfg0.win 14).blk t).view.emb y : S3x5632.Idx) 1).val = 512 * (t.val / 8) + (y 1).val := by
    blk_simp [e1]; omega
  unfold at2
  rw [a0, a1]
  rfl
theorem arr15 : (dats (F := Ideal) m 0 c).arrAt 15 cfg0.N = (at2 fun _ => db (mG m c)) := by
  refine (dats m 0 c).arrAt_eq_of_covers 15 _ (by decide +kernel) fun t hf y => ?_
  obtain ⟨e0, e1⟩ := ix15 t
  have hm := (flush0_15 t).mp hf
  blk_simp
  rw [after0_15, acc15 m c t.val t.isLt, hm]
  have a1 : ((((cfg0.win 15).blk t).view.emb y : S1x5632.Idx) 1).val = 512 * (t.val / 8) + (y 1).val := by
    blk_simp [e1]; omega
  unfold at2
  rw [a1]
  rfl
theorem arr16 : (dats (F := Ideal) m 0 c).arrAt 16 cfg0.N = (at2 fun _ => db (mV m c)) := by
  refine (dats m 0 c).arrAt_eq_of_covers 16 _ (by decide +kernel) fun t hf y => ?_
  obtain ⟨e0, e1⟩ := ix16 t
  have hm := (flush0_16 t).mp hf
  blk_simp
  rw [after0_16, acc16 m c t.val t.isLt, hm]
  have a1 : ((((cfg0.win 16).blk t).view.emb y : S1x5632.Idx) 1).val = 512 * (t.val / 8) + (y 1).val := by
    blk_simp [e1]; omega
  unfold at2
  rw [a1]
  rfl

end Cert.ConvBwdIdeal.Conv
-- ==== Proof.ConvRef.lean ====
module
public import proofs.«01_k».proof.Proof.ConvArr
public import proofs.«01_k».proof.Proof.Gen.ConvBwdRefIdeal.Run

@[expose] public section

/-! The reference's convolution and its gradient, as its operations. -/

set_option maxRecDepth 16384

noncomputable section

namespace Cert.ConvBwdRefIdeal.Conv

open Cert.ConvBwdRefIdeal Cert.ConvBwdRefIdeal.Gen Idealize.ShloMosaic Idealize.ShloMosaic.TcCoe
open Cert.Prod Cert.ConvBwdIdeal.Conv
open Finset (range)

variable (a0 : FVec Ideal S4096x11264 .f32) (a1 : FVec Ideal S3x11264 .f32) (a2 : FVec Ideal S11264 .f32) (a3 : FVec Ideal S4096x5632 .f32)

/-- Ones. -/
def one : FVec Ideal S4096x5632 .f32 := broadcastInDim S4096x5632 ![] bcast_S_S4096x5632 (constant S_ .f32 0x3F800000#32)
/-- Two rows of zeros, then the operand. -/
def pd : FVec Ideal S4098x11264 .f32 := concatenate S4098x11264 0 [⟨S2x11264, (broadcastInDim S2x11264 ![] bcast_S_S2x11264 (constant S_ .f32 0x00000000#32))⟩, ⟨S4096x11264, a0⟩] concatenates_S2x11264_S4096x11264_S4098x11264_d0
/-- The operand under each tap. -/
def t0 : FVec Ideal S4096x11264 .f32 := extractStridedSlice S4096x11264 ![0, 0] (pd a0) slices_S4098x11264_S4096x11264_0_0
@[inherit_doc t0] def t1 : FVec Ideal S4096x11264 .f32 := extractStridedSlice S4096x11264 ![1, 0] (pd a0) slices_S4098x11264_S4096x11264_1_0
@[inherit_doc t0] def t2 : FVec Ideal S4096x11264 .f32 := extractStridedSlice S4096x11264 ![2, 0] (pd a0) slices_S4098x11264_S4096x11264_2_0
/-- Each tap, on every row. -/
def w0 : FVec Ideal S4096x11264 .f32 := broadcastInDim S4096x11264 ![0, 1] bcast_S1x11264_S4096x11264_0_1 (broadcastInDim S1x11264 ![1] bcast_S11264_S1x11264_1 (shapeCast _ (extractStridedSlice S1x11264 ![0, 0] a1 slices_S3x11264_S1x11264_0_0) shapeCasts_S1x11264_S11264))
@[inherit_doc w0] def w1 : FVec Ideal S4096x11264 .f32 := broadcastInDim S4096x11264 ![0, 1] bcast_S1x11264_S4096x11264_0_1 (broadcastInDim S1x11264 ![1] bcast_S11264_S1x11264_1 (shapeCast _ (extractStridedSlice S1x11264 ![1, 0] a1 slices_S3x11264_S1x11264_1_0) shapeCasts_S1x11264_S11264))
@[inherit_doc w0] def w2 : FVec Ideal S4096x11264 .f32 := broadcastInDim S4096x11264 ![0, 1] bcast_S1x11264_S4096x11264_0_1 (broadcastInDim S1x11264 ![1] bcast_S11264_S1x11264_1 (shapeCast _ (extractStridedSlice S1x11264 ![2, 0] a1 slices_S3x11264_S1x11264_2_0) shapeCasts_S1x11264_S11264))
/-- The convolution. -/
def cvr : FVec Ideal S4096x11264 .f32 := addf (broadcastInDim S4096x11264 ![0, 1] bcast_S1x11264_S4096x11264_0_1 (broadcastInDim S1x11264 ![1] bcast_S11264_S1x11264_1 a2)) (addf (addf (addf (broadcastInDim S4096x11264 ![] bcast_S_S4096x11264 (constant S_ .f32 0x00000000#32)) (mulf (w0 a1) (t0 a0))) (mulf (w1 a1) (t1 a0))) (mulf (w2 a1) (t2 a0)))
/-- Its gate half. -/
def gt : FVec Ideal S4096x5632 .f32 := extractStridedSlice S4096x5632 ![0, 0] (cvr a0 a1 a2) slices_S4096x11264_S4096x5632_0_0
/-- The gradient times the value half. -/
def vu : FVec Ideal S4096x5632 .f32 := mulf a3 (extractStridedSlice S4096x5632 ![0, 5632] (cvr a0 a1 a2) slices_S4096x11264_S4096x5632_0_5632)
/-- The logistic function of the gate half. -/
def sgr : FVec Ideal S4096x5632 .f32 := Host.divf one (addf one (Host.exp (Host.negf (gt a0 a1 a2))))
/-- The gradient of the convolution. -/
def gr : FVec Ideal S4096x11264 .f32 := concatenate S4096x11264 1 [⟨S4096x5632, (addf (mulf (vu a0 a1 a2 a3) (sgr a0 a1 a2)) (mulf (mulf (gt a0 a1 a2) (vu a0 a1 a2 a3)) (mulf (sgr a0 a1 a2) (subf one (sgr a0 a1 a2)))))⟩, ⟨S4096x5632, (mulf (mulf (gt a0 a1 a2) (sgr a0 a1 a2)) a3)⟩] concatenates_S4096x5632_S4096x5632_S4096x11264_d1
/-- The sum down each column, in two steps. -/
def red (x : FVec Ideal S4096x11264 .f32) : FVec Ideal S11264 .f32 :=
  Host.reduceAdd (shapeCast _ (Host.reduceAdd x (constant S_ .f32 0x00000000#32) reducesTo_S4096x11264_S11264_d0 h_S_) shapeCasts_S11264_S1x11264) (constant S_ .f32 0x00000000#32) reducesTo_S1x11264_S11264_d0 h_S_
/-- The taps' gradient. -/
def ds (g : FVec Ideal S4096x11264 .f32) : FVec Ideal S3x11264 .f32 := addf (addf (pad S3x11264 ![2, 0] ![0, 0] ![0, 0] (broadcastInDim S1x11264 ![1] bcast_S11264_S1x11264_1 (red (mulf g (t2 a0)))) (constant S_ .f32 0x00000000#32) pads_S1x11264_S3x11264_200_000 h_S_) (pad S3x11264 ![1, 0] ![1, 0] ![0, 0] (broadcastInDim S1x11264 ![1] bcast_S11264_S1x11264_1 (red (mulf g (t1 a0)))) (constant S_ .f32 0x00000000#32) pads_S1x11264_S3x11264_110_000 h_S_)) (pad S3x11264 ![0, 0] ![2, 0] ![0, 0] (broadcastInDim S1x11264 ![1] bcast_S11264_S1x11264_1 (red (mulf g (t0 a0)))) (constant S_ .f32 0x00000000#32) pads_S1x11264_S3x11264_020_000 h_S_)
/-- The padded operand's gradient. -/
def dp (g : FVec Ideal S4096x11264 .f32) : FVec Ideal S4098x11264 .f32 := addf (addf (pad S4098x11264 ![2, 0] ![0, 0] ![0, 0] (mulf (w2 a1) g) (constant S_ .f32 0x00000000#32) pads_S4096x11264_S4098x11264_200_000 h_S_) (pad S4098x11264 ![1, 0] ![1, 0] ![0, 0] (mulf (w1 a1) g) (constant S_ .f32 0x00000000#32) pads_S4096x11264_S4098x11264_110_000 h_S_)) (pad S4098x11264 ![0, 0] ![2, 0] ![0, 0] (mulf (w0 a1) g) (constant S_ .f32 0x00000000#32) pads_S4096x11264_S4098x11264_020_000 h_S_)

section
variable (m : (ℓ : Loc nD τ sig) → Buf (Elt Ideal) ℓ) (c : Dev nD)

/-- The convolution's gradient, of the arguments. -/
abbrev mg : FVec Ideal S4096x11264 .f32 := gr (m ((c.tc : Thread nD τ).loc main_arg0)) (m ((c.tc : Thread nD τ).loc main_arg1)) (m ((c.tc : Thread nD τ).loc main_arg2)) (m ((c.tc : Thread nD τ).loc main_arg3))

theorem da_eq : Value.res_main_v74 (F := Ideal) m c = truncf .bf16 (transpose S2x4096x5632 [1, 0, 2] (shapeCast _ (extractStridedSlice S4096x11264 ![2, 0] (dp (m ((c.tc : Thread nD τ).loc main_arg1)) (mg m c)) slices_S4098x11264_S4096x11264_2_0) shapeCasts_S4096x11264_S4096x2x5632) transposes_S4096x2x5632_S2x4096x5632_1_0_2) bitsLt_bf16_f32 := rfl
theorem dg_eq : Value.res_main_v75 (F := Ideal) m c = extractStridedSlice S3x5632 ![0, 0] (ds (m ((c.tc : Thread nD τ).loc main_arg0)) (mg m c)) slices_S3x11264_S3x5632_0_0 := rfl
theorem dv_eq : Value.res_main_v76 (F := Ideal) m c = extractStridedSlice S3x5632 ![0, 5632] (ds (m ((c.tc : Thread nD τ).loc main_arg0)) (mg m c)) slices_S3x11264_S3x5632_0_5632 := rfl
theorem bg_eq : Value.res_main_v78 (F := Ideal) m c = shapeCast _ (extractStridedSlice S5632 ![0] (red (mg m c)) slices_S11264_S5632_0) shapeCasts_S5632_S1x5632 := rfl
theorem bv_eq : Value.res_main_v80 (F := Ideal) m c = shapeCast _ (extractStridedSlice S5632 ![5632] (red (mg m c)) slices_S11264_S5632_5632) shapeCasts_S5632_S1x5632 := rfl
end

end Cert.ConvBwdRefIdeal.Conv
-- ==== Proof.ConvRefVal.lean ====
module
public import proofs.«01_k».proof.Proof.ConvRef

@[expose] public section

/-! The reference's convolution and its gradient by row and column. -/

set_option maxRecDepth 16384

noncomputable section

namespace Cert.ConvBwdRefIdeal.Conv

open Cert.ConvBwdRefIdeal Cert.ConvBwdRefIdeal.Gen Idealize.ShloMosaic Idealize.ShloMosaic.TcCoe
open Cert.Prod Cert.ConvBwdIdeal.Conv
open Finset (range)

variable (A W : ℕ → ℕ → EReal) (B : ℕ → EReal) (U E : ℕ → ℕ → EReal)

/-- A vector's entries. -/
def at1 {n : ℕ} (f : ℕ → EReal) : (⟨1, ![n]⟩ : Shape).Idx → EReal := fun i => f (i 0).val

/-- A number that is a real. -/
abbrev Re (x : EReal) : Prop := ∃ v : ℝ, x = (v : EReal)

theorem Re.mul {x y : EReal} : Re x → Re y → Re (x * y) := by
  rintro ⟨a, rfl⟩ ⟨b, rfl⟩
  exact ⟨a * b, (EReal.coe_mul a b).symm⟩
theorem Re.add {x y : EReal} : Re x → Re y → Re (x + y) := by
  rintro ⟨a, rfl⟩ ⟨b, rfl⟩
  exact ⟨a + b, (EReal.coe_add a b).symm⟩

theorem re_pre (hA : ∀ t c, Re (A t c)) (hW : ∀ t c, Re (W t c)) (hB : ∀ c, Re (B c)) (t c : ℕ) : Re (pre A W B t c) := by
  have ht (k) : Re (tap A k t c) := by
    unfold tap
    split_ifs
    · exact ⟨0, rfl⟩
    · exact hA _ _
  exact (((hB c).add ((hW 0 c).mul (ht 0))).add ((hW 1 c).mul (ht 1))).add ((hW 2 c).mul (hA t c))

/-- The two forms of the gate's derivative agree on reals. -/
theorem gate_eq (u v g : EReal) (hu : Re u) (hv : Re v) (hg : Re g) :
    u * v * Ideal.div 1 (1 + Ideal.exp (-g)) + g * (u * v) * (Ideal.div 1 (1 + Ideal.exp (-g)) * (1 - Ideal.div 1 (1 + Ideal.exp (-g))))
      = u * v * (sg g * (1 + g * (1 - sg g))) := by
  obtain ⟨u, rfl⟩ := hu
  obtain ⟨v, rfl⟩ := hv
  obtain ⟨g, rfl⟩ := hg
  have e : Ideal.div 1 (1 + Ideal.exp (-(g : EReal))) = ((1 / (1 + Real.exp (-g)) : ℝ) : EReal) := by
    rw [← EReal.coe_neg, Ideal.exp_coe, ← EReal.coe_one, ← EReal.coe_add, Ideal.div_coe (by positivity), ← EReal.coe_mul, one_mul]
  have e' : sg (g : EReal) = ((1 / (1 + Real.exp (-g)) : ℝ) : EReal) := by
    unfold sg
    rw [zero_sub, e]
  rw [e, e']
  generalize 1 / (1 + Real.exp (-g)) = s
  rw [← EReal.coe_one]
  simp only [← EReal.coe_mul, ← EReal.coe_add, ← EReal.coe_sub]
  exact congrArg _ (by ring)

theorem t0_at : t0 (at2 A) = at2 (tap A 0) := by
  funext i
  unfold t0 pd at2 tap
  pointwise
  split_ifs <;> rfl
theorem t1_at : t1 (at2 A) = at2 (tap A 1) := by
  funext i
  unfold t1 pd at2 tap
  pointwise
  split_ifs
  all_goals first
    | rfl
    | omega
    | exact congrArg (A · _) (by omega)
theorem t2_at : t2 (at2 A) = at2 (tap A 2) := by
  funext i
  unfold t2 pd at2 tap
  pointwise
  split_ifs
  all_goals first
    | rfl
    | omega
    | exact congrArg (A · _) (by omega)
theorem w0_at : w0 (at2 W) = at2 fun _ => W 0 := by
  funext i
  unfold w0 at2
  pointwise
theorem w1_at : w1 (at2 W) = at2 fun _ => W 1 := by
  funext i
  unfold w1 at2
  pointwise
theorem w2_at : w2 (at2 W) = at2 fun _ => W 2 := by
  funext i
  unfold w2 at2
  pointwise
theorem red_at : red (at2 E) = at1 (db E) := by
  funext i
  unfold red at2 at1 db
  pointwise
  simp only [Finset.univ_unique, Finset.sum_singleton]
  exact (Finset.sum_range fun t => E t (i 0).val).symm
theorem mul_at (k : ℕ) : mulf (F := Ideal) (φ := .f32) (s := S4096x11264) (at2 E) (at2 (tap A k)) = at2 fun t d => E t d * tap A k t d := rfl
theorem cvr_at : cvr (at2 A) (at2 W) (at1 B) = at2 (pre A W B) := by
  unfold cvr
  rw [t0_at, t1_at, t2_at, w0_at, w1_at, w2_at]
  funext i
  unfold at2 at1 pre
  pointwise
  have e : tap A 2 (i 0).val (i 1).val = A (i 0).val (i 1).val := by
    unfold tap
    rw [if_neg (by omega), Nat.add_sub_cancel]
  rw [e]
  ac_rfl
theorem ds_at : ds (at2 A) (at2 E) = at2 (dw A E) := by
  unfold ds
  rw [t0_at, t1_at, t2_at, mul_at, mul_at, mul_at, red_at, red_at, red_at]
  funext i
  have h : (i 0).val < 3 := (i 0).isLt
  unfold at2 at1
  pointwise
  obtain h | h | h : (i 0).val = 0 ∨ (i 0).val = 1 ∨ (i 0).val = 2 := by omega
  all_goals simp [h, dw, db]
theorem da_at : truncf .bf16 (transpose S2x4096x5632 [1, 0, 2] (shapeCast _ (extractStridedSlice S4096x11264 ![2, 0] (dp (at2 W) (at2 E))
    slices_S4098x11264_S4096x11264_2_0) shapeCasts_S4096x11264_S4096x2x5632) transposes_S4096x2x5632_S2x4096x5632_1_0_2) bitsLt_bf16_f32
    = at3 fun p t d => da W E t (5632 * p + d) := by
  unfold dp
  rw [w0_at, w1_at, w2_at]
  funext i
  unfold at2 at3 da ahead
  pointwise
  have h0 : (i 0).val < 2 := (i 0).isLt
  have h2 : (i 2).val < 5632 := (i 2).isLt
  have hq : (i 0).val * 5632 + (i 2).val < 11264 := by omega
  rw [mul_comm 5632 (i 0).val]
  have e1 : 2 + (i 1).val - 1 = (i 1).val + 1 := by omega
  have e2 : 2 + (i 1).val = (i 1).val + 2 := by omega
  simp only [hq, and_true, dif_pos, e1, e2]
  refine congrArg₂ (· + ·) (congrArg₂ (· + ·) rfl ?_) ?_
  · split_ifs
    all_goals first
      | omega
      | exact (mul_zero _).symm
      | rfl
  · split_ifs
    all_goals first
      | omega
      | exact (mul_zero _).symm
      | rfl

/-- The convolution's gradient over all the columns. -/
def both (f g : ℕ → ℕ → EReal) (t d : ℕ) : EReal := if d < 5632 then f t d else g t (d - 5632)

theorem gr_at (hA : ∀ t c, Re (A t c)) (hW : ∀ t c, Re (W t c)) (hB : ∀ c, Re (B c)) (hU : ∀ t c, Re (U t c)) :
    gr (at2 A) (at2 W) (at1 B) (at2 U) = at2 (both (eG A W B U) (eV A W B U)) := by
  unfold gr vu sgr gt
  rw [cvr_at]
  funext i
  unfold at2 one both
  pointwise
  split_ifs
  · exact gate_eq _ _ _ (hU _ _) (re_pre A W B hA hW hB _ _) (re_pre A W B hA hW hB _ _)
  · unfold eV dval sg
    rw [zero_sub]
    ac_rfl
end Cert.ConvBwdRefIdeal.Conv
-- ==== Proof.ConvClaim.lean ====
module
public import proofs.«01_k».proof.Defs
public import proofs.«01_k».proof.Pre_finite_conv
public import proofs.«01_k».proof.Proof.PreFinite
public import proofs.«01_k».proof.Proof.ConvRefVal
public import proofs.«01_k».proof.Proof.ConvArr
public import proofs.«01_k».proof.Proof.Gen.ConvBwd.Frame
public import proofs.«01_k».proof.Proof.Gen.ConvBwdIdeal.Frame

@[expose] public section

/-! The gated convolution's backward call: the precondition, and the claims. -/

set_option maxRecDepth 16384

noncomputable section

namespace Cert.Pre_finite_conv

open Idealize.ShloMosaic Cert.ConvBwdIdeal.Conv Cert.ConvBwdRefIdeal.Conv Cert.Prod

instance facts : Cert.Pre_finite_conv.Facts where
  bcast_S_S4096x11264 := by decide
  bcast_S_S3x11264 := by decide
  bcast_S_S11264 := by decide
  bcast_S_S4096x5632 := by decide

/-- An array whose entries' sizes are below infinity. -/
theorem real_arr {s : Shape} (x : FVec Ideal s .f32) (h : S_.BroadcastsInDim s (![] : Fin 0 → Fin s.rank))
    (e : cmpf .olt (Host.absf x) (broadcastInDim s ![] h (constant S_ .f32 0x7F800000#32)) = fun _ => 1#1) (i : s.Idx) : Re (x i) := by
  have e' : Ideal.cmp .olt (max (x i) (-x i)) (Ideal.ofBits .f32 0x7F800000#32) = 1#1 := congrFun e i
  rw [Cert.KernelIdeal.Step.inf_word] at e'
  exact Cert.Pre_finite.real_of_lt _ e'

theorem re_rd {r c : ℕ} (x : (⟨2, ![r, c]⟩ : Shape).Idx → EReal) (h : ∀ i, Re (x i)) (a b : ℕ) : Re (rd x a b) := by
  unfold rd
  split_ifs
  · exact h _
  · exact ⟨0, rfl⟩
theorem re_rd1 {n : ℕ} (x : (⟨1, ![n]⟩ : Shape).Idx → EReal) (h : ∀ i, Re (x i)) (a : ℕ) : Re (rd1 x a) := by
  unfold rd1
  split_ifs
  · exact h _
  · exact ⟨0, rfl⟩

end Cert.Pre_finite_conv

namespace Cert.ConvBwdRefIdeal.Conv

open Cert.ConvBwdRefIdeal Cert.ConvBwdRefIdeal.Gen Idealize.ShloMosaic Idealize.ShloMosaic.TcCoe
open Cert.Prod Cert.ConvBwdIdeal.Conv
open Finset (range)

theorem at1_rd {n : ℕ} (x : (⟨1, ![n]⟩ : Shape).Idx → EReal) : at1 (rd1 x) = x := funext fun j => (rd1_at x j _ rfl).symm

section halves
variable (A W f g : ℕ → ℕ → EReal)

theorem both_lo (t d : ℕ) (h : d < 5632) : both f g t d = f t d := if_pos h
theorem both_hi (t d : ℕ) : both f g t (5632 + d) = g t d := (if_neg (by omega)).trans (congrArg (g t) (by omega))

theorem da_lo (t d : ℕ) (h : d < 5632) : da W (both f g) t d = da W f t d := by
  unfold da ahead
  simp only [both_lo f g _ d h]
theorem da_hi (t d : ℕ) : da W (both f g) t (5632 + d) = da (hi W) g t d := by
  unfold da ahead
  simp only [both_hi]
theorem dw_lo (k d : ℕ) (h : d < 5632) : dw A (both f g) k d = dw A f k d := by
  unfold dw
  simp only [both_lo f g _ d h]
theorem dw_hi (k d : ℕ) : dw A (both f g) k (5632 + d) = dw (hi A) g k d := by
  unfold dw tap
  simp only [both_hi]
theorem db_lo (d : ℕ) (h : d < 5632) : db (both f g) d = db f d := by
  unfold db
  simp only [both_lo f g _ d h]
theorem db_hi (d : ℕ) : db (both f g) (5632 + d) = db g d := by
  unfold db
  simp only [both_hi]
end halves

theorem ds_rd (a0 : FVec Ideal S4096x11264 .f32) (E : ℕ → ℕ → EReal) : ds a0 (at2 E) = at2 (dw (rd a0) E) :=
  (congrArg (fun x => ds x (at2 E)) (at2_rd a0).symm).trans (ds_at (rd a0) E)

/-! ## The results -/

section results
variable (m : (ℓ : Loc nD τ sig) → Buf (Elt Ideal) ℓ) (c : Dev nD) (a0 : FVec Ideal S4096x11264 .f32) (a1 : FVec Ideal S3x11264 .f32) (a2 : FVec Ideal S11264 .f32) (a3 : FVec Ideal S4096x5632 .f32)
  (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3)
  (r0 : ∀ i, Re (a0 i)) (r1 : ∀ i, Re (a1 i)) (r2 : ∀ i, Re (a2 i)) (r3 : ∀ i, Re (a3 i))
include h0 h1 h2 h3 r0 r1 r2 r3

theorem mg_at : mg m c = at2 (both (eG (rd a0) (rd a1) (rd1 a2) (rd a3)) (eV (rd a0) (rd a1) (rd1 a2) (rd a3))) := by
  have e := gr_at (rd a0) (rd a1) (rd1 a2) (rd a3) (Cert.Pre_finite_conv.re_rd a0 r0) (Cert.Pre_finite_conv.re_rd a1 r1) (Cert.Pre_finite_conv.re_rd1 a2 r2) (Cert.Pre_finite_conv.re_rd a3 r3)
  unfold mg
  rw [h0, h1, h2, h3, ← e]
  simp only [at2_rd, at1_rd]

theorem res74 : Value.res_main_v74 (F := Ideal) m c = at3 fun p => if p = 1 then da (hi (rd a1)) (eV (rd a0) (rd a1) (rd1 a2) (rd a3)) else da (rd a1) (eG (rd a0) (rd a1) (rd1 a2) (rd a3)) := by
  rw [da_eq, mg_at m c a0 a1 a2 a3 h0 h1 h2 h3 r0 r1 r2 r3, h1]
  refine Eq.trans (by rw [at2_rd]) ((da_at (rd a1) _).trans ?_)
  funext i
  have b0 : (i 0).val < 2 := (i 0).isLt
  have b2 : (i 2).val < 5632 := (i 2).isLt
  unfold at3
  dsimp only
  by_cases h : (i 0).val = 1
  · rw [if_pos h, h]
    exact da_hi _ _ _ _ _
  · rw [if_neg h, show (i 0).val = 0 by omega, Nat.mul_zero, Nat.zero_add]
    exact da_lo _ _ _ _ _ b2

theorem res75 : Value.res_main_v75 (F := Ideal) m c = at2 (dw (rd a0) (eG (rd a0) (rd a1) (rd1 a2) (rd a3))) := by
  rw [dg_eq, mg_at m c a0 a1 a2 a3 h0 h1 h2 h3 r0 r1 r2 r3, h0, ds_rd]
  funext i
  have b1 : (i 1).val < 5632 := (i 1).isLt
  unfold at2
  pointwise
  exact dw_lo _ _ _ _ _ b1
theorem res76 : Value.res_main_v76 (F := Ideal) m c = at2 (dw (hi (rd a0)) (eV (rd a0) (rd a1) (rd1 a2) (rd a3))) := by
  rw [dv_eq, mg_at m c a0 a1 a2 a3 h0 h1 h2 h3 r0 r1 r2 r3, h0, ds_rd]
  funext i
  unfold at2
  pointwise
  exact dw_hi _ _ _ _ _

theorem res78 : Value.res_main_v78 (F := Ideal) m c = at2 fun _ => db (eG (rd a0) (rd a1) (rd1 a2) (rd a3)) := by
  rw [bg_eq, mg_at m c a0 a1 a2 a3 h0 h1 h2 h3 r0 r1 r2 r3, red_at]
  funext i
  have b1 : (i 1).val < 5632 := (i 1).isLt
  unfold at2 at1
  pointwise
  exact db_lo _ _ _ b1
theorem res80 : Value.res_main_v80 (F := Ideal) m c = at2 fun _ => db (eV (rd a0) (rd a1) (rd1 a2) (rd a3)) := by
  rw [bv_eq, mg_at m c a0 a1 a2 a3 h0 h1 h2 h3 r0 r1 r2 r3, red_at]
  funext i
  unfold at2 at1
  pointwise
  exact db_hi _ _ _
end results

end Cert.ConvBwdRefIdeal.Conv

namespace Cert.ConvBwdIdeal.Conv

open Idealize.ShloMosaic Idealize.ShloMosaic.TcCoe Cert.Prod Cert.ConvBwdRefIdeal.Conv

/-! ## The claims -/

theorem frame_words : Cert.quiescent_ConvBwd := fun m ρ _ => Cert.ConvBwd.Gen.frame (F := Bits) m ρ
theorem frame_ideal : Cert.quiescent_ConvBwdIdeal := fun m ρ _ => Cert.ConvBwdIdeal.Gen.frame (F := Ideal) m ρ
theorem frame_ideal_pre : Cert.quiescent_ConvBwdIdeal_pre_finite_conv := fun m ρ _ => Cert.ConvBwdIdeal.Gen.frame (F := Ideal) m ρ
theorem frame_ref : Cert.quiescent_ConvBwdRefIdeal := fun m ρ _ =>
  (θ_run Cert.ConvBwdRefIdeal.defs _ _).mono (fun r h => ⟨fun c => (h c).2.2.2.2.2, sem_eq_zero_of_no_sems (by decide) r.2⟩) (Cert.ConvBwdRefIdeal.Value.run (F := Ideal) m ρ)
theorem frame_ref_pre : Cert.quiescent_ConvBwdRefIdeal_pre_finite_conv := fun m ρ _ => frame_ref m ρ trivial

theorem algebraic : Cert.algebraic_ConvBwdIdeal_ConvBwdRefIdeal_pre_finite_conv := by
  intro m ρ m' ρ' hpre hag
  refine ⟨fun c => at3 fun p => if p = 1 then da (hi (mW m c)) (mV m c) else da (mW m c) (mG m c),
    fun c => at2 (dw (mA m c) (mG m c)), fun c => at2 (dw (hi (mA m c)) (mV m c)), fun c => at2 fun _ => db (mG m c), fun c => at2 fun _ => db (mV m c), ?_, ?_⟩
  · refine (θ_run Cert.ConvBwdIdeal.defs _ _).mono (fun r h c => ?_) (Cert.ConvBwdIdeal.Value.run_blocks (F := Ideal) m ρ)
    obtain ⟨g0, g1, g2, g3, g4, hk⟩ := h c
    exact ⟨g0.trans (arr12 m c), g1.trans (arr13 m c), g2.trans (arr14 m c), g3.trans (arr15 m c), g4.trans (arr16 m c), hk⟩
  · refine (θ_run Cert.ConvBwdRefIdeal.defs _ _).mono (fun r h c => ?_) (Cert.ConvBwdRefIdeal.Value.run (F := Ideal) m' ρ')
    obtain ⟨g0, g1, g2, g3, g4, hk⟩ := h c
    obtain ⟨a0, a1, a2, a3⟩ := hag c
    obtain ⟨p0, p1, p2, p3⟩ := hpre c
    have q0 := Cert.Pre_finite_conv.real_arr _ _ p0
    have q1 := Cert.Pre_finite_conv.real_arr _ _ p1
    have q2 := Cert.Pre_finite_conv.real_arr _ _ p2
    have q3 := Cert.Pre_finite_conv.real_arr _ _ p3
    exact ⟨g0.trans (res74 m' c _ _ _ _ a0 a1 a2 a3 q0 q1 q2 q3), g1.trans (res75 m' c _ _ _ _ a0 a1 a2 a3 q0 q1 q2 q3), g2.trans (res76 m' c _ _ _ _ a0 a1 a2 a3 q0 q1 q2 q3),
      g3.trans (res78 m' c _ _ _ _ a0 a1 a2 a3 q0 q1 q2 q3), g4.trans (res80 m' c _ _ _ _ a0 a1 a2 a3 q0 q1 q2 q3), hk⟩

end Cert.ConvBwdIdeal.Conv
-- ==== Proof.BlkPay.lean ====
module
public import proofs.«01_k».proof.Proof.Sums
public import proofs.«01_k».proof.Proof.Gen.BlockBwdIdeal.Skeleton
public import Idealize.ShloMosaic.Lib.Pointwise
public import Idealize.ShloMosaic.Lib.ValueIdx

@[expose] public section

/-! The norm's gradient by row and column, and the values that a grid step of its call computes. -/

set_option maxRecDepth 16384

noncomputable section

namespace Cert.BlockBwdIdeal.Blk

open Cert.BlockBwdIdeal Cert.BlockBwdIdeal.Gen Idealize.ShloMosaic Idealize.ShloMosaic.TcCoe
open Cert.Prod
open Finset (range)

/-! ## The specification, of a row -/

/-- The row's length and the norm's ε, as words. -/
abbrev len : EReal := Ideal.ofBits .f32 0x45000000#32
@[inherit_doc len] abbrev eps : EReal := Ideal.ofBits .f32 0x358637BD#32
/-- The row's mean square. -/
def ms (x : ℕ → EReal) : EReal := Ideal.div (∑ d ∈ range 2048, x d * x d) len + eps
/-- Its reciprocal root. -/
def rn (x : ℕ → EReal) : EReal := Ideal.rsqrt (ms x)
/-- The gradient of the normed row times the gain. -/
def eh (s h : ℕ → EReal) (d : ℕ) : EReal := h d * (1 + s d)
/-- The gradient of the normed row. -/
def en (n s h : ℕ → EReal) (d : ℕ) : EReal := eh s h d * n d
/-- The mean square's gradient, for each entry. -/
def qm (n s x h : ℕ → EReal) : EReal :=
  Ideal.div ((∑ d ∈ range 2048, x d * en n s h d) * (Ideal.ofBits .f32 0xBF000000#32 * Ideal.div (rn x) (ms x))) len
/-- The row's gradient, `u` being that of the row after the block. -/
def dx (n s u x h : ℕ → EReal) (d : ℕ) : EReal := u d + (en n s h d * rn x + x d * qm n s x h + qm n s x h * x d)

/-! ## The values -/

variable (U X H Y : ℕ → ℕ → EReal) (g n s b : ℕ → EReal)

/-- A row. -/
abbrev row (b : ℕ → EReal) : FVec Ideal S1x2048 .f32 := at2 fun _ => b

theorem pay4_at : k0_pay4 (F := Ideal) (at2 X) = at2 fun r _ => ms (X r) := by
  funext y
  unfold k0_pay4 k0_pay2 at2 ms
  pointwise
  exact congrArg (fun v => Ideal.div v len + eps) (Finset.sum_range fun d => X (y 0).val d * X (y 0).val d).symm
theorem pay5_at : k0_pay5 (F := Ideal) (at2 X) = at2 fun r _ => rn (X r) := by
  unfold k0_pay5
  rw [pay4_at]
  rfl
theorem pay10_at : k0_pay10 (F := Ideal) (row s) (at2 H) = at2 fun r => eh s (H r) := by
  funext y
  unfold k0_pay10 k0_pay7 row at2 eh
  pointwise
theorem pay6_at : k0_pay6 (F := Ideal) (at2 X) = at2 fun r d => X r d * rn (X r) := by
  unfold k0_pay6
  rw [pay5_at]
  funext y
  unfold k0_pay2 at2
  pointwise
theorem pay12_at : k0_pay12 (F := Ideal) (row n) (row s) (at2 H) = at2 fun r => en n s (H r) := by
  unfold k0_pay12
  rw [pay10_at]
  funext y
  unfold k0_pay3 row at2 en
  pointwise
theorem pay13_at : k0_pay13 (F := Ideal) (at2 X) (row n) (row s) (at2 H) = at2 fun r d => en n s (H r) d * rn (X r) := by
  unfold k0_pay13
  rw [pay12_at, pay5_at]
  funext y
  unfold at2
  pointwise
theorem pay14_at : k0_pay14 (F := Ideal) (at2 X) (row n) (row s) (at2 H)
    = at2 fun r _ => (∑ d ∈ range 2048, X r d * en n s (H r) d) * (Ideal.ofBits .f32 0xBF000000#32 * Ideal.div (rn (X r)) (ms (X r))) := by
  unfold k0_pay14
  rw [pay12_at, pay5_at, pay4_at]
  funext y
  unfold k0_pay2 at2
  pointwise
  exact congrArg (· * _) (Finset.sum_range fun d => X (y 0).val d * en n s (H (y 0).val) d).symm
theorem pay15_at : k0_pay15 (F := Ideal) (k0_pay2 (at2 X)) (k0_pay13 (at2 X) (row n) (row s) (at2 H)) (k0_pay14 (at2 X) (row n) (row s) (at2 H)) (at2 U)
    = at2 fun r => dx n s (U r) (X r) (H r) := by
  rw [pay13_at, pay14_at]
  funext y
  unfold k0_pay15 k0_pay2 at2
  pointwise
  simp only [Fin.sum_univ_one, Finset.univ_unique, Finset.sum_singleton]
  rfl
theorem pay23_at : k0_pay23 (F := Ideal) (k0_pay2 (at2 X)) (k0_pay13 (at2 X) (row n) (row s) (at2 H)) (k0_pay14 (at2 X) (row n) (row s) (at2 H)) (at2 U) (row g)
    = at2 fun r d => g d * dx n s (U r) (X r) (H r) d := by
  unfold k0_pay23
  rw [pay15_at]
  funext y
  unfold row at2
  pointwise

/-- The sum of 256 rows. -/
abbrev sm (f : ℕ → ℕ → EReal) (d : ℕ) : EReal := ∑ r ∈ range 256, f r d

theorem pay22_at : k0_pay22 (F := Ideal) (k0_pay8 (at2 H)) (row b) = row fun d => b d + sm H d := by
  funext y
  unfold k0_pay22 k0_pay8 row at2
  pointwise
  exact congrArg (b (y 1).val + ·) (Finset.sum_range fun r => H r (y 1).val).symm
theorem pay21_at : k0_pay21 (F := Ideal) (k0_pay9 (at2 X) (row n) (at2 H)) (row b) = row fun d => b d + sm (fun r d => X r d * rn (X r) * n d * H r d) d := by
  unfold k0_pay21 k0_pay9
  rw [pay6_at]
  funext y
  unfold k0_pay3 k0_pay7 row at2
  pointwise
  exact congrArg (b (y 1).val + ·) (Finset.sum_range fun r => X r (y 1).val * rn (X r) * n (y 1).val * H r (y 1).val).symm
theorem pay20_at : k0_pay20 (F := Ideal) (k0_pay11 (at2 X) (row s) (at2 H)) (row b) = row fun d => b d + sm (fun r d => X r d * rn (X r) * eh s (H r) d) d := by
  unfold k0_pay20 k0_pay11
  rw [pay6_at, pay10_at]
  funext y
  unfold row at2
  pointwise
  exact congrArg (b (y 1).val + ·) (Finset.sum_range fun r => X r (y 1).val * rn (X r) * eh s (H r) (y 1).val).symm
theorem pay1_at (D : ℕ → ℕ → EReal) : k0_pay1 (F := Ideal) (at2 D) (row b) (at2 Y) = row fun d => b d + sm (fun r d => D r d * Y r d) d := by
  funext y
  unfold k0_pay1 row at2
  pointwise
  exact congrArg (b (y 1).val + ·) (Finset.sum_range fun r => D r (y 1).val * Y r (y 1).val).symm
theorem pay16_at : k0_pay16 (F := Ideal) = row fun _ => 0 := by
  funext y
  unfold k0_pay16 row at2
  pointwise

end Cert.BlockBwdIdeal.Blk
-- ==== Proof.BlkCase.lean ====
module
public import proofs.«01_k».proof.Proof.BlkPay
public import proofs.«01_k».proof.Proof.Gen.BlockBwdIdeal.Frame

@[expose] public section

/-! What each kind of grid point leaves in the six output blocks. -/

set_option maxRecDepth 16384

noncomputable section

namespace Cert.BlockBwdIdeal.Blk

open Cert.BlockBwdIdeal Cert.BlockBwdIdeal.Gen Idealize.ShloMosaic Idealize.ShloMosaic.TcCoe
open Cert.Prod
open Finset (range)

theorem hz : (![0, 0] : Fin 2 → Nat) = fun _ => 0 := funext fun a => by fin_cases a <;> rfl

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S256x2048 .bf16) (harg13 : arg13.IsWhole) (arg14 : Memref sig .tc .vmem S1x2048 .f32) (harg14 : arg14.IsWhole)

variable (U H X Y : ℕ → ℕ → EReal) (n s b g o9 o10 o11 o13 : ℕ → EReal)

/-- The gradient of the block's input. -/
abbrev tX : ℕ → ℕ → EReal := fun r => dx n s (U r) (X r) (H r)
/-- The terms of the gain's gradient, and of the scale's. -/
abbrev tN : ℕ → ℕ → EReal := fun r d => X r d * rn (X r) * eh s (H r) d
@[inherit_doc tN] abbrev tS : ℕ → ℕ → EReal := fun r d => X r d * rn (X r) * n d * H r d

theorem case8A (h0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) = at2 (tX U H X n s) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g))]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S1x2048) hz]
  rw [pay15_at, View.canon_unit_zero hz]
theorem case9A (h0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) = row fun d => 0 + sm (tN H X s) d := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g))]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S1x2048) hz]
  rw [pay16_at, View.readCov_unit_zero (S := S1x2048) _ hz, pay20_at, View.canon_cons_unit_zero hz]
theorem case10A (h0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) = row fun d => 0 + sm (tS H X n) d := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g))]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S1x2048) hz]
  rw [show k0_pay17 (F := Ideal) = row fun _ => 0 from pay16_at, View.readCov_unit_zero (S := S1x2048) _ hz, pay21_at, View.canon_cons_unit_zero hz]
theorem case11A (h0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) = row fun d => 0 + sm (H) d := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g))]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S1x2048) hz]
  rw [show k0_pay18 (F := Ideal) = row fun _ => 0 from pay16_at, View.readCov_unit_zero (S := S1x2048) _ hz, pay22_at, View.canon_cons_unit_zero hz]
theorem case12A (h0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) = at2 fun r d => g d * tX U H X n s r d := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g))]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S1x2048) hz]
  rw [pay23_at, View.canon_unit_zero hz]
theorem case13A (h0 : cond0_0 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) = row fun d => 0 + sm (fun r d => tX U H X n s r d * Y r d) d := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g))]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S1x2048) hz]
  rw [show k0_pay19 (F := Ideal) = row fun _ => 0 from pay16_at, View.readCov_unit_zero (S := S1x2048) _ hz, pay15_at, pay1_at, View.canon_cons_unit_zero hz]
theorem case8B (h0 : ¬cond0_0 i) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13) = at2 (tX U H X n s) := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13))]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S1x2048) hz]
  rw [pay15_at, View.canon_unit_zero hz]
theorem case9B (h0 : ¬cond0_0 i) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13) = row fun d => o9 d + sm (tN H X s) d := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13))]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, View.ld_unit_zero (S := S256x2048) hz, View.ld_unit_zero (S := S1x2048) hz]
  rw [pay20_at, View.canon_unit_zero hz]
theorem case10B (h0 : ¬cond0_0 i) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13) = row fun d => o10 d + sm (tS H X n) d := by
  unfold out0_B_10
  rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13))]
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, View.ld_unit_zero (S := S256x2048) hz, View.ld_unit_zero (S := S1x2048) hz]
  rw [pay21_at, View.canon_unit_zero hz]
theorem case11B (h0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13) = row fun d => o11 d + sm (H) d := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13))]
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread, View.ld_unit_zero (S := S256x2048) hz, View.ld_unit_zero (S := S1x2048) hz]
  rw [pay22_at, View.canon_unit_zero hz]
theorem case12B (h0 : ¬cond0_0 i) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13) = at2 fun r d => g d * tX U H X n s r d := by
  unfold out0_B_12
  rw [View.read_writes_eq_canon _ _ _ (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13))]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S256x2048) hz, View.ld_unit_zero (S := S1x2048) hz]
  rw [pay23_at, View.canon_unit_zero hz]
theorem case13B (h0 : ¬cond0_0 i) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13) = row fun d => o13 d + sm (fun r d => tX U H X n s r d * Y r d) d := by
  unfold out0_B_13
  rw [View.read_writes_eq_canon _ _ _ (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 h0 (at2 U) (at2 H) (at2 X) (row n) (row s) (row b) (at2 Y) (row g) (row o9) (row o10) (row o11) (row o13))]
  unfold kernelRun0_B
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x2048) hz, View.ld_unit_zero (S := S1x2048) hz]
  rw [pay15_at, pay1_at, View.canon_unit_zero hz]

end Cert.BlockBwdIdeal.Blk
-- ==== Proof.BlkArr.lean ====
module
public import proofs.«01_k».proof.Proof.BlkCase
public import proofs.«01_k».proof.Proof.ConvRefVal

@[expose] public section

/-! The six arrays the call leaves. -/

set_option maxRecDepth 16384

noncomputable section

namespace Cert.BlockBwdIdeal.Blk

open Cert.BlockBwdIdeal Cert.BlockBwdIdeal.Gen Idealize.ShloMosaic Idealize.ShloMosaic.TcCoe
open Cert.Prod
open Cert.ConvBwdIdeal.Conv (rd1 rd1_at at2_rd)
open Finset (range)

/-! ## The blocks the grid points read -/

theorem ix0 : ∀ t : Fin cfg0.N, win0_0.index t (0 : Fin 2) = t.val % 16 ∧ win0_0.index t (1 : Fin 2) = 0 := (by decide +kernel : ∀ t : Fin grid0.N, _)
theorem ix1 : ∀ t : Fin cfg0.N, win0_1.index t (0 : Fin 2) = t.val % 16 ∧ win0_1.index t (1 : Fin 2) = 0 := (by decide +kernel : ∀ t : Fin grid0.N, _)
theorem ix2 : ∀ t : Fin cfg0.N, win0_2.index t (0 : Fin 2) = t.val % 16 ∧ win0_2.index t (1 : Fin 2) = 0 := (by decide +kernel : ∀ t : Fin grid0.N, _)
theorem ix6 : ∀ t : Fin cfg0.N, win0_6.index t (0 : Fin 2) = t.val % 16 ∧ win0_6.index t (1 : Fin 2) = 0 := (by decide +kernel : ∀ t : Fin grid0.N, _)
theorem ix8 : ∀ t : Fin cfg0.N, win0_8.index t (0 : Fin 2) = t.val % 16 ∧ win0_8.index t (1 : Fin 2) = 0 := (by decide +kernel : ∀ t : Fin grid0.N, _)
theorem ix12 : ∀ t : Fin cfg0.N, win0_12.index t (0 : Fin 2) = t.val % 16 ∧ win0_12.index t (1 : Fin 2) = 0 := (by decide +kernel : ∀ t : Fin grid0.N, _)
theorem ix3 : ∀ t : Fin cfg0.N, win0_3.index t (0 : Fin 2) = 0 ∧ win0_3.index t (1 : Fin 2) = 0 := (by decide +kernel : ∀ t : Fin grid0.N, _)
theorem ix4 : ∀ t : Fin cfg0.N, win0_4.index t (0 : Fin 2) = 0 ∧ win0_4.index t (1 : Fin 2) = 0 := (by decide +kernel : ∀ t : Fin grid0.N, _)
theorem ix5 : ∀ t : Fin cfg0.N, win0_5.index t (0 : Fin 2) = 0 ∧ win0_5.index t (1 : Fin 2) = 0 := (by decide +kernel : ∀ t : Fin grid0.N, _)
theorem ix7 : ∀ t : Fin cfg0.N, win0_7.index t (0 : Fin 2) = 0 ∧ win0_7.index t (1 : Fin 2) = 0 := (by decide +kernel : ∀ t : Fin grid0.N, _)
theorem ix9 : ∀ t : Fin cfg0.N, win0_9.index t (0 : Fin 2) = 0 ∧ win0_9.index t (1 : Fin 2) = 0 := (by decide +kernel : ∀ t : Fin grid0.N, _)
theorem ix10 : ∀ t : Fin cfg0.N, win0_10.index t (0 : Fin 2) = 0 ∧ win0_10.index t (1 : Fin 2) = 0 := (by decide +kernel : ∀ t : Fin grid0.N, _)
theorem ix11 : ∀ t : Fin cfg0.N, win0_11.index t (0 : Fin 2) = 0 ∧ win0_11.index t (1 : Fin 2) = 0 := (by decide +kernel : ∀ t : Fin grid0.N, _)
theorem ix13 : ∀ t : Fin cfg0.N, win0_13.index t (0 : Fin 2) = 0 ∧ win0_13.index t (1 : Fin 2) = 0 := (by decide +kernel : ∀ t : Fin grid0.N, _)

/-- Tile `t` of the rows. -/
abbrev tl (f : ℕ → ℕ → EReal) (t : ℕ) : ℕ → ℕ → EReal := fun r d => f (256 * t + r) d

section
variable (x y : FVec Ideal S4096x2048 .f32) (g : FVec Ideal S1x2048 .f32)
/-- The residual sum: the block's input with the branch added. -/
abbrev rs : ℕ → ℕ → EReal := fun t d => rd x t d + rd g 0 d * rd y t d
end

variable (m : (ℓ : Loc nD τ sig) → Buf (Elt Ideal) ℓ) (c : Dev nD)

/-- The arguments, by row and column: the residual sum, the branch, its scale, the gain, the scale, the shift, the two gradients. -/
abbrev mX : ℕ → ℕ → EReal := rs (m ((c : Thread nD τ).loc main_arg0)) (m ((c : Thread nD τ).loc main_arg1)) (m ((c : Thread nD τ).loc main_arg2))
@[inherit_doc mX] abbrev mY : ℕ → ℕ → EReal := rd (m ((c : Thread nD τ).loc main_arg1))
@[inherit_doc mX] abbrev mg : ℕ → EReal := rd (m ((c : Thread nD τ).loc main_arg2)) 0
@[inherit_doc mX] abbrev mN : ℕ → EReal := rd1 (m ((c : Thread nD τ).loc main_arg3))
@[inherit_doc mX] abbrev mS : ℕ → EReal := rd (m ((c : Thread nD τ).loc main_arg4)) 0
@[inherit_doc mX] abbrev mB : ℕ → EReal := rd (m ((c : Thread nD τ).loc main_arg5)) 0
@[inherit_doc mX] abbrev mU : ℕ → ℕ → EReal := rd (m ((c : Thread nD τ).loc main_arg6))
@[inherit_doc mX] abbrev mH : ℕ → ℕ → EReal := rd (m ((c : Thread nD τ).loc main_arg7))

theorem V_x : V m c main_v2 = at2 (mX m c) := by
  simp only [V, List.flatten_cons, List.flatten_nil, List.append_nil, hostOps0, List.cons_append, List.nil_append]
  after_results_simp
  funext i
  unfold at2
  pointwise
  congr 1
  · exact rd_at _ _ _ _ rfl rfl
  · congr 1
    · exact rd_at _ _ _ _ (by simp) (by simp)
    · exact rd_at _ _ _ _ rfl rfl
theorem V_n : V m c main_v3 = at2 fun _ => mN m c := by
  simp only [V, List.flatten_cons, List.flatten_nil, List.append_nil, hostOps0, List.cons_append, List.nil_append]
  after_results_simp
  funext i
  unfold at2
  pointwise
  exact rd1_at _ _ _ (by simp)

variable (t : Fin cfg0.N)

theorem blk0 : (iblk m c 0 t : Vec Ideal S256x2048 .f32) = at2 (tl (mU m c) (t.val % 16)) := by
  funext i
  obtain ⟨e0, e1⟩ := ix0 t
  show V m c main_arg6 (((cfg0.win 0).blk t).view.emb i) = _
  rw [V_main_arg6]
  refine rd_at _ _ _ _ ?_ ?_
  · blk_simp [e0, e1]; omega
  · blk_simp [e0, e1]
theorem blk1 : (iblk m c 1 t : Vec Ideal S256x2048 .f32) = at2 (tl (mH m c) (t.val % 16)) := by
  funext i
  obtain ⟨e0, e1⟩ := ix1 t
  show V m c main_arg7 (((cfg0.win 1).blk t).view.emb i) = _
  rw [V_main_arg7]
  refine rd_at _ _ _ _ ?_ ?_
  · blk_simp [e0, e1]; omega
  · blk_simp [e0, e1]
theorem blk6 : (iblk m c 6 t : Vec Ideal S256x2048 .f32) = at2 (tl (mY m c) (t.val % 16)) := by
  funext i
  obtain ⟨e0, e1⟩ := ix6 t
  show V m c main_arg1 (((cfg0.win 6).blk t).view.emb i) = _
  rw [V_main_arg1]
  refine rd_at _ _ _ _ ?_ ?_
  · blk_simp [e0, e1]; omega
  · blk_simp [e0, e1]
theorem blk4 : (iblk m c 4 t : Vec Ideal S1x2048 .f32) = row (mS m c) := by
  funext i
  obtain ⟨e0, e1⟩ := ix4 t
  show V m c main_arg4 (((cfg0.win 4).blk t).view.emb i) = _
  rw [V_main_arg4]
  refine rd_at _ _ _ _ ?_ ?_
  · blk_simp [e0, e1]
  · blk_simp [e0, e1]
theorem blk5 : (iblk m c 5 t : Vec Ideal S1x2048 .f32) = row (mB m c) := by
  funext i
  obtain ⟨e0, e1⟩ := ix5 t
  show V m c main_arg5 (((cfg0.win 5).blk t).view.emb i) = _
  rw [V_main_arg5]
  refine rd_at _ _ _ _ ?_ ?_
  · blk_simp [e0, e1]
  · blk_simp [e0, e1]
theorem blk7 : (iblk m c 7 t : Vec Ideal S1x2048 .f32) = row (mg m c) := by
  funext i
  obtain ⟨e0, e1⟩ := ix7 t
  show V m c main_arg2 (((cfg0.win 7).blk t).view.emb i) = _
  rw [V_main_arg2]
  refine rd_at _ _ _ _ ?_ ?_
  · blk_simp [e0, e1]
  · blk_simp [e0, e1]
theorem blk2 : (iblk m c 2 t : Vec Ideal S256x2048 .f32) = at2 (tl (mX m c) (t.val % 16)) := by
  funext i
  obtain ⟨e0, e1⟩ := ix2 t
  show V m c main_v2 (((cfg0.win 2).blk t).view.emb i) = _
  rw [V_x]
  unfold at2
  have a0 : ((((cfg0.win 2).blk t).view.emb i : S4096x2048.Idx) 0).val = 256 * (t.val % 16) + (i 0).val := by
    blk_simp [e0]; omega
  have a1 : ((((cfg0.win 2).blk t).view.emb i : S4096x2048.Idx) 1).val = (i 1).val := by
    blk_simp [e1]
  rw [a0, a1]
theorem blk3 : (iblk m c 3 t : Vec Ideal S1x2048 .f32) = row (mN m c) := by
  funext i
  obtain ⟨e0, e1⟩ := ix3 t
  show V m c main_v3 (((cfg0.win 3).blk t).view.emb i) = _
  rw [V_n]
  unfold row at2
  refine congrArg (mN m c) ?_
  blk_simp [e0, e1]

/-! ## What the grid points leave -/

/-- The gradient of the block's input, and the terms of the other gradients, of the arguments. -/
abbrev gX : ℕ → ℕ → EReal := tX (mU m c) (mH m c) (mX m c) (mN m c) (mS m c)
@[inherit_doc gX] abbrev gN : ℕ → ℕ → EReal := tN (mH m c) (mX m c) (mS m c)
@[inherit_doc gX] abbrev gS : ℕ → ℕ → EReal := tS (mH m c) (mX m c) (mN m c)
@[inherit_doc gX] abbrev gY : ℕ → ℕ → EReal := fun t d => mg m c d * gX m c t d
@[inherit_doc gX] abbrev gG : ℕ → ℕ → EReal := fun t d => gX m c t d * mY m c t d

theorem ptA (h : t.val % 16 = 0) : outsAt0 (F := Ideal) m c t.val t.isLt
    = (at2 (tl (gX m c) (t.val % 16)), at2 fun _ d => ∑ r ∈ range 256, gN m c r d, at2 fun _ d => ∑ r ∈ range 256, gS m c r d,
      at2 fun _ d => ∑ r ∈ range 256, mH m c r d, at2 (tl (gY m c) (t.val % 16)), at2 fun _ d => ∑ r ∈ range 256, gG m c r d) := by
  rw [outsAt0_A m c t h, blk0, blk1, blk2, blk3, blk4, blk5, blk6, blk7]
  rw [case8A, case9A, case10A, case11A, case12A, case13A, h]
  have z (f : ℕ → ℕ → EReal) : tl f 0 = f := funext fun r => funext fun d => congrArg (f · d) (by omega)
  rw [z (mU m c), z (mH m c), z (mX m c), z (mY m c), z (gX m c), z (gY m c)]
  simp only [sm, zero_add]

theorem ptB (o9 o10 o11 o13 : ℕ → ℕ → EReal) (h : ¬t.val % 16 = 0)
    (e1 : (outsAt0 (F := Ideal) m c (t.val - 1) (Nat.lt_of_le_of_lt (Nat.sub_le _ _) t.isLt)).2.1 = at2 o9)
    (e2 : (outsAt0 (F := Ideal) m c (t.val - 1) (Nat.lt_of_le_of_lt (Nat.sub_le _ _) t.isLt)).2.2.1 = at2 o10)
    (e3 : (outsAt0 (F := Ideal) m c (t.val - 1) (Nat.lt_of_le_of_lt (Nat.sub_le _ _) t.isLt)).2.2.2.1 = at2 o11)
    (e4 : (outsAt0 (F := Ideal) m c (t.val - 1) (Nat.lt_of_le_of_lt (Nat.sub_le _ _) t.isLt)).2.2.2.2.2 = at2 o13) :
    outsAt0 (F := Ideal) m c t.val t.isLt
    = (at2 (tl (gX m c) (t.val % 16)), at2 fun k d => o9 k d + ∑ r ∈ range 256, gN m c (256 * (t.val % 16) + r) d,
      at2 fun k d => o10 k d + ∑ r ∈ range 256, gS m c (256 * (t.val % 16) + r) d, at2 fun k d => o11 k d + ∑ r ∈ range 256, mH m c (256 * (t.val % 16) + r) d,
      at2 (tl (gY m c) (t.val % 16)), at2 fun k d => o13 k d + ∑ r ∈ range 256, gG m c (256 * (t.val % 16) + r) d) := by
  have hs (f : ℕ → ℕ → EReal) : (at2 f : FVec Ideal S1x2048 .f32) = row (f 0) :=
    at2_congr fun x y hx _ => by rw [show x = 0 by omega]
  rw [outsAt0_B m c t h, e1, e2, e3, e4, blk0, blk1, blk2, blk3, blk4, blk5, blk6, blk7, hs o9, hs o10, hs o11, hs o13]
  rw [case8B, case9B, case10B, case11B, case12B, case13B]
  refine Prod.ext rfl (Prod.ext ?_ (Prod.ext ?_ (Prod.ext ?_ (Prod.ext rfl ?_))))
  · exact (hs fun k d => o9 k d + ∑ r ∈ range 256, gN m c (256 * (t.val % 16) + r) d).symm
  · exact (hs fun k d => o10 k d + ∑ r ∈ range 256, gS m c (256 * (t.val % 16) + r) d).symm
  · exact (hs fun k d => o11 k d + ∑ r ∈ range 256, mH m c (256 * (t.val % 16) + r) d).symm
  · exact (hs fun k d => o13 k d + ∑ r ∈ range 256, gG m c (256 * (t.val % 16) + r) d).symm

/-! ## The arrays -/

theorem acc9 : ∀ n (h : n < cfg0.N), (outsAt0 (F := Ideal) m c n h).2.1 = at2 fun _ d => ∑ r ∈ range (256 * (n % 16) + 256), gN m c r d :=
  acc_fold 16 256 (fun _ _ d r => gN m c r d) _ (fun n h hm => congrArg (·.2.1) (ptA m c ⟨n, h⟩ hm))
    fun n h a hm ih => congrArg (·.2.1) (ptB m c ⟨n, h⟩ a _ _ _ hm ih (at2_rd _).symm (at2_rd _).symm (at2_rd _).symm)
theorem acc10 : ∀ n (h : n < cfg0.N), (outsAt0 (F := Ideal) m c n h).2.2.1 = at2 fun _ d => ∑ r ∈ range (256 * (n % 16) + 256), gS m c r d :=
  acc_fold 16 256 (fun _ _ d r => gS m c r d) _ (fun n h hm => congrArg (·.2.2.1) (ptA m c ⟨n, h⟩ hm))
    fun n h a hm ih => congrArg (·.2.2.1) (ptB m c ⟨n, h⟩ _ a _ _ hm (at2_rd _).symm ih (at2_rd _).symm (at2_rd _).symm)
theorem acc11 : ∀ n (h : n < cfg0.N), (outsAt0 (F := Ideal) m c n h).2.2.2.1 = at2 fun _ d => ∑ r ∈ range (256 * (n % 16) + 256), mH m c r d :=
  acc_fold 16 256 (fun _ _ d r => mH m c r d) _ (fun n h hm => congrArg (·.2.2.2.1) (ptA m c ⟨n, h⟩ hm))
    fun n h a hm ih => congrArg (·.2.2.2.1) (ptB m c ⟨n, h⟩ _ _ a _ hm (at2_rd _).symm (at2_rd _).symm ih (at2_rd _).symm)
theorem acc13 : ∀ n (h : n < cfg0.N), (outsAt0 (F := Ideal) m c n h).2.2.2.2.2 = at2 fun _ d => ∑ r ∈ range (256 * (n % 16) + 256), gG m c r d :=
  acc_fold 16 256 (fun _ _ d r => gG m c r d) _ (fun n h hm => congrArg (·.2.2.2.2.2) (ptA m c ⟨n, h⟩ hm))
    fun n h a hm ih => congrArg (·.2.2.2.2.2) (ptB m c ⟨n, h⟩ _ _ _ a hm (at2_rd _).symm (at2_rd _).symm (at2_rd _).symm ih)
theorem val8 : (outsAt0 (F := Ideal) m c t.val t.isLt).1 = at2 (tl (gX m c) (t.val % 16)) := by
  by_cases h : t.val % 16 = 0
  · exact congrArg (·.1) (ptA m c t h)
  · exact congrArg (·.1) (ptB m c t _ _ _ _ h (at2_rd _).symm (at2_rd _).symm (at2_rd _).symm (at2_rd _).symm)
theorem val12 : (outsAt0 (F := Ideal) m c t.val t.isLt).2.2.2.2.1 = at2 (tl (gY m c) (t.val % 16)) := by
  by_cases h : t.val % 16 = 0
  · exact congrArg (·.2.2.2.2.1) (ptA m c t h)
  · exact congrArg (·.2.2.2.2.1) (ptB m c t _ _ _ _ h (at2_rd _).symm (at2_rd _).symm (at2_rd _).symm (at2_rd _).symm)

theorem arr8 : (dats (F := Ideal) m 0 c).arrAt 8 cfg0.N = at2 (gX m c) := by
  refine (dats m 0 c).arrAt_eq_of_covers 8 _ (by decide +kernel) fun t hf y => ?_
  obtain ⟨e0, e1⟩ := ix8 t
  blk_simp
  rw [after0_8, val8 m c t]
  have a0 : ((((cfg0.win 8).blk t).view.emb y : S4096x2048.Idx) 0).val = 256 * (t.val % 16) + (y 0).val := by
    blk_simp [e0]; omega
  have a1 : ((((cfg0.win 8).blk t).view.emb y : S4096x2048.Idx) 1).val = (y 1).val := by
    blk_simp [e1]
  unfold at2
  rw [a0, a1]
theorem arr12 : (dats (F := Ideal) m 0 c).arrAt 12 cfg0.N = at2 (gY m c) := by
  refine (dats m 0 c).arrAt_eq_of_covers 12 _ (by decide +kernel) fun t hf y => ?_
  obtain ⟨e0, e1⟩ := ix12 t
  blk_simp
  rw [after0_12, val12 m c t]
  have a0 : ((((cfg0.win 12).blk t).view.emb y : S4096x2048.Idx) 0).val = 256 * (t.val % 16) + (y 0).val := by
    blk_simp [e0]; omega
  have a1 : ((((cfg0.win 12).blk t).view.emb y : S4096x2048.Idx) 1).val = (y 1).val := by
    blk_simp [e1]
  unfold at2
  rw [a0, a1]
theorem arr9 : (dats (F := Ideal) m 0 c).arrAt 9 cfg0.N = at2 fun _ d => ∑ r ∈ range 4096, gN m c r d := by
  refine (dats m 0 c).arrAt_eq_of_covers 9 _ (by decide +kernel) fun t hf y => ?_
  obtain ⟨e0, e1⟩ := ix9 t
  have hm := (flush0_9 t).mp hf
  blk_simp
  rw [after0_9, acc9 m c t.val t.isLt, hm]
  have a1 : ((((cfg0.win 9).blk t).view.emb y : S1x2048.Idx) 1).val = (y 1).val := by
    blk_simp [e1]
  unfold at2
  rw [a1]
theorem arr10 : (dats (F := Ideal) m 0 c).arrAt 10 cfg0.N = at2 fun _ d => ∑ r ∈ range 4096, gS m c r d := by
  refine (dats m 0 c).arrAt_eq_of_covers 10 _ (by decide +kernel) fun t hf y => ?_
  obtain ⟨e0, e1⟩ := ix10 t
  have hm := (flush0_10 t).mp hf
  blk_simp
  rw [after0_10, acc10 m c t.val t.isLt, hm]
  have a1 : ((((cfg0.win 10).blk t).view.emb y : S1x2048.Idx) 1).val = (y 1).val := by
    blk_simp [e1]
  unfold at2
  rw [a1]
theorem arr11 : (dats (F := Ideal) m 0 c).arrAt 11 cfg0.N = at2 fun _ d => ∑ r ∈ range 4096, mH m c r d := by
  refine (dats m 0 c).arrAt_eq_of_covers 11 _ (by decide +kernel) fun t hf y => ?_
  obtain ⟨e0, e1⟩ := ix11 t
  have hm := (flush0_11 t).mp hf
  blk_simp
  rw [after0_11, acc11 m c t.val t.isLt, hm]
  have a1 : ((((cfg0.win 11).blk t).view.emb y : S1x2048.Idx) 1).val = (y 1).val := by
    blk_simp [e1]
  unfold at2
  rw [a1]
theorem arr13 : (dats (F := Ideal) m 0 c).arrAt 13 cfg0.N = at2 fun _ d => ∑ r ∈ range 4096, gG m c r d := by
  refine (dats m 0 c).arrAt_eq_of_covers 13 _ (by decide +kernel) fun t hf y => ?_
  obtain ⟨e0, e1⟩ := ix13 t
  have hm := (flush0_13 t).mp hf
  blk_simp
  rw [after0_13, acc13 m c t.val t.isLt, hm]
  have a1 : ((((cfg0.win 13).blk t).view.emb y : S1x2048.Idx) 1).val = (y 1).val := by
    blk_simp [e1]
  unfold at2
  rw [a1]

end Cert.BlockBwdIdeal.Blk
-- ==== Proof.BlkRef.lean ====
module
public import proofs.«01_k».proof.Proof.BlkArr
public import proofs.«01_k».proof.Proof.Gen.BlockBwdRefIdeal.Run

@[expose] public section

/-! The reference's norm and its gradient, as its operations, and by row and column. -/

set_option maxRecDepth 16384

noncomputable section

namespace Cert.BlockBwdRefIdeal.Blk

open Cert.BlockBwdRefIdeal Cert.BlockBwdRefIdeal.Gen Idealize.ShloMosaic Idealize.ShloMosaic.TcCoe
open Cert.Prod Cert.BlockBwdIdeal.Blk
open Cert.ConvBwdIdeal.Conv (rd1 rd1_at at2_rd)
open Cert.ConvBwdRefIdeal.Conv (at1)
open Finset (range)

/-! ## The operations -/

section
variable (x u h : FVec Ideal S4096x2048 .f32) (n : FVec Ideal S2048 .f32) (s g : FVec Ideal S1x2048 .f32)

/-- A row on every row. -/
def bc : FVec Ideal S4096x2048 .f32 := broadcastInDim S4096x2048 ![0, 1] bcast_S1x2048_S4096x2048_0_1 g
/-- A column on every column. -/
def bl (v : FVec Ideal S4096x1 .f32) : FVec Ideal S4096x2048 .f32 := broadcastInDim S4096x2048 ![0, 1] bcast_S4096x1_S4096x2048_0_1 v
/-- The sum down each column. -/
def cs : FVec Ideal S1x2048 .f32 := shapeCast _ (Host.reduceAdd x (constant S_ .f32 0x00000000#32) reducesTo_S4096x2048_S2048_d0 h_S_) shapeCasts_S2048_S1x2048
/-- The sum along each row. -/
def rsum : FVec Ideal S4096 .f32 := Host.reduceAdd x (constant S_ .f32 0x00000000#32) reducesTo_S4096x2048_S4096_d1 h_S_
/-- A number in a column. -/
def kc (b : BitVec 32) : FVec Ideal S4096x1 .f32 := broadcastInDim S4096x1 ![] bcast_S_S4096x1 (constant S_ .f32 b)
/-- Each row's mean square, and ε. -/
def mr : FVec Ideal S4096x1 .f32 := addf (Host.divf (broadcastInDim S4096x1 ![0] bcast_S4096_S4096x1_0 (rsum (mulf x x))) (kc 0x45000000#32)) (kc 0x358637BD#32)
/-- Its reciprocal root. -/
def rr : FVec Ideal S4096x1 .f32 := Host.rsqrt (mr x)
/-- The normed rows. -/
def yr : FVec Ideal S4096x2048 .f32 := mulf x (bl (rr x))
/-- The gain on every row. -/
def nb : FVec Ideal S4096x2048 .f32 := bc (broadcastInDim S1x2048 ![1] bcast_S2048_S1x2048_1 n)
/-- The gradient of the normed rows times the gain. -/
def er : FVec Ideal S4096x2048 .f32 := mulf (shapeCast _ h shapeCasts_S4096x2048_S4096x2048) (bc (addf (broadcastInDim S1x2048 ![] bcast_S_S1x2048 (constant S_ .f32 0x3F800000#32)) s))
/-- The gradient of the normed rows. -/
def nr : FVec Ideal S4096x2048 .f32 := mulf (er h s) (nb n)
/-- The mean square's gradient, for each entry. -/
def qr : FVec Ideal S4096x2048 .f32 := broadcastInDim S4096x2048 ![0] bcast_S4096_S4096x2048_0 (Host.reduceAdd (Host.divf (mulf (shapeCast _ (rsum (mulf x (nr h n s))) shapeCasts_S4096_S4096x1) (mulf (kc 0xBF000000#32) (Host.divf (rr x) (mr x)))) (kc 0x45000000#32)) (constant S_ .f32 0x00000000#32) reducesTo_S4096x1_S4096_d1 h_S_)
/-- The rows' gradient. -/
def dr : FVec Ideal S4096x2048 .f32 := addf (addf (addf u (mulf (nr h n s) (bl (rr x)))) (mulf x (qr x h n s))) (mulf (qr x h n s) x)
end

/-! ## By row and column -/

section
variable (X U H : ℕ → ℕ → EReal) (n s : ℕ → EReal)

/-- A row. -/
abbrev row (b : ℕ → EReal) : FVec Ideal S1x2048 .f32 := at2 fun _ => b

theorem mul_at : mulf (F := Ideal) (φ := .f32) (s := S4096x2048) (at2 X) (at2 U) = at2 fun t d => X t d * U t d := rfl
theorem cs_at : cs (at2 X) = row fun d => ∑ t ∈ range 4096, X t d := by
  funext i
  unfold cs row at2
  pointwise
  exact (Finset.sum_range fun t => X t (i 1).val).symm
theorem rsum_at : rsum (at2 X) = at1 fun t => ∑ d ∈ range 2048, X t d := by
  funext i
  unfold rsum at1 at2
  pointwise
  exact (Finset.sum_range fun d => X (i 0).val d).symm
theorem mr_at : mr (at2 X) = at2 fun t _ => ms (X t) := by
  unfold mr
  rw [mul_at, rsum_at]
  funext i
  unfold kc at1 at2 ms
  pointwise
theorem rr_at : rr (at2 X) = at2 fun t _ => rn (X t) := by
  unfold rr
  rw [mr_at]
  rfl
theorem bl_at : bl (at2 X) = at2 fun t _ => X t 0 := by
  funext i
  unfold bl at2
  pointwise
theorem bc_at : bc (row n) = at2 fun _ d => n d := by
  funext i
  unfold bc row at2
  pointwise
theorem yr_at : yr (at2 X) = at2 fun t d => X t d * rn (X t) := by
  unfold yr
  rw [rr_at, bl_at]
  rfl
theorem nb_at : nb (at1 n) = at2 fun _ d => n d := by
  funext i
  unfold nb bc at1 at2
  pointwise
theorem er_at : er (at2 H) (row s) = at2 fun t => eh s (H t) := by
  funext i
  unfold er bc row at2 eh
  pointwise
theorem nr_at : nr (at2 H) (at1 n) (row s) = at2 fun t => en n s (H t) := by
  unfold nr
  rw [er_at, nb_at]
  rfl
theorem qr_at : qr (at2 X) (at2 H) (at1 n) (row s) = at2 fun t _ => qm n s (X t) (H t) := by
  unfold qr
  rw [nr_at, mul_at, rsum_at, rr_at, mr_at]
  funext i
  unfold kc at1 at2 qm
  pointwise
  simp only [Finset.univ_unique, Finset.sum_singleton]
theorem dr_at : dr (at2 X) (at2 U) (at2 H) (at1 n) (row s) = at2 (tX U H X n s) := by
  unfold dr
  rw [nr_at, qr_at, rr_at, bl_at]
  funext i
  unfold at2 tX dx
  pointwise
  exact (congrArg (· + _) (add_assoc _ _ _)).trans (add_assoc _ _ _)
end

/-! ## The results -/

section results
variable (m : (ℓ : Loc nD τ sig) → Buf (Elt Ideal) ℓ) (c : Dev nD)

/-- The arguments. -/
abbrev xa : FVec Ideal S4096x2048 .f32 := addf (m ((c.tc : Thread nD τ).loc main_arg0)) (mulf (bc (m ((c.tc : Thread nD τ).loc main_arg2))) (m ((c.tc : Thread nD τ).loc main_arg1)))
@[inherit_doc xa] abbrev da : FVec Ideal S4096x2048 .f32 :=
  dr (xa m c) (m ((c.tc : Thread nD τ).loc main_arg6)) (m ((c.tc : Thread nD τ).loc main_arg7)) (m ((c.tc : Thread nD τ).loc main_arg3)) (m ((c.tc : Thread nD τ).loc main_arg4))

theorem dx_eq : Value.res_main_v53 (F := Ideal) m c = da m c := rfl
theorem dy_eq : Value.res_main_v61 (F := Ideal) m c = truncf .bf16 (mulf (bc (m ((c.tc : Thread nD τ).loc main_arg2))) (shapeCast _ (da m c) shapeCasts_S4096x2048_S4096x2048)) bitsLt_bf16_f32 := rfl
theorem dg_eq : Value.res_main_v59 (F := Ideal) m c = cs (mulf (shapeCast _ (da m c) shapeCasts_S4096x2048_S4096x2048) (m ((c.tc : Thread nD τ).loc main_arg1))) := rfl
end results

/-! ## The results' values -/

theorem at1_rd {n : ℕ} (x : (⟨1, ![n]⟩ : Shape).Idx → EReal) : at1 (rd1 x) = x := funext fun j => (rd1_at x j _ rfl).symm
theorem row_rd (x : FVec Ideal S1x2048 .f32) : row (rd x 0) = x := funext fun j => (rd_at x j _ _ (by have := (j 0).isLt; change _ < 1 at this; omega) rfl).symm

section values
variable (x y u h : FVec Ideal S4096x2048 .f32) (n : FVec Ideal S2048 .f32) (s g : FVec Ideal S1x2048 .f32)

theorem xa_at : addf x (mulf (bc g) y) = at2 (rs x y g) := by
  funext i
  unfold bc at2
  pointwise
  congr 1
  · exact rd_at _ _ _ _ rfl rfl
  · congr 1
    · exact rd_at _ _ _ _ (by simp) (by simp)
    · exact rd_at _ _ _ _ rfl rfl
theorem dr_val (X : ℕ → ℕ → EReal) : dr (at2 X) u h n s = at2 (tX (rd u) (rd h) X (rd1 n) (rd s 0)) := by
  rw [← dr_at, at2_rd, at2_rd, at1_rd, row_rd]
theorem er_val : er h s = at2 fun t => eh (rd s 0) (rd h t) := by
  rw [← er_at, at2_rd, row_rd]
theorem dh_val : cs h = row fun d => ∑ t ∈ range 4096, rd h t d := by
  rw [← cs_at, at2_rd]
theorem same : (shapeCast _ h shapeCasts_S4096x2048_S4096x2048 : FVec Ideal S4096x2048 .f32) = h := shapeCast_self _ _
theorem ds_val (X : ℕ → ℕ → EReal) : cs (mulf (mulf (yr (at2 X)) (nb n)) (shapeCast _ h shapeCasts_S4096x2048_S4096x2048)) = row fun d => ∑ t ∈ range 4096, tS (rd h) X (rd1 n) t d := by
  have en : nb n = at2 fun _ d => rd1 n d := by rw [← nb_at, at1_rd]
  rw [same, yr_at, en, mul_at]
  refine Eq.trans (congrArg (fun k => cs (mulf _ k)) (at2_rd h).symm) ?_
  rw [mul_at, cs_at]
/-- A row summed down its one entry in each column. -/
theorem one_at (b : ℕ → EReal) : (shapeCast _ (Host.reduceAdd (row b) (constant S_ .f32 0x00000000#32) reducesTo_S1x2048_S2048_d0 h_S_) shapeCasts_S2048_S1x2048 : FVec Ideal S1x2048 .f32) = row b := by
  funext i
  unfold row at2
  pointwise
  simp only [Finset.univ_unique, Finset.sum_singleton]
theorem dn_val (X : ℕ → ℕ → EReal) : cs (mulf (yr (at2 X)) (er h s)) = row fun d => ∑ t ∈ range 4096, tN (rd h) X (rd s 0) t d := by
  rw [yr_at, er_val, mul_at, cs_at]
theorem dy_val (Z : ℕ → ℕ → EReal) : (truncf .bf16 (mulf (bc g) (at2 Z)) bitsLt_bf16_f32 : FVec Ideal S4096x2048 .bf16) = at2 fun t d => rd g 0 d * Z t d := by
  have eg : bc g = at2 fun _ d => rd g 0 d := by rw [← bc_at, row_rd]
  rw [eg, mul_at]
  rfl
theorem dg_val (Z : ℕ → ℕ → EReal) : cs (mulf (at2 Z) y) = row fun d => ∑ t ∈ range 4096, Z t d * rd y t d := by
  rw [← cs_at, ← mul_at, at2_rd]
end values

end Cert.BlockBwdRefIdeal.Blk
-- ==== Proof.BlkClaim.lean ====
module
public import proofs.«01_k».proof.Defs
public import proofs.«01_k».proof.Proof.BlkRef
public import proofs.«01_k».proof.Proof.Gen.BlockBwd.Frame
public import proofs.«01_k».proof.Proof.Gen.BlockBwdIdeal.Value

@[expose] public section

/-! The norm's backward call, with its residual branch: the claims. -/

set_option maxRecDepth 16384

noncomputable section

namespace Cert.BlockBwdRefIdeal.Blk

open Cert.BlockBwdRefIdeal Cert.BlockBwdRefIdeal.Gen Idealize.ShloMosaic Idealize.ShloMosaic.TcCoe
open Cert.Prod Cert.BlockBwdIdeal.Blk
open Cert.ConvBwdIdeal.Conv (rd1)
open Finset (range)

section results
variable (m : (ℓ : Loc nD τ sig) → Buf (Elt Ideal) ℓ) (c : Dev nD) (x y u h : FVec Ideal S4096x2048 .f32) (n : FVec Ideal S2048 .f32) (s g : FVec Ideal S1x2048 .f32)
  (h0 : m ((c.tc : Thread nD τ).loc main_arg0) = x) (h1 : m ((c.tc : Thread nD τ).loc main_arg1) = y) (h2 : m ((c.tc : Thread nD τ).loc main_arg2) = g) (h3 : m ((c.tc : Thread nD τ).loc main_arg3) = n)
  (h4 : m ((c.tc : Thread nD τ).loc main_arg4) = s) (h6 : m ((c.tc : Thread nD τ).loc main_arg6) = u) (h7 : m ((c.tc : Thread nD τ).loc main_arg7) = h)
include h0 h1 h2

theorem xa_val : xa m c = at2 (rs x y g) := by
  unfold xa
  rw [h0, h1, h2, xa_at]

include h3 h4 h6 h7
theorem da_val : da m c = at2 (tX (rd u) (rd h) (rs x y g) (rd1 n) (rd s 0)) := by
  unfold da
  rw [xa_val m c x y g h0 h1 h2, h3, h4, h6, h7, dr_val]
theorem res53 : Value.res_main_v53 (F := Ideal) m c = at2 (tX (rd u) (rd h) (rs x y g) (rd1 n) (rd s 0)) :=
  (dx_eq m c).trans (da_val m c x y u h n s g h0 h1 h2 h3 h4 h6 h7)
theorem res61 : Value.res_main_v61 (F := Ideal) m c = at2 fun t d => rd g 0 d * tX (rd u) (rd h) (rs x y g) (rd1 n) (rd s 0) t d := by
  rw [dy_eq, da_val m c x y u h n s g h0 h1 h2 h3 h4 h6 h7, same, h2, dy_val]
theorem res59 : Value.res_main_v59 (F := Ideal) m c = row fun d => ∑ t ∈ range 4096, tX (rd u) (rd h) (rs x y g) (rd1 n) (rd s 0) t d * rd y t d := by
  rw [dg_eq, da_val m c x y u h n s g h0 h1 h2 h3 h4 h6 h7, same, h1, dg_val]
omit h3 h6
theorem res60 : (shapeCast _ (Host.reduceAdd (cs (mulf (yr (xa m c)) (er (m ((c.tc : Thread nD τ).loc main_arg7)) (m ((c.tc : Thread nD τ).loc main_arg4))))) (constant S_ .f32 0x00000000#32) reducesTo_S1x2048_S2048_d0 h_S_) shapeCasts_S2048_S1x2048 : FVec Ideal S1x2048 .f32)
    = row fun d => ∑ t ∈ range 4096, tN (rd h) (rs x y g) (rd s 0) t d := by
  rw [xa_val m c x y g h0 h1 h2, h4, h7, dn_val, one_at]
omit h4
include h3
theorem res30 : cs (mulf (mulf (yr (xa m c)) (nb (m ((c.tc : Thread nD τ).loc main_arg3)))) (shapeCast _ (m ((c.tc : Thread nD τ).loc main_arg7)) shapeCasts_S4096x2048_S4096x2048))
    = row fun d => ∑ t ∈ range 4096, tS (rd h) (rs x y g) (rd1 n) t d := by
  rw [xa_val m c x y g h0 h1 h2, h3, h7, ds_val]
omit h0 h1 h2 h3
theorem res27 : cs (m ((c.tc : Thread nD τ).loc main_arg7)) = row fun d => ∑ t ∈ range 4096, rd h t d := by
  rw [h7, dh_val]
end results

end Cert.BlockBwdRefIdeal.Blk

namespace Cert.BlockBwdIdeal.Blk

open Idealize.ShloMosaic Idealize.ShloMosaic.TcCoe Cert.Prod Cert.BlockBwdRefIdeal.Blk
open Finset (range)

theorem frame_words : Cert.quiescent_BlockBwd := fun m ρ _ => Cert.BlockBwd.Gen.frame (F := Bits) m ρ
theorem frame_ideal : Cert.quiescent_BlockBwdIdeal := fun m ρ _ => Cert.BlockBwdIdeal.Gen.frame (F := Ideal) m ρ
theorem frame_ref : Cert.quiescent_BlockBwdRefIdeal := fun m ρ _ =>
  (θ_run Cert.BlockBwdRefIdeal.defs _ _).mono (fun r h => ⟨fun c => (h c).2.2.2.2.2.2, sem_eq_zero_of_no_sems (by decide) r.2⟩) (Cert.BlockBwdRefIdeal.Value.run (F := Ideal) m ρ)

theorem algebraic : Cert.algebraic_BlockBwdIdeal_BlockBwdRefIdeal := by
  intro m ρ m' ρ' _ hag
  refine ⟨fun c => at2 (gX m c), fun c => at2 fun _ d => ∑ r ∈ range 4096, gN m c r d, fun c => at2 fun _ d => ∑ r ∈ range 4096, gS m c r d,
    fun c => at2 fun _ d => ∑ r ∈ range 4096, mH m c r d, fun c => at2 (gY m c), fun c => at2 fun _ d => ∑ r ∈ range 4096, gG m c r d, ?_, ?_⟩
  · refine (θ_run Cert.BlockBwdIdeal.defs _ _).mono (fun r h c => ?_) (Cert.BlockBwdIdeal.Value.run_blocks (F := Ideal) m ρ)
    obtain ⟨g0, g1, g2, g3, g4, g5, hk⟩ := h c
    exact ⟨g0.trans (arr8 m c), g1.trans (arr9 m c), g2.trans (arr10 m c), g3.trans (arr11 m c), g4.trans (arr12 m c), g5.trans (arr13 m c), hk⟩
  · refine (θ_run Cert.BlockBwdRefIdeal.defs _ _).mono (fun r h c => ?_) (Cert.BlockBwdRefIdeal.Value.run (F := Ideal) m' ρ')
    obtain ⟨g0, g1, g2, g3, g4, g5, hk⟩ := h c
    obtain ⟨a0, a1, a2, a3, a4, -, a6, a7⟩ := hag c
    exact ⟨g0.trans (res53 m' c _ _ _ _ _ _ _ a0 a1 a2 a3 a4 a6 a7), g1.trans (res60 m' c _ _ _ _ _ a0 a1 a2 a4 a7), g2.trans (res30 m' c _ _ _ _ _ a0 a1 a2 a3 a7),
      g3.trans (res27 m' c _ a7), g4.trans (res61 m' c _ _ _ _ _ _ _ a0 a1 a2 a3 a4 a6 a7), g5.trans (res59 m' c _ _ _ _ _ _ _ a0 a1 a2 a3 a4 a6 a7), hk⟩

end Cert.BlockBwdIdeal.Blk
-- ==== Proof.FinPay.lean ====
module
public import proofs.«01_k».proof.Proof.BlkPay
public import proofs.«01_k».proof.Proof.Gen.FinalLossIdeal.Skeleton

@[expose] public section

/-! The loss and its gradient by row and column, and the values that a grid step of its call computes. -/

set_option maxRecDepth 16384

noncomputable section

namespace Cert.FinalLossIdeal.Fin

open Cert.FinalLossIdeal Cert.FinalLossIdeal.Gen Idealize.ShloMosaic Idealize.ShloMosaic.TcCoe
open Cert.Prod
open Cert.BlockBwdIdeal.Blk (ms rn len eps)
open Finset (range)

/-! ## The specification, of a row -/

section
variable (n z x : ℕ → EReal)
/-- What the normed row misses of the target. -/
def er (d : ℕ) : EReal := x d * rn x * n d - z d
/-- The gradient of the normed row times the gain: the kernel's constant is 1/2048. -/
def eh (d : ℕ) : EReal := er n z x d * Ideal.ofBits .f32 0x3A000000#32
/-- The gradient of the normed row. -/
def en (d : ℕ) : EReal := eh n z x d * n d
/-- The mean square's gradient, for each entry. -/
def qm : EReal :=
  Ideal.div ((∑ d ∈ range 2048, x d * en n z x d) * (Ideal.ofBits .f32 0xBF000000#32 * Ideal.div (rn x) (ms x))) len
/-- The row's gradient. -/
def dx (d : ℕ) : EReal := en n z x d * rn x + x d * qm n z x + qm n z x * x d
/-- Twice the row's loss. -/
def lo : EReal := Ideal.div (∑ d ∈ range 2048, er n z x d * er n z x d) len
end

/-- One half. -/
abbrev half : EReal := Ideal.ofBits .f32 0x3F000000#32

/-! ## The values -/

variable (A Y Z : ℕ → ℕ → EReal) (g n b : ℕ → EReal)

/-- A row. -/
abbrev row (b : ℕ → EReal) : FVec Ideal S1x2048 .f32 := at2 fun _ => b
/-- The residual sum. -/
abbrev sx : ℕ → ℕ → EReal := fun r d => A r d + g d * Y r d

theorem pay2_at : k0_pay2 (F := Ideal) (at2 Y) (row g) (at2 A) = at2 (sx A Y g) := by
  funext y
  unfold k0_pay2 row at2
  pointwise
theorem pay4_at : k0_pay4 (F := Ideal) (at2 Y) (row g) (at2 A) = at2 fun r _ => ms (sx A Y g r) := by
  unfold k0_pay4
  rw [pay2_at]
  funext y
  unfold at2 ms
  pointwise
  exact congrArg (fun v => Ideal.div v len + eps) (Finset.sum_range fun d => sx A Y g (y 0).val d * sx A Y g (y 0).val d).symm
theorem pay5_at : k0_pay5 (F := Ideal) (at2 Y) (row g) (at2 A) = at2 fun r _ => rn (sx A Y g r) := by
  unfold k0_pay5
  rw [pay4_at]
  rfl
theorem pay6_at : k0_pay6 (F := Ideal) (at2 Y) (row g) (at2 A) = at2 fun r d => sx A Y g r d * rn (sx A Y g r) := by
  unfold k0_pay6
  rw [pay5_at, pay2_at]
  funext y
  unfold at2
  pointwise
theorem pay7_at : k0_pay7 (F := Ideal) (at2 Y) (row g) (at2 A) (row n) (at2 Z) = at2 fun r => er n (Z r) (sx A Y g r) := by
  unfold k0_pay7
  rw [pay6_at]
  funext y
  unfold k0_pay3 row at2 er
  pointwise
theorem pay8_at : k0_pay8 (F := Ideal) (at2 Y) (row g) (at2 A) (row n) (at2 Z) = at2 fun r => eh n (Z r) (sx A Y g r) := by
  unfold k0_pay8
  rw [pay7_at]
  rfl
theorem pay10_at : k0_pay10 (F := Ideal) (at2 Y) (row g) (at2 A) (row n) (at2 Z) = at2 fun r => en n (Z r) (sx A Y g r) := by
  unfold k0_pay10
  rw [pay8_at]
  funext y
  unfold k0_pay3 row at2 en
  pointwise
theorem pay11_at : k0_pay11 (F := Ideal) (at2 Y) (row g) (at2 A) (row n) (at2 Z) = at2 fun r d => en n (Z r) (sx A Y g r) d * rn (sx A Y g r) := by
  unfold k0_pay11
  rw [pay10_at, pay5_at]
  funext y
  unfold at2
  pointwise
theorem pay12_at : k0_pay12 (F := Ideal) (at2 Y) (row g) (at2 A) (row n) (at2 Z) = at2 fun r _ => qm n (Z r) (sx A Y g r) := by
  unfold k0_pay12
  rw [pay10_at, pay5_at, pay4_at, pay2_at]
  funext y
  unfold at2 qm
  pointwise
  exact congrArg (fun v => Ideal.div (v * _) len) (Finset.sum_range fun d => sx A Y g (y 0).val d * en n (Z (y 0).val) (sx A Y g (y 0).val) d).symm

/-- The gradient of the residual sum. -/
abbrev tX : ℕ → ℕ → EReal := fun r => dx n (Z r) (sx A Y g r)
/-- The terms of the gain's gradient. -/
abbrev tN : ℕ → ℕ → EReal := fun r d => sx A Y g r d * rn (sx A Y g r) * eh n (Z r) (sx A Y g r) d
/-- The sum of 256 rows. -/
abbrev sm (f : ℕ → ℕ → EReal) (d : ℕ) : EReal := ∑ r ∈ range 256, f r d

theorem pay13_at : k0_pay13 (F := Ideal) (k0_pay2 (at2 Y) (row g) (at2 A)) (k0_pay11 (at2 Y) (row g) (at2 A) (row n) (at2 Z)) (k0_pay12 (at2 Y) (row g) (at2 A) (row n) (at2 Z))
    = at2 (tX A Y Z g n) := by
  unfold k0_pay13
  rw [pay2_at, pay11_at, pay12_at]
  funext y
  unfold at2
  pointwise
  simp only [Finset.univ_unique, Finset.sum_singleton]
  rfl
theorem pay18_at : k0_pay18 (F := Ideal) (row g) (k0_pay2 (at2 Y) (row g) (at2 A)) (k0_pay11 (at2 Y) (row g) (at2 A) (row n) (at2 Z)) (k0_pay12 (at2 Y) (row g) (at2 A) (row n) (at2 Z))
    = at2 fun r d => g d * tX A Y Z g n r d := by
  unfold k0_pay18
  rw [pay13_at]
  funext y
  unfold row at2
  pointwise
theorem pay19_at : k0_pay19 (F := Ideal) (at2 Y) (k0_pay2 (at2 Y) (row g) (at2 A)) (k0_pay11 (at2 Y) (row g) (at2 A) (row n) (at2 Z)) (k0_pay12 (at2 Y) (row g) (at2 A) (row n) (at2 Z)) (row b)
    = row fun d => b d + sm (fun r d => tX A Y Z g n r d * Y r d) d := by
  unfold k0_pay19
  rw [pay13_at]
  funext y
  unfold row at2
  pointwise
  exact congrArg (b (y 1).val + ·) (Finset.sum_range fun r => tX A Y Z g n r (y 1).val * Y r (y 1).val).symm
theorem pay1_at : k0_pay1 (F := Ideal) (k0_pay9 (at2 Y) (row g) (at2 A) (row n) (at2 Z)) (row b) = row fun d => b d + sm (tN A Y Z g n) d := by
  unfold k0_pay1 k0_pay9
  rw [pay6_at, pay8_at]
  funext y
  unfold row at2
  pointwise
  exact congrArg (b (y 1).val + ·) (Finset.sum_range fun r => tN A Y Z g n r (y 1).val).symm
theorem pay17_at : k0_pay17 (F := Ideal) (k0_pay7 (at2 Y) (row g) (at2 A) (row n) (at2 Z)) (at2 fun _ => b)
    = at2 fun _ d => b d + half * ∑ r ∈ range 256, lo n (Z r) (sx A Y g r) := by
  unfold k0_pay17
  rw [pay7_at]
  funext y
  unfold at2 lo
  pointwise
  refine congrArg (fun v => b (y 1).val + half * v) ?_
  rw [Finset.sum_range]
  exact Finset.sum_congr rfl fun r _ => congrArg (Ideal.div · len) (Finset.sum_range fun d => er n (Z r) (sx A Y g r) d * er n (Z r) (sx A Y g r) d).symm
theorem pay15_at : k0_pay15 (F := Ideal) = row fun _ => 0 := by
  funext y
  unfold k0_pay15 row at2
  pointwise
theorem pay14_at : k0_pay14 (F := Ideal) = at2 fun _ _ => 0 := by
  funext y
  unfold k0_pay14 at2
  pointwise

end Cert.FinalLossIdeal.Fin
-- ==== Proof.FinCase.lean ====
module
public import proofs.«01_k».proof.Proof.FinPay
public import proofs.«01_k».proof.Proof.Gen.FinalLossIdeal.Frame

@[expose] public section

/-! What each kind of grid point leaves in the five output blocks. -/

set_option maxRecDepth 16384

noncomputable section

namespace Cert.FinalLossIdeal.Fin

open Cert.FinalLossIdeal Cert.FinalLossIdeal.Gen Idealize.ShloMosaic Idealize.ShloMosaic.TcCoe
open Cert.Prod
open Finset (range)

theorem hz : (![0, 0] : Fin 2 → Nat) = fun _ => 0 := funext fun a => by fin_cases a <;> rfl

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S1x128 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S1x2048 .f32) (harg9 : arg9.IsWhole) (arg10 : Memref sig .tc .vmem S1x2048 .f32) (harg10 : arg10.IsWhole)

variable (A Y Z : ℕ → ℕ → EReal) (g n o5 o8 o9 : ℕ → EReal)

/-- Twice the rows' losses, summed over 256 rows. -/
abbrev sl : EReal := ∑ r ∈ range 256, lo n (Z r) (sx A Y g r)

theorem case5A (h0 : cond0_0 i) :
    out0_A_5 (F := Ideal) c i arg1 harg1 arg2 harg2 arg3 harg3 arg4 harg4 arg5 harg5 arg6 harg6 arg7 harg7 arg8 harg8 arg9 harg9 arg10 harg10 h0 (at2 A) (at2 Y) (row g) (row n) (at2 Z) = at2 fun _ d => 0 + half * sl A Y Z g n := by
  unfold out0_A_5
  rw [View.read_writes_eq_canon _ _ _ (cover0_A_5 (F := Ideal) c i arg1 harg1 arg2 harg2 arg3 harg3 arg4 harg4 arg5 harg5 arg6 harg6 arg7 harg7 arg8 harg8 arg9 harg9 arg10 harg10 h0 (at2 A) (at2 Y) (row g) (row n) (at2 Z))]
  unfold kernelRun0_A
  dsimp only
  sl_unfold_words
  simp only [View.readAt_eq_ld, harg1.read_unread, harg2.read_unread, harg3.read_unread, harg4.read_unread, harg5.read_unread, View.ld_unit_zero (S := S256x2048) hz, View.ld_unit_zero (S := S1x2048) hz]
  rw [pay14_at, View.readCov_unit_zero (S := S1x128) _ hz, pay17_at, View.canon_cons_unit_zero hz]
theorem case6A (h0 : cond0_0 i) :
    out0_A_6 (F := Ideal) c i arg1 harg1 arg2 harg2 arg3 harg3 arg4 harg4 arg5 harg5 arg6 harg6 arg7 harg7 arg8 harg8 arg9 harg9 arg10 harg10 h0 (at2 A) (at2 Y) (row g) (row n) (at2 Z) = at2 (tX A Y Z g n) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 h0 (at2 A) (at2 Y) (row g) (row n) (at2 Z))]
  unfold kernelRun0_A
  dsimp only
  sl_unfold_words
  simp only [View.readAt_eq_ld, harg1.read_unread, harg2.read_unread, harg3.read_unread, harg4.read_unread, harg5.read_unread, View.ld_unit_zero (S := S256x2048) hz, View.ld_unit_zero (S := S1x2048) hz]
  rw [pay13_at, View.canon_unit_zero hz]
theorem case7A (h0 : cond0_0 i) :
    out0_A_7 (F := Ideal) c i arg1 harg1 arg2 harg2 arg3 harg3 arg4 harg4 arg5 harg5 arg6 harg6 arg7 harg7 arg8 harg8 arg9 harg9 arg10 harg10 h0 (at2 A) (at2 Y) (row g) (row n) (at2 Z) = at2 fun r d => g d * tX A Y Z g n r d := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 h0 (at2 A) (at2 Y) (row g) (row n) (at2 Z))]
  unfold kernelRun0_A
  dsimp only
  sl_unfold_words
  simp only [View.readAt_eq_ld, harg1.read_unread, harg2.read_unread, harg3.read_unread, harg4.read_unread, harg5.read_unread, View.ld_unit_zero (S := S256x2048) hz, View.ld_unit_zero (S := S1x2048) hz]
  rw [pay18_at, View.canon_unit_zero hz]
theorem case8A (h0 : cond0_0 i) :
    out0_A_8 (F := Ideal) c i arg1 harg1 arg2 harg2 arg3 harg3 arg4 harg4 arg5 harg5 arg6 harg6 arg7 harg7 arg8 harg8 arg9 harg9 arg10 harg10 h0 (at2 A) (at2 Y) (row g) (row n) (at2 Z) = row fun d => 0 + sm (fun r d => tX A Y Z g n r d * Y r d) d := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 h0 (at2 A) (at2 Y) (row g) (row n) (at2 Z))]
  unfold kernelRun0_A
  dsimp only
  sl_unfold_words
  simp only [View.readAt_eq_ld, harg1.read_unread, harg2.read_unread, harg3.read_unread, harg4.read_unread, harg5.read_unread, View.ld_unit_zero (S := S256x2048) hz, View.ld_unit_zero (S := S1x2048) hz]
  rw [pay15_at, View.readCov_unit_zero (S := S1x2048) _ hz, pay19_at, View.canon_cons_unit_zero hz]
theorem case9A (h0 : cond0_0 i) :
    out0_A_9 (F := Ideal) c i arg1 harg1 arg2 harg2 arg3 harg3 arg4 harg4 arg5 harg5 arg6 harg6 arg7 harg7 arg8 harg8 arg9 harg9 arg10 harg10 h0 (at2 A) (at2 Y) (row g) (row n) (at2 Z) = row fun d => 0 + sm (tN A Y Z g n) d := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 h0 (at2 A) (at2 Y) (row g) (row n) (at2 Z))]
  unfold kernelRun0_A
  dsimp only
  sl_unfold_words
  simp only [View.readAt_eq_ld, harg1.read_unread, harg2.read_unread, harg3.read_unread, harg4.read_unread, harg5.read_unread, View.ld_unit_zero (S := S256x2048) hz, View.ld_unit_zero (S := S1x2048) hz]
  rw [show k0_pay16 (F := Ideal) = row fun _ => 0 from pay15_at, View.readCov_unit_zero (S := S1x2048) _ hz, pay1_at, View.canon_cons_unit_zero hz]
theorem case5B (h0 : ¬cond0_0 i) :
    out0_B_5 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9) = at2 fun _ d => o5 d + half * sl A Y Z g n := by
  unfold out0_B_5
  rw [View.read_writes_eq_canon _ _ _ (cover0_B_5 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9))]
  unfold kernelRun0_B
  dsimp only
  sl_unfold_words
  simp only [View.readAt_eq_ld, harg1.read_unread, harg2.read_unread, harg3.read_unread, harg4.read_unread, harg5.read_unread, harg6.read_unread, View.ld_unit_zero (S := S256x2048) hz, View.ld_unit_zero (S := S1x2048) hz, View.ld_unit_zero (S := S1x128) hz]
  rw [pay17_at, View.canon_unit_zero hz]
theorem case6B (h0 : ¬cond0_0 i) :
    out0_B_6 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9) = at2 (tX A Y Z g n) := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9))]
  unfold kernelRun0_B
  dsimp only
  sl_unfold_words
  simp only [View.readAt_eq_ld, harg1.read_unread, harg2.read_unread, harg3.read_unread, harg4.read_unread, harg5.read_unread, View.ld_unit_zero (S := S256x2048) hz, View.ld_unit_zero (S := S1x2048) hz]
  rw [pay13_at, View.canon_unit_zero hz]
theorem case7B (h0 : ¬cond0_0 i) :
    out0_B_7 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9) = at2 fun r d => g d * tX A Y Z g n r d := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9))]
  unfold kernelRun0_B
  dsimp only
  sl_unfold_words
  simp only [View.readAt_eq_ld, harg1.read_unread, harg2.read_unread, harg3.read_unread, harg4.read_unread, harg5.read_unread, View.ld_unit_zero (S := S256x2048) hz, View.ld_unit_zero (S := S1x2048) hz]
  rw [pay18_at, View.canon_unit_zero hz]
theorem case8B (h0 : ¬cond0_0 i) :
    out0_B_8 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9) = row fun d => o8 d + sm (fun r d => tX A Y Z g n r d * Y r d) d := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9))]
  unfold kernelRun0_B
  dsimp only
  sl_unfold_words
  simp only [View.readAt_eq_ld, harg1.read_unread, harg2.read_unread, harg3.read_unread, harg4.read_unread, harg5.read_unread, harg9.read_unread, View.ld_unit_zero (S := S256x2048) hz, View.ld_unit_zero (S := S1x2048) hz]
  rw [pay19_at, View.canon_unit_zero hz]
theorem case9B (h0 : ¬cond0_0 i) :
    out0_B_9 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9) = row fun d => o9 d + sm (tN A Y Z g n) d := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 h0 (at2 A) (at2 Y) (row g) (row n) (at2 Z) (at2 fun _ => o5) (row o8) (row o9))]
  unfold kernelRun0_B
  dsimp only
  sl_unfold_words
  simp only [View.readAt_eq_ld, harg1.read_unread, harg2.read_unread, harg3.read_unread, harg4.read_unread, harg5.read_unread, harg10.read_unread, View.ld_unit_zero (S := S256x2048) hz, View.ld_unit_zero (S := S1x2048) hz]
  rw [pay1_at, View.canon_unit_zero hz]

end Cert.FinalLossIdeal.Fin
-- ==== Proof.FinArr.lean ====
module
public import proofs.«01_k».proof.Proof.FinCase
public import proofs.«01_k».proof.Proof.ConvRefVal

@[expose] public section

/-! The five arrays the call leaves. -/

set_option maxRecDepth 16384

noncomputable section

namespace Cert.FinalLossIdeal.Fin

open Cert.FinalLossIdeal Cert.FinalLossIdeal.Gen Idealize.ShloMosaic Idealize.ShloMosaic.TcCoe
open Cert.Prod
open Cert.ConvBwdIdeal.Conv (rd1 rd1_at at2_rd)
open Finset (range)

/-! ## The blocks the grid points read -/

theorem ix0 : ∀ t : Fin cfg0.N, win0_0.index t (0 : Fin 2) = t.val % 16 ∧ win0_0.index t (1 : Fin 2) = 0 := (by decide +kernel : ∀ t : Fin grid0.N, _)
theorem ix1 : ∀ t : Fin cfg0.N, win0_1.index t (0 : Fin 2) = t.val % 16 ∧ win0_1.index t (1 : Fin 2) = 0 := (by decide +kernel : ∀ t : Fin grid0.N, _)
theorem ix4 : ∀ t : Fin cfg0.N, win0_4.index t (0 : Fin 2) = t.val % 16 ∧ win0_4.index t (1 : Fin 2) = 0 := (by decide +kernel : ∀ t : Fin grid0.N, _)
theorem ix6 : ∀ t : Fin cfg0.N, win0_6.index t (0 : Fin 2) = t.val % 16 ∧ win0_6.index t (1 : Fin 2) = 0 := (by decide +kernel : ∀ t : Fin grid0.N, _)
theorem ix7 : ∀ t : Fin cfg0.N, win0_7.index t (0 : Fin 2) = t.val % 16 ∧ win0_7.index t (1 : Fin 2) = 0 := (by decide +kernel : ∀ t : Fin grid0.N, _)
theorem ix2 : ∀ t : Fin cfg0.N, win0_2.index t (0 : Fin 2) = 0 ∧ win0_2.index t (1 : Fin 2) = 0 := (by decide +kernel : ∀ t : Fin grid0.N, _)
theorem ix3 : ∀ t : Fin cfg0.N, win0_3.index t (0 : Fin 2) = 0 ∧ win0_3.index t (1 : Fin 2) = 0 := (by decide +kernel : ∀ t : Fin grid0.N, _)
theorem ix5 : ∀ t : Fin cfg0.N, win0_5.index t (0 : Fin 2) = 0 ∧ win0_5.index t (1 : Fin 2) = 0 := (by decide +kernel : ∀ t : Fin grid0.N, _)
theorem ix8 : ∀ t : Fin cfg0.N, win0_8.index t (0 : Fin 2) = 0 ∧ win0_8.index t (1 : Fin 2) = 0 := (by decide +kernel : ∀ t : Fin grid0.N, _)
theorem ix9 : ∀ t : Fin cfg0.N, win0_9.index t (0 : Fin 2) = 0 ∧ win0_9.index t (1 : Fin 2) = 0 := (by decide +kernel : ∀ t : Fin grid0.N, _)

/-- Tile `t` of the rows. -/
abbrev tl (f : ℕ → ℕ → EReal) (t : ℕ) : ℕ → ℕ → EReal := fun r d => f (256 * t + r) d

variable (m : (ℓ : Loc nD τ sig) → Buf (Elt Ideal) ℓ) (c : Dev nD)

/-- The arguments, by row and column: the rows, the branch, its scale, the gain, the target. -/
abbrev mA : ℕ → ℕ → EReal := rd (m ((c : Thread nD τ).loc main_arg0))
@[inherit_doc mA] abbrev mY : ℕ → ℕ → EReal := rd (m ((c : Thread nD τ).loc main_arg1))
@[inherit_doc mA] abbrev mg : ℕ → EReal := rd (m ((c : Thread nD τ).loc main_arg2)) 0
@[inherit_doc mA] abbrev mN : ℕ → EReal := rd1 (m ((c : Thread nD τ).loc main_arg3))
@[inherit_doc mA] abbrev mZ : ℕ → ℕ → EReal := rd (m ((c : Thread nD τ).loc main_arg4))

theorem V_n : V m c main_v0 = at2 fun _ => mN m c := by
  simp only [V, List.flatten_cons, List.flatten_nil, List.append_nil, hostOps0, List.cons_append, List.nil_append]
  after_results_simp
  funext i
  unfold at2
  pointwise
  exact rd1_at _ _ _ (by simp)

variable (t : Fin cfg0.N)

theorem blk0 : (iblk m c 0 t : Vec Ideal S256x2048 .f32) = at2 (tl (mA m c) (t.val % 16)) := by
  funext i
  obtain ⟨e0, e1⟩ := ix0 t
  show V m c main_arg0 (((cfg0.win 0).blk t).view.emb i) = _
  rw [V_main_arg0]
  refine rd_at _ _ _ _ ?_ ?_
  · blk_simp [e0, e1]; omega
  · blk_simp [e0, e1]
theorem blk1 : (iblk m c 1 t : Vec Ideal S256x2048 .f32) = at2 (tl (mY m c) (t.val % 16)) := by
  funext i
  obtain ⟨e0, e1⟩ := ix1 t
  show V m c main_arg1 (((cfg0.win 1).blk t).view.emb i) = _
  rw [V_main_arg1]
  refine rd_at _ _ _ _ ?_ ?_
  · blk_simp [e0, e1]; omega
  · blk_simp [e0, e1]
theorem blk4 : (iblk m c 4 t : Vec Ideal S256x2048 .f32) = at2 (tl (mZ m c) (t.val % 16)) := by
  funext i
  obtain ⟨e0, e1⟩ := ix4 t
  show V m c main_arg4 (((cfg0.win 4).blk t).view.emb i) = _
  rw [V_main_arg4]
  refine rd_at _ _ _ _ ?_ ?_
  · blk_simp [e0, e1]; omega
  · blk_simp [e0, e1]
theorem blk2 : (iblk m c 2 t : Vec Ideal S1x2048 .f32) = row (mg m c) := by
  funext i
  obtain ⟨e0, e1⟩ := ix2 t
  show V m c main_arg2 (((cfg0.win 2).blk t).view.emb i) = _
  rw [V_main_arg2]
  refine rd_at _ _ _ _ ?_ ?_
  · blk_simp [e0, e1]
  · blk_simp [e0, e1]
theorem blk3 : (iblk m c 3 t : Vec Ideal S1x2048 .f32) = row (mN m c) := by
  funext i
  obtain ⟨e0, e1⟩ := ix3 t
  show V m c main_v0 (((cfg0.win 3).blk t).view.emb i) = _
  rw [V_n]
  unfold row at2
  refine congrArg (mN m c) ?_
  blk_simp [e0, e1]

/-! ## What the grid points leave -/

/-- The residual sum's gradient, the terms of the other gradients, and of the loss, of the arguments. -/
abbrev gX : ℕ → ℕ → EReal := tX (mA m c) (mY m c) (mZ m c) (mg m c) (mN m c)
@[inherit_doc gX] abbrev gN : ℕ → ℕ → EReal := tN (mA m c) (mY m c) (mZ m c) (mg m c) (mN m c)
@[inherit_doc gX] abbrev gY : ℕ → ℕ → EReal := fun t d => mg m c d * gX m c t d
@[inherit_doc gX] abbrev gG : ℕ → ℕ → EReal := fun t d => gX m c t d * mY m c t d
@[inherit_doc gX] abbrev gL (t : ℕ) : EReal := lo (mN m c) (mZ m c t) (sx (mA m c) (mY m c) (mg m c) t)
/-- A tile's part of the loss. -/
abbrev gT (k : ℕ) : EReal := half * ∑ r ∈ range 256, gL m c (256 * k + r)

theorem ptA (h : t.val % 16 = 0) : outsAt0 (F := Ideal) m c t.val t.isLt
    = (at2 fun _ _ => gT m c 0, at2 (tl (gX m c) (t.val % 16)), at2 (tl (gY m c) (t.val % 16)),
      at2 fun _ d => ∑ r ∈ range 256, gG m c r d, at2 fun _ d => ∑ r ∈ range 256, gN m c r d) := by
  rw [outsAt0_A m c t h, blk0, blk1, blk2, blk3, blk4]
  rw [case5A, case6A, case7A, case8A, case9A, h]
  have z (f : ℕ → ℕ → EReal) : tl f 0 = f := funext fun r => funext fun d => congrArg (f · d) (by omega)
  rw [z (mA m c), z (mY m c), z (mZ m c), z (gX m c), z (gY m c)]
  simp only [sm, sl, gT, gL, zero_add, Nat.mul_zero]

theorem ptB (o5 o8 o9 : ℕ → ℕ → EReal) (h : ¬t.val % 16 = 0)
    (e1 : (outsAt0 (F := Ideal) m c (t.val - 1) (Nat.lt_of_le_of_lt (Nat.sub_le _ _) t.isLt)).1 = at2 o5)
    (e2 : (outsAt0 (F := Ideal) m c (t.val - 1) (Nat.lt_of_le_of_lt (Nat.sub_le _ _) t.isLt)).2.2.2.1 = at2 o8)
    (e3 : (outsAt0 (F := Ideal) m c (t.val - 1) (Nat.lt_of_le_of_lt (Nat.sub_le _ _) t.isLt)).2.2.2.2 = at2 o9) :
    outsAt0 (F := Ideal) m c t.val t.isLt
    = (at2 fun k d => o5 k d + gT m c (t.val % 16), at2 (tl (gX m c) (t.val % 16)), at2 (tl (gY m c) (t.val % 16)),
      at2 fun k d => o8 k d + ∑ r ∈ range 256, gG m c (256 * (t.val % 16) + r) d, at2 fun k d => o9 k d + ∑ r ∈ range 256, gN m c (256 * (t.val % 16) + r) d) := by
  have hs (f : ℕ → ℕ → EReal) : (at2 f : FVec Ideal S1x2048 .f32) = row (f 0) :=
    at2_congr fun x y hx _ => by rw [show x = 0 by omega]
  have h5 (f : ℕ → ℕ → EReal) : (at2 f : FVec Ideal S1x128 .f32) = at2 fun _ => f 0 :=
    at2_congr fun x y hx _ => by rw [show x = 0 by omega]
  rw [outsAt0_B m c t h, e1, e2, e3, blk0, blk1, blk2, blk3, blk4, h5 o5, hs o8, hs o9]
  rw [case5B, case6B, case7B, case8B, case9B]
  refine Prod.ext ?_ (Prod.ext rfl (Prod.ext rfl (Prod.ext ?_ ?_)))
  · exact (h5 fun k d => o5 k d + gT m c (t.val % 16)).symm
  · exact (hs fun k d => o8 k d + ∑ r ∈ range 256, gG m c (256 * (t.val % 16) + r) d).symm
  · exact (hs fun k d => o9 k d + ∑ r ∈ range 256, gN m c (256 * (t.val % 16) + r) d).symm

/-! ## The arrays -/

theorem acc5 : ∀ n (h : n < cfg0.N), (outsAt0 (F := Ideal) m c n h).1 = at2 fun _ _ => ∑ k ∈ range (1 * (n % 16) + 1), gT m c k :=
  acc_fold 16 1 (fun _ _ _ k => gT m c k) _ (fun n h hm => (congrArg (·.1) (ptA m c ⟨n, h⟩ hm)).trans (by simp only [Finset.sum_range_one]))
    fun n h a hm ih => (congrArg (·.1) (ptB m c ⟨n, h⟩ a _ _ hm ih (at2_rd _).symm (at2_rd _).symm)).trans (by simp only [Finset.sum_range_one, one_mul, Nat.add_zero])
theorem acc8 : ∀ n (h : n < cfg0.N), (outsAt0 (F := Ideal) m c n h).2.2.2.1 = at2 fun _ d => ∑ r ∈ range (256 * (n % 16) + 256), gG m c r d :=
  acc_fold 16 256 (fun _ _ d r => gG m c r d) _ (fun n h hm => congrArg (·.2.2.2.1) (ptA m c ⟨n, h⟩ hm))
    fun n h a hm ih => congrArg (·.2.2.2.1) (ptB m c ⟨n, h⟩ _ a _ hm (at2_rd _).symm ih (at2_rd _).symm)
theorem acc9 : ∀ n (h : n < cfg0.N), (outsAt0 (F := Ideal) m c n h).2.2.2.2 = at2 fun _ d => ∑ r ∈ range (256 * (n % 16) + 256), gN m c r d :=
  acc_fold 16 256 (fun _ _ d r => gN m c r d) _ (fun n h hm => congrArg (·.2.2.2.2) (ptA m c ⟨n, h⟩ hm))
    fun n h a hm ih => congrArg (·.2.2.2.2) (ptB m c ⟨n, h⟩ _ _ a hm (at2_rd _).symm (at2_rd _).symm ih)
theorem val6 : (outsAt0 (F := Ideal) m c t.val t.isLt).2.1 = at2 (tl (gX m c) (t.val % 16)) := by
  by_cases h : t.val % 16 = 0
  · exact congrArg (·.2.1) (ptA m c t h)
  · exact congrArg (·.2.1) (ptB m c t _ _ _ h (at2_rd _).symm (at2_rd _).symm (at2_rd _).symm)
theorem val7 : (outsAt0 (F := Ideal) m c t.val t.isLt).2.2.1 = at2 (tl (gY m c) (t.val % 16)) := by
  by_cases h : t.val % 16 = 0
  · exact congrArg (·.2.2.1) (ptA m c t h)
  · exact congrArg (·.2.2.1) (ptB m c t _ _ _ h (at2_rd _).symm (at2_rd _).symm (at2_rd _).symm)

theorem arr6 : (dats (F := Ideal) m 0 c).arrAt 6 cfg0.N = at2 (gX m c) := by
  refine (dats m 0 c).arrAt_eq_of_covers 6 _ (by decide +kernel) fun t hf y => ?_
  obtain ⟨e0, e1⟩ := ix6 t
  blk_simp
  rw [after0_6, val6 m c t]
  have a0 : ((((cfg0.win 6).blk t).view.emb y : S4096x2048.Idx) 0).val = 256 * (t.val % 16) + (y 0).val := by
    blk_simp [e0]; omega
  have a1 : ((((cfg0.win 6).blk t).view.emb y : S4096x2048.Idx) 1).val = (y 1).val := by
    blk_simp [e1]
  unfold at2
  rw [a0, a1]
theorem arr7 : (dats (F := Ideal) m 0 c).arrAt 7 cfg0.N = at2 (gY m c) := by
  refine (dats m 0 c).arrAt_eq_of_covers 7 _ (by decide +kernel) fun t hf y => ?_
  obtain ⟨e0, e1⟩ := ix7 t
  blk_simp
  rw [after0_7, val7 m c t]
  have a0 : ((((cfg0.win 7).blk t).view.emb y : S4096x2048.Idx) 0).val = 256 * (t.val % 16) + (y 0).val := by
    blk_simp [e0]; omega
  have a1 : ((((cfg0.win 7).blk t).view.emb y : S4096x2048.Idx) 1).val = (y 1).val := by
    blk_simp [e1]
  unfold at2
  rw [a0, a1]
theorem arr8 : (dats (F := Ideal) m 0 c).arrAt 8 cfg0.N = at2 fun _ d => ∑ r ∈ range 4096, gG m c r d := by
  refine (dats m 0 c).arrAt_eq_of_covers 8 _ (by decide +kernel) fun t hf y => ?_
  obtain ⟨e0, e1⟩ := ix8 t
  have hm := (flush0_8 t).mp hf
  blk_simp
  rw [after0_8, acc8 m c t.val t.isLt, hm]
  have a1 : ((((cfg0.win 8).blk t).view.emb y : S1x2048.Idx) 1).val = (y 1).val := by
    blk_simp [e1]
  unfold at2
  rw [a1]
theorem arr9 : (dats (F := Ideal) m 0 c).arrAt 9 cfg0.N = at2 fun _ d => ∑ r ∈ range 4096, gN m c r d := by
  refine (dats m 0 c).arrAt_eq_of_covers 9 _ (by decide +kernel) fun t hf y => ?_
  obtain ⟨e0, e1⟩ := ix9 t
  have hm := (flush0_9 t).mp hf
  blk_simp
  rw [after0_9, acc9 m c t.val t.isLt, hm]
  have a1 : ((((cfg0.win 9).blk t).view.emb y : S1x2048.Idx) 1).val = (y 1).val := by
    blk_simp [e1]
  unfold at2
  rw [a1]

/-- A half of a sum, tile by tile: a half distributes over any sum. -/
theorem half_sum (f : ℕ → EReal) : ∀ n, half * ∑ t ∈ range (256 * n), f t = ∑ k ∈ range n, half * ∑ r ∈ range 256, f (256 * k + r) := by
  have e : half = ((1 / 2 : ℝ) : EReal) := by simp [half, Ideal.ofBits, Ideal.ieee, -EReal.coe_mul]; norm_num
  intro n
  induction n with
  | zero => simp
  | succ n ih =>
    rw [Nat.mul_succ, Finset.sum_range_add, Finset.sum_range_succ (fun k => half * ∑ r ∈ range 256, f (256 * k + r)) n, ← ih]
    refine EReal.left_distrib_of_nonneg_of_ne_top ?_ ?_ _ _ <;> rw [e]
    · exact_mod_cast (by norm_num : (0 : ℝ) ≤ 1 / 2)
    · exact EReal.coe_ne_top _
theorem arr5 : (dats (F := Ideal) m 0 c).arrAt 5 cfg0.N = at2 fun _ _ => half * ∑ t ∈ range 4096, gL m c t := by
  refine (dats m 0 c).arrAt_eq_of_covers 5 _ (by decide +kernel) fun t hf y => ?_
  have hm := (flush0_5 t).mp hf
  blk_simp
  rw [after0_5, acc5 m c t.val t.isLt, hm]
  exact (half_sum (gL m c) 16).symm

end Cert.FinalLossIdeal.Fin
-- ==== Proof.FinRef.lean ====
module
public import proofs.«01_k».proof.Proof.FinArr
public import proofs.«01_k».proof.Proof.BlkRef
public import proofs.«01_k».proof.Proof.Gen.FinalLossRefIdeal.Run

@[expose] public section

/-! The reference's loss and its gradient, as its operations, and by row and column. -/

set_option maxRecDepth 16384

noncomputable section

namespace Cert.FinalLossRefIdeal.Fin

open Cert.FinalLossRefIdeal Cert.FinalLossRefIdeal.Gen Idealize.ShloMosaic Idealize.ShloMosaic.TcCoe
open Cert.Prod Cert.FinalLossIdeal.Fin
open Cert.BlockBwdIdeal.Blk (ms rn len eps rs)
open Cert.BlockBwdRefIdeal.Blk (bc bl cs rsum kc mr rr yr nb mul_at cs_at rsum_at mr_at rr_at bl_at bc_at yr_at nb_at at1_rd row_rd xa_at one_at dy_val dg_val)
open Cert.ConvBwdIdeal.Conv (rd1 rd1_at at2_rd)
open Cert.ConvBwdRefIdeal.Conv (at1)
open Finset (range)

/-! ## The operations -/

section
variable (x z e : FVec Ideal S4096x2048 .f32) (n : FVec Ideal S2048 .f32)

/-- A number for each row. -/
def kr (b : BitVec 32) : FVec Ideal S4096 .f32 := broadcastInDim S4096 ![] bcast_S_S4096 (constant S_ .f32 b)
/-- What the normed rows miss of the target. -/
def fr : FVec Ideal S4096x2048 .f32 := subf (mulf (yr x) (nb n)) z
/-- The gradient of the normed rows times the gain. -/
def hr : FVec Ideal S4096x2048 .f32 := mulf
  (broadcastInDim S4096x2048 ![0] bcast_S4096_S4096x2048_0 (Host.divf (broadcastInDim S4096 ![] bcast_S_S4096 (mulf (constant S_ .f32 0x3F000000#32) (constant S_ .f32 0x3F800000#32))) (kr 0x45000000#32)))
  (mulf (broadcastInDim S4096x2048 ![] bcast_S_S4096x2048 (constant S_ .f32 0x40000000#32)) (fr x z n))
/-- The mean square's gradient, for each entry, `e` being that of the normed rows. -/
def qr : FVec Ideal S4096x2048 .f32 := broadcastInDim S4096x2048 ![0] bcast_S4096_S4096x2048_0 (Host.reduceAdd (Host.divf (mulf (shapeCast _ (rsum (mulf x e)) shapeCasts_S4096_S4096x1) (mulf (kc 0xBF000000#32) (Host.divf (rr x) (mr x)))) (kc 0x45000000#32)) (constant S_ .f32 0x00000000#32) reducesTo_S4096x1_S4096_d1 h_S_)
/-- The rows' gradient. -/
def gr : FVec Ideal S4096x2048 .f32 := addf (addf (mulf e (bl (rr x))) (mulf x (qr x e))) (mulf (qr x e) x)
@[inherit_doc gr] def dr : FVec Ideal S4096x2048 .f32 := gr x (mulf (hr x z n) (nb n))
/-- The loss. -/
def lr : FVec Ideal S_ .f32 := mulf (constant S_ .f32 0x3F000000#32) (Host.reduceAdd (Host.divf (rsum (mulf (fr x z n) (fr x z n))) (kr 0x45000000#32)) (constant S_ .f32 0x00000000#32) reducesTo_S4096_S_d0 h_S_)
end

/-! ## By row and column -/

/-- The reference's two constants make the kernel's one. -/
theorem two_half : Ideal.div half len * Ideal.ofBits .f32 0x40000000#32 = Ideal.ofBits .f32 0x3A000000#32 := by
  have e0 : half = ((1 / 2 : ℝ) : EReal) := by simp [half, Ideal.ofBits, Ideal.ieee, -EReal.coe_mul]; norm_num
  have e2 : len = ((2048 : ℝ) : EReal) := by simp [len, Ideal.ofBits, Ideal.ieee, -EReal.coe_mul]; norm_num
  have e3 : Ideal.ofBits .f32 0x40000000#32 = ((2 : ℝ) : EReal) := by simp [Ideal.ofBits, Ideal.ieee, -EReal.coe_mul]; norm_num
  have e4 : Ideal.ofBits .f32 0x3A000000#32 = ((1 / 2048 : ℝ) : EReal) := by simp [Ideal.ofBits, Ideal.ieee, -EReal.coe_mul]; norm_num
  rw [e0, e2, e3, e4, Ideal.div, if_neg (by exact_mod_cast (by norm_num : (2048 : ℝ) ≠ 0)), ← EReal.coe_inv, ← EReal.coe_mul, ← EReal.coe_mul]
  norm_num

section
variable (X Z E : ℕ → ℕ → EReal) (n : ℕ → EReal)

theorem fr_at : fr (at2 X) (at2 Z) (at1 n) = at2 fun t => er n (Z t) (X t) := by
  unfold fr
  rw [yr_at, nb_at]
  rfl
theorem hr_at : hr (at2 X) (at2 Z) (at1 n) = at2 fun t => eh n (Z t) (X t) := by
  unfold hr
  rw [fr_at]
  funext i
  unfold kr at2 eh
  pointwise
  exact (mul_assoc _ _ _).symm.trans ((congrArg (· * er n (Z (i 0).val) (X (i 0).val) (i 1).val) two_half).trans (mul_comm _ _))
theorem nr_at : mulf (hr (at2 X) (at2 Z) (at1 n)) (nb (at1 n)) = at2 fun t => en n (Z t) (X t) := by
  rw [hr_at, nb_at]
  rfl
theorem qr_at : qr (at2 X) (at2 fun t => en n (Z t) (X t)) = at2 fun t _ => qm n (Z t) (X t) := by
  unfold qr
  rw [mul_at, rsum_at, rr_at, mr_at]
  funext i
  unfold kc at1 at2 qm
  pointwise
  simp only [Finset.univ_unique, Finset.sum_singleton]
theorem dr_at : dr (at2 X) (at2 Z) (at1 n) = at2 fun t => dx n (Z t) (X t) := by
  unfold dr gr
  rw [nr_at, qr_at, rr_at, bl_at]
  rfl
theorem lr_at (i : S_.Idx) : lr (at2 X) (at2 Z) (at1 n) i = half * ∑ t ∈ range 4096, lo n (Z t) (X t) := by
  unfold lr
  rw [fr_at, mul_at, rsum_at]
  unfold kr at1 lo
  pointwise
  exact congrArg (half * ·) (Finset.sum_range fun t => Ideal.div (∑ d ∈ range 2048, er n (Z t) (X t) d * er n (Z t) (X t) d) len).symm
end

/-! ## The results -/

section results
variable (m : (ℓ : Loc nD τ sig) → Buf (Elt Ideal) ℓ) (c : Dev nD)

/-- The arguments, and the residual sum's gradient. -/
abbrev xa : FVec Ideal S4096x2048 .f32 := addf (m ((c.tc : Thread nD τ).loc main_arg0)) (mulf (bc (m ((c.tc : Thread nD τ).loc main_arg2))) (m ((c.tc : Thread nD τ).loc main_arg1)))
@[inherit_doc xa] abbrev da : FVec Ideal S4096x2048 .f32 := dr (xa m c) (m ((c.tc : Thread nD τ).loc main_arg4)) (m ((c.tc : Thread nD τ).loc main_arg3))

theorem dx_eq : Value.res_main_v53 (F := Ideal) m c = da m c := rfl
theorem dy_eq : Value.res_main_v60 (F := Ideal) m c = truncf .bf16 (mulf (bc (m ((c.tc : Thread nD τ).loc main_arg2))) (da m c)) bitsLt_bf16_f32 := rfl
theorem dg_eq : Value.res_main_v58 (F := Ideal) m c = cs (mulf (da m c) (m ((c.tc : Thread nD τ).loc main_arg1))) := rfl
end results

section values
variable (z : FVec Ideal S4096x2048 .f32) (n : FVec Ideal S2048 .f32) (X : ℕ → ℕ → EReal)

theorem dr_val : dr (at2 X) z n = at2 fun t => dx (rd1 n) (rd z t) (X t) := by
  rw [← dr_at, at2_rd, at1_rd]
theorem lr_val : (broadcastInDim S1x128 ![] bcast_S_S1x128 (lr (at2 X) z n) : FVec Ideal S1x128 .f32) = at2 fun _ _ => half * ∑ t ∈ range 4096, lo (rd1 n) (rd z t) (X t) := by
  have e (i : S_.Idx) := lr_at X (rd z) (rd1 n) i
  rw [at2_rd, at1_rd] at e
  funext i
  exact e _
theorem dn_val : cs (mulf (yr (at2 X)) (hr (at2 X) z n)) = at2 fun _ d => ∑ t ∈ range 4096, X t d * rn (X t) * eh (rd1 n) (rd z t) (X t) d := by
  have e := hr_at X (rd z) (rd1 n)
  rw [at2_rd, at1_rd] at e
  rw [e, yr_at, mul_at, cs_at]
end values

end Cert.FinalLossRefIdeal.Fin
-- ==== Proof.FinClaim.lean ====
module
public import proofs.«01_k».proof.Defs
public import proofs.«01_k».proof.Proof.FinRef
public import proofs.«01_k».proof.Proof.Gen.FinalLoss.Frame
public import proofs.«01_k».proof.Proof.Gen.FinalLossIdeal.Value

@[expose] public section

/-! The loss and its gradient: the claims. -/

set_option maxRecDepth 16384

noncomputable section

namespace Cert.FinalLossRefIdeal.Fin

open Cert.FinalLossRefIdeal Cert.FinalLossRefIdeal.Gen Idealize.ShloMosaic Idealize.ShloMosaic.TcCoe
open Cert.Prod Cert.FinalLossIdeal.Fin
open Cert.BlockBwdIdeal.Blk (rn)
open Cert.BlockBwdRefIdeal.Blk (bc cs yr xa_at one_at dy_val dg_val)
open Cert.ConvBwdIdeal.Conv (rd1)
open Finset (range)

section results
variable (m : (ℓ : Loc nD τ sig) → Buf (Elt Ideal) ℓ) (c : Dev nD) (x y z : FVec Ideal S4096x2048 .f32) (n : FVec Ideal S2048 .f32) (g : FVec Ideal S1x2048 .f32)
  (h0 : m ((c.tc : Thread nD τ).loc main_arg0) = x) (h1 : m ((c.tc : Thread nD τ).loc main_arg1) = y) (h2 : m ((c.tc : Thread nD τ).loc main_arg2) = g) (h3 : m ((c.tc : Thread nD τ).loc main_arg3) = n)
  (h4 : m ((c.tc : Thread nD τ).loc main_arg4) = z)
include h0 h1 h2

theorem xa_val : xa m c = at2 (sx (rd x) (rd y) (rd g 0)) := by
  unfold xa
  rw [h0, h1, h2, xa_at]

include h3 h4
theorem da_val : da m c = at2 (tX (rd x) (rd y) (rd z) (rd g 0) (rd1 n)) := by
  unfold da
  rw [xa_val m c x y g h0 h1 h2, h3, h4, dr_val]
theorem res53 : Value.res_main_v53 (F := Ideal) m c = at2 (tX (rd x) (rd y) (rd z) (rd g 0) (rd1 n)) :=
  (dx_eq m c).trans (da_val m c x y z n g h0 h1 h2 h3 h4)
theorem res60 : Value.res_main_v60 (F := Ideal) m c = at2 fun t d => rd g 0 d * tX (rd x) (rd y) (rd z) (rd g 0) (rd1 n) t d := by
  rw [dy_eq, da_val m c x y z n g h0 h1 h2 h3 h4, h2, dy_val]
theorem res58 : Value.res_main_v58 (F := Ideal) m c = at2 fun _ d => ∑ t ∈ range 4096, tX (rd x) (rd y) (rd z) (rd g 0) (rd1 n) t d * rd y t d := by
  rw [dg_eq, da_val m c x y z n g h0 h1 h2 h3 h4, h1, dg_val]
theorem res61 : (shapeCast _ (Host.reduceAdd (cs (mulf (yr (xa m c)) (hr (xa m c) (m ((c.tc : Thread nD τ).loc main_arg4)) (m ((c.tc : Thread nD τ).loc main_arg3))))) (constant S_ .f32 0x00000000#32) reducesTo_S1x2048_S2048_d0 h_S_) shapeCasts_S2048_S1x2048 : FVec Ideal S1x2048 .f32)
    = at2 fun _ d => ∑ t ∈ range 4096, tN (rd x) (rd y) (rd z) (rd g 0) (rd1 n) t d := by
  rw [xa_val m c x y g h0 h1 h2, h3, h4, dn_val]
  exact one_at _
theorem res59 : (broadcastInDim S1x128 ![] bcast_S_S1x128 (lr (xa m c) (m ((c.tc : Thread nD τ).loc main_arg4)) (m ((c.tc : Thread nD τ).loc main_arg3))) : FVec Ideal S1x128 .f32)
    = at2 fun _ _ => half * ∑ t ∈ range 4096, lo (rd1 n) (rd z t) (sx (rd x) (rd y) (rd g 0) t) := by
  rw [xa_val m c x y g h0 h1 h2, h3, h4, lr_val]
end results

end Cert.FinalLossRefIdeal.Fin

namespace Cert.FinalLossIdeal.Fin

open Idealize.ShloMosaic Idealize.ShloMosaic.TcCoe Cert.Prod Cert.FinalLossRefIdeal.Fin
open Finset (range)

theorem frame_words : Cert.quiescent_FinalLoss := fun m ρ _ => Cert.FinalLoss.Gen.frame (F := Bits) m ρ
theorem frame_ideal : Cert.quiescent_FinalLossIdeal := fun m ρ _ => Cert.FinalLossIdeal.Gen.frame (F := Ideal) m ρ
theorem frame_ref : Cert.quiescent_FinalLossRefIdeal := fun m ρ _ =>
  (θ_run Cert.FinalLossRefIdeal.defs _ _).mono (fun r h => ⟨fun c => (h c).2.2.2.2.2, sem_eq_zero_of_no_sems (by decide) r.2⟩) (Cert.FinalLossRefIdeal.Value.run (F := Ideal) m ρ)

theorem algebraic : Cert.algebraic_FinalLossIdeal_FinalLossRefIdeal := by
  intro m ρ m' ρ' _ hag
  refine ⟨fun c => at2 fun _ _ => half * ∑ t ∈ range 4096, gL m c t, fun c => at2 (gX m c), fun c => at2 (gY m c),
    fun c => at2 fun _ d => ∑ r ∈ range 4096, gG m c r d, fun c => at2 fun _ d => ∑ r ∈ range 4096, gN m c r d, ?_, ?_⟩
  · refine (θ_run Cert.FinalLossIdeal.defs _ _).mono (fun r h c => ?_) (Cert.FinalLossIdeal.Value.run_blocks (F := Ideal) m ρ)
    obtain ⟨g0, g1, g2, g3, g4, hk⟩ := h c
    exact ⟨g0.trans (arr5 m c), g1.trans (arr6 m c), g2.trans (arr7 m c), g3.trans (arr8 m c), g4.trans (arr9 m c), hk⟩
  · refine (θ_run Cert.FinalLossRefIdeal.defs _ _).mono (fun r h c => ?_) (Cert.FinalLossRefIdeal.Value.run (F := Ideal) m' ρ')
    obtain ⟨g0, g1, g2, g3, g4, hk⟩ := h c
    obtain ⟨a0, a1, a2, a3, a4⟩ := hag c
    exact ⟨g0.trans (res59 m' c _ _ _ _ _ a0 a1 a2 a3 a4), g1.trans (res53 m' c _ _ _ _ _ a0 a1 a2 a3 a4), g2.trans (res60 m' c _ _ _ _ _ a0 a1 a2 a3 a4),
      g3.trans (res58 m' c _ _ _ _ _ a0 a1 a2 a3 a4), g4.trans (res61 m' c _ _ _ _ _ a0 a1 a2 a3 a4), hk⟩

end Cert.FinalLossIdeal.Fin
-- ==== Proof.NbwCase.lean ====
module
public import proofs.«01_k».proof.Proof.BlkCase
public import proofs.«01_k».proof.Proof.Gen.NormBwdIdeal.Frame

@[expose] public section

/-! The norm's backward call without a branch: what each kind of grid point leaves in the four output blocks. -/

set_option maxRecDepth 16384

noncomputable section

namespace Cert.NormBwdIdeal.Nrm

open Cert.NormBwdIdeal Cert.NormBwdIdeal.Gen Idealize.ShloMosaic Idealize.ShloMosaic.TcCoe
open Cert.Prod
open Cert.BlockBwdIdeal.Blk (len eps ms rn eh en row sm tX tN tS hz)
open Finset (range)

/-! ## The values -/

section
variable (U H X : ℕ → ℕ → EReal) (n s b : ℕ → EReal)

theorem pay9_at : k0_pay9 (F := Ideal) (at2 X) = at2 fun r _ => ms (X r) := by
  funext y
  unfold k0_pay9 at2 ms
  pointwise
  exact congrArg (fun v => Ideal.div v len + eps) (Finset.sum_range fun d => X (y 0).val d * X (y 0).val d).symm
theorem pay10_at : k0_pay10 (F := Ideal) (at2 X) = at2 fun r _ => rn (X r) := by
  unfold k0_pay10
  rw [pay9_at]
  rfl
theorem pay11_at : k0_pay11 (F := Ideal) (at2 X) = at2 fun r d => X r d * rn (X r) := by
  unfold k0_pay11
  rw [pay10_at]
  funext y
  unfold at2
  pointwise
theorem pay17_at : k0_pay17 (F := Ideal) (row n) (row s) (at2 H) = at2 fun r => en n s (H r) := by
  funext y
  unfold k0_pay17 k0_pay15 k0_pay12 k0_pay8 row at2 en eh
  pointwise
theorem pay19_at : k0_pay19 (F := Ideal) (at2 X) (row n) (row s) (at2 H)
    = at2 fun r _ => (∑ d ∈ range 2048, X r d * en n s (H r) d) * (Ideal.ofBits .f32 0xBF000000#32 * Ideal.div (rn (X r)) (ms (X r))) := by
  unfold k0_pay19
  rw [pay17_at, pay10_at, pay9_at]
  funext y
  unfold at2
  pointwise
  exact congrArg (· * _) (Finset.sum_range fun d => X (y 0).val d * en n s (H (y 0).val) d).symm
theorem pay1_at : k0_pay1 (F := Ideal) (at2 X) (k0_pay18 (at2 X) (row n) (row s) (at2 H)) (k0_pay19 (at2 X) (row n) (row s) (at2 H)) (Scalar.ofBits .f32 0x45000000#32) (at2 U) = at2 (tX U H X n s) := by
  unfold k0_pay18
  rw [pay17_at, pay10_at, pay19_at]
  funext y
  unfold k0_pay1 at2
  pointwise
  simp only [Finset.univ_unique, Finset.sum_singleton]
  rfl
theorem pay5_at : k0_pay5 (F := Ideal) (k0_pay16 (at2 X) (row s) (at2 H)) (row b) = row fun d => b d + sm (tN H X s) d := by
  unfold k0_pay5 k0_pay16
  rw [pay11_at]
  funext y
  unfold k0_pay15 k0_pay12 row at2
  pointwise
  exact congrArg (b (y 1).val + ·) (Finset.sum_range fun r => X r (y 1).val * rn (X r) * eh s (H r) (y 1).val).symm
theorem pay6_at : k0_pay6 (F := Ideal) (k0_pay14 (at2 X) (row n) (at2 H)) (row b) = row fun d => b d + sm (tS H X n) d := by
  unfold k0_pay6 k0_pay14
  rw [pay11_at]
  funext y
  unfold k0_pay12 k0_pay8 row at2
  pointwise
  exact congrArg (b (y 1).val + ·) (Finset.sum_range fun r => X r (y 1).val * rn (X r) * n (y 1).val * H r (y 1).val).symm
theorem pay7_at : k0_pay7 (F := Ideal) (k0_pay13 (at2 H)) (row b) = row fun d => b d + sm H d :=
  Cert.BlockBwdIdeal.Blk.pay22_at H b
theorem pay2_at : k0_pay2 (F := Ideal) = row fun _ => 0 := Cert.BlockBwdIdeal.Blk.pay16_at
end

/-! ## The blocks -/

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole)

variable (U H X : ℕ → ℕ → EReal) (n s b o7 o8 o9 : ℕ → EReal)

theorem case6A (h0 : cond0_0 i) :
    out0_A_6 (F := Ideal) c i arg1 harg1 arg2 harg2 arg3 harg3 arg4 harg4 arg5 harg5 arg6 harg6 arg7 harg7 arg8 harg8 arg9 harg9 arg10 harg10 h0 (at2 U) (at2 H) (at2 X) (row n) (row s) (row b) = at2 (tX U H X n s) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 h0 (at2 U) (at2 H) (at2 X) (row n) (row s) (row b))]
  unfold kernelRun0_A
  dsimp only
  sl_unfold_words
  simp only [View.readAt_eq_ld, harg1.read_unread, harg2.read_unread, harg3.read_unread, harg4.read_unread, harg5.read_unread, harg6.read_unread, View.ld_unit_zero (S := S256x2048) hz, View.ld_unit_zero (S := S1x2048) hz]
  rw [pay1_at, View.canon_unit_zero hz]
theorem case7A (h0 : cond0_0 i) :
    out0_A_7 (F := Ideal) c i arg1 harg1 arg2 harg2 arg3 harg3 arg4 harg4 arg5 harg5 arg6 harg6 arg7 harg7 arg8 harg8 arg9 harg9 arg10 harg10 h0 (at2 U) (at2 H) (at2 X) (row n) (row s) (row b) = row fun d => 0 + sm (tN H X s) d := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 h0 (at2 U) (at2 H) (at2 X) (row n) (row s) (row b))]
  unfold kernelRun0_A
  dsimp only
  sl_unfold_words
  simp only [View.readAt_eq_ld, harg1.read_unread, harg2.read_unread, harg3.read_unread, harg4.read_unread, harg5.read_unread, harg6.read_unread, View.ld_unit_zero (S := S256x2048) hz, View.ld_unit_zero (S := S1x2048) hz]
  rw [pay2_at, View.readCov_unit_zero (S := S1x2048) _ hz, pay5_at, View.canon_cons_unit_zero hz]
theorem case8A (h0 : cond0_0 i) :
    out0_A_8 (F := Ideal) c i arg1 harg1 arg2 harg2 arg3 harg3 arg4 harg4 arg5 harg5 arg6 harg6 arg7 harg7 arg8 harg8 arg9 harg9 arg10 harg10 h0 (at2 U) (at2 H) (at2 X) (row n) (row s) (row b) = row fun d => 0 + sm (tS H X n) d := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 h0 (at2 U) (at2 H) (at2 X) (row n) (row s) (row b))]
  unfold kernelRun0_A
  dsimp only
  sl_unfold_words
  simp only [View.readAt_eq_ld, harg1.read_unread, harg2.read_unread, harg3.read_unread, harg4.read_unread, harg5.read_unread, harg6.read_unread, View.ld_unit_zero (S := S256x2048) hz, View.ld_unit_zero (S := S1x2048) hz]
  rw [show k0_pay3 (F := Ideal) = row fun _ => 0 from pay2_at, View.readCov_unit_zero (S := S1x2048) _ hz, pay6_at, View.canon_cons_unit_zero hz]
theorem case9A (h0 : cond0_0 i) :
    out0_A_9 (F := Ideal) c i arg1 harg1 arg2 harg2 arg3 harg3 arg4 harg4 arg5 harg5 arg6 harg6 arg7 harg7 arg8 harg8 arg9 harg9 arg10 harg10 h0 (at2 U) (at2 H) (at2 X) (row n) (row s) (row b) = row fun d => 0 + sm (H) d := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 h0 (at2 U) (at2 H) (at2 X) (row n) (row s) (row b))]
  unfold kernelRun0_A
  dsimp only
  sl_unfold_words
  simp only [View.readAt_eq_ld, harg1.read_unread, harg2.read_unread, harg3.read_unread, harg4.read_unread, harg5.read_unread, harg6.read_unread, View.ld_unit_zero (S := S256x2048) hz, View.ld_unit_zero (S := S1x2048) hz]
  rw [show k0_pay4 (F := Ideal) = row fun _ => 0 from pay2_at, View.readCov_unit_zero (S := S1x2048) _ hz, pay7_at, View.canon_cons_unit_zero hz]
theorem case6B (h0 : ¬cond0_0 i) :
    out0_B_6 (F := Ideal) c i arg1 harg1 arg2 harg2 arg3 harg3 arg4 harg4 arg5 harg5 arg6 harg6 arg7 harg7 arg8 harg8 arg9 harg9 arg10 harg10 h0 (at2 U) (at2 H) (at2 X) (row n) (row s) (row b) (row o7) (row o8) (row o9) = at2 (tX U H X n s) := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 h0 (at2 U) (at2 H) (at2 X) (row n) (row s) (row b) (row o7) (row o8) (row o9))]
  unfold kernelRun0_B
  dsimp only
  sl_unfold_words
  simp only [View.readAt_eq_ld, harg1.read_unread, harg2.read_unread, harg3.read_unread, harg4.read_unread, harg5.read_unread, harg6.read_unread, View.ld_unit_zero (S := S256x2048) hz, View.ld_unit_zero (S := S1x2048) hz]
  rw [pay1_at, View.canon_unit_zero hz]
theorem case7B (h0 : ¬cond0_0 i) :
    out0_B_7 (F := Ideal) c i arg1 harg1 arg2 harg2 arg3 harg3 arg4 harg4 arg5 harg5 arg6 harg6 arg7 harg7 arg8 harg8 arg9 harg9 arg10 harg10 h0 (at2 U) (at2 H) (at2 X) (row n) (row s) (row b) (row o7) (row o8) (row o9) = row fun d => o7 d + sm (tN H X s) d := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 h0 (at2 U) (at2 H) (at2 X) (row n) (row s) (row b) (row o7) (row o8) (row o9))]
  unfold kernelRun0_B
  dsimp only
  sl_unfold_words
  simp only [View.readAt_eq_ld, harg1.read_unread, harg2.read_unread, harg3.read_unread, harg4.read_unread, harg5.read_unread, harg6.read_unread, harg8.read_unread, View.ld_unit_zero (S := S256x2048) hz, View.ld_unit_zero (S := S1x2048) hz]
  rw [pay5_at, View.canon_unit_zero hz]
theorem case8B (h0 : ¬cond0_0 i) :
    out0_B_8 (F := Ideal) c i arg1 harg1 arg2 harg2 arg3 harg3 arg4 harg4 arg5 harg5 arg6 harg6 arg7 harg7 arg8 harg8 arg9 harg9 arg10 harg10 h0 (at2 U) (at2 H) (at2 X) (row n) (row s) (row b) (row o7) (row o8) (row o9) = row fun d => o8 d + sm (tS H X n) d := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 h0 (at2 U) (at2 H) (at2 X) (row n) (row s) (row b) (row o7) (row o8) (row o9))]
  unfold kernelRun0_B
  dsimp only
  sl_unfold_words
  simp only [View.readAt_eq_ld, harg1.read_unread, harg2.read_unread, harg3.read_unread, harg4.read_unread, harg5.read_unread, harg6.read_unread, harg9.read_unread, View.ld_unit_zero (S := S256x2048) hz, View.ld_unit_zero (S := S1x2048) hz]
  rw [pay6_at, View.canon_unit_zero hz]
theorem case9B (h0 : ¬cond0_0 i) :
    out0_B_9 (F := Ideal) c i arg1 harg1 arg2 harg2 arg3 harg3 arg4 harg4 arg5 harg5 arg6 harg6 arg7 harg7 arg8 harg8 arg9 harg9 arg10 harg10 h0 (at2 U) (at2 H) (at2 X) (row n) (row s) (row b) (row o7) (row o8) (row o9) = row fun d => o9 d + sm (H) d := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 h0 (at2 U) (at2 H) (at2 X) (row n) (row s) (row b) (row o7) (row o8) (row o9))]
  unfold kernelRun0_B
  dsimp only
  sl_unfold_words
  simp only [View.readAt_eq_ld, harg1.read_unread, harg2.read_unread, harg3.read_unread, harg4.read_unread, harg5.read_unread, harg6.read_unread, harg10.read_unread, View.ld_unit_zero (S := S256x2048) hz, View.ld_unit_zero (S := S1x2048) hz]
  rw [pay7_at, View.canon_unit_zero hz]

end Cert.NormBwdIdeal.Nrm
-- ==== Proof.NbwArr.lean ====
module
public import proofs.«01_k».proof.Proof.NbwCase
public import proofs.«01_k».proof.Proof.BlkArr

@[expose] public section

/-! The four arrays the norm's backward call leaves. -/

set_option maxRecDepth 16384

noncomputable section

namespace Cert.NormBwdIdeal.Nrm

open Cert.NormBwdIdeal Cert.NormBwdIdeal.Gen Idealize.ShloMosaic Idealize.ShloMosaic.TcCoe
open Cert.Prod
open Cert.BlockBwdIdeal.Blk (row sm tX tN tS tl)
open Cert.ConvBwdIdeal.Conv (rd1 rd1_at at2_rd)
open Finset (range)

/-! ## The blocks the grid points read -/

theorem ix0 : ∀ t : Fin cfg0.N, win0_0.index t (0 : Fin 2) = t.val % 16 ∧ win0_0.index t (1 : Fin 2) = 0 := (by decide +kernel : ∀ t : Fin grid0.N, _)
theorem ix1 : ∀ t : Fin cfg0.N, win0_1.index t (0 : Fin 2) = t.val % 16 ∧ win0_1.index t (1 : Fin 2) = 0 := (by decide +kernel : ∀ t : Fin grid0.N, _)
theorem ix2 : ∀ t : Fin cfg0.N, win0_2.index t (0 : Fin 2) = t.val % 16 ∧ win0_2.index t (1 : Fin 2) = 0 := (by decide +kernel : ∀ t : Fin grid0.N, _)
theorem ix6 : ∀ t : Fin cfg0.N, win0_6.index t (0 : Fin 2) = t.val % 16 ∧ win0_6.index t (1 : Fin 2) = 0 := (by decide +kernel : ∀ t : Fin grid0.N, _)
theorem ix3 : ∀ t : Fin cfg0.N, win0_3.index t (0 : Fin 2) = 0 ∧ win0_3.index t (1 : Fin 2) = 0 := (by decide +kernel : ∀ t : Fin grid0.N, _)
theorem ix4 : ∀ t : Fin cfg0.N, win0_4.index t (0 : Fin 2) = 0 ∧ win0_4.index t (1 : Fin 2) = 0 := (by decide +kernel : ∀ t : Fin grid0.N, _)
theorem ix5 : ∀ t : Fin cfg0.N, win0_5.index t (0 : Fin 2) = 0 ∧ win0_5.index t (1 : Fin 2) = 0 := (by decide +kernel : ∀ t : Fin grid0.N, _)
theorem ix7 : ∀ t : Fin cfg0.N, win0_7.index t (0 : Fin 2) = 0 ∧ win0_7.index t (1 : Fin 2) = 0 := (by decide +kernel : ∀ t : Fin grid0.N, _)
theorem ix8 : ∀ t : Fin cfg0.N, win0_8.index t (0 : Fin 2) = 0 ∧ win0_8.index t (1 : Fin 2) = 0 := (by decide +kernel : ∀ t : Fin grid0.N, _)
theorem ix9 : ∀ t : Fin cfg0.N, win0_9.index t (0 : Fin 2) = 0 ∧ win0_9.index t (1 : Fin 2) = 0 := (by decide +kernel : ∀ t : Fin grid0.N, _)

variable (m : (ℓ : Loc nD τ sig) → Buf (Elt Ideal) ℓ) (c : Dev nD)

/-- The arguments, by row and column: the rows, the gain, the scale, the shift, the two gradients. -/
abbrev mX : ℕ → ℕ → EReal := rd (m ((c : Thread nD τ).loc main_arg0))
@[inherit_doc mX] abbrev mN : ℕ → EReal := rd1 (m ((c : Thread nD τ).loc main_arg1))
@[inherit_doc mX] abbrev mS : ℕ → EReal := rd (m ((c : Thread nD τ).loc main_arg2)) 0
@[inherit_doc mX] abbrev mB : ℕ → EReal := rd (m ((c : Thread nD τ).loc main_arg3)) 0
@[inherit_doc mX] abbrev mU : ℕ → ℕ → EReal := rd (m ((c : Thread nD τ).loc main_arg4))
@[inherit_doc mX] abbrev mH : ℕ → ℕ → EReal := rd (m ((c : Thread nD τ).loc main_arg5))

theorem V_n : V m c main_v0 = at2 fun _ => mN m c := by
  simp only [V, List.flatten_cons, List.flatten_nil, List.append_nil, hostOps0, List.cons_append, List.nil_append]
  after_results_simp
  funext i
  unfold at2
  pointwise
  exact rd1_at _ _ _ (by simp)

variable (t : Fin cfg0.N)

theorem blk0 : (iblk m c 0 t : Vec Ideal S256x2048 .f32) = at2 (tl (mU m c) (t.val % 16)) := by
  funext i
  obtain ⟨e0, e1⟩ := ix0 t
  show V m c main_arg4 (((cfg0.win 0).blk t).view.emb i) = _
  rw [V_main_arg4]
  refine rd_at _ _ _ _ ?_ ?_
  · blk_simp [e0, e1]; omega
  · blk_simp [e0, e1]
theorem blk1 : (iblk m c 1 t : Vec Ideal S256x2048 .f32) = at2 (tl (mH m c) (t.val % 16)) := by
  funext i
  obtain ⟨e0, e1⟩ := ix1 t
  show V m c main_arg5 (((cfg0.win 1).blk t).view.emb i) = _
  rw [V_main_arg5]
  refine rd_at _ _ _ _ ?_ ?_
  · blk_simp [e0, e1]; omega
  · blk_simp [e0, e1]
theorem blk2 : (iblk m c 2 t : Vec Ideal S256x2048 .f32) = at2 (tl (mX m c) (t.val % 16)) := by
  funext i
  obtain ⟨e0, e1⟩ := ix2 t
  show V m c main_arg0 (((cfg0.win 2).blk t).view.emb i) = _
  rw [V_main_arg0]
  refine rd_at _ _ _ _ ?_ ?_
  · blk_simp [e0, e1]; omega
  · blk_simp [e0, e1]
theorem blk4 : (iblk m c 4 t : Vec Ideal S1x2048 .f32) = row (mS m c) := by
  funext i
  obtain ⟨e0, e1⟩ := ix4 t
  show V m c main_arg2 (((cfg0.win 4).blk t).view.emb i) = _
  rw [V_main_arg2]
  refine rd_at _ _ _ _ ?_ ?_
  · blk_simp [e0, e1]
  · blk_simp [e0, e1]
theorem blk5 : (iblk m c 5 t : Vec Ideal S1x2048 .f32) = row (mB m c) := by
  funext i
  obtain ⟨e0, e1⟩ := ix5 t
  show V m c main_arg3 (((cfg0.win 5).blk t).view.emb i) = _
  rw [V_main_arg3]
  refine rd_at _ _ _ _ ?_ ?_
  · blk_simp [e0, e1]
  · blk_simp [e0, e1]
theorem blk3 : (iblk m c 3 t : Vec Ideal S1x2048 .f32) = row (mN m c) := by
  funext i
  obtain ⟨e0, e1⟩ := ix3 t
  show V m c main_v0 (((cfg0.win 3).blk t).view.emb i) = _
  rw [V_n]
  unfold row at2
  refine congrArg (mN m c) ?_
  blk_simp [e0, e1]

/-! ## What the grid points leave -/

/-- The rows' gradient, and the terms of the other gradients, of the arguments. -/
abbrev gX : ℕ → ℕ → EReal := tX (mU m c) (mH m c) (mX m c) (mN m c) (mS m c)
@[inherit_doc gX] abbrev gN : ℕ → ℕ → EReal := tN (mH m c) (mX m c) (mS m c)
@[inherit_doc gX] abbrev gS : ℕ → ℕ → EReal := tS (mH m c) (mX m c) (mN m c)

theorem ptA (h : t.val % 16 = 0) : outsAt0 (F := Ideal) m c t.val t.isLt
    = (at2 (tl (gX m c) (t.val % 16)), at2 fun _ d => ∑ r ∈ range 256, gN m c r d, at2 fun _ d => ∑ r ∈ range 256, gS m c r d,
      at2 fun _ d => ∑ r ∈ range 256, mH m c r d) := by
  rw [outsAt0_A m c t h, blk0, blk1, blk2, blk3, blk4, blk5]
  rw [case6A, case7A, case8A, case9A, h]
  have z (f : ℕ → ℕ → EReal) : tl f 0 = f := funext fun r => funext fun d => congrArg (f · d) (by omega)
  rw [z (mU m c), z (mH m c), z (mX m c), z (gX m c)]
  simp only [sm, zero_add]

theorem ptB (o7 o8 o9 : ℕ → ℕ → EReal) (h : ¬t.val % 16 = 0)
    (e1 : (outsAt0 (F := Ideal) m c (t.val - 1) (Nat.lt_of_le_of_lt (Nat.sub_le _ _) t.isLt)).2.1 = at2 o7)
    (e2 : (outsAt0 (F := Ideal) m c (t.val - 1) (Nat.lt_of_le_of_lt (Nat.sub_le _ _) t.isLt)).2.2.1 = at2 o8)
    (e3 : (outsAt0 (F := Ideal) m c (t.val - 1) (Nat.lt_of_le_of_lt (Nat.sub_le _ _) t.isLt)).2.2.2 = at2 o9) :
    outsAt0 (F := Ideal) m c t.val t.isLt
    = (at2 (tl (gX m c) (t.val % 16)), at2 fun k d => o7 k d + ∑ r ∈ range 256, gN m c (256 * (t.val % 16) + r) d,
      at2 fun k d => o8 k d + ∑ r ∈ range 256, gS m c (256 * (t.val % 16) + r) d, at2 fun k d => o9 k d + ∑ r ∈ range 256, mH m c (256 * (t.val % 16) + r) d) := by
  have hs (f : ℕ → ℕ → EReal) : (at2 f : FVec Ideal S1x2048 .f32) = row (f 0) :=
    at2_congr fun x y hx _ => by rw [show x = 0 by omega]
  rw [outsAt0_B m c t h, e1, e2, e3, blk0, blk1, blk2, blk3, blk4, blk5, hs o7, hs o8, hs o9]
  rw [case6B, case7B, case8B, case9B]
  refine Prod.ext rfl (Prod.ext ?_ (Prod.ext ?_ ?_))
  · exact (hs fun k d => o7 k d + ∑ r ∈ range 256, gN m c (256 * (t.val % 16) + r) d).symm
  · exact (hs fun k d => o8 k d + ∑ r ∈ range 256, gS m c (256 * (t.val % 16) + r) d).symm
  · exact (hs fun k d => o9 k d + ∑ r ∈ range 256, mH m c (256 * (t.val % 16) + r) d).symm

/-! ## The arrays -/

theorem acc7 : ∀ n (h : n < cfg0.N), (outsAt0 (F := Ideal) m c n h).2.1 = at2 fun _ d => ∑ r ∈ range (256 * (n % 16) + 256), gN m c r d :=
  acc_fold 16 256 (fun _ _ d r => gN m c r d) _ (fun n h hm => congrArg (·.2.1) (ptA m c ⟨n, h⟩ hm))
    fun n h a hm ih => congrArg (·.2.1) (ptB m c ⟨n, h⟩ a _ _ hm ih (at2_rd _).symm (at2_rd _).symm)
theorem acc8 : ∀ n (h : n < cfg0.N), (outsAt0 (F := Ideal) m c n h).2.2.1 = at2 fun _ d => ∑ r ∈ range (256 * (n % 16) + 256), gS m c r d :=
  acc_fold 16 256 (fun _ _ d r => gS m c r d) _ (fun n h hm => congrArg (·.2.2.1) (ptA m c ⟨n, h⟩ hm))
    fun n h a hm ih => congrArg (·.2.2.1) (ptB m c ⟨n, h⟩ _ a _ hm (at2_rd _).symm ih (at2_rd _).symm)
theorem acc9 : ∀ n (h : n < cfg0.N), (outsAt0 (F := Ideal) m c n h).2.2.2 = at2 fun _ d => ∑ r ∈ range (256 * (n % 16) + 256), mH m c r d :=
  acc_fold 16 256 (fun _ _ d r => mH m c r d) _ (fun n h hm => congrArg (·.2.2.2) (ptA m c ⟨n, h⟩ hm))
    fun n h a hm ih => congrArg (·.2.2.2) (ptB m c ⟨n, h⟩ _ _ a hm (at2_rd _).symm (at2_rd _).symm ih)
theorem val6 : (outsAt0 (F := Ideal) m c t.val t.isLt).1 = at2 (tl (gX m c) (t.val % 16)) := by
  by_cases h : t.val % 16 = 0
  · exact congrArg (·.1) (ptA m c t h)
  · exact congrArg (·.1) (ptB m c t _ _ _ h (at2_rd _).symm (at2_rd _).symm (at2_rd _).symm)

theorem arr6 : (dats (F := Ideal) m 0 c).arrAt 6 cfg0.N = at2 (gX m c) := by
  refine (dats m 0 c).arrAt_eq_of_covers 6 _ (by decide +kernel) fun t hf y => ?_
  obtain ⟨e0, e1⟩ := ix6 t
  blk_simp
  rw [after0_6, val6 m c t]
  have a0 : ((((cfg0.win 6).blk t).view.emb y : S4096x2048.Idx) 0).val = 256 * (t.val % 16) + (y 0).val := by
    blk_simp [e0]; omega
  have a1 : ((((cfg0.win 6).blk t).view.emb y : S4096x2048.Idx) 1).val = (y 1).val := by
    blk_simp [e1]
  unfold at2
  rw [a0, a1]
theorem arr7 : (dats (F := Ideal) m 0 c).arrAt 7 cfg0.N = at2 fun _ d => ∑ r ∈ range 4096, gN m c r d := by
  refine (dats m 0 c).arrAt_eq_of_covers 7 _ (by decide +kernel) fun t hf y => ?_
  obtain ⟨e0, e1⟩ := ix7 t
  have hm := (flush0_7 t).mp hf
  blk_simp
  rw [after0_7, acc7 m c t.val t.isLt, hm]
  have a1 : ((((cfg0.win 7).blk t).view.emb y : S1x2048.Idx) 1).val = (y 1).val := by
    blk_simp [e1]
  unfold at2
  rw [a1]
theorem arr8 : (dats (F := Ideal) m 0 c).arrAt 8 cfg0.N = at2 fun _ d => ∑ r ∈ range 4096, gS m c r d := by
  refine (dats m 0 c).arrAt_eq_of_covers 8 _ (by decide +kernel) fun t hf y => ?_
  obtain ⟨e0, e1⟩ := ix8 t
  have hm := (flush0_8 t).mp hf
  blk_simp
  rw [after0_8, acc8 m c t.val t.isLt, hm]
  have a1 : ((((cfg0.win 8).blk t).view.emb y : S1x2048.Idx) 1).val = (y 1).val := by
    blk_simp [e1]
  unfold at2
  rw [a1]
theorem arr9 : (dats (F := Ideal) m 0 c).arrAt 9 cfg0.N = at2 fun _ d => ∑ r ∈ range 4096, mH m c r d := by
  refine (dats m 0 c).arrAt_eq_of_covers 9 _ (by decide +kernel) fun t hf y => ?_
  obtain ⟨e0, e1⟩ := ix9 t
  have hm := (flush0_9 t).mp hf
  blk_simp
  rw [after0_9, acc9 m c t.val t.isLt, hm]
  have a1 : ((((cfg0.win 9).blk t).view.emb y : S1x2048.Idx) 1).val = (y 1).val := by
    blk_simp [e1]
  unfold at2
  rw [a1]

end Cert.NormBwdIdeal.Nrm
-- ==== Proof.NbwClaim.lean ====
module
public import proofs.«01_k».proof.Defs
public import proofs.«01_k».proof.Proof.NbwArr
public import proofs.«01_k».proof.Proof.BlkRef
public import proofs.«01_k».proof.Proof.Gen.NormBwd.Frame
public import proofs.«01_k».proof.Proof.Gen.NormBwdIdeal.Value
public import proofs.«01_k».proof.Proof.Gen.NormBwdRefIdeal.Run

@[expose] public section

/-! The norm's backward call without a branch: the claims. -/

set_option maxRecDepth 16384

noncomputable section

namespace Cert.NormBwdRefIdeal.Nrm

open Cert.NormBwdRefIdeal Cert.NormBwdRefIdeal.Gen Idealize.ShloMosaic Idealize.ShloMosaic.TcCoe
open Cert.Prod
open Cert.BlockBwdIdeal.Blk (tX tN tS)
open Cert.BlockBwdRefIdeal.Blk (bc cs yr nb er dr dr_val dn_val ds_val dh_val one_at)
open Cert.ConvBwdIdeal.Conv (rd1 at2_rd)
open Finset (range)

section
variable (m : (ℓ : Loc nD τ sig) → Buf (Elt Ideal) ℓ) (c : Dev nD) (x u h : FVec Ideal S4096x2048 .f32) (n : FVec Ideal S2048 .f32) (s : FVec Ideal S1x2048 .f32)
  (h0 : m ((c.tc : Thread nD τ).loc main_arg0) = x) (h1 : m ((c.tc : Thread nD τ).loc main_arg1) = n) (h2 : m ((c.tc : Thread nD τ).loc main_arg2) = s)
  (h4 : m ((c.tc : Thread nD τ).loc main_arg4) = u) (h5 : m ((c.tc : Thread nD τ).loc main_arg5) = h)

theorem dx_eq : Value.res_main_v50 (F := Ideal) m c = dr (m ((c.tc : Thread nD τ).loc main_arg0)) (m ((c.tc : Thread nD τ).loc main_arg4)) (m ((c.tc : Thread nD τ).loc main_arg5)) (m ((c.tc : Thread nD τ).loc main_arg1)) (m ((c.tc : Thread nD τ).loc main_arg2)) := rfl

include h0 h1 h2 h4 h5 in
theorem res50 : Value.res_main_v50 (F := Ideal) m c = at2 (tX (rd u) (rd h) (rd x) (rd1 n) (rd s 0)) := by
  rw [dx_eq, h0, h1, h2, h4, h5, ← dr_val, at2_rd]
include h0 h2 h5 in
theorem res51 : (shapeCast _ (Host.reduceAdd (cs (mulf (yr (m ((c.tc : Thread nD τ).loc main_arg0))) (er (m ((c.tc : Thread nD τ).loc main_arg5)) (m ((c.tc : Thread nD τ).loc main_arg2))))) (constant S_ .f32 0x00000000#32) reducesTo_S1x2048_S2048_d0 h_S_) shapeCasts_S2048_S1x2048 : FVec Ideal S1x2048 .f32)
    = at2 fun _ d => ∑ t ∈ range 4096, tN (rd h) (rd x) (rd s 0) t d := by
  have e := dn_val h s (rd x)
  rw [at2_rd] at e
  rw [h0, h2, h5, e]
  exact one_at _
include h0 h1 h5 in
theorem res27 : cs (mulf (mulf (yr (m ((c.tc : Thread nD τ).loc main_arg0))) (nb (m ((c.tc : Thread nD τ).loc main_arg1)))) (shapeCast _ (m ((c.tc : Thread nD τ).loc main_arg5)) shapeCasts_S4096x2048_S4096x2048))
    = at2 fun _ d => ∑ t ∈ range 4096, tS (rd h) (rd x) (rd1 n) t d := by
  have e := ds_val h n (rd x)
  rw [at2_rd] at e
  rw [h0, h1, h5]
  exact e
include h5 in
theorem res24 : cs (m ((c.tc : Thread nD τ).loc main_arg5)) = at2 fun _ d => ∑ t ∈ range 4096, rd h t d := by
  rw [h5, dh_val]
end

end Cert.NormBwdRefIdeal.Nrm

namespace Cert.NormBwdIdeal.Nrm

open Idealize.ShloMosaic Idealize.ShloMosaic.TcCoe Cert.Prod Cert.NormBwdRefIdeal.Nrm
open Finset (range)

theorem frame_words : Cert.quiescent_NormBwd := fun m ρ _ => Cert.NormBwd.Gen.frame (F := Bits) m ρ
theorem frame_ideal : Cert.quiescent_NormBwdIdeal := fun m ρ _ => Cert.NormBwdIdeal.Gen.frame (F := Ideal) m ρ
theorem frame_ref : Cert.quiescent_NormBwdRefIdeal := fun m ρ _ =>
  (θ_run Cert.NormBwdRefIdeal.defs _ _).mono (fun r h => ⟨fun c => (h c).2.2.2.2, sem_eq_zero_of_no_sems (by decide) r.2⟩) (Cert.NormBwdRefIdeal.Value.run (F := Ideal) m ρ)

theorem algebraic : Cert.algebraic_NormBwdIdeal_NormBwdRefIdeal := by
  intro m ρ m' ρ' _ hag
  refine ⟨fun c => at2 (gX m c), fun c => at2 fun _ d => ∑ r ∈ range 4096, gN m c r d, fun c => at2 fun _ d => ∑ r ∈ range 4096, gS m c r d,
    fun c => at2 fun _ d => ∑ r ∈ range 4096, mH m c r d, ?_, ?_⟩
  · refine (θ_run Cert.NormBwdIdeal.defs _ _).mono (fun r h c => ?_) (Cert.NormBwdIdeal.Value.run_blocks (F := Ideal) m ρ)
    obtain ⟨g0, g1, g2, g3, hk⟩ := h c
    exact ⟨g0.trans (arr6 m c), g1.trans (arr7 m c), g2.trans (arr8 m c), g3.trans (arr9 m c), hk⟩
  · refine (θ_run Cert.NormBwdRefIdeal.defs _ _).mono (fun r h c => ?_) (Cert.NormBwdRefIdeal.Value.run (F := Ideal) m' ρ')
    obtain ⟨g0, g1, g2, g3, hk⟩ := h c
    obtain ⟨a0, a1, a2, -, a4, a5⟩ := hag c
    exact ⟨g0.trans (res50 m' c _ _ _ _ _ a0 a1 a2 a4 a5), g1.trans (res51 m' c _ _ _ a0 a2 a5), g2.trans (res27 m' c _ _ _ a0 a1 a5), g3.trans (res24 m' c _ a5), hk⟩

end Cert.NormBwdIdeal.Nrm
-- ==== Proof.NfwArr.lean ====
module
public import proofs.«01_k».proof.Proof.BlkArr
public import proofs.«01_k».proof.Proof.Gen.NormFwdIdeal.Frame

@[expose] public section

/-! The norm's forward call: its values and the array it leaves. -/

set_option maxRecDepth 16384

noncomputable section

namespace Cert.NormFwdIdeal.Nrm

open Cert.NormFwdIdeal Cert.NormFwdIdeal.Gen Idealize.ShloMosaic Idealize.ShloMosaic.TcCoe
open Cert.Prod
open Cert.BlockBwdIdeal.Blk (len eps ms rn row hz tl)
open Cert.ConvBwdIdeal.Conv (rd1 rd1_at at2_rd)
open Finset (range)

/-- The normed row, times the gain, scaled and shifted. -/
def nv (n s b x : ℕ → EReal) (d : ℕ) : EReal := x d * rn x * n d * (1 + s d) + b d

/-! ## A grid step -/

section
variable (X : ℕ → ℕ → EReal) (n s b : ℕ → EReal)

theorem pay1_at : k0_pay1 (F := Ideal) (at2 X) (row n) (row s) (row b) = at2 fun r => nv n s b (X r) := by
  funext y
  unfold k0_pay1 row at2 nv rn ms
  pointwise
  exact congrArg (fun v => X (y 0).val (y 1).val * Ideal.rsqrt (Ideal.div v len + eps) * n (y 1).val * (1 + s (y 1).val) + b (y 1).val)
    (Finset.sum_range fun d => X (y 0).val d * X (y 0).val d).symm
theorem out_at : out0_4 (F := Ideal) (at2 X) (row n) (row s) (row b) = at2 fun r => nv n s b (X r) := by
  unfold out0_4
  rw [View.ld_unit_zero (S := S256x2048) hz, View.ld_unit_zero (S := S1x2048) hz, View.ld_unit_zero (S := S1x2048) hz, View.ld_unit_zero (S := S1x2048) hz, pay1_at, View.canon_unit_zero hz]
end

/-! ## The array -/

theorem ix0 : ∀ t : Fin cfg0.N, win0_0.index t (0 : Fin 2) = t.val % 16 ∧ win0_0.index t (1 : Fin 2) = 0 := (by decide +kernel : ∀ t : Fin grid0.N, _)
theorem ix4 : ∀ t : Fin cfg0.N, win0_4.index t (0 : Fin 2) = t.val % 16 ∧ win0_4.index t (1 : Fin 2) = 0 := (by decide +kernel : ∀ t : Fin grid0.N, _)
theorem ix1 : ∀ t : Fin cfg0.N, win0_1.index t (0 : Fin 2) = 0 ∧ win0_1.index t (1 : Fin 2) = 0 := (by decide +kernel : ∀ t : Fin grid0.N, _)
theorem ix2 : ∀ t : Fin cfg0.N, win0_2.index t (0 : Fin 2) = 0 ∧ win0_2.index t (1 : Fin 2) = 0 := (by decide +kernel : ∀ t : Fin grid0.N, _)
theorem ix3 : ∀ t : Fin cfg0.N, win0_3.index t (0 : Fin 2) = 0 ∧ win0_3.index t (1 : Fin 2) = 0 := (by decide +kernel : ∀ t : Fin grid0.N, _)

variable (m : (ℓ : Loc nD τ sig) → Buf (Elt Ideal) ℓ) (c : Dev nD)

/-- The arguments, by row and column: the rows, the gain, the scale, the shift. -/
abbrev mX : ℕ → ℕ → EReal := rd (m ((c : Thread nD τ).loc main_arg0))
@[inherit_doc mX] abbrev mN : ℕ → EReal := rd1 (m ((c : Thread nD τ).loc main_arg1))
@[inherit_doc mX] abbrev mS : ℕ → EReal := rd (m ((c : Thread nD τ).loc main_arg2)) 0
@[inherit_doc mX] abbrev mB : ℕ → EReal := rd (m ((c : Thread nD τ).loc main_arg3)) 0

variable (t : Fin cfg0.N)

theorem blk0 : (iblk m c 0 t : Vec Ideal S256x2048 .f32) = at2 (tl (mX m c) (t.val % 16)) := by
  funext i
  obtain ⟨e0, e1⟩ := ix0 t
  show V m c main_arg0 (((cfg0.win 0).blk t).view.emb i) = _
  rw [V_main_arg0]
  refine rd_at _ _ _ _ ?_ ?_
  · blk_simp [e0, e1]; omega
  · blk_simp [e0, e1]
theorem V_n : V m c main_v0 = at2 fun _ => mN m c := by
  simp only [V, List.flatten_cons, List.flatten_nil, List.append_nil, hostOps0, List.cons_append, List.nil_append]
  after_results_simp
  funext i
  unfold at2
  pointwise
  exact rd1_at _ _ _ (by simp)
theorem blk1 : (iblk m c 1 t : Vec Ideal S1x2048 .f32) = row (mN m c) := by
  funext i
  obtain ⟨e0, e1⟩ := ix1 t
  show V m c main_v0 (((cfg0.win 1).blk t).view.emb i) = _
  rw [V_n]
  unfold row at2
  refine congrArg (mN m c) ?_
  blk_simp [e0, e1]
theorem blk2 : (iblk m c 2 t : Vec Ideal S1x2048 .f32) = row (mS m c) := by
  funext i
  obtain ⟨e0, e1⟩ := ix2 t
  show V m c main_arg2 (((cfg0.win 2).blk t).view.emb i) = _
  rw [V_main_arg2]
  refine rd_at _ _ _ _ ?_ ?_
  · blk_simp [e0, e1]
  · blk_simp [e0, e1]
theorem blk3 : (iblk m c 3 t : Vec Ideal S1x2048 .f32) = row (mB m c) := by
  funext i
  obtain ⟨e0, e1⟩ := ix3 t
  show V m c main_arg3 (((cfg0.win 3).blk t).view.emb i) = _
  rw [V_main_arg3]
  refine rd_at _ _ _ _ ?_ ?_
  · blk_simp [e0, e1]
  · blk_simp [e0, e1]

theorem arr4 : (dats (F := Ideal) m 0 c).arrAt 4 cfg0.N = at2 (fun t => nv (mN m c) (mS m c) (mB m c) (mX m c t)) := by
  refine (dats m 0 c).arrAt_eq_of_covers 4 _ (by decide +kernel) fun t hf y => ?_
  obtain ⟨e0, e1⟩ := ix4 t
  blk_simp
  rw [after0_4, blk0, blk1, blk2, blk3, out_at]
  have a0 : ((((cfg0.win 4).blk t).view.emb y : S4096x2048.Idx) 0).val = 256 * (t.val % 16) + (y 0).val := by
    blk_simp [e0]; omega
  have a1 : ((((cfg0.win 4).blk t).view.emb y : S4096x2048.Idx) 1).val = (y 1).val := by
    blk_simp [e1]
  unfold at2
  rw [a0, a1]

end Cert.NormFwdIdeal.Nrm
-- ==== Proof.BfwArr.lean ====
module
public import proofs.«01_k».proof.Proof.NfwArr
public import proofs.«01_k».proof.Proof.Gen.BlockFwdIdeal.Frame

@[expose] public section

/-! The norm's forward call with a branch: its values and the two arrays it leaves. -/

set_option maxRecDepth 16384

noncomputable section

namespace Cert.BlockFwdIdeal.Blk

open Cert.BlockFwdIdeal Cert.BlockFwdIdeal.Gen Idealize.ShloMosaic Idealize.ShloMosaic.TcCoe
open Cert.Prod
open Cert.BlockBwdIdeal.Blk (len eps ms rn row hz tl rs)
open Cert.NormFwdIdeal.Nrm (nv)
open Cert.ConvBwdIdeal.Conv (rd1 rd1_at at2_rd)
open Finset (range)

/-! ## A grid step -/

section
variable (A Y : ℕ → ℕ → EReal) (g n s b : ℕ → EReal)

/-- The residual sum. -/
abbrev sx : ℕ → ℕ → EReal := fun r d => A r d + g d * Y r d

theorem pay1_at : k0_pay1 (F := Ideal) (at2 A) (row g) (at2 Y) = at2 (sx A Y g) := by
  funext y
  unfold k0_pay1 row at2
  pointwise
theorem pay2_at : k0_pay2 (F := Ideal) (at2 A) (row g) (at2 Y) (row n) (row s) (row b) = at2 fun r => nv n s b (sx A Y g r) := by
  unfold k0_pay2
  rw [pay1_at]
  funext y
  unfold row at2 nv rn ms
  pointwise
  exact congrArg (fun v => sx A Y g (y 0).val (y 1).val * Ideal.rsqrt (Ideal.div v len + eps) * n (y 1).val * (1 + s (y 1).val) + b (y 1).val)
    (Finset.sum_range fun d => sx A Y g (y 0).val d * sx A Y g (y 0).val d).symm
theorem out6_at : out0_6 (F := Ideal) (at2 A) (at2 Y) (row g) (row n) (row s) (row b) = at2 (sx A Y g) := by
  unfold out0_6
  simp only [View.ld_unit_zero (S := S256x2048) hz, View.ld_unit_zero (S := S1x2048) hz]
  rw [pay1_at, View.canon_unit_zero hz]
theorem out7_at : out0_7 (F := Ideal) (at2 A) (at2 Y) (row g) (row n) (row s) (row b) = at2 fun r => nv n s b (sx A Y g r) := by
  unfold out0_7
  simp only [View.ld_unit_zero (S := S256x2048) hz, View.ld_unit_zero (S := S1x2048) hz]
  rw [pay2_at, View.canon_unit_zero hz]
end

/-! ## The arrays -/

theorem ix0 : ∀ t : Fin cfg0.N, win0_0.index t (0 : Fin 2) = t.val % 16 ∧ win0_0.index t (1 : Fin 2) = 0 := (by decide +kernel : ∀ t : Fin grid0.N, _)
theorem ix1 : ∀ t : Fin cfg0.N, win0_1.index t (0 : Fin 2) = t.val % 16 ∧ win0_1.index t (1 : Fin 2) = 0 := (by decide +kernel : ∀ t : Fin grid0.N, _)
theorem ix6 : ∀ t : Fin cfg0.N, win0_6.index t (0 : Fin 2) = t.val % 16 ∧ win0_6.index t (1 : Fin 2) = 0 := (by decide +kernel : ∀ t : Fin grid0.N, _)
theorem ix7 : ∀ t : Fin cfg0.N, win0_7.index t (0 : Fin 2) = t.val % 16 ∧ win0_7.index t (1 : Fin 2) = 0 := (by decide +kernel : ∀ t : Fin grid0.N, _)
theorem ix2 : ∀ t : Fin cfg0.N, win0_2.index t (0 : Fin 2) = 0 ∧ win0_2.index t (1 : Fin 2) = 0 := (by decide +kernel : ∀ t : Fin grid0.N, _)
theorem ix3 : ∀ t : Fin cfg0.N, win0_3.index t (0 : Fin 2) = 0 ∧ win0_3.index t (1 : Fin 2) = 0 := (by decide +kernel : ∀ t : Fin grid0.N, _)
theorem ix4 : ∀ t : Fin cfg0.N, win0_4.index t (0 : Fin 2) = 0 ∧ win0_4.index t (1 : Fin 2) = 0 := (by decide +kernel : ∀ t : Fin grid0.N, _)
theorem ix5 : ∀ t : Fin cfg0.N, win0_5.index t (0 : Fin 2) = 0 ∧ win0_5.index t (1 : Fin 2) = 0 := (by decide +kernel : ∀ t : Fin grid0.N, _)

variable (m : (ℓ : Loc nD τ sig) → Buf (Elt Ideal) ℓ) (c : Dev nD)

/-- The arguments, by row and column: the rows, the branch, its scale, the gain, the scale, the shift; and the residual sum. -/
abbrev mA : ℕ → ℕ → EReal := rd (m ((c : Thread nD τ).loc main_arg0))
@[inherit_doc mA] abbrev mY : ℕ → ℕ → EReal := rd (m ((c : Thread nD τ).loc main_arg1))
@[inherit_doc mA] abbrev mg : ℕ → EReal := rd (m ((c : Thread nD τ).loc main_arg2)) 0
@[inherit_doc mA] abbrev mN : ℕ → EReal := rd1 (m ((c : Thread nD τ).loc main_arg3))
@[inherit_doc mA] abbrev mS : ℕ → EReal := rd (m ((c : Thread nD τ).loc main_arg4)) 0
@[inherit_doc mA] abbrev mB : ℕ → EReal := rd (m ((c : Thread nD τ).loc main_arg5)) 0
@[inherit_doc mA] abbrev mX : ℕ → ℕ → EReal := sx (mA m c) (mY m c) (mg m c)

variable (t : Fin cfg0.N)

theorem blk0 : (iblk m c 0 t : Vec Ideal S256x2048 .f32) = at2 (tl (mA m c) (t.val % 16)) := by
  funext i
  obtain ⟨e0, e1⟩ := ix0 t
  show V m c main_arg0 (((cfg0.win 0).blk t).view.emb i) = _
  rw [V_main_arg0]
  refine rd_at _ _ _ _ ?_ ?_
  · blk_simp [e0, e1]; omega
  · blk_simp [e0, e1]
theorem blk1 : (iblk m c 1 t : Vec Ideal S256x2048 .f32) = at2 (tl (mY m c) (t.val % 16)) := by
  funext i
  obtain ⟨e0, e1⟩ := ix1 t
  show V m c main_arg1 (((cfg0.win 1).blk t).view.emb i) = _
  rw [V_main_arg1]
  refine rd_at _ _ _ _ ?_ ?_
  · blk_simp [e0, e1]; omega
  · blk_simp [e0, e1]
theorem blk2 : (iblk m c 2 t : Vec Ideal S1x2048 .f32) = row (mg m c) := by
  funext i
  obtain ⟨e0, e1⟩ := ix2 t
  show V m c main_arg2 (((cfg0.win 2).blk t).view.emb i) = _
  rw [V_main_arg2]
  refine rd_at _ _ _ _ ?_ ?_
  · blk_simp [e0, e1]
  · blk_simp [e0, e1]
theorem V_n : V m c main_v0 = at2 fun _ => mN m c := by
  simp only [V, List.flatten_cons, List.flatten_nil, List.append_nil, hostOps0, List.cons_append, List.nil_append]
  after_results_simp
  funext i
  unfold at2
  pointwise
  exact rd1_at _ _ _ (by simp)
theorem blk3 : (iblk m c 3 t : Vec Ideal S1x2048 .f32) = row (mN m c) := by
  funext i
  obtain ⟨e0, e1⟩ := ix3 t
  show V m c main_v0 (((cfg0.win 3).blk t).view.emb i) = _
  rw [V_n]
  unfold row at2
  refine congrArg (mN m c) ?_
  blk_simp [e0, e1]
theorem blk4 : (iblk m c 4 t : Vec Ideal S1x2048 .f32) = row (mS m c) := by
  funext i
  obtain ⟨e0, e1⟩ := ix4 t
  show V m c main_arg4 (((cfg0.win 4).blk t).view.emb i) = _
  rw [V_main_arg4]
  refine rd_at _ _ _ _ ?_ ?_
  · blk_simp [e0, e1]
  · blk_simp [e0, e1]
theorem blk5 : (iblk m c 5 t : Vec Ideal S1x2048 .f32) = row (mB m c) := by
  funext i
  obtain ⟨e0, e1⟩ := ix5 t
  show V m c main_arg5 (((cfg0.win 5).blk t).view.emb i) = _
  rw [V_main_arg5]
  refine rd_at _ _ _ _ ?_ ?_
  · blk_simp [e0, e1]
  · blk_simp [e0, e1]

theorem arr6 : (dats (F := Ideal) m 0 c).arrAt 6 cfg0.N = at2 (mX m c) := by
  refine (dats m 0 c).arrAt_eq_of_covers 6 _ (by decide +kernel) fun t hf y => ?_
  obtain ⟨e0, e1⟩ := ix6 t
  blk_simp
  rw [after0_6, blk0, blk1, blk2, blk3, blk4, blk5, out6_at]
  have a0 : ((((cfg0.win 6).blk t).view.emb y : S4096x2048.Idx) 0).val = 256 * (t.val % 16) + (y 0).val := by
    blk_simp [e0]; omega
  have a1 : ((((cfg0.win 6).blk t).view.emb y : S4096x2048.Idx) 1).val = (y 1).val := by
    blk_simp [e1]
  unfold at2
  rw [a0, a1]
theorem arr7 : (dats (F := Ideal) m 0 c).arrAt 7 cfg0.N = at2 (fun t => nv (mN m c) (mS m c) (mB m c) (mX m c t)) := by
  refine (dats m 0 c).arrAt_eq_of_covers 7 _ (by decide +kernel) fun t hf y => ?_
  obtain ⟨e0, e1⟩ := ix7 t
  blk_simp
  rw [after0_7, blk0, blk1, blk2, blk3, blk4, blk5, out7_at]
  have a0 : ((((cfg0.win 7).blk t).view.emb y : S4096x2048.Idx) 0).val = 256 * (t.val % 16) + (y 0).val := by
    blk_simp [e0]; omega
  have a1 : ((((cfg0.win 7).blk t).view.emb y : S4096x2048.Idx) 1).val = (y 1).val := by
    blk_simp [e1]
  unfold at2
  rw [a0, a1]

end Cert.BlockFwdIdeal.Blk
-- ==== Proof.FwdClaim.lean ====
module
public import proofs.«01_k».proof.Defs
public import proofs.«01_k».proof.Proof.BfwArr
public import proofs.«01_k».proof.Proof.BlkRef
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.BlockFwd.Frame
public import proofs.«01_k».proof.Proof.Gen.BlockFwdIdeal.Value
public import proofs.«01_k».proof.Proof.Gen.BlockFwdRefIdeal.Run

@[expose] public section

/-! The norm's forward calls: the reference's values, and the claims. -/

set_option maxRecDepth 16384

noncomputable section

namespace Cert.NormFwdRefIdeal.Nrm

open Cert.NormFwdRefIdeal Cert.NormFwdRefIdeal.Gen Idealize.ShloMosaic Idealize.ShloMosaic.TcCoe
open Cert.Prod
open Cert.BlockBwdIdeal.Blk (rn rs)
open Cert.BlockBwdRefIdeal.Blk (bc row yr nb yr_at nb_at at1_rd row_rd)
open Cert.NormFwdIdeal.Nrm (nv)
open Cert.ConvBwdIdeal.Conv (rd1 at2_rd)
open Cert.ConvBwdRefIdeal.Conv (at1)

/-- The normed rows, times the gain, scaled and shifted. -/
def vr (x : FVec Ideal S4096x2048 .f32) (n : FVec Ideal S2048 .f32) (s b : FVec Ideal S1x2048 .f32) : FVec Ideal S4096x2048 .bf16 :=
  truncf .bf16 (addf (mulf (mulf (yr x) (nb n)) (bc (addf (broadcastInDim S1x2048 ![] bcast_S_S1x2048 (constant S_ .f32 0x3F800000#32)) s))) (bc b)) bitsLt_bf16_f32

theorem vr_at (X : ℕ → ℕ → EReal) (n s b : ℕ → EReal) : vr (at2 X) (at1 n) (row s) (row b) = at2 fun t => nv n s b (X t) := by
  unfold vr
  rw [yr_at, nb_at]
  funext i
  unfold bc row at2 nv
  pointwise
theorem vr_val (X : ℕ → ℕ → EReal) (n : FVec Ideal S2048 .f32) (s b : FVec Ideal S1x2048 .f32) : vr (at2 X) n s b = at2 fun t => nv (rd1 n) (rd s 0) (rd b 0) (X t) := by
  rw [← vr_at, at1_rd, row_rd, row_rd]

section
variable (m : (ℓ : Loc nD τ sig) → Buf (Elt Ideal) ℓ) (c : Dev nD) (x : FVec Ideal S4096x2048 .f32) (n : FVec Ideal S2048 .f32) (s b : FVec Ideal S1x2048 .f32)

theorem res19 (h0 : m ((c.tc : Thread nD τ).loc main_arg0) = x) (h1 : m ((c.tc : Thread nD τ).loc main_arg1) = n) (h2 : m ((c.tc : Thread nD τ).loc main_arg2) = s) (h3 : m ((c.tc : Thread nD τ).loc main_arg3) = b) :
    vr (m ((c.tc : Thread nD τ).loc main_arg0)) (m ((c.tc : Thread nD τ).loc main_arg1)) (m ((c.tc : Thread nD τ).loc main_arg2)) (m ((c.tc : Thread nD τ).loc main_arg3))
    = at2 fun t => nv (rd1 n) (rd s 0) (rd b 0) (rd x t) := by
  rw [h0, h1, h2, h3, ← vr_val, at2_rd]
end

end Cert.NormFwdRefIdeal.Nrm

namespace Cert.NormFwdIdeal.Nrm

open Idealize.ShloMosaic Idealize.ShloMosaic.TcCoe Cert.Prod Cert.NormFwdRefIdeal.Nrm

theorem frame_words : Cert.quiescent_NormFwd := fun m ρ _ => Cert.NormFwd.Gen.frame (F := Bits) m ρ
theorem frame_ideal : Cert.quiescent_NormFwdIdeal := fun m ρ _ => Cert.NormFwdIdeal.Gen.frame (F := Ideal) m ρ
theorem frame_ref : Cert.quiescent_NormFwdRefIdeal := fun m ρ _ =>
  (θ_run Cert.NormFwdRefIdeal.defs _ _).mono (fun r h => ⟨fun c => (h c).2, sem_eq_zero_of_no_sems (by decide) r.2⟩) (Cert.NormFwdRefIdeal.Value.run (F := Ideal) m ρ)

theorem algebraic : Cert.algebraic_NormFwdIdeal_NormFwdRefIdeal := by
  intro m ρ m' ρ' _ hag
  refine ⟨fun c => at2 fun t => nv (mN m c) (mS m c) (mB m c) (mX m c t), ?_, ?_⟩
  · refine (θ_run Cert.NormFwdIdeal.defs _ _).mono (fun r h c => ?_) (Cert.NormFwdIdeal.Value.run_blocks (F := Ideal) m ρ)
    obtain ⟨g0, hk⟩ := h c
    exact ⟨g0.trans (arr4 m c), hk⟩
  · refine (θ_run Cert.NormFwdRefIdeal.defs _ _).mono (fun r h c => ?_) (Cert.NormFwdRefIdeal.Value.run (F := Ideal) m' ρ')
    obtain ⟨g0, hk⟩ := h c
    obtain ⟨a0, a1, a2, a3⟩ := hag c
    exact ⟨g0.trans (res19 m' c _ _ _ _ a0 a1 a2 a3), hk⟩

end Cert.NormFwdIdeal.Nrm

namespace Cert.BlockFwdRefIdeal.Blk

open Cert.BlockFwdRefIdeal Cert.BlockFwdRefIdeal.Gen Idealize.ShloMosaic Idealize.ShloMosaic.TcCoe
open Cert.Prod
open Cert.BlockBwdRefIdeal.Blk (bc xa_at)
open Cert.NormFwdIdeal.Nrm (nv)
open Cert.NormFwdRefIdeal.Nrm (vr vr_val)
open Cert.BlockFwdIdeal.Blk (sx)
open Cert.ConvBwdIdeal.Conv (rd1)

section
variable (m : (ℓ : Loc nD τ sig) → Buf (Elt Ideal) ℓ) (c : Dev nD) (x y : FVec Ideal S4096x2048 .f32) (n : FVec Ideal S2048 .f32) (g s b : FVec Ideal S1x2048 .f32)
  (h0 : m ((c.tc : Thread nD τ).loc main_arg0) = x) (h1 : m ((c.tc : Thread nD τ).loc main_arg1) = y) (h2 : m ((c.tc : Thread nD τ).loc main_arg2) = g)
include h0 h1 h2

theorem res2 : addf (m ((c.tc : Thread nD τ).loc main_arg0)) (mulf (bc (m ((c.tc : Thread nD τ).loc main_arg2))) (m ((c.tc : Thread nD τ).loc main_arg1))) = at2 (sx (rd x) (rd y) (rd g 0)) := by
  rw [h0, h1, h2, xa_at]
theorem res22 (h3 : m ((c.tc : Thread nD τ).loc main_arg3) = n) (h4 : m ((c.tc : Thread nD τ).loc main_arg4) = s) (h5 : m ((c.tc : Thread nD τ).loc main_arg5) = b) :
    vr (addf (m ((c.tc : Thread nD τ).loc main_arg0)) (mulf (bc (m ((c.tc : Thread nD τ).loc main_arg2))) (m ((c.tc : Thread nD τ).loc main_arg1)))) (m ((c.tc : Thread nD τ).loc main_arg3)) (m ((c.tc : Thread nD τ).loc main_arg4)) (m ((c.tc : Thread nD τ).loc main_arg5))
    = at2 fun t => nv (rd1 n) (rd s 0) (rd b 0) (sx (rd x) (rd y) (rd g 0) t) := by
  rw [res2 m c x y g h0 h1 h2, h3, h4, h5, vr_val]
end

end Cert.BlockFwdRefIdeal.Blk

namespace Cert.BlockFwdIdeal.Blk

open Idealize.ShloMosaic Idealize.ShloMosaic.TcCoe Cert.Prod Cert.BlockFwdRefIdeal.Blk
open Cert.NormFwdIdeal.Nrm (nv)

theorem frame_words : Cert.quiescent_BlockFwd := fun m ρ _ => Cert.BlockFwd.Gen.frame (F := Bits) m ρ
theorem frame_ideal : Cert.quiescent_BlockFwdIdeal := fun m ρ _ => Cert.BlockFwdIdeal.Gen.frame (F := Ideal) m ρ
theorem frame_ref : Cert.quiescent_BlockFwdRefIdeal := fun m ρ _ =>
  (θ_run Cert.BlockFwdRefIdeal.defs _ _).mono (fun r h => ⟨fun c => (h c).2.2, sem_eq_zero_of_no_sems (by decide) r.2⟩) (Cert.BlockFwdRefIdeal.Value.run (F := Ideal) m ρ)

theorem algebraic : Cert.algebraic_BlockFwdIdeal_BlockFwdRefIdeal := by
  intro m ρ m' ρ' _ hag
  refine ⟨fun c => at2 (mX m c), fun c => at2 fun t => nv (mN m c) (mS m c) (mB m c) (mX m c t), ?_, ?_⟩
  · refine (θ_run Cert.BlockFwdIdeal.defs _ _).mono (fun r h c => ?_) (Cert.BlockFwdIdeal.Value.run_blocks (F := Ideal) m ρ)
    obtain ⟨g0, g1, hk⟩ := h c
    exact ⟨g0.trans (arr6 m c), g1.trans (arr7 m c), hk⟩
  · refine (θ_run Cert.BlockFwdRefIdeal.defs _ _).mono (fun r h c => ?_) (Cert.BlockFwdRefIdeal.Value.run (F := Ideal) m' ρ')
    obtain ⟨g0, g1, hk⟩ := h c
    obtain ⟨a0, a1, a2, a3, a4, a5⟩ := hag c
    exact ⟨g0.trans (res2 m' c _ _ _ a0 a1 a2), g1.trans (res22 m' c _ _ _ _ _ _ a0 a1 a2 a3 a4 a5), hk⟩

end Cert.BlockFwdIdeal.Blk
-- ==== Proof.CfwArr.lean ====
module
public import proofs.«01_k».proof.Proof.ConvArr
public import proofs.«01_k».proof.Proof.Gen.ConvFwdIdeal.Frame

@[expose] public section

/-! The gated convolution's forward call: its values and the array it leaves. -/

set_option maxRecDepth 16384

noncomputable section

namespace Cert.ConvFwdIdeal.Conv

open Cert.ConvFwdIdeal Cert.ConvFwdIdeal.Gen Idealize.ShloMosaic Idealize.ShloMosaic.TcCoe
open Cert.Prod
open Cert.ConvBwdIdeal.Conv (dn cv sg sel_lt dn_eq row hz ld_row tl tr pre cv_tile hi hi1 rd1 rd1_at at2_rd)

/-! ## A grid step -/

section
variable (i : grid0.Coords) (X P Xv Pv : ℕ → ℕ → EReal) (b bv w0 w1 : ℕ → EReal) (w wv : ℕ → ℕ → EReal)

/-- Whether the grid point has the first rows. -/
abbrev fst : BitVec 1 := Scalar.cmpi .eq (BitVec.ofNat 32 (i 0).val) 0#32

theorem sel_fst (x y : EReal) : Scalar.select (fst i) x y = if decide ((i 0).val = 0) = true then x else y := by
  have h := (i 0).isLt
  unfold fst Scalar.cmpi
  rw [WordCmp.cmpi_eq_ofNat (show (i 0).val < 2 ^ 32 by change (i 0).val < 8 at h; omega) (by omega)]
  by_cases h : (i 0).val = 0 <;> simp [h, Scalar.select]

/-- The convolution on the tile. -/
abbrev cT : ℕ → ℕ → EReal := cv b w (dn 2 (decide ((i 0).val = 0)) X P) (dn 1 (decide ((i 0).val = 0)) X P) X
/-- The gate's output: the gate times its logistic function, times the value. -/
def gv (G V : ℕ → ℕ → EReal) (r d : ℕ) : EReal := G r d * sg (G r d) * V r d

theorem pay2_at : k0_pay2 (F := Ideal) i (at2 X) (at2 P) (row b) (row w0) (row w1)
    = at2 fun r d => b d + w0 d * dn 2 (decide ((i 0).val = 0)) X P r d + w1 d * dn 1 (decide ((i 0).val = 0)) X P r d := by
  funext y
  have h : (y 0).val < 512 := (y 0).isLt
  unfold k0_pay2 row at2
  pointwise
  rw [sel_lt _ 2 h (by omega), sel_lt _ 1 h (by omega), sel_fst, sel_fst]
  exact congrArg₂ (fun u v => b (y 1).val + w0 (y 1).val * u + w1 (y 1).val * v) (dn_eq X P 2 _ _ _ (by omega) (by omega) h) (dn_eq X P 1 _ _ _ (by omega) (by omega) h)
theorem pay4_at : k0_pay4 (F := Ideal) (fst i) (at2 X) (at2 P) (row b) (row w0) (row w1)
    = at2 fun r d => b d + w0 d * dn 2 (decide ((i 0).val = 0)) X P r d + w1 d * dn 1 (decide ((i 0).val = 0)) X P r d := pay2_at i X P b w0 w1
theorem pay1_at (G D : ℕ → ℕ → EReal) : k0_pay1 (F := Ideal) (at2 G) (at2 X) (at2 D) (k0_pay5 (row b)) = at2 (gv G fun r d => D r d + b d * X r d) := by
  funext y
  unfold k0_pay1 k0_pay5 row at2 gv sg
  pointwise
theorem pay3_at (D : ℕ → ℕ → EReal) : k0_pay3 (F := Ideal) (at2 X) (at2 D) (row b) = at2 fun r d => D r d + b d * X r d := by
  funext y
  unfold k0_pay3 row at2
  pointwise
theorem out8_at : out0_8 (F := Ideal) i (at2 X) (at2 P) (at2 Xv) (at2 Pv) (at2 w) (at2 wv) (row b) (row bv) = at2 (gv (cT i X P b w) (cT i Xv Pv bv wv)) := by
  unfold out0_8
  simp only [View.ld_unit_zero (S := S512x512) hz, View.ld_unit_zero (S := S8x512) hz, View.ld_unit_zero (S := S1x512) hz]
  have e0 (f : ℕ → ℕ → EReal) : View.ld (Val := Elt Idealize.ShloMosaic.Ideal) (S := S3x512) (e' := .f32) (at2 f) r0_3 = row (f 0) := ld_row f 0 _
  have e1 (f : ℕ → ℕ → EReal) : View.ld (Val := Elt Idealize.ShloMosaic.Ideal) (S := S3x512) (e' := .f32) (at2 f) r0_4 = row (f 1) := ld_row f 1 _
  have e2 (f : ℕ → ℕ → EReal) : View.ld (Val := Elt Idealize.ShloMosaic.Ideal) (S := S3x512) (e' := .f32) (at2 f) r0_5 = row (f 2) := ld_row f 2 _
  rw [e0, e0, e1, e1, e2, e2, pay2_at, pay3_at, pay4_at, pay1_at, View.canon_unit_zero hz]
  rfl
end

/-! ## The array -/

theorem co : ∀ t : Fin cfg0.N, (grid0.coords t 0).val = t.val / 11 := (by decide +kernel : ∀ t : Fin grid0.N, (grid0.coords t 0).val = t.val / 11)
theorem ix0 : ∀ t : Fin cfg0.N, win0_0.index t (0 : Fin 2) = t.val / 11 ∧ win0_0.index t (1 : Fin 2) = t.val % 11 := (by decide +kernel : ∀ t : Fin grid0.N, _)
theorem ix1 : ∀ t : Fin cfg0.N, win0_1.index t (0 : Fin 2) = t.val / 11 * 64 - 1 ∧ win0_1.index t (1 : Fin 2) = t.val % 11 := (by decide +kernel : ∀ t : Fin grid0.N, _)
theorem ix2 : ∀ t : Fin cfg0.N, win0_2.index t (0 : Fin 2) = t.val / 11 ∧ win0_2.index t (1 : Fin 2) = t.val % 11 + 11 := (by decide +kernel : ∀ t : Fin grid0.N, _)
theorem ix3 : ∀ t : Fin cfg0.N, win0_3.index t (0 : Fin 2) = t.val / 11 * 64 - 1 ∧ win0_3.index t (1 : Fin 2) = t.val % 11 + 11 := (by decide +kernel : ∀ t : Fin grid0.N, _)
theorem ix4 : ∀ t : Fin cfg0.N, win0_4.index t (0 : Fin 2) = 0 ∧ win0_4.index t (1 : Fin 2) = t.val % 11 := (by decide +kernel : ∀ t : Fin grid0.N, _)
theorem ix5 : ∀ t : Fin cfg0.N, win0_5.index t (0 : Fin 2) = 0 ∧ win0_5.index t (1 : Fin 2) = t.val % 11 + 11 := (by decide +kernel : ∀ t : Fin grid0.N, _)
theorem ix6 : ∀ t : Fin cfg0.N, win0_6.index t (0 : Fin 2) = 0 ∧ win0_6.index t (1 : Fin 2) = t.val % 11 := (by decide +kernel : ∀ t : Fin grid0.N, _)
theorem ix7 : ∀ t : Fin cfg0.N, win0_7.index t (0 : Fin 2) = 0 ∧ win0_7.index t (1 : Fin 2) = t.val % 11 + 11 := (by decide +kernel : ∀ t : Fin grid0.N, _)
theorem ix8 : ∀ t : Fin cfg0.N, win0_8.index t (0 : Fin 2) = t.val / 11 ∧ win0_8.index t (1 : Fin 2) = t.val % 11 := (by decide +kernel : ∀ t : Fin grid0.N, _)

variable (m : (ℓ : Loc nD τ sig) → Buf (Elt Ideal) ℓ) (c : Dev nD)

/-- The arguments, by row and column: the operand, the taps, the bias. -/
abbrev mA : ℕ → ℕ → EReal := rd (m ((c : Thread nD τ).loc main_arg0))
@[inherit_doc mA] abbrev mW : ℕ → ℕ → EReal := rd (m ((c : Thread nD τ).loc main_arg1))
@[inherit_doc mA] abbrev mB : ℕ → EReal := rd1 (m ((c : Thread nD τ).loc main_arg2))

theorem V_b : V m c main_v0 = at2 fun _ => mB m c := by
  simp only [V, List.flatten_cons, List.flatten_nil, List.append_nil, hostOps0, List.cons_append, List.nil_append]
  after_results_simp
  funext i
  unfold at2
  pointwise
  exact rd1_at _ _ _ (by simp)

/-- The eight rows before the tile. -/
abbrev pv (f : ℕ → ℕ → EReal) (n : ℕ) : ℕ → ℕ → EReal := fun r d => f (8 * (n / 11 * 64 - 1) + r) (512 * (n % 11) + d)

theorem pv_eq (f : ℕ → ℕ → EReal) (n : ℕ) (h : 0 < n / 11) (r d : ℕ) : pv f n r d = f (512 * (n / 11) - 8 + r) (512 * (n % 11) + d) :=
  congrArg (f · _) (by omega)

variable (t : Fin cfg0.N)

theorem blk0 : (iblk m c 0 t : Vec Ideal S512x512 .f32) = at2 (tl (mA m c) (t.val / 11) (t.val % 11)) := by
  funext i
  obtain ⟨e0, e1⟩ := ix0 t
  show V m c main_arg0 (((cfg0.win 0).blk t).view.emb i) = _
  rw [V_main_arg0]
  refine rd_at _ _ _ _ ?_ ?_
  · blk_simp [e0, e1]; omega
  · blk_simp [e0, e1]; omega
theorem blk1 : (iblk m c 1 t : Vec Ideal S8x512 .f32) = at2 (pv (mA m c) t) := by
  funext i
  obtain ⟨e0, e1⟩ := ix1 t
  show V m c main_arg0 (((cfg0.win 1).blk t).view.emb i) = _
  rw [V_main_arg0]
  refine rd_at _ _ _ _ ?_ ?_
  · blk_simp [e0, e1]; omega
  · blk_simp [e0, e1]; omega
theorem blk2 : (iblk m c 2 t : Vec Ideal S512x512 .f32) = at2 (tl (hi (mA m c)) (t.val / 11) (t.val % 11)) := by
  funext i
  obtain ⟨e0, e1⟩ := ix2 t
  show V m c main_arg0 (((cfg0.win 2).blk t).view.emb i) = _
  rw [V_main_arg0]
  refine rd_at _ _ _ _ ?_ ?_
  · blk_simp [e0, e1]; omega
  · blk_simp [e0, e1]; omega
theorem blk3 : (iblk m c 3 t : Vec Ideal S8x512 .f32) = at2 (pv (hi (mA m c)) t) := by
  funext i
  obtain ⟨e0, e1⟩ := ix3 t
  show V m c main_arg0 (((cfg0.win 3).blk t).view.emb i) = _
  rw [V_main_arg0]
  refine rd_at _ _ _ _ ?_ ?_
  · blk_simp [e0, e1]; omega
  · blk_simp [e0, e1]; omega
theorem blk4 : (iblk m c 4 t : Vec Ideal S3x512 .f32) = at2 fun k => tr (mW m c k) (t.val % 11) := by
  funext i
  obtain ⟨e0, e1⟩ := ix4 t
  show V m c main_arg1 (((cfg0.win 4).blk t).view.emb i) = _
  rw [V_main_arg1]
  refine rd_at _ _ _ _ ?_ ?_
  · blk_simp [e0, e1]
  · blk_simp [e0, e1]; omega
theorem blk5 : (iblk m c 5 t : Vec Ideal S3x512 .f32) = at2 fun k => tr (hi (mW m c) k) (t.val % 11) := by
  funext i
  obtain ⟨e0, e1⟩ := ix5 t
  show V m c main_arg1 (((cfg0.win 5).blk t).view.emb i) = _
  rw [V_main_arg1]
  refine rd_at _ _ _ _ ?_ ?_
  · blk_simp [e0, e1]
  · blk_simp [e0, e1]; omega
theorem blk6 : (iblk m c 6 t : Vec Ideal S1x512 .f32) = row (tr (mB m c) (t.val % 11)) := by
  funext i
  obtain ⟨e0, e1⟩ := ix6 t
  show V m c main_v0 (((cfg0.win 6).blk t).view.emb i) = _
  rw [V_b]
  unfold row at2 tr
  refine congrArg (mB m c) ?_
  blk_simp [e0, e1]; omega
theorem blk7 : (iblk m c 7 t : Vec Ideal S1x512 .f32) = row (tr (hi1 (mB m c)) (t.val % 11)) := by
  funext i
  obtain ⟨e0, e1⟩ := ix7 t
  show V m c main_v0 (((cfg0.win 7).blk t).view.emb i) = _
  rw [V_b]
  unfold row at2 tr
  refine congrArg (mB m c) ?_
  blk_simp [e0, e1]; omega

theorem cT_pt (A W : ℕ → ℕ → EReal) (B : ℕ → EReal) :
    cT (grid0.coords t) (tl A (t.val / 11) (t.val % 11)) (pv A t) (tr B (t.val % 11)) (fun k => tr (W k) (t.val % 11)) = tl (pre A W B) (t.val / 11) (t.val % 11) := by
  unfold cT
  rw [co]
  exact cv_tile A W B _ _ _ (pv_eq A t)

/-- The gate's output of the arguments. -/
abbrev mO : ℕ → ℕ → EReal := gv (pre (mA m c) (mW m c) (mB m c)) (pre (hi (mA m c)) (hi (mW m c)) (hi1 (mB m c)))

theorem arr8 : (dats (F := Ideal) m 0 c).arrAt 8 cfg0.N = at2 (mO m c) := by
  refine (dats m 0 c).arrAt_eq_of_covers 8 _ (by decide +kernel) fun t hf y => ?_
  obtain ⟨e0, e1⟩ := ix8 t
  blk_simp
  rw [after0_8, blk0, blk1, blk2, blk3, blk4, blk5, blk6, blk7, out8_at, cT_pt, cT_pt]
  have a0 : ((((cfg0.win 8).blk t).view.emb y : S4096x5632.Idx) 0).val = 512 * (t.val / 11) + (y 0).val := by
    blk_simp [e0]; omega
  have a1 : ((((cfg0.win 8).blk t).view.emb y : S4096x5632.Idx) 1).val = 512 * (t.val % 11) + (y 1).val := by
    blk_simp [e1]; omega
  unfold at2
  rw [a0, a1]
  rfl

end Cert.ConvFwdIdeal.Conv
-- ==== Proof.CfwClaim.lean ====
module
public import proofs.«01_k».proof.Defs
public import proofs.«01_k».proof.Proof.CfwArr
public import proofs.«01_k».proof.Proof.ConvClaim
public import proofs.«01_k».proof.Proof.Gen.ConvFwd.Frame
public import proofs.«01_k».proof.Proof.Gen.ConvFwdIdeal.Value
public import proofs.«01_k».proof.Proof.Gen.ConvFwdRefIdeal.Run

@[expose] public section

/-! The gated convolution's forward call: the reference's values, and the claims. -/

set_option maxRecDepth 16384

noncomputable section

namespace Cert.ConvFwdRefIdeal.Conv

open Cert.ConvFwdRefIdeal Cert.ConvFwdRefIdeal.Gen Idealize.ShloMosaic Idealize.ShloMosaic.TcCoe
open Cert.Prod
open Cert.ConvBwdIdeal.Conv (pre hi hi1 sg rd1 at2_rd)
open Cert.ConvBwdRefIdeal.Conv (at1 at1_rd one cvr cvr_at gt sgr)
open Cert.ConvFwdIdeal.Conv (gv)

variable (A W : ℕ → ℕ → EReal) (B : ℕ → EReal)

/-- The gate times its logistic function, times the value half. -/
def ur (a0 : FVec Ideal S4096x11264 .f32) (a1 : FVec Ideal S3x11264 .f32) (a2 : FVec Ideal S11264 .f32) : FVec Ideal S4096x5632 .bf16 :=
  truncf .bf16 (mulf (mulf (gt a0 a1 a2) (sgr a0 a1 a2)) (extractStridedSlice S4096x5632 ![0, 5632] (cvr a0 a1 a2) slices_S4096x11264_S4096x5632_0_5632)) bitsLt_bf16_f32

/-- The value half of the convolution is that of the other halves of its arguments. -/
theorem pre_hi (t d : ℕ) : pre A W B t (5632 + d) = pre (hi A) (hi W) (hi1 B) t d := rfl

theorem ur_at : ur (at2 A) (at2 W) (at1 B) = at2 (gv (pre A W B) (pre (hi A) (hi W) (hi1 B))) := by
  unfold ur sgr gt
  rw [cvr_at]
  funext i
  unfold one at2 gv sg
  pointwise
  rw [zero_sub]
  rfl

section
variable (m : (ℓ : Loc nD τ sig) → Buf (Elt Ideal) ℓ) (c : Dev nD) (a0 : FVec Ideal S4096x11264 .f32) (a1 : FVec Ideal S3x11264 .f32) (a2 : FVec Ideal S11264 .f32)

theorem res31_eq : Value.res_main_v31 (F := Ideal) m c = ur (m ((c.tc : Thread nD τ).loc main_arg0)) (m ((c.tc : Thread nD τ).loc main_arg1)) (m ((c.tc : Thread nD τ).loc main_arg2)) := rfl
theorem res31 (h0 : m ((c.tc : Thread nD τ).loc main_arg0) = a0) (h1 : m ((c.tc : Thread nD τ).loc main_arg1) = a1) (h2 : m ((c.tc : Thread nD τ).loc main_arg2) = a2) :
    Value.res_main_v31 (F := Ideal) m c = at2 (gv (pre (rd a0) (rd a1) (rd1 a2)) (pre (hi (rd a0)) (hi (rd a1)) (hi1 (rd1 a2)))) := by
  rw [res31_eq, h0, h1, h2, ← ur_at, at2_rd, at2_rd, at1_rd]
end

end Cert.ConvFwdRefIdeal.Conv

namespace Cert.ConvFwdIdeal.Conv

open Idealize.ShloMosaic Idealize.ShloMosaic.TcCoe Cert.Prod Cert.ConvFwdRefIdeal.Conv

theorem frame_words : Cert.quiescent_ConvFwd := fun m ρ _ => Cert.ConvFwd.Gen.frame (F := Bits) m ρ
theorem frame_ideal : Cert.quiescent_ConvFwdIdeal := fun m ρ _ => Cert.ConvFwdIdeal.Gen.frame (F := Ideal) m ρ
theorem frame_ref : Cert.quiescent_ConvFwdRefIdeal := fun m ρ _ =>
  (θ_run Cert.ConvFwdRefIdeal.defs _ _).mono (fun r h => ⟨fun c => (h c).2, sem_eq_zero_of_no_sems (by decide) r.2⟩) (Cert.ConvFwdRefIdeal.Value.run (F := Ideal) m ρ)

theorem algebraic : Cert.algebraic_ConvFwdIdeal_ConvFwdRefIdeal := by
  intro m ρ m' ρ' _ hag
  refine ⟨fun c => at2 (mO m c), ?_, ?_⟩
  · refine (θ_run Cert.ConvFwdIdeal.defs _ _).mono (fun r h c => ?_) (Cert.ConvFwdIdeal.Value.run_blocks (F := Ideal) m ρ)
    obtain ⟨g0, hk⟩ := h c
    exact ⟨g0.trans (arr8 m c), hk⟩
  · refine (θ_run Cert.ConvFwdRefIdeal.defs _ _).mono (fun r h c => ?_) (Cert.ConvFwdRefIdeal.Value.run (F := Ideal) m' ρ')
    obtain ⟨g0, hk⟩ := h c
    obtain ⟨a0, a1, a2⟩ := hag c
    exact ⟨g0.trans (res31 m' c _ _ _ a0 a1 a2), hk⟩

end Cert.ConvFwdIdeal.Conv
-- ==== Proof.MmGUp.lean ====
module
public import proofs.«01_k».proof.Proof.Sums
public import proofs.«01_k».proof.Proof.Gen.GUpIdeal.Value
public import proofs.«01_k».proof.Proof.Gen.GUp.Frame
public import proofs.«01_k».proof.Proof.Gen.GUpRefIdeal.Run
public import proofs.«01_k».proof.Defs
public import Idealize.ShloMosaic.Lib.Pipeline.ValueKit
public import Idealize.ShloMosaic.Adequacy

@[expose] public section

/-! The gradient of the up-projection's weight: what each grid point leaves, and the array. -/

set_option maxRecDepth 16384

noncomputable section

namespace Cert.GUpIdeal.Prod

open Cert.GUpIdeal Cert.GUpIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a : Memref sig .tc .vmem S1024x1024 .bf16) (ha : a.IsWhole) (b : Memref sig .tc .vmem S1x1024x1408 .bf16) (hb : b.IsWhole)
  (o : Memref sig .tc .vmem S1x1024x1408 .bf16) (ho : o.IsWhole) (s : Memref sig .tc .vmem S1024x1408 .f32) (hs : s.IsWhole)
  (x : Vec Ideal S1024x1024 .bf16) (y : Vec Ideal S1x1024x1408 .bf16) (z : Vec Ideal S1024x1408 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1024x1024) hz, View.ld_unit_zero (S := S1x1024x1408) hz3, View.ld_unit_zero (S := S1024x1408) hz, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1024x1024) hz, View.ld_unit_zero (S := S1x1024x1408) hz3, View.ld_unit_zero (S := S1024x1408) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1024x1024) hz, View.ld_unit_zero (S := S1x1024x1408) hz3, View.ld_unit_zero (S := S1024x1408) hz, shapeCast_self]

theorem outC (h0 : ¬cond0_0 i) (h1 : cond0_1 i) (h2 : cond0_2 i) :
    out0_C_2 c i a ha b hb o ho s hs h0 h1 h2 x y z = k0_pay4 (F := Ideal) (k0_pay3 x y z) := by
  unfold out0_C_2
  rw [View.read_writes_eq_canon _ _ _ (cover0_C_2 c i a ha b hb o ho s hs h0 h1 h2 x y z)]
  unfold kernelRun0_C
  dsimp only
  sl_unfold_words
  rw [View.canon_unit_zero hz3, View.readCov_unit_zero (S := S1024x1408) _ hz]
  simp only [View.readAt_eq_ld, ha.read_unread, hb.read_unread, hs.read_unread, View.ld_unit_zero (S := S1024x1024) hz, View.ld_unit_zero (S := S1x1024x1408) hz3, View.ld_unit_zero (S := S1024x1408) hz, shapeCast_self]

end

variable (f g : ℕ → ℕ → EReal) (z : ℕ → ℕ → EReal)

theorem pay2_at : k0_pay2 (F := Ideal) (at2 f) (at3 fun _ => g) = at2 fun r d => ∑ k ∈ range 1024, f k r * g k d := by
  funext i
  unfold k0_pay2 k0_pay1 at2 at3
  pointwise
  exact (Finset.sum_range fun k => f k (i 0).val * g k (i 1).val).symm

theorem pay3_at : k0_pay3 (F := Ideal) (at2 f) (at3 fun _ => g) (at2 z) = at2 fun r d => z r d + ∑ k ∈ range 1024, f k r * g k d := by
  funext i
  unfold k0_pay3 k0_pay1 at2 at3
  pointwise
  exact congrArg _ (Finset.sum_range fun k => f k (i 0).val * g k (i 1).val).symm

theorem pay4_at : k0_pay4 (F := Ideal) (at2 z) = at3 fun _ => z := by
  funext i
  unfold k0_pay4 at2 at3
  pointwise

theorem ixa : ∀ t : Fin cfg0.N, win0_0.index t (0 : Fin 2) = t.val % 4 ∧ win0_0.index t (1 : Fin 2) = t.val / 32 := (by decide +kernel : ∀ t : Fin grid0.N, _)
theorem ixb : ∀ t : Fin cfg0.N, win0_1.index t (0 : Fin 3) = t.val / 16 % 2 ∧ win0_1.index t (1 : Fin 3) = t.val % 4 ∧ win0_1.index t (2 : Fin 3) = t.val / 4 % 4 := (by decide +kernel : ∀ t : Fin grid0.N, _)
theorem ixo : ∀ t : Fin cfg0.N, win0_2.index t (0 : Fin 3) = t.val / 8 % 4 ∧ win0_2.index t (1 : Fin 3) = t.val / 32 ∧ win0_2.index t (2 : Fin 3) = t.val / 4 % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v3 = at3 fun p r x => B m c r (5632 * p + x) := by
  simp only [V, List.flatten_cons, List.flatten_nil, List.append_nil, hostOps0, List.cons_append, List.nil_append]
  after_results_simp
  funext i
  unfold at3
  pointwise
  refine rd_at _ _ _ _ ?_ ?_
  · simp
  · simp; omega

theorem blka (t : Fin cfg0.N) : (iblk m c 0 t : Vec Ideal S1024x1024 .bf16) = at2 fun k r => A m c (1024 * (t.val % 4) + k) (1024 * (t.val / 32) + r) := by
  funext i
  obtain ⟨e0, e1⟩ := ixa t
  show V m c main_v0 (((cfg0.win 0).blk t).view.emb i) = _
  rw [V_a]
  refine rd_at _ _ _ _ ?_ ?_
  · blk_simp [e0]; omega
  · blk_simp [e1]; omega

theorem blkb (t : Fin cfg0.N) : (iblk m c 1 t : Vec Ideal S1x1024x1408 .bf16) = at3 fun _ k d => B m c (1024 * (t.val % 4) + k) (1408 * (t.val / 4 % 8) + d) := by
  funext i
  obtain ⟨e0, e1, e2⟩ := ixb t
  show V m c main_v3 (((cfg0.win 1).blk t).view.emb i) = _
  rw [V_b]
  have h0 := (i 0).isLt
  unfold at3
  refine congrArg₂ (B m c) ?_ ?_
  · blk_simp [e0, e1, e2]; omega
  · blk_simp [e0, e1, e2]; omega

/-- A term of an entry's sum in the block of run `q`. -/
abbrev term (q r d s : ℕ) : EReal := A m c s (1024 * (q / 8) + r) * B m c s (1408 * (q % 8) + d)

theorem run_q (n : ℕ) : n / 4 / 8 = n / 32 := by omega

theorem pt0 (t : Fin cfg0.N) (h : t.val % 4 = 0) : (outsAt0 (F := Ideal) m c t.val t.isLt).2 = at2 fun r d => ∑ k ∈ range 1024, term m c (t.val / 4) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 4 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1024, term m c (t.val / 4) r d (1024 * (t.val % 4) + k))
    ∧ (t.val % 4 = 3 → (outsAt0 (F := Ideal) m c t.val t.isLt).1 = at3 fun _ r d => a r d + ∑ k ∈ range 1024, term m c (t.val / 4) r d (1024 * (t.val % 4) + k)) := by
  have e : k0_pay3 (F := Ideal) (iblk m c 0 t) (iblk m c 1 t) (at2 a) = at2 fun r d => a r d + ∑ k ∈ range 1024, term m c (t.val / 4) r d (1024 * (t.val % 4) + k) := by
    rw [blka, blkb, pay3_at]
    simp only [term, run_q]
  by_cases h2 : t.val % 4 = 3
  · rw [outsAt0_C m c t h (by omega) h2, ih]
    dsimp only
    rw [scratchC, outC, e, pay4_at]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1024 * (n % 4) + 1024), term m c (n / 4) r d k :=
  acc_fold 4 1024 (term m c) _ (fun n h hm => pt0 m c ⟨n, h⟩ hm) fun n h a hm ih => (pt1 m c ⟨n, h⟩ a hm ih).1

/-- What the last point of a run writes out. -/
theorem out_val (t : Fin cfg0.N) (h : t.val % 4 = 3) : (outsAt0 (F := Ideal) m c t.val t.isLt).1 = at3 fun _ r d => ∑ k ∈ range 4096, term m c (t.val / 4) r d k := by
  rw [(pt1 m c t _ (by omega) (scratch_val m c _ _)).2 h]
  refine congrArg at3 (funext fun _ => funext fun r => funext fun d => ?_)
  rw [show (t.val - 1) / 4 = t.val / 4 by omega, show (t.val - 1) % 4 = 2 by omega, h]
  exact (Finset.sum_range_add (term m c (t.val / 4) r d) (1024 * 3) 1024).symm

/-- The array: the whole product, its columns in four blocks. -/
theorem arr : (dats (F := Ideal) m 0 c).arrAt 2 cfg0.N = (at3 fun p r d => ∑ s ∈ range 4096, A m c s r * B m c s (2816 * p + d)) := by
  refine (dats m 0 c).arrAt_eq_of_covers 2 _ (by decide +kernel) fun t hf y => ?_
  obtain ⟨e0, e1, e2⟩ := ixo t
  have hm := (flush0_2 t).mp hf
  blk_simp
  rw [after0_2, out_val m c t hm]
  have h0 := (y 0).isLt
  have a1 : ((((cfg0.win 2).blk t).view.emb y : S4x2048x2816.Idx) 1).val = 1024 * (t.val / 32) + (y 1).val := by
    blk_simp [e1]; omega
  have a2 : 2816 * ((((cfg0.win 2).blk t).view.emb y : S4x2048x2816.Idx) 0).val + ((((cfg0.win 2).blk t).view.emb y : S4x2048x2816.Idx) 2).val
      = 1408 * (t.val / 4 % 8) + (y 2).val := by
    blk_simp [e0, e2]; omega
  unfold at3
  rw [a1]
  exact Eq.symm ((congrArg (fun q => ∑ s ∈ range 4096, A m c s (1024 * (t.val / 32) + (y 1).val) * B m c s q) a2).trans (by simp only [term, run_q]))

/-- The reference's result. -/
theorem ref (x : FVec Ideal Cert.GUpRefIdeal.S4096x11264 .f32) (y : FVec Ideal Cert.GUpRefIdeal.S4096x2048 .f32) :
    truncf .bf16 (transpose Cert.GUpRefIdeal.S4x2048x2816 [1, 0, 2] (shapeCast Cert.GUpRefIdeal.S2048x4x2816 (transpose Cert.GUpRefIdeal.S2048x11264 [1, 0]
      (Host.dotGeneral (F := Ideal) Cert.GUpRefIdeal.dot_S4096x11264_S4096x2048_S11264x2048_0_0_1_1_n_n none x y)
      Cert.GUpRefIdeal.Gen.transposes_S11264x2048_S2048x11264_1_0) Cert.GUpRefIdeal.Gen.shapeCasts_S2048x11264_S2048x4x2816)
      Cert.GUpRefIdeal.Gen.transposes_S2048x4x2816_S4x2048x2816_1_0_2) Cert.GUpRefIdeal.Gen.bitsLt_bf16_f32
      = at3 fun p r d => ∑ s ∈ range 4096, rd y s r * rd x s (2816 * p + d) := by
  funext i
  unfold at3
  pointwise
  refine Eq.trans ?_ (Finset.sum_range fun s => rd y s (i 1).val * rd x s (2816 * (i 0).val + (i 2).val)).symm
  exact Finset.sum_congr rfl fun k _ => (congrArg₂ (· * ·) (rd_at _ _ _ _ (by simp) (by simp; omega)) (rd_at _ _ _ _ (by simp) (by simp))).trans (mul_comm _ _)

/-! ## The claims -/

theorem frame_words : Cert.quiescent_GUp := fun m ρ _ => Cert.GUp.Gen.frame (F := Bits) m ρ
theorem frame_ideal : Cert.quiescent_GUpIdeal := fun m ρ _ => Cert.GUpIdeal.Gen.frame (F := Ideal) m ρ
theorem frame_ref : Cert.quiescent_GUpRefIdeal := fun m ρ _ =>
  (θ_run Cert.GUpRefIdeal.defs _ _).mono (fun r h => ⟨fun c => (h c).2, sem_eq_zero_of_no_sems (by decide) r.2⟩) (Cert.GUpRefIdeal.Value.run (F := Ideal) m ρ)

theorem algebraic : Cert.algebraic_GUpIdeal_GUpRefIdeal := by
  intro m ρ m' ρ' _ hag
  refine ⟨fun c => at3 fun p r d => ∑ s ∈ range 4096, A m c s r * B m c s (2816 * p + d),
    (θ_run Cert.GUpIdeal.defs _ _).mono (fun r h c => ⟨(h c).1.trans (arr m c), (h c).2⟩) (Cert.GUpIdeal.Value.run_blocks (F := Ideal) m ρ),
    (θ_run Cert.GUpRefIdeal.defs _ _).mono (fun r h c => ⟨(h c).1.trans ?_, (h c).2⟩) (Cert.GUpRefIdeal.Value.run (F := Ideal) m' ρ')⟩
  obtain ⟨a0, a1⟩ := hag c
  rw [a0, a1]
  exact ref _ _

end Cert.GUpIdeal.Prod
-- ==== Proof.MmDHf.lean ====
module
public import proofs.«01_k».proof.Proof.Sums
public import proofs.«01_k».proof.Proof.Gen.DHfIdeal.Value
public import proofs.«01_k».proof.Proof.Gen.DHf.Frame
public import proofs.«01_k».proof.Proof.Gen.DHfRefIdeal.Run
public import proofs.«01_k».proof.Defs
public import Idealize.ShloMosaic.Lib.Pipeline.ValueKit
public import Idealize.ShloMosaic.Adequacy

@[expose] public section

/-! The gradient of the up-projection's input: what each grid point leaves, and the array. -/

set_option maxRecDepth 16384

noncomputable section

namespace Cert.DHfIdeal.Prod

open Cert.DHfIdeal Cert.DHfIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a : Memref sig .tc .vmem S1x1024x1408 .bf16) (ha : a.IsWhole) (b : Memref sig .tc .vmem S1x1024x1408 .bf16) (hb : b.IsWhole)
  (o : Memref sig .tc .vmem S1024x1024 .f32) (ho : o.IsWhole) (s : Memref sig .tc .vmem S1024x1024 .f32) (hs : s.IsWhole)
  (x : Vec Ideal S1x1024x1408 .bf16) (y : Vec Ideal S1x1024x1408 .bf16) (z : Vec Ideal S1024x1024 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1x1024x1408) hz3, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1x1024x1408) hz3, View.ld_unit_zero (S := S1024x1024) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1x1024x1408) hz3, View.ld_unit_zero (S := S1024x1024) hz, shapeCast_self]

theorem outC (h0 : ¬cond0_0 i) (h1 : cond0_1 i) (h2 : cond0_2 i) :
    out0_C_2 c i a ha b hb o ho s hs h0 h1 h2 x y z = k0_pay3 (F := Ideal) x y z := by
  unfold out0_C_2
  rw [View.read_writes_eq_canon _ _ _ (cover0_C_2 c i a ha b hb o ho s hs h0 h1 h2 x y z)]
  unfold kernelRun0_C
  dsimp only
  sl_unfold_words
  rw [View.canon_unit_zero hz, View.readCov_unit_zero (S := S1024x1024) _ hz]
  simp only [View.readAt_eq_ld, ha.read_unread, hb.read_unread, hs.read_unread, View.ld_unit_zero (S := S1x1024x1408) hz3, View.ld_unit_zero (S := S1024x1024) hz, shapeCast_self]

end

variable (f g : ℕ → ℕ → EReal) (z : ℕ → ℕ → EReal)

theorem pay2_at : k0_pay2 (F := Ideal) (at3 fun _ => f) (at3 fun _ => g) = at2 fun r d => ∑ k ∈ range 1408, f r k * g d k := by
  funext i
  unfold k0_pay2 k0_pay1 at2 at3
  pointwise
  exact (Finset.sum_range fun k => f (i 0).val k * g (i 1).val k).symm

theorem pay3_at : k0_pay3 (F := Ideal) (at3 fun _ => f) (at3 fun _ => g) (at2 z) = at2 fun r d => z r d + ∑ k ∈ range 1408, f r k * g d k := by
  funext i
  unfold k0_pay3 k0_pay1 at2 at3
  pointwise
  exact congrArg _ (Finset.sum_range fun k => f (i 0).val k * g (i 1).val k).symm

theorem ixa : ∀ t : Fin cfg0.N, win0_0.index t (0 : Fin 3) = t.val % 8 / 4 ∧ win0_0.index t (1 : Fin 3) = t.val / 16 ∧ win0_0.index t (2 : Fin 3) = t.val % 4 := (by decide +kernel : ∀ t : Fin grid0.N, _)
theorem ixb : ∀ t : Fin cfg0.N, win0_1.index t (0 : Fin 3) = t.val % 8 / 2 ∧ win0_1.index t (1 : Fin 3) = t.val / 8 % 2 ∧ win0_1.index t (2 : Fin 3) = t.val % 2 := (by decide +kernel : ∀ t : Fin grid0.N, _)
theorem ixo : ∀ t : Fin cfg0.N, win0_2.index t (0 : Fin 2) = t.val / 16 ∧ win0_2.index t (1 : Fin 2) = t.val / 8 % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg1))
@[inherit_doc A] abbrev B : ℕ → ℕ → EReal := rd (m ((c : Thread nD τ).loc main_arg0))

theorem V_a : V m c main_v2 = at3 fun p r x => A m c r (5632 * p + x) := by
  simp only [V, List.flatten_cons, List.flatten_nil, List.append_nil, hostOps0, List.cons_append, List.nil_append]
  after_results_simp
  funext i
  unfold at3
  pointwise
  refine rd_at _ _ _ _ ?_ ?_
  · simp
  · simp; omega
theorem V_b : V m c main_v5 = at3 fun p r x => B m c r (2816 * p + x) := by
  simp only [V, List.flatten_cons, List.flatten_nil, List.append_nil, hostOps0, List.cons_append, List.nil_append]
  after_results_simp
  funext i
  unfold at3
  pointwise
  refine rd_at _ _ _ _ ?_ ?_
  · simp
  · simp; omega

theorem blka (t : Fin cfg0.N) : (iblk m c 0 t : Vec Ideal S1x1024x1408 .bf16) = at3 fun _ r k => A m c (1024 * (t.val / 16) + r) (1408 * (t.val % 8) + k) := by
  funext i
  obtain ⟨e0, e1, e2⟩ := ixa t
  show V m c main_v2 (((cfg0.win 0).blk t).view.emb i) = _
  rw [V_a]
  have h0 := (i 0).isLt
  unfold at3
  refine congrArg₂ (A m c) ?_ ?_
  · blk_simp [e0, e1, e2]; omega
  · blk_simp [e0, e1, e2]; omega

theorem blkb (t : Fin cfg0.N) : (iblk m c 1 t : Vec Ideal S1x1024x1408 .bf16) = at3 fun _ d k => B m c (1024 * (t.val / 8 % 2) + d) (1408 * (t.val % 8) + k) := by
  funext i
  obtain ⟨e0, e1, e2⟩ := ixb t
  show V m c main_v5 (((cfg0.win 1).blk t).view.emb i) = _
  rw [V_b]
  have h0 := (i 0).isLt
  unfold at3
  refine congrArg₂ (B m c) ?_ ?_
  · blk_simp [e0, e1, e2]; omega
  · blk_simp [e0, e1, e2]; omega

/-- A term of an entry's sum in the block of run `q`. -/
abbrev term (q r d s : ℕ) : EReal := A m c (1024 * (q / 2) + r) s * B m c (1024 * (q % 2) + d) s

theorem run_q (n : ℕ) : n / 8 / 2 = n / 16 := by omega

theorem pt0 (t : Fin cfg0.N) (h : t.val % 8 = 0) : (outsAt0 (F := Ideal) m c t.val t.isLt).2 = at2 fun r d => ∑ k ∈ range 1408, term m c (t.val / 8) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 8 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1408, term m c (t.val / 8) r d (1408 * (t.val % 8) + k))
    ∧ (t.val % 8 = 7 → (outsAt0 (F := Ideal) m c t.val t.isLt).1 = at2 fun r d => a r d + ∑ k ∈ range 1408, term m c (t.val / 8) r d (1408 * (t.val % 8) + k)) := by
  have e : k0_pay3 (F := Ideal) (iblk m c 0 t) (iblk m c 1 t) (at2 a) = at2 fun r d => a r d + ∑ k ∈ range 1408, term m c (t.val / 8) r d (1408 * (t.val % 8) + k) := by
    rw [blka, blkb, pay3_at]
    simp only [term, run_q]
  by_cases h2 : t.val % 8 = 7
  · rw [outsAt0_C m c t h (by omega) h2, ih]
    dsimp only
    rw [scratchC, outC, e]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1408 * (n % 8) + 1408), term m c (n / 8) r d k :=
  acc_fold 8 1408 (term m c) _ (fun n h hm => pt0 m c ⟨n, h⟩ hm) fun n h a hm ih => (pt1 m c ⟨n, h⟩ a hm ih).1

/-- What the last point of a run writes out. -/
theorem out_val (t : Fin cfg0.N) (h : t.val % 8 = 7) : (outsAt0 (F := Ideal) m c t.val t.isLt).1 = at2 fun r d => ∑ k ∈ range 11264, term m c (t.val / 8) r d k := by
  rw [(pt1 m c t _ (by omega) (scratch_val m c _ _)).2 h]
  refine congrArg at2 (funext fun r => funext fun d => ?_)
  rw [show (t.val - 1) / 8 = t.val / 8 by omega, show (t.val - 1) % 8 = 6 by omega, h]
  exact (Finset.sum_range_add (term m c (t.val / 8) r d) (1408 * 7) 1408).symm

/-- The array: the whole product. -/
theorem arr : (dats (F := Ideal) m 0 c).arrAt 2 cfg0.N = (at2 fun r d => ∑ s ∈ range 11264, A m c r s * B m c d s) := by
  refine (dats m 0 c).arrAt_eq_of_covers 2 _ (by decide +kernel) fun t hf y => ?_
  obtain ⟨e0, e1⟩ := ixo t
  have hm := (flush0_2 t).mp hf
  blk_simp
  rw [after0_2, out_val m c t hm]
  have a0 : ((((cfg0.win 2).blk t).view.emb y : S4096x2048.Idx) 0).val = 1024 * (t.val / 16) + (y 0).val := by
    blk_simp [e0]; omega
  have a1 : ((((cfg0.win 2).blk t).view.emb y : S4096x2048.Idx) 1).val = 1024 * (t.val / 8 % 2) + (y 1).val := by
    blk_simp [e1]; omega
  unfold at2
  rw [a0, a1]
  simp only [term, run_q]

/-- The reference's result. -/
theorem ref (x : FVec Ideal Cert.DHfRefIdeal.S4096x11264 .f32) (y : FVec Ideal Cert.DHfRefIdeal.S2048x11264 .f32) :
    Host.dotGeneral (F := Ideal) Cert.DHfRefIdeal.dot_S4096x11264_S2048x11264_S4096x2048_1_1_0_0_n_n none x y = at2 fun r d => ∑ s ∈ range 11264, rd x r s * rd y d s := by
  funext i
  unfold at2
  pointwise
  refine Eq.trans ?_ (Finset.sum_range fun s => rd x (i 0).val s * rd y (i 1).val s).symm
  exact Finset.sum_congr rfl fun k _ => congrArg₂ (· * ·) (rd_at _ _ _ _ rfl rfl) (rd_at _ _ _ _ rfl rfl)

/-! ## The claims -/

theorem frame_words : Cert.quiescent_DHf := fun m ρ _ => Cert.DHf.Gen.frame (F := Bits) m ρ
theorem frame_ideal : Cert.quiescent_DHfIdeal := fun m ρ _ => Cert.DHfIdeal.Gen.frame (F := Ideal) m ρ
theorem frame_ref : Cert.quiescent_DHfRefIdeal := fun m ρ _ =>
  (θ_run Cert.DHfRefIdeal.defs _ _).mono (fun r h => ⟨fun c => (h c).2, sem_eq_zero_of_no_sems (by decide) r.2⟩) (Cert.DHfRefIdeal.Value.run (F := Ideal) m ρ)

theorem algebraic : Cert.algebraic_DHfIdeal_DHfRefIdeal := by
  intro m ρ m' ρ' _ hag
  refine ⟨fun c => at2 fun r d => ∑ s ∈ range 11264, A m c r s * B m c d s,
    (θ_run Cert.DHfIdeal.defs _ _).mono (fun r h c => ⟨(h c).1.trans (arr m c), (h c).2⟩) (Cert.DHfIdeal.Value.run_blocks (F := Ideal) m ρ),
    (θ_run Cert.DHfRefIdeal.defs _ _).mono (fun r h c => ⟨(h c).1.trans ?_, (h c).2⟩) (Cert.DHfRefIdeal.Value.run (F := Ideal) m' ρ')⟩
  obtain ⟨a0, a1⟩ := hag c
  rw [a0, a1]
  exact ref _ _

end Cert.DHfIdeal.Prod
-- ==== Proof.MmGDown.lean ====
module
public import proofs.«01_k».proof.Proof.Sums
public import proofs.«01_k».proof.Proof.Gen.GDownIdeal.Value
public import proofs.«01_k».proof.Proof.Gen.GDown.Frame
public import proofs.«01_k».proof.Proof.Gen.GDownRefIdeal.Run
public import proofs.«01_k».proof.Defs
public import Idealize.ShloMosaic.Lib.Pipeline.ValueKit
public import Idealize.ShloMosaic.Adequacy

@[expose] public section

/-! The gradient of the down-projection's weight: what each grid point leaves, and the array. -/

set_option maxRecDepth 16384

noncomputable section

namespace Cert.GDownIdeal.Prod

open Cert.GDownIdeal Cert.GDownIdeal.Gen Idealize.ShloMosaic Idealize.ShloMosaic.TcCoe
open Cert.Prod
open Idealize.SL.Sem
open Finset (range)

theorem hz : (![0, 0] : Fin 2 → Nat) = fun _ => 0 := funext fun a => by fin_cases a <;> rfl

section
variable (c : Dev nD) (i : grid0.Coords) (a : Memref sig .tc .vmem S1024x1408 .bf16) (ha : a.IsWhole) (b : Memref sig .tc .vmem S1024x1024 .bf16) (hb : b.IsWhole)
  (o : Memref sig .tc .vmem S1408x1024 .bf16) (ho : o.IsWhole) (s : Memref sig .tc .vmem S1408x1024 .f32) (hs : s.IsWhole)
  (x : Vec Ideal S1024x1408 .bf16) (y : Vec Ideal S1024x1024 .bf16) (z : Vec Ideal S1408x1024 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1024x1408) hz, View.ld_unit_zero (S := S1024x1024) hz, View.ld_unit_zero (S := S1408x1024) hz, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1024x1408) hz, View.ld_unit_zero (S := S1024x1024) hz, View.ld_unit_zero (S := S1408x1024) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1024x1408) hz, View.ld_unit_zero (S := S1024x1024) hz, View.ld_unit_zero (S := S1408x1024) hz, shapeCast_self]

theorem outC (h0 : ¬cond0_0 i) (h1 : cond0_1 i) (h2 : cond0_2 i) :
    out0_C_2 c i a ha b hb o ho s hs h0 h1 h2 x y z = k0_pay4 (F := Ideal) (k0_pay3 x y z) := by
  unfold out0_C_2
  rw [View.read_writes_eq_canon _ _ _ (cover0_C_2 c i a ha b hb o ho s hs h0 h1 h2 x y z)]
  unfold kernelRun0_C
  dsimp only
  sl_unfold_words
  rw [View.canon_unit_zero hz, View.readCov_unit_zero (S := S1408x1024) _ hz]
  simp only [View.readAt_eq_ld, ha.read_unread, hb.read_unread, hs.read_unread, View.ld_unit_zero (S := S1024x1408) hz, View.ld_unit_zero (S := S1024x1024) hz, View.ld_unit_zero (S := S1408x1024) hz, shapeCast_self]

end

variable (f g : ℕ → ℕ → EReal) (z : ℕ → ℕ → EReal)

theorem pay2_at : k0_pay2 (F := Ideal) (at2 f) (at2 g) = at2 fun r d => ∑ k ∈ range 1024, f k r * g k d := by
  funext i
  unfold k0_pay2 k0_pay1 at2
  pointwise
  exact (Finset.sum_range fun k => f k (i 0).val * g k (i 1).val).symm

theorem pay3_at : k0_pay3 (F := Ideal) (at2 f) (at2 g) (at2 z) = at2 fun r d => z r d + ∑ k ∈ range 1024, f k r * g k d := by
  funext i
  unfold k0_pay3 k0_pay1 at2
  pointwise
  exact congrArg _ (Finset.sum_range fun k => f k (i 0).val * g k (i 1).val).symm

theorem pay4_at : k0_pay4 (F := Ideal) (at2 z) = at2 z := by
  funext i
  unfold k0_pay4
  pointwise

theorem ixa : ∀ t : Fin cfg0.N, win0_0.index t (0 : Fin 2) = t.val % 4 ∧ win0_0.index t (1 : Fin 2) = t.val / 8 := (by decide +kernel : ∀ t : Fin grid0.N, _)
theorem ixb : ∀ t : Fin cfg0.N, win0_1.index t (0 : Fin 2) = t.val % 4 ∧ win0_1.index t (1 : Fin 2) = t.val / 4 % 2 := (by decide +kernel : ∀ t : Fin grid0.N, _)
theorem ixo : ∀ t : Fin cfg0.N, win0_2.index t (0 : Fin 2) = t.val / 8 ∧ win0_2.index t (1 : Fin 2) = t.val / 4 % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v1 = m ((c : Thread nD τ).loc main_arg1) := by
  simp only [V, List.flatten_cons, List.flatten_nil, List.append_nil, hostOps0, List.cons_append, List.nil_append]
  after_results_simp
  rfl

theorem blka (t : Fin cfg0.N) : (iblk m c 0 t : Vec Ideal S1024x1408 .bf16) = at2 fun k r => A m c (1024 * (t.val % 4) + k) (1408 * (t.val / 8) + r) := by
  funext i
  obtain ⟨e0, e1⟩ := ixa t
  show V m c main_v0 (((cfg0.win 0).blk t).view.emb i) = _
  rw [V_a]
  refine rd_at _ _ _ _ ?_ ?_
  · blk_simp [e0]; omega
  · blk_simp [e1]; omega

theorem blkb (t : Fin cfg0.N) : (iblk m c 1 t : Vec Ideal S1024x1024 .bf16) = at2 fun k d => B m c (1024 * (t.val % 4) + k) (1024 * (t.val / 4 % 2) + d) := by
  funext i
  obtain ⟨e0, e1⟩ := ixb t
  show V m c main_v1 (((cfg0.win 1).blk t).view.emb i) = _
  rw [V_b]
  refine rd_at _ _ _ _ ?_ ?_
  · blk_simp [e0]; omega
  · blk_simp [e1]; omega

/-- A term of an entry's sum in the block of run `q`. -/
abbrev term (q r d s : ℕ) : EReal := A m c s (1408 * (q / 2) + r) * B m c s (1024 * (q % 2) + d)

theorem run_q (n : ℕ) : n / 4 / 2 = n / 8 := by omega

theorem pt0 (t : Fin cfg0.N) (h : t.val % 4 = 0) : (outsAt0 (F := Ideal) m c t.val t.isLt).2 = at2 fun r d => ∑ k ∈ range 1024, term m c (t.val / 4) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 4 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1024, term m c (t.val / 4) r d (1024 * (t.val % 4) + k))
    ∧ (t.val % 4 = 3 → (outsAt0 (F := Ideal) m c t.val t.isLt).1 = at2 fun r d => a r d + ∑ k ∈ range 1024, term m c (t.val / 4) r d (1024 * (t.val % 4) + k)) := by
  have e : k0_pay3 (F := Ideal) (iblk m c 0 t) (iblk m c 1 t) (at2 a) = at2 fun r d => a r d + ∑ k ∈ range 1024, term m c (t.val / 4) r d (1024 * (t.val % 4) + k) := by
    rw [blka, blkb, pay3_at]
    simp only [term, run_q]
  by_cases h2 : t.val % 4 = 3
  · rw [outsAt0_C m c t h (by omega) h2, ih]
    dsimp only
    rw [scratchC, outC, e, pay4_at]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1024 * (n % 4) + 1024), term m c (n / 4) r d k :=
  acc_fold 4 1024 (term m c) _ (fun n h hm => pt0 m c ⟨n, h⟩ hm) fun n h a hm ih => (pt1 m c ⟨n, h⟩ a hm ih).1

/-- What the last point of a run writes out. -/
theorem out_val (t : Fin cfg0.N) (h : t.val % 4 = 3) : (outsAt0 (F := Ideal) m c t.val t.isLt).1 = at2 fun r d => ∑ k ∈ range 4096, term m c (t.val / 4) r d k := by
  rw [(pt1 m c t _ (by omega) (scratch_val m c _ _)).2 h]
  refine congrArg at2 (funext fun r => funext fun d => ?_)
  rw [show (t.val - 1) / 4 = t.val / 4 by omega, show (t.val - 1) % 4 = 2 by omega, h]
  exact (Finset.sum_range_add (term m c (t.val / 4) r d) (1024 * 3) 1024).symm

/-- The array: the whole product. -/
theorem arr : (dats (F := Ideal) m 0 c).arrAt 2 cfg0.N = (at2 fun r d => ∑ s ∈ range 4096, A m c s r * B m c s d) := by
  refine (dats m 0 c).arrAt_eq_of_covers 2 _ (by decide +kernel) fun t hf y => ?_
  obtain ⟨e0, e1⟩ := ixo t
  have hm := (flush0_2 t).mp hf
  blk_simp
  rw [after0_2, out_val m c t hm]
  have a0 : ((((cfg0.win 2).blk t).view.emb y : S5632x2048.Idx) 0).val = 1408 * (t.val / 8) + (y 0).val := by
    blk_simp [e0]; omega
  have a1 : ((((cfg0.win 2).blk t).view.emb y : S5632x2048.Idx) 1).val = 1024 * (t.val / 4 % 2) + (y 1).val := by
    blk_simp [e1]; omega
  unfold at2
  rw [a0, a1]
  simp only [term, run_q]

/-- The reference's result. -/
theorem ref (x : FVec Ideal Cert.GDownRefIdeal.S4096x2048 .f32) (y : FVec Ideal Cert.GDownRefIdeal.S4096x5632 .f32) :
    truncf .bf16 (transpose Cert.GDownRefIdeal.S5632x2048 [1, 0] (Host.dotGeneral (F := Ideal) Cert.GDownRefIdeal.dot_S4096x2048_S4096x5632_S2048x5632_0_0_1_1_n_n none x y)
      Cert.GDownRefIdeal.Gen.transposes_S2048x5632_S5632x2048_1_0) Cert.GDownRefIdeal.Gen.bitsLt_bf16_f32 = at2 fun r d => ∑ s ∈ range 4096, rd y s r * rd x s d := by
  funext i
  unfold at2
  pointwise
  refine Eq.trans ?_ (Finset.sum_range fun s => rd y s (i 0).val * rd x s (i 1).val).symm
  exact Finset.sum_congr rfl fun k _ => (congrArg₂ (· * ·) (rd_at _ _ _ _ rfl rfl) (rd_at _ _ _ _ rfl rfl)).trans (mul_comm _ _)

/-! ## The claims -/

theorem frame_words : Cert.quiescent_GDown := fun m ρ _ => Cert.GDown.Gen.frame (F := Bits) m ρ
theorem frame_ideal : Cert.quiescent_GDownIdeal := fun m ρ _ => Cert.GDownIdeal.Gen.frame (F := Ideal) m ρ
theorem frame_ref : Cert.quiescent_GDownRefIdeal := fun m ρ _ =>
  (θ_run Cert.GDownRefIdeal.defs _ _).mono (fun r h => ⟨fun c => (h c).2, sem_eq_zero_of_no_sems (by decide) r.2⟩) (Cert.GDownRefIdeal.Value.run (F := Ideal) m ρ)

theorem algebraic : Cert.algebraic_GDownIdeal_GDownRefIdeal := by
  intro m ρ m' ρ' _ hag
  refine ⟨fun c => at2 fun r d => ∑ s ∈ range 4096, A m c s r * B m c s d,
    (θ_run Cert.GDownIdeal.defs _ _).mono (fun r h c => ⟨(h c).1.trans (arr m c), (h c).2⟩) (Cert.GDownIdeal.Value.run_blocks (F := Ideal) m ρ),
    (θ_run Cert.GDownRefIdeal.defs _ _).mono (fun r h c => ⟨(h c).1.trans ?_, (h c).2⟩) (Cert.GDownRefIdeal.Value.run (F := Ideal) m' ρ')⟩
  obtain ⟨a0, a1⟩ := hag c
  rw [a0, a1]
  exact ref _ _

end Cert.GDownIdeal.Prod
-- ==== Proof.MmDU.lean ====
module
public import proofs.«01_k».proof.Proof.Sums
public import proofs.«01_k».proof.Proof.Gen.DUIdeal.Value
public import proofs.«01_k».proof.Proof.Gen.DU.Frame
public import proofs.«01_k».proof.Proof.Gen.DURefIdeal.Run
public import proofs.«01_k».proof.Defs
public import Idealize.ShloMosaic.Lib.Pipeline.ValueKit
public import Idealize.ShloMosaic.Adequacy

@[expose] public section

/-! The gradient of the down-projection's input: what each grid point leaves, and the array. -/

set_option maxRecDepth 16384

noncomputable section

namespace Cert.DUIdeal.Prod

open Cert.DUIdeal Cert.DUIdeal.Gen Idealize.ShloMosaic Idealize.ShloMosaic.TcCoe
open Cert.Prod
open Idealize.SL.Sem
open Finset (range)

theorem hz : (![0, 0] : Fin 2 → Nat) = fun _ => 0 := funext fun a => by fin_cases a <;> rfl

theorem out_at (f g : ℕ → ℕ → EReal) : out0_2 (F := Ideal) (at2 f) (at2 g) = at2 fun r d => ∑ k ∈ range 2048, f r k * g d k := by
  unfold out0_2
  rw [View.canon_unit_zero hz]
  simp only [View.ld_unit_zero (S := S1024x2048) hz, View.ld_unit_zero (S := S1408x2048) hz]
  funext i
  unfold k0_pay1 at2
  pointwise
  exact (Finset.sum_range fun k => f (i 0).val k * g (i 1).val k).symm

theorem ixa : ∀ t : Fin cfg0.N, win0_0.index t (0 : Fin 2) = t.val / 4 ∧ win0_0.index t (1 : Fin 2) = 0 := (by decide +kernel : ∀ t : Fin grid0.N, _)
theorem ixb : ∀ t : Fin cfg0.N, win0_1.index t (0 : Fin 2) = t.val % 4 ∧ win0_1.index t (1 : Fin 2) = 0 := (by decide +kernel : ∀ t : Fin grid0.N, _)
theorem ixo : ∀ t : Fin cfg0.N, win0_2.index t (0 : Fin 2) = t.val / 4 ∧ win0_2.index t (1 : Fin 2) = t.val % 4 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg1))
@[inherit_doc A] abbrev B : ℕ → ℕ → EReal := rd (m ((c : Thread nD τ).loc main_arg0))

theorem V_a : V m c main_v0 = m ((c : Thread nD τ).loc main_arg1) := by
  simp only [V, List.flatten_cons, List.flatten_nil, List.append_nil, hostOps0, List.cons_append, List.nil_append]
  after_results_simp
  rfl
theorem V_b : V m c main_v1 = m ((c : Thread nD τ).loc main_arg0) := by
  simp only [V, List.flatten_cons, List.flatten_nil, List.append_nil, hostOps0, List.cons_append, List.nil_append]
  after_results_simp
  rfl

theorem blka (t : Fin cfg0.N) : (iblk m c 0 t : Vec Ideal S1024x2048 .bf16) = at2 fun r k => A m c (1024 * (t.val / 4) + r) k := by
  funext i
  obtain ⟨e0, e1⟩ := ixa t
  show V m c main_v0 (((cfg0.win 0).blk t).view.emb i) = _
  rw [V_a]
  refine rd_at _ _ _ _ ?_ ?_
  · blk_simp [e0]; omega
  · blk_simp [e1]

theorem blkb (t : Fin cfg0.N) : (iblk m c 1 t : Vec Ideal S1408x2048 .bf16) = at2 fun d k => B m c (1408 * (t.val % 4) + d) k := by
  funext i
  obtain ⟨e0, e1⟩ := ixb t
  show V m c main_v1 (((cfg0.win 1).blk t).view.emb i) = _
  rw [V_b]
  refine rd_at _ _ _ _ ?_ ?_
  · blk_simp [e0]; omega
  · blk_simp [e1]

/-- The array: the whole product. -/
theorem arr : (dats (F := Ideal) m 0 c).arrAt 2 cfg0.N = (at2 fun r d => ∑ s ∈ range 2048, A m c r s * B m c d s) := by
  refine (dats m 0 c).arrAt_eq_of_covers 2 _ (by decide +kernel) fun t hf y => ?_
  obtain ⟨e0, e1⟩ := ixo t
  blk_simp
  rw [after0_2, blka, blkb, out_at]
  have a0 : ((((cfg0.win 2).blk t).view.emb y : S4096x5632.Idx) 0).val = 1024 * (t.val / 4) + (y 0).val := by
    blk_simp [e0]; omega
  have a1 : ((((cfg0.win 2).blk t).view.emb y : S4096x5632.Idx) 1).val = 1408 * (t.val % 4) + (y 1).val := by
    blk_simp [e1]; omega
  unfold at2
  rw [a0, a1]

/-- The reference's result. -/
theorem ref (x : FVec Ideal Cert.DURefIdeal.S4096x2048 .f32) (y : FVec Ideal Cert.DURefIdeal.S5632x2048 .f32) :
    Host.dotGeneral (F := Ideal) Cert.DURefIdeal.dot_S4096x2048_S5632x2048_S4096x5632_1_1_0_0_n_n none x y = at2 fun r d => ∑ s ∈ range 2048, rd x r s * rd y d s := by
  funext i
  unfold at2
  pointwise
  refine Eq.trans ?_ (Finset.sum_range fun s => rd x (i 0).val s * rd y (i 1).val s).symm
  exact Finset.sum_congr rfl fun k _ => congrArg₂ (· * ·) (rd_at _ _ _ _ rfl rfl) (rd_at _ _ _ _ rfl rfl)

/-! ## The claims -/

theorem frame_words : Cert.quiescent_DU := fun m ρ _ => Cert.DU.Gen.frame (F := Bits) m ρ
theorem frame_ideal : Cert.quiescent_DUIdeal := fun m ρ _ => Cert.DUIdeal.Gen.frame (F := Ideal) m ρ
theorem frame_ref : Cert.quiescent_DURefIdeal := fun m ρ _ =>
  (θ_run Cert.DURefIdeal.defs _ _).mono (fun r h => ⟨fun c => (h c).2, sem_eq_zero_of_no_sems (by decide) r.2⟩) (Cert.DURefIdeal.Value.run (F := Ideal) m ρ)

theorem algebraic : Cert.algebraic_DUIdeal_DURefIdeal := by
  intro m ρ m' ρ' _ hag
  refine ⟨fun c => at2 fun r d => ∑ s ∈ range 2048, A m c r s * B m c d s,
    (θ_run Cert.DUIdeal.defs _ _).mono (fun r h c => ⟨(h c).1.trans (arr m c), (h c).2⟩) (Cert.DUIdeal.Value.run_blocks (F := Ideal) m ρ),
    (θ_run Cert.DURefIdeal.defs _ _).mono (fun r h c => ⟨(h c).1.trans ?_, (h c).2⟩) (Cert.DURefIdeal.Value.run (F := Ideal) m' ρ')⟩
  obtain ⟨a0, a1⟩ := hag c
  rw [a0, a1]
  exact ref _ _

end Cert.DUIdeal.Prod
-- ==== Proof.MmUp.lean ====
module
public import proofs.«01_k».proof.Proof.Sums
public import proofs.«01_k».proof.Proof.Gen.UpIdeal.Value
public import proofs.«01_k».proof.Proof.Gen.Up.Frame
public import proofs.«01_k».proof.Proof.Gen.UpRefIdeal.Run
public import proofs.«01_k».proof.Defs
public import Idealize.ShloMosaic.Lib.Pipeline.ValueKit
public import Idealize.ShloMosaic.Adequacy

@[expose] public section

/-! The product of the rows with the up-projection: what each grid point leaves, and the array. -/

set_option maxRecDepth 16384

noncomputable section

namespace Cert.UpIdeal.Prod

open Cert.UpIdeal Cert.UpIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

theorem out_at (f g : ℕ → ℕ → EReal) : out0_2 (F := Ideal) (at2 f) (at3 fun _ => g) = at2 fun r d => ∑ k ∈ range 2048, f r k * g k d := by
  unfold out0_2
  rw [View.canon_unit_zero hz]
  simp only [View.ld_unit_zero (S := S1024x2048) hz, View.ld_unit_zero (S := S1x2048x1408) hz3]
  funext i
  unfold k0_pay1 at2 at3
  pointwise
  exact (Finset.sum_range fun k => f (i 0).val k * g k (i 1).val).symm

theorem ixa : ∀ t : Fin cfg0.N, win0_0.index t (0 : Fin 2) = t.val / 8 ∧ win0_0.index t (1 : Fin 2) = 0 := (by decide +kernel : ∀ t : Fin grid0.N, _)
theorem ixb : ∀ t : Fin cfg0.N, win0_1.index t (0 : Fin 3) = t.val % 8 / 2 ∧ win0_1.index t (1 : Fin 3) = 0 ∧ win0_1.index t (2 : Fin 3) = t.val % 2 := (by decide +kernel : ∀ t : Fin grid0.N, _)
theorem ixo : ∀ t : Fin cfg0.N, win0_2.index t (0 : Fin 2) = t.val / 8 ∧ win0_2.index t (1 : Fin 2) = t.val % 8 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v3 = at3 fun p r x => B m c r (2816 * p + x) := by
  simp only [V, List.flatten_cons, List.flatten_nil, List.append_nil, hostOps0, List.cons_append, List.nil_append]
  after_results_simp
  funext i
  unfold at3
  pointwise
  refine rd_at _ _ _ _ ?_ ?_
  · simp
  · simp; omega

theorem blka (t : Fin cfg0.N) : (iblk m c 0 t : Vec Ideal S1024x2048 .bf16) = at2 fun r k => A m c (1024 * (t.val / 8) + r) k := by
  funext i
  obtain ⟨e0, e1⟩ := ixa t
  show V m c main_v0 (((cfg0.win 0).blk t).view.emb i) = _
  rw [V_a]
  refine rd_at _ _ _ _ ?_ ?_
  · blk_simp [e0]; omega
  · blk_simp [e1]

theorem blkb (t : Fin cfg0.N) : (iblk m c 1 t : Vec Ideal S1x2048x1408 .bf16) = at3 fun _ k d => B m c k (1408 * (t.val % 8) + d) := by
  funext i
  obtain ⟨e0, e1, e2⟩ := ixb t
  show V m c main_v3 (((cfg0.win 1).blk t).view.emb i) = _
  rw [V_b]
  have h0 := (i 0).isLt
  unfold at3
  refine congrArg₂ (B m c) ?_ ?_
  · blk_simp [e0, e1, e2]
  · blk_simp [e0, e1, e2]; omega

/-- The array: the whole product. -/
theorem arr : (dats (F := Ideal) m 0 c).arrAt 2 cfg0.N = (at2 fun r d => ∑ s ∈ range 2048, A m c r s * B m c s d) := by
  refine (dats m 0 c).arrAt_eq_of_covers 2 _ (by decide +kernel) fun t hf y => ?_
  obtain ⟨e0, e1⟩ := ixo t
  blk_simp
  rw [after0_2, blka, blkb, out_at]
  have a0 : ((((cfg0.win 2).blk t).view.emb y : S4096x11264.Idx) 0).val = 1024 * (t.val / 8) + (y 0).val := by
    blk_simp [e0]; omega
  have a1 : ((((cfg0.win 2).blk t).view.emb y : S4096x11264.Idx) 1).val = 1408 * (t.val % 8) + (y 1).val := by
    blk_simp [e1]; omega
  unfold at2
  rw [a0, a1]

/-- The reference's result. -/
theorem ref (x : FVec Ideal Cert.UpRefIdeal.S4096x2048 .f32) (y : FVec Ideal Cert.UpRefIdeal.S2048x11264 .f32) :
    Host.dotGeneral (F := Ideal) Cert.UpRefIdeal.dot_S4096x2048_S2048x11264_S4096x11264_1_0_0_1_n_n none x y = at2 fun r d => ∑ s ∈ range 2048, rd x r s * rd y s d := by
  funext i
  unfold at2
  pointwise
  refine Eq.trans ?_ (Finset.sum_range fun s => rd x (i 0).val s * rd y s (i 1).val).symm
  exact Finset.sum_congr rfl fun k _ => congrArg₂ (· * ·) (rd_at _ _ _ _ rfl rfl) (rd_at _ _ _ _ rfl rfl)

/-! ## The claims -/

theorem frame_words : Cert.quiescent_Up := fun m ρ _ => Cert.Up.Gen.frame (F := Bits) m ρ
theorem frame_ideal : Cert.quiescent_UpIdeal := fun m ρ _ => Cert.UpIdeal.Gen.frame (F := Ideal) m ρ
theorem frame_ref : Cert.quiescent_UpRefIdeal := fun m ρ _ =>
  (θ_run Cert.UpRefIdeal.defs _ _).mono (fun r h => ⟨fun c => (h c).2, sem_eq_zero_of_no_sems (by decide) r.2⟩) (Cert.UpRefIdeal.Value.run (F := Ideal) m ρ)

theorem algebraic : Cert.algebraic_UpIdeal_UpRefIdeal := by
  intro m ρ m' ρ' _ hag
  refine ⟨fun c => at2 fun r d => ∑ s ∈ range 2048, A m c r s * B m c s d,
    (θ_run Cert.UpIdeal.defs _ _).mono (fun r h c => ⟨(h c).1.trans (arr m c), (h c).2⟩) (Cert.UpIdeal.Value.run_blocks (F := Ideal) m ρ),
    (θ_run Cert.UpRefIdeal.defs _ _).mono (fun r h c => ⟨(h c).1.trans ?_, (h c).2⟩) (Cert.UpRefIdeal.Value.run (F := Ideal) m' ρ')⟩
  obtain ⟨a0, a1⟩ := hag c
  rw [a0, a1]
  exact ref _ _

end Cert.UpIdeal.Prod
-- ==== Proof.MmDown.lean ====
module
public import proofs.«01_k».proof.Proof.Sums
public import proofs.«01_k».proof.Proof.Gen.DownIdeal.Value
public import proofs.«01_k».proof.Proof.Gen.Down.Frame
public import proofs.«01_k».proof.Proof.Gen.DownRefIdeal.Run
public import proofs.«01_k».proof.Defs
public import Idealize.ShloMosaic.Lib.Pipeline.ValueKit
public import Idealize.ShloMosaic.Adequacy

@[expose] public section

/-! The product of the gated units with the down-projection: what each grid point leaves, and the array. -/

set_option maxRecDepth 16384

noncomputable section

namespace Cert.DownIdeal.Prod

open Cert.DownIdeal Cert.DownIdeal.Gen Idealize.ShloMosaic Idealize.ShloMosaic.TcCoe
open Cert.Prod
open Idealize.SL.Sem
open Finset (range)

theorem hz : (![0, 0] : Fin 2 → Nat) = fun _ => 0 := funext fun a => by fin_cases a <;> rfl

section
variable (c : Dev nD) (i : grid0.Coords) (a : Memref sig .tc .vmem S1024x1408 .bf16) (ha : a.IsWhole) (b : Memref sig .tc .vmem S1408x1024 .bf16) (hb : b.IsWhole)
  (o : Memref sig .tc .vmem S1024x1024 .f32) (ho : o.IsWhole) (s : Memref sig .tc .vmem S1024x1024 .f32) (hs : s.IsWhole)
  (x : Vec Ideal S1024x1408 .bf16) (y : Vec Ideal S1408x1024 .bf16) (z : Vec Ideal S1024x1024 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1024x1408) hz, View.ld_unit_zero (S := S1408x1024) hz, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1024x1408) hz, View.ld_unit_zero (S := S1408x1024) hz, View.ld_unit_zero (S := S1024x1024) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1024x1408) hz, View.ld_unit_zero (S := S1408x1024) hz, View.ld_unit_zero (S := S1024x1024) hz, shapeCast_self]

theorem outC (h0 : ¬cond0_0 i) (h1 : cond0_1 i) (h2 : cond0_2 i) :
    out0_C_2 c i a ha b hb o ho s hs h0 h1 h2 x y z = k0_pay3 (F := Ideal) x y z := by
  unfold out0_C_2
  rw [View.read_writes_eq_canon _ _ _ (cover0_C_2 c i a ha b hb o ho s hs h0 h1 h2 x y z)]
  unfold kernelRun0_C
  dsimp only
  sl_unfold_words
  rw [View.canon_unit_zero hz, View.readCov_unit_zero (S := S1024x1024) _ hz]
  simp only [View.readAt_eq_ld, ha.read_unread, hb.read_unread, hs.read_unread, View.ld_unit_zero (S := S1024x1408) hz, View.ld_unit_zero (S := S1408x1024) hz, View.ld_unit_zero (S := S1024x1024) hz, shapeCast_self]

end

variable (f g : ℕ → ℕ → EReal) (z : ℕ → ℕ → EReal)

theorem pay2_at : k0_pay2 (F := Ideal) (at2 f) (at2 g) = at2 fun r d => ∑ k ∈ range 1408, f r k * g k d := by
  funext i
  unfold k0_pay2 k0_pay1 at2
  pointwise
  exact (Finset.sum_range fun k => f (i 0).val k * g k (i 1).val).symm

theorem pay3_at : k0_pay3 (F := Ideal) (at2 f) (at2 g) (at2 z) = at2 fun r d => z r d + ∑ k ∈ range 1408, f r k * g k d := by
  funext i
  unfold k0_pay3 k0_pay1 at2
  pointwise
  exact congrArg _ (Finset.sum_range fun k => f (i 0).val k * g k (i 1).val).symm

theorem ixa : ∀ t : Fin cfg0.N, win0_0.index t (0 : Fin 2) = t.val / 8 ∧ win0_0.index t (1 : Fin 2) = t.val % 4 := (by decide +kernel : ∀ t : Fin grid0.N, _)
theorem ixb : ∀ t : Fin cfg0.N, win0_1.index t (0 : Fin 2) = t.val % 4 ∧ win0_1.index t (1 : Fin 2) = t.val / 4 % 2 := (by decide +kernel : ∀ t : Fin grid0.N, _)
theorem ixo : ∀ t : Fin cfg0.N, win0_2.index t (0 : Fin 2) = t.val / 8 ∧ win0_2.index t (1 : Fin 2) = t.val / 4 % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v1 = m ((c : Thread nD τ).loc main_arg1) := by
  simp only [V, List.flatten_cons, List.flatten_nil, List.append_nil, hostOps0, List.cons_append, List.nil_append]
  after_results_simp
  rfl

theorem blka (t : Fin cfg0.N) : (iblk m c 0 t : Vec Ideal S1024x1408 .bf16) = at2 fun r k => A m c (1024 * (t.val / 8) + r) (1408 * (t.val % 4) + k) := by
  funext i
  obtain ⟨e0, e1⟩ := ixa t
  show V m c main_v0 (((cfg0.win 0).blk t).view.emb i) = _
  rw [V_a]
  refine rd_at _ _ _ _ ?_ ?_
  · blk_simp [e0]; omega
  · blk_simp [e1]; omega

theorem blkb (t : Fin cfg0.N) : (iblk m c 1 t : Vec Ideal S1408x1024 .bf16) = at2 fun k d => B m c (1408 * (t.val % 4) + k) (1024 * (t.val / 4 % 2) + d) := by
  funext i
  obtain ⟨e0, e1⟩ := ixb t
  show V m c main_v1 (((cfg0.win 1).blk t).view.emb i) = _
  rw [V_b]
  refine rd_at _ _ _ _ ?_ ?_
  · blk_simp [e0]; omega
  · blk_simp [e1]; omega

/-- A term of an entry's sum in the block of run `q`. -/
abbrev term (q r d s : ℕ) : EReal := A m c (1024 * (q / 2) + r) s * B m c s (1024 * (q % 2) + d)

theorem run_q (n : ℕ) : n / 4 / 2 = n / 8 := by omega

theorem pt0 (t : Fin cfg0.N) (h : t.val % 4 = 0) : (outsAt0 (F := Ideal) m c t.val t.isLt).2 = at2 fun r d => ∑ k ∈ range 1408, term m c (t.val / 4) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 4 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1408, term m c (t.val / 4) r d (1408 * (t.val % 4) + k))
    ∧ (t.val % 4 = 3 → (outsAt0 (F := Ideal) m c t.val t.isLt).1 = at2 fun r d => a r d + ∑ k ∈ range 1408, term m c (t.val / 4) r d (1408 * (t.val % 4) + k)) := by
  have e : k0_pay3 (F := Ideal) (iblk m c 0 t) (iblk m c 1 t) (at2 a) = at2 fun r d => a r d + ∑ k ∈ range 1408, term m c (t.val / 4) r d (1408 * (t.val % 4) + k) := by
    rw [blka, blkb, pay3_at]
    simp only [term, run_q]
  by_cases h2 : t.val % 4 = 3
  · rw [outsAt0_C m c t h (by omega) h2, ih]
    dsimp only
    rw [scratchC, outC, e]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1408 * (n % 4) + 1408), term m c (n / 4) r d k :=
  acc_fold 4 1408 (term m c) _ (fun n h hm => pt0 m c ⟨n, h⟩ hm) fun n h a hm ih => (pt1 m c ⟨n, h⟩ a hm ih).1

/-- What the last point of a run writes out. -/
theorem out_val (t : Fin cfg0.N) (h : t.val % 4 = 3) : (outsAt0 (F := Ideal) m c t.val t.isLt).1 = at2 fun r d => ∑ k ∈ range 5632, term m c (t.val / 4) r d k := by
  rw [(pt1 m c t _ (by omega) (scratch_val m c _ _)).2 h]
  refine congrArg at2 (funext fun r => funext fun d => ?_)
  rw [show (t.val - 1) / 4 = t.val / 4 by omega, show (t.val - 1) % 4 = 2 by omega, h]
  exact (Finset.sum_range_add (term m c (t.val / 4) r d) (1408 * 3) 1408).symm

/-- The array: the whole product. -/
theorem arr : (dats (F := Ideal) m 0 c).arrAt 2 cfg0.N = (at2 fun r d => ∑ s ∈ range 5632, A m c r s * B m c s d) := by
  refine (dats m 0 c).arrAt_eq_of_covers 2 _ (by decide +kernel) fun t hf y => ?_
  obtain ⟨e0, e1⟩ := ixo t
  have hm := (flush0_2 t).mp hf
  blk_simp
  rw [after0_2, out_val m c t hm]
  have a0 : ((((cfg0.win 2).blk t).view.emb y : S4096x2048.Idx) 0).val = 1024 * (t.val / 8) + (y 0).val := by
    blk_simp [e0]; omega
  have a1 : ((((cfg0.win 2).blk t).view.emb y : S4096x2048.Idx) 1).val = 1024 * (t.val / 4 % 2) + (y 1).val := by
    blk_simp [e1]; omega
  unfold at2
  rw [a0, a1]
  simp only [term, run_q]

/-- The reference's result. -/
theorem ref (x : FVec Ideal Cert.DownRefIdeal.S4096x5632 .f32) (y : FVec Ideal Cert.DownRefIdeal.S5632x2048 .f32) :
    Host.dotGeneral (F := Ideal) Cert.DownRefIdeal.dot_S4096x5632_S5632x2048_S4096x2048_1_0_0_1_n_n none x y = at2 fun r d => ∑ s ∈ range 5632, rd x r s * rd y s d := by
  funext i
  unfold at2
  pointwise
  refine Eq.trans ?_ (Finset.sum_range fun s => rd x (i 0).val s * rd y s (i 1).val).symm
  exact Finset.sum_congr rfl fun k _ => congrArg₂ (· * ·) (rd_at _ _ _ _ rfl rfl) (rd_at _ _ _ _ rfl rfl)

/-! ## The claims -/

theorem frame_words : Cert.quiescent_Down := fun m ρ _ => Cert.Down.Gen.frame (F := Bits) m ρ
theorem frame_ideal : Cert.quiescent_DownIdeal := fun m ρ _ => Cert.DownIdeal.Gen.frame (F := Ideal) m ρ
theorem frame_ref : Cert.quiescent_DownRefIdeal := fun m ρ _ =>
  (θ_run Cert.DownRefIdeal.defs _ _).mono (fun r h => ⟨fun c => (h c).2, sem_eq_zero_of_no_sems (by decide) r.2⟩) (Cert.DownRefIdeal.Value.run (F := Ideal) m ρ)

theorem algebraic : Cert.algebraic_DownIdeal_DownRefIdeal := by
  intro m ρ m' ρ' _ hag
  refine ⟨fun c => at2 fun r d => ∑ s ∈ range 5632, A m c r s * B m c s d,
    (θ_run Cert.DownIdeal.defs _ _).mono (fun r h c => ⟨(h c).1.trans (arr m c), (h c).2⟩) (Cert.DownIdeal.Value.run_blocks (F := Ideal) m ρ),
    (θ_run Cert.DownRefIdeal.defs _ _).mono (fun r h c => ⟨(h c).1.trans ?_, (h c).2⟩) (Cert.DownRefIdeal.Value.run (F := Ideal) m' ρ')⟩
  obtain ⟨a0, a1⟩ := hag c
  rw [a0, a1]
  exact ref _ _

end Cert.DownIdeal.Prod
-- ==== Proof.MmGParIn.lean ====
module
public import proofs.«01_k».proof.Proof.Sums
public import proofs.«01_k».proof.Proof.Gen.GParInIdeal.Value
public import proofs.«01_k».proof.Proof.Gen.GParIn.Frame
public import proofs.«01_k».proof.Proof.Gen.GParInRefIdeal.Run
public import proofs.«01_k».proof.Defs
public import Idealize.ShloMosaic.Lib.Pipeline.ValueKit
public import Idealize.ShloMosaic.Adequacy

@[expose] public section

/-! The gradient of the weight of the parallel mixers' input projection: what each grid point leaves, and the array. -/

set_option maxRecDepth 16384

noncomputable section

namespace Cert.GParInIdeal.Prod

open Cert.GParInIdeal Cert.GParInIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a : Memref sig .tc .vmem S1024x1024 .bf16) (ha : a.IsWhole) (b : Memref sig .tc .vmem S1024x896 .bf16) (hb : b.IsWhole)
  (o : Memref sig .tc .vmem S1x1024x896 .bf16) (ho : o.IsWhole) (s : Memref sig .tc .vmem S1024x896 .f32) (hs : s.IsWhole)
  (x : Vec Ideal S1024x1024 .bf16) (y : Vec Ideal S1024x896 .bf16) (z : Vec Ideal S1024x896 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1024x1024) hz, View.ld_unit_zero (S := S1024x896) hz, View.ld_unit_zero (S := S1024x896) hz, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1024x1024) hz, View.ld_unit_zero (S := S1024x896) hz, View.ld_unit_zero (S := S1024x896) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1024x1024) hz, View.ld_unit_zero (S := S1024x896) hz, View.ld_unit_zero (S := S1024x896) hz, shapeCast_self]

theorem outC (h0 : ¬cond0_0 i) (h1 : cond0_1 i) (h2 : cond0_2 i) :
    out0_C_2 c i a ha b hb o ho s hs h0 h1 h2 x y z = k0_pay4 (F := Ideal) (k0_pay3 x y z) := by
  unfold out0_C_2
  rw [View.read_writes_eq_canon _ _ _ (cover0_C_2 c i a ha b hb o ho s hs h0 h1 h2 x y z)]
  unfold kernelRun0_C
  dsimp only
  sl_unfold_words
  rw [View.canon_unit_zero hz3, View.readCov_unit_zero (S := S1024x896) _ hz]
  simp only [View.readAt_eq_ld, ha.read_unread, hb.read_unread, hs.read_unread, View.ld_unit_zero (S := S1024x1024) hz, View.ld_unit_zero (S := S1024x896) hz, View.ld_unit_zero (S := S1024x896) hz, shapeCast_self]

end

variable (f g : ℕ → ℕ → EReal) (z : ℕ → ℕ → EReal)

theorem pay2_at : k0_pay2 (F := Ideal) (at2 f) (at2 g) = at2 fun r d => ∑ k ∈ range 1024, f k r * g k d := by
  funext i
  unfold k0_pay2 k0_pay1 at2
  pointwise
  exact (Finset.sum_range fun k => f k (i 0).val * g k (i 1).val).symm

theorem pay3_at : k0_pay3 (F := Ideal) (at2 f) (at2 g) (at2 z) = at2 fun r d => z r d + ∑ k ∈ range 1024, f k r * g k d := by
  funext i
  unfold k0_pay3 k0_pay1 at2
  pointwise
  exact congrArg _ (Finset.sum_range fun k => f k (i 0).val * g k (i 1).val).symm

theorem pay4_at : k0_pay4 (F := Ideal) (at2 z) = at3 fun _ => z := by
  funext i
  unfold k0_pay4 at2 at3
  pointwise

theorem ixa : ∀ t : Fin cfg0.N, win0_0.index t (0 : Fin 2) = t.val % 4 ∧ win0_0.index t (1 : Fin 2) = t.val / 32 := (by decide +kernel : ∀ t : Fin grid0.N, _)
theorem ixb : ∀ t : Fin cfg0.N, win0_1.index t (0 : Fin 2) = t.val % 4 ∧ win0_1.index t (1 : Fin 2) = t.val / 4 % 8 := (by decide +kernel : ∀ t : Fin grid0.N, _)
theorem ixo : ∀ t : Fin cfg0.N, win0_2.index t (0 : Fin 3) = t.val / 8 % 4 ∧ win0_2.index t (1 : Fin 3) = t.val / 32 ∧ win0_2.index t (2 : Fin 3) = t.val / 4 % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v1 = m ((c : Thread nD τ).loc main_arg1) := by
  simp only [V, List.flatten_cons, List.flatten_nil, List.append_nil, hostOps0, List.cons_append, List.nil_append]
  after_results_simp
  rfl

theorem blka (t : Fin cfg0.N) : (iblk m c 0 t : Vec Ideal S1024x1024 .bf16) = at2 fun k r => A m c (1024 * (t.val % 4) + k) (1024 * (t.val / 32) + r) := by
  funext i
  obtain ⟨e0, e1⟩ := ixa t
  show V m c main_v0 (((cfg0.win 0).blk t).view.emb i) = _
  rw [V_a]
  refine rd_at _ _ _ _ ?_ ?_
  · blk_simp [e0]; omega
  · blk_simp [e1]; omega

theorem blkb (t : Fin cfg0.N) : (iblk m c 1 t : Vec Ideal S1024x896 .bf16) = at2 fun k d => B m c (1024 * (t.val % 4) + k) (896 * (t.val / 4 % 8) + d) := by
  funext i
  obtain ⟨e0, e1⟩ := ixb t
  show V m c main_v1 (((cfg0.win 1).blk t).view.emb i) = _
  rw [V_b]
  refine rd_at _ _ _ _ ?_ ?_
  · blk_simp [e0]; omega
  · blk_simp [e1]; omega

/-- A term of an entry's sum in the block of run `q`. -/
abbrev term (q r d s : ℕ) : EReal := A m c s (1024 * (q / 8) + r) * B m c s (896 * (q % 8) + d)

theorem run_q (n : ℕ) : n / 4 / 8 = n / 32 := by omega

theorem pt0 (t : Fin cfg0.N) (h : t.val % 4 = 0) : (outsAt0 (F := Ideal) m c t.val t.isLt).2 = at2 fun r d => ∑ k ∈ range 1024, term m c (t.val / 4) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 4 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1024, term m c (t.val / 4) r d (1024 * (t.val % 4) + k))
    ∧ (t.val % 4 = 3 → (outsAt0 (F := Ideal) m c t.val t.isLt).1 = at3 fun _ r d => a r d + ∑ k ∈ range 1024, term m c (t.val / 4) r d (1024 * (t.val % 4) + k)) := by
  have e : k0_pay3 (F := Ideal) (iblk m c 0 t) (iblk m c 1 t) (at2 a) = at2 fun r d => a r d + ∑ k ∈ range 1024, term m c (t.val / 4) r d (1024 * (t.val % 4) + k) := by
    rw [blka, blkb, pay3_at]
    simp only [term, run_q]
  by_cases h2 : t.val % 4 = 3
  · rw [outsAt0_C m c t h (by omega) h2, ih]
    dsimp only
    rw [scratchC, outC, e, pay4_at]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1024 * (n % 4) + 1024), term m c (n / 4) r d k :=
  acc_fold 4 1024 (term m c) _ (fun n h hm => pt0 m c ⟨n, h⟩ hm) fun n h a hm ih => (pt1 m c ⟨n, h⟩ a hm ih).1

/-- What the last point of a run writes out. -/
theorem out_val (t : Fin cfg0.N) (h : t.val % 4 = 3) : (outsAt0 (F := Ideal) m c t.val t.isLt).1 = at3 fun _ r d => ∑ k ∈ range 4096, term m c (t.val / 4) r d k := by
  rw [(pt1 m c t _ (by omega) (scratch_val m c _ _)).2 h]
  refine congrArg at3 (funext fun _ => funext fun r => funext fun d => ?_)
  rw [show (t.val - 1) / 4 = t.val / 4 by omega, show (t.val - 1) % 4 = 2 by omega, h]
  exact (Finset.sum_range_add (term m c (t.val / 4) r d) (1024 * 3) 1024).symm

/-- The array: the whole product, its columns in four blocks. -/
theorem arr : (dats (F := Ideal) m 0 c).arrAt 2 cfg0.N = (at3 fun p r d => ∑ s ∈ range 4096, A m c s r * B m c s (1792 * p + d)) := by
  refine (dats m 0 c).arrAt_eq_of_covers 2 _ (by decide +kernel) fun t hf y => ?_
  obtain ⟨e0, e1, e2⟩ := ixo t
  have hm := (flush0_2 t).mp hf
  blk_simp
  rw [after0_2, out_val m c t hm]
  have h0 := (y 0).isLt
  have a1 : ((((cfg0.win 2).blk t).view.emb y : S4x2048x1792.Idx) 1).val = 1024 * (t.val / 32) + (y 1).val := by
    blk_simp [e1]; omega
  have a2 : 1792 * ((((cfg0.win 2).blk t).view.emb y : S4x2048x1792.Idx) 0).val + ((((cfg0.win 2).blk t).view.emb y : S4x2048x1792.Idx) 2).val
      = 896 * (t.val / 4 % 8) + (y 2).val := by
    blk_simp [e0, e2]; omega
  unfold at3
  rw [a1]
  exact Eq.symm ((congrArg (fun q => ∑ s ∈ range 4096, A m c s (1024 * (t.val / 32) + (y 1).val) * B m c s q) a2).trans (by simp only [term, run_q]))

/-- The reference's result. -/
theorem ref (x : FVec Ideal Cert.GParInRefIdeal.S4096x7168 .f32) (y : FVec Ideal Cert.GParInRefIdeal.S4096x2048 .f32) :
    truncf .bf16 (transpose Cert.GParInRefIdeal.S4x2048x1792 [1, 0, 2] (shapeCast Cert.GParInRefIdeal.S2048x4x1792 (transpose Cert.GParInRefIdeal.S2048x7168 [1, 0]
      (Host.dotGeneral (F := Ideal) Cert.GParInRefIdeal.dot_S4096x7168_S4096x2048_S7168x2048_0_0_1_1_n_n none x y)
      Cert.GParInRefIdeal.Gen.transposes_S7168x2048_S2048x7168_1_0) Cert.GParInRefIdeal.Gen.shapeCasts_S2048x7168_S2048x4x1792)
      Cert.GParInRefIdeal.Gen.transposes_S2048x4x1792_S4x2048x1792_1_0_2) Cert.GParInRefIdeal.Gen.bitsLt_bf16_f32
      = at3 fun p r d => ∑ s ∈ range 4096, rd y s r * rd x s (1792 * p + d) := by
  funext i
  unfold at3
  pointwise
  refine Eq.trans ?_ (Finset.sum_range fun s => rd y s (i 1).val * rd x s (1792 * (i 0).val + (i 2).val)).symm
  exact Finset.sum_congr rfl fun k _ => (congrArg₂ (· * ·) (rd_at _ _ _ _ (by simp) (by simp; omega)) (rd_at _ _ _ _ (by simp) (by simp))).trans (mul_comm _ _)

/-! ## The claims -/

theorem frame_words : Cert.quiescent_GParIn := fun m ρ _ => Cert.GParIn.Gen.frame (F := Bits) m ρ
theorem frame_ideal : Cert.quiescent_GParInIdeal := fun m ρ _ => Cert.GParInIdeal.Gen.frame (F := Ideal) m ρ
theorem frame_ref : Cert.quiescent_GParInRefIdeal := fun m ρ _ =>
  (θ_run Cert.GParInRefIdeal.defs _ _).mono (fun r h => ⟨fun c => (h c).2, sem_eq_zero_of_no_sems (by decide) r.2⟩) (Cert.GParInRefIdeal.Value.run (F := Ideal) m ρ)

theorem algebraic : Cert.algebraic_GParInIdeal_GParInRefIdeal := by
  intro m ρ m' ρ' _ hag
  refine ⟨fun c => at3 fun p r d => ∑ s ∈ range 4096, A m c s r * B m c s (1792 * p + d),
    (θ_run Cert.GParInIdeal.defs _ _).mono (fun r h c => ⟨(h c).1.trans (arr m c), (h c).2⟩) (Cert.GParInIdeal.Value.run_blocks (F := Ideal) m ρ),
    (θ_run Cert.GParInRefIdeal.defs _ _).mono (fun r h c => ⟨(h c).1.trans ?_, (h c).2⟩) (Cert.GParInRefIdeal.Value.run (F := Ideal) m' ρ')⟩
  obtain ⟨a0, a1⟩ := hag c
  rw [a0, a1]
  exact ref _ _

end Cert.GParInIdeal.Prod
-- ==== Proof.MmDParIn.lean ====
module
public import proofs.«01_k».proof.Proof.Sums
public import proofs.«01_k».proof.Proof.Gen.DParInIdeal.Value
public import proofs.«01_k».proof.Proof.Gen.DParIn.Frame
public import proofs.«01_k».proof.Proof.Gen.DParInRefIdeal.Run
public import proofs.«01_k».proof.Defs
public import Idealize.ShloMosaic.Lib.Pipeline.ValueKit
public import Idealize.ShloMosaic.Adequacy

@[expose] public section

/-! The gradient of the input of the parallel mixers' projection: what each grid point leaves, and the array. -/

set_option maxRecDepth 16384

noncomputable section

namespace Cert.DParInIdeal.Prod

open Cert.DParInIdeal Cert.DParInIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a : Memref sig .tc .vmem S1024x1792 .bf16) (ha : a.IsWhole) (b : Memref sig .tc .vmem S1x1024x1792 .bf16) (hb : b.IsWhole)
  (o : Memref sig .tc .vmem S1024x1024 .f32) (ho : o.IsWhole) (s : Memref sig .tc .vmem S1024x1024 .f32) (hs : s.IsWhole)
  (x : Vec Ideal S1024x1792 .bf16) (y : Vec Ideal S1x1024x1792 .bf16) (z : Vec Ideal S1024x1024 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1024x1792) hz, View.ld_unit_zero (S := S1x1024x1792) hz3, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1024x1792) hz, View.ld_unit_zero (S := S1x1024x1792) hz3, View.ld_unit_zero (S := S1024x1024) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1024x1792) hz, View.ld_unit_zero (S := S1x1024x1792) hz3, View.ld_unit_zero (S := S1024x1024) hz, shapeCast_self]

theorem outC (h0 : ¬cond0_0 i) (h1 : cond0_1 i) (h2 : cond0_2 i) :
    out0_C_2 c i a ha b hb o ho s hs h0 h1 h2 x y z = k0_pay3 (F := Ideal) x y z := by
  unfold out0_C_2
  rw [View.read_writes_eq_canon _ _ _ (cover0_C_2 c i a ha b hb o ho s hs h0 h1 h2 x y z)]
  unfold kernelRun0_C
  dsimp only
  sl_unfold_words
  rw [View.canon_unit_zero hz, View.readCov_unit_zero (S := S1024x1024) _ hz]
  simp only [View.readAt_eq_ld, ha.read_unread, hb.read_unread, hs.read_unread, View.ld_unit_zero (S := S1024x1792) hz, View.ld_unit_zero (S := S1x1024x1792) hz3, View.ld_unit_zero (S := S1024x1024) hz, shapeCast_self]

end

variable (f g : ℕ → ℕ → EReal) (z : ℕ → ℕ → EReal)

theorem pay2_at : k0_pay2 (F := Ideal) (at2 f) (at3 fun _ => g) = at2 fun r d => ∑ k ∈ range 1792, f r k * g d k := by
  funext i
  unfold k0_pay2 k0_pay1 at2 at3
  pointwise
  exact (Finset.sum_range fun k => f (i 0).val k * g (i 1).val k).symm

theorem pay3_at : k0_pay3 (F := Ideal) (at2 f) (at3 fun _ => g) (at2 z) = at2 fun r d => z r d + ∑ k ∈ range 1792, f r k * g d k := by
  funext i
  unfold k0_pay3 k0_pay1 at2 at3
  pointwise
  exact congrArg _ (Finset.sum_range fun k => f (i 0).val k * g (i 1).val k).symm

theorem ixa : ∀ t : Fin cfg0.N, win0_0.index t (0 : Fin 2) = t.val / 8 ∧ win0_0.index t (1 : Fin 2) = t.val % 4 := (by decide +kernel : ∀ t : Fin grid0.N, _)
theorem ixb : ∀ t : Fin cfg0.N, win0_1.index t (0 : Fin 3) = t.val % 4 ∧ win0_1.index t (1 : Fin 3) = t.val / 4 % 2 ∧ win0_1.index t (2 : Fin 3) = 0 := (by decide +kernel : ∀ t : Fin grid0.N, _)
theorem ixo : ∀ t : Fin cfg0.N, win0_2.index t (0 : Fin 2) = t.val / 8 ∧ win0_2.index t (1 : Fin 2) = t.val / 4 % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg1))
@[inherit_doc A] abbrev B : ℕ → ℕ → EReal := rd (m ((c : Thread nD τ).loc main_arg0))

theorem V_a : V m c main_v0 = m ((c : Thread nD τ).loc main_arg1) := by
  simp only [V, List.flatten_cons, List.flatten_nil, List.append_nil, hostOps0, List.cons_append, List.nil_append]
  after_results_simp
  rfl
theorem V_b : V m c main_v3 = at3 fun p r x => B m c r (1792 * p + x) := by
  simp only [V, List.flatten_cons, List.flatten_nil, List.append_nil, hostOps0, List.cons_append, List.nil_append]
  after_results_simp
  funext i
  unfold at3
  pointwise
  refine rd_at _ _ _ _ ?_ ?_
  · simp
  · simp; omega

theorem blka (t : Fin cfg0.N) : (iblk m c 0 t : Vec Ideal S1024x1792 .bf16) = at2 fun r k => A m c (1024 * (t.val / 8) + r) (1792 * (t.val % 4) + k) := by
  funext i
  obtain ⟨e0, e1⟩ := ixa t
  show V m c main_v0 (((cfg0.win 0).blk t).view.emb i) = _
  rw [V_a]
  refine rd_at _ _ _ _ ?_ ?_
  · blk_simp [e0]; omega
  · blk_simp [e1]; omega

theorem blkb (t : Fin cfg0.N) : (iblk m c 1 t : Vec Ideal S1x1024x1792 .bf16) = at3 fun _ d k => B m c (1024 * (t.val / 4 % 2) + d) (1792 * (t.val % 4) + k) := by
  funext i
  obtain ⟨e0, e1, e2⟩ := ixb t
  show V m c main_v3 (((cfg0.win 1).blk t).view.emb i) = _
  rw [V_b]
  have h0 := (i 0).isLt
  unfold at3
  refine congrArg₂ (B m c) ?_ ?_
  · blk_simp [e0, e1, e2]; omega
  · blk_simp [e0, e1, e2]

/-- A term of an entry's sum in the block of run `q`. -/
abbrev term (q r d s : ℕ) : EReal := A m c (1024 * (q / 2) + r) s * B m c (1024 * (q % 2) + d) s

theorem run_q (n : ℕ) : n / 4 / 2 = n / 8 := by omega

theorem pt0 (t : Fin cfg0.N) (h : t.val % 4 = 0) : (outsAt0 (F := Ideal) m c t.val t.isLt).2 = at2 fun r d => ∑ k ∈ range 1792, term m c (t.val / 4) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 4 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1792, term m c (t.val / 4) r d (1792 * (t.val % 4) + k))
    ∧ (t.val % 4 = 3 → (outsAt0 (F := Ideal) m c t.val t.isLt).1 = at2 fun r d => a r d + ∑ k ∈ range 1792, term m c (t.val / 4) r d (1792 * (t.val % 4) + k)) := by
  have e : k0_pay3 (F := Ideal) (iblk m c 0 t) (iblk m c 1 t) (at2 a) = at2 fun r d => a r d + ∑ k ∈ range 1792, term m c (t.val / 4) r d (1792 * (t.val % 4) + k) := by
    rw [blka, blkb, pay3_at]
    simp only [term, run_q]
  by_cases h2 : t.val % 4 = 3
  · rw [outsAt0_C m c t h (by omega) h2, ih]
    dsimp only
    rw [scratchC, outC, e]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1792 * (n % 4) + 1792), term m c (n / 4) r d k :=
  acc_fold 4 1792 (term m c) _ (fun n h hm => pt0 m c ⟨n, h⟩ hm) fun n h a hm ih => (pt1 m c ⟨n, h⟩ a hm ih).1

/-- What the last point of a run writes out. -/
theorem out_val (t : Fin cfg0.N) (h : t.val % 4 = 3) : (outsAt0 (F := Ideal) m c t.val t.isLt).1 = at2 fun r d => ∑ k ∈ range 7168, term m c (t.val / 4) r d k := by
  rw [(pt1 m c t _ (by omega) (scratch_val m c _ _)).2 h]
  refine congrArg at2 (funext fun r => funext fun d => ?_)
  rw [show (t.val - 1) / 4 = t.val / 4 by omega, show (t.val - 1) % 4 = 2 by omega, h]
  exact (Finset.sum_range_add (term m c (t.val / 4) r d) (1792 * 3) 1792).symm

/-- The array: the whole product. -/
theorem arr : (dats (F := Ideal) m 0 c).arrAt 2 cfg0.N = (at2 fun r d => ∑ s ∈ range 7168, A m c r s * B m c d s) := by
  refine (dats m 0 c).arrAt_eq_of_covers 2 _ (by decide +kernel) fun t hf y => ?_
  obtain ⟨e0, e1⟩ := ixo t
  have hm := (flush0_2 t).mp hf
  blk_simp
  rw [after0_2, out_val m c t hm]
  have a0 : ((((cfg0.win 2).blk t).view.emb y : S4096x2048.Idx) 0).val = 1024 * (t.val / 8) + (y 0).val := by
    blk_simp [e0]; omega
  have a1 : ((((cfg0.win 2).blk t).view.emb y : S4096x2048.Idx) 1).val = 1024 * (t.val / 4 % 2) + (y 1).val := by
    blk_simp [e1]; omega
  unfold at2
  rw [a0, a1]
  simp only [term, run_q]

/-- The reference's result. -/
theorem ref (x : FVec Ideal Cert.DParInRefIdeal.S4096x7168 .f32) (y : FVec Ideal Cert.DParInRefIdeal.S2048x7168 .f32) :
    Host.dotGeneral (F := Ideal) Cert.DParInRefIdeal.dot_S4096x7168_S2048x7168_S4096x2048_1_1_0_0_n_n none x y = at2 fun r d => ∑ s ∈ range 7168, rd x r s * rd y d s := by
  funext i
  unfold at2
  pointwise
  refine Eq.trans ?_ (Finset.sum_range fun s => rd x (i 0).val s * rd y (i 1).val s).symm
  exact Finset.sum_congr rfl fun k _ => congrArg₂ (· * ·) (rd_at _ _ _ _ rfl rfl) (rd_at _ _ _ _ rfl rfl)

/-! ## The claims -/

theorem frame_words : Cert.quiescent_DParIn := fun m ρ _ => Cert.DParIn.Gen.frame (F := Bits) m ρ
theorem frame_ideal : Cert.quiescent_DParInIdeal := fun m ρ _ => Cert.DParInIdeal.Gen.frame (F := Ideal) m ρ
theorem frame_ref : Cert.quiescent_DParInRefIdeal := fun m ρ _ =>
  (θ_run Cert.DParInRefIdeal.defs _ _).mono (fun r h => ⟨fun c => (h c).2, sem_eq_zero_of_no_sems (by decide) r.2⟩) (Cert.DParInRefIdeal.Value.run (F := Ideal) m ρ)

theorem algebraic : Cert.algebraic_DParInIdeal_DParInRefIdeal := by
  intro m ρ m' ρ' _ hag
  refine ⟨fun c => at2 fun r d => ∑ s ∈ range 7168, A m c r s * B m c d s,
    (θ_run Cert.DParInIdeal.defs _ _).mono (fun r h c => ⟨(h c).1.trans (arr m c), (h c).2⟩) (Cert.DParInIdeal.Value.run_blocks (F := Ideal) m ρ),
    (θ_run Cert.DParInRefIdeal.defs _ _).mono (fun r h c => ⟨(h c).1.trans ?_, (h c).2⟩) (Cert.DParInRefIdeal.Value.run (F := Ideal) m' ρ')⟩
  obtain ⟨a0, a1⟩ := hag c
  rw [a0, a1]
  exact ref _ _

end Cert.DParInIdeal.Prod
-- ==== Proof.MmGSgIn.lean ====
module
public import proofs.«01_k».proof.Proof.Sums
public import proofs.«01_k».proof.Proof.Gen.GSgInIdeal.Value
public import proofs.«01_k».proof.Proof.Gen.GSgIn.Frame
public import proofs.«01_k».proof.Proof.Gen.GSgInRefIdeal.Run
public import proofs.«01_k».proof.Defs
public import Idealize.ShloMosaic.Lib.Pipeline.ValueKit
public import Idealize.ShloMosaic.Adequacy

@[expose] public section

/-! The gradient of the weight of the spatial gating's input projection: what each grid point leaves, and the array. -/

set_option maxRecDepth 16384

noncomputable section

namespace Cert.GSgInIdeal.Prod

open Cert.GSgInIdeal Cert.GSgInIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a : Memref sig .tc .vmem S1024x1024 .bf16) (ha : a.IsWhole) (b : Memref sig .tc .vmem S1024x1024 .bf16) (hb : b.IsWhole)
  (o : Memref sig .tc .vmem S1x1024x1024 .bf16) (ho : o.IsWhole) (s : Memref sig .tc .vmem S1024x1024 .f32) (hs : s.IsWhole)
  (x : Vec Ideal S1024x1024 .bf16) (y : Vec Ideal S1024x1024 .bf16) (z : Vec Ideal S1024x1024 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1024x1024) hz, View.ld_unit_zero (S := S1024x1024) hz, View.ld_unit_zero (S := S1024x1024) hz, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1024x1024) hz, View.ld_unit_zero (S := S1024x1024) hz, View.ld_unit_zero (S := S1024x1024) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1024x1024) hz, View.ld_unit_zero (S := S1024x1024) hz, View.ld_unit_zero (S := S1024x1024) hz, shapeCast_self]

theorem outC (h0 : ¬cond0_0 i) (h1 : cond0_1 i) (h2 : cond0_2 i) :
    out0_C_2 c i a ha b hb o ho s hs h0 h1 h2 x y z = k0_pay4 (F := Ideal) (k0_pay3 x y z) := by
  unfold out0_C_2
  rw [View.read_writes_eq_canon _ _ _ (cover0_C_2 c i a ha b hb o ho s hs h0 h1 h2 x y z)]
  unfold kernelRun0_C
  dsimp only
  sl_unfold_words
  rw [View.canon_unit_zero hz3, View.readCov_unit_zero (S := S1024x1024) _ hz]
  simp only [View.readAt_eq_ld, ha.read_unread, hb.read_unread, hs.read_unread, View.ld_unit_zero (S := S1024x1024) hz, View.ld_unit_zero (S := S1024x1024) hz, View.ld_unit_zero (S := S1024x1024) hz, shapeCast_self]

end

variable (f g : ℕ → ℕ → EReal) (z : ℕ → ℕ → EReal)

theorem pay2_at : k0_pay2 (F := Ideal) (at2 f) (at2 g) = at2 fun r d => ∑ k ∈ range 1024, f k r * g k d := by
  funext i
  unfold k0_pay2 k0_pay1 at2
  pointwise
  exact (Finset.sum_range fun k => f k (i 0).val * g k (i 1).val).symm

theorem pay3_at : k0_pay3 (F := Ideal) (at2 f) (at2 g) (at2 z) = at2 fun r d => z r d + ∑ k ∈ range 1024, f k r * g k d := by
  funext i
  unfold k0_pay3 k0_pay1 at2
  pointwise
  exact congrArg _ (Finset.sum_range fun k => f k (i 0).val * g k (i 1).val).symm

theorem pay4_at : k0_pay4 (F := Ideal) (at2 z) = at3 fun _ => z := by
  funext i
  unfold k0_pay4 at2 at3
  pointwise

theorem ixa : ∀ t : Fin cfg0.N, win0_0.index t (0 : Fin 2) = t.val % 4 ∧ win0_0.index t (1 : Fin 2) = t.val / 16 := (by decide +kernel : ∀ t : Fin grid0.N, _)
theorem ixb : ∀ t : Fin cfg0.N, win0_1.index t (0 : Fin 2) = t.val % 4 ∧ win0_1.index t (1 : Fin 2) = t.val / 4 % 4 := (by decide +kernel : ∀ t : Fin grid0.N, _)
theorem ixo : ∀ t : Fin cfg0.N, win0_2.index t (0 : Fin 3) = t.val / 4 % 4 ∧ win0_2.index t (1 : Fin 3) = t.val / 16 ∧ win0_2.index t (2 : Fin 3) = 0 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v1 = m ((c : Thread nD τ).loc main_arg1) := by
  simp only [V, List.flatten_cons, List.flatten_nil, List.append_nil, hostOps0, List.cons_append, List.nil_append]
  after_results_simp
  rfl

theorem blka (t : Fin cfg0.N) : (iblk m c 0 t : Vec Ideal S1024x1024 .bf16) = at2 fun k r => A m c (1024 * (t.val % 4) + k) (1024 * (t.val / 16) + r) := by
  funext i
  obtain ⟨e0, e1⟩ := ixa t
  show V m c main_v0 (((cfg0.win 0).blk t).view.emb i) = _
  rw [V_a]
  refine rd_at _ _ _ _ ?_ ?_
  · blk_simp [e0]; omega
  · blk_simp [e1]; omega

theorem blkb (t : Fin cfg0.N) : (iblk m c 1 t : Vec Ideal S1024x1024 .bf16) = at2 fun k d => B m c (1024 * (t.val % 4) + k) (1024 * (t.val / 4 % 4) + d) := by
  funext i
  obtain ⟨e0, e1⟩ := ixb t
  show V m c main_v1 (((cfg0.win 1).blk t).view.emb i) = _
  rw [V_b]
  refine rd_at _ _ _ _ ?_ ?_
  · blk_simp [e0]; omega
  · blk_simp [e1]; omega

/-- A term of an entry's sum in the block of run `q`. -/
abbrev term (q r d s : ℕ) : EReal := A m c s (1024 * (q / 4) + r) * B m c s (1024 * (q % 4) + d)

theorem run_q (n : ℕ) : n / 4 / 4 = n / 16 := by omega

theorem pt0 (t : Fin cfg0.N) (h : t.val % 4 = 0) : (outsAt0 (F := Ideal) m c t.val t.isLt).2 = at2 fun r d => ∑ k ∈ range 1024, term m c (t.val / 4) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 4 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1024, term m c (t.val / 4) r d (1024 * (t.val % 4) + k))
    ∧ (t.val % 4 = 3 → (outsAt0 (F := Ideal) m c t.val t.isLt).1 = at3 fun _ r d => a r d + ∑ k ∈ range 1024, term m c (t.val / 4) r d (1024 * (t.val % 4) + k)) := by
  have e : k0_pay3 (F := Ideal) (iblk m c 0 t) (iblk m c 1 t) (at2 a) = at2 fun r d => a r d + ∑ k ∈ range 1024, term m c (t.val / 4) r d (1024 * (t.val % 4) + k) := by
    rw [blka, blkb, pay3_at]
    simp only [term, run_q]
  by_cases h2 : t.val % 4 = 3
  · rw [outsAt0_C m c t h (by omega) h2, ih]
    dsimp only
    rw [scratchC, outC, e, pay4_at]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1024 * (n % 4) + 1024), term m c (n / 4) r d k :=
  acc_fold 4 1024 (term m c) _ (fun n h hm => pt0 m c ⟨n, h⟩ hm) fun n h a hm ih => (pt1 m c ⟨n, h⟩ a hm ih).1

/-- What the last point of a run writes out. -/
theorem out_val (t : Fin cfg0.N) (h : t.val % 4 = 3) : (outsAt0 (F := Ideal) m c t.val t.isLt).1 = at3 fun _ r d => ∑ k ∈ range 4096, term m c (t.val / 4) r d k := by
  rw [(pt1 m c t _ (by omega) (scratch_val m c _ _)).2 h]
  refine congrArg at3 (funext fun _ => funext fun r => funext fun d => ?_)
  rw [show (t.val - 1) / 4 = t.val / 4 by omega, show (t.val - 1) % 4 = 2 by omega, h]
  exact (Finset.sum_range_add (term m c (t.val / 4) r d) (1024 * 3) 1024).symm

/-- The array: the whole product, its columns in four blocks. -/
theorem arr : (dats (F := Ideal) m 0 c).arrAt 2 cfg0.N = (at3 fun p r d => ∑ s ∈ range 4096, A m c s r * B m c s (1024 * p + d)) := by
  refine (dats m 0 c).arrAt_eq_of_covers 2 _ (by decide +kernel) fun t hf y => ?_
  obtain ⟨e0, e1, e2⟩ := ixo t
  have hm := (flush0_2 t).mp hf
  blk_simp
  rw [after0_2, out_val m c t hm]
  have h0 := (y 0).isLt
  have a1 : ((((cfg0.win 2).blk t).view.emb y : S4x2048x1024.Idx) 1).val = 1024 * (t.val / 16) + (y 1).val := by
    blk_simp [e1]; omega
  have a2 : 1024 * ((((cfg0.win 2).blk t).view.emb y : S4x2048x1024.Idx) 0).val + ((((cfg0.win 2).blk t).view.emb y : S4x2048x1024.Idx) 2).val
      = 1024 * (t.val / 4 % 4) + (y 2).val := by
    blk_simp [e0, e2]
  unfold at3
  rw [a1]
  exact Eq.symm ((congrArg (fun q => ∑ s ∈ range 4096, A m c s (1024 * (t.val / 16) + (y 1).val) * B m c s q) a2).trans (by simp only [term, run_q]))

/-- The reference's result. -/
theorem ref (x : FVec Ideal Cert.GSgInRefIdeal.S4096x4096 .f32) (y : FVec Ideal Cert.GSgInRefIdeal.S4096x2048 .f32) :
    truncf .bf16 (transpose Cert.GSgInRefIdeal.S4x2048x1024 [1, 0, 2] (shapeCast Cert.GSgInRefIdeal.S2048x4x1024 (transpose Cert.GSgInRefIdeal.S2048x4096 [1, 0]
      (Host.dotGeneral (F := Ideal) Cert.GSgInRefIdeal.dot_S4096x4096_S4096x2048_S4096x2048_0_0_1_1_n_n none x y)
      Cert.GSgInRefIdeal.Gen.transposes_S4096x2048_S2048x4096_1_0) Cert.GSgInRefIdeal.Gen.shapeCasts_S2048x4096_S2048x4x1024)
      Cert.GSgInRefIdeal.Gen.transposes_S2048x4x1024_S4x2048x1024_1_0_2) Cert.GSgInRefIdeal.Gen.bitsLt_bf16_f32
      = at3 fun p r d => ∑ s ∈ range 4096, rd y s r * rd x s (1024 * p + d) := by
  funext i
  unfold at3
  pointwise
  refine Eq.trans ?_ (Finset.sum_range fun s => rd y s (i 1).val * rd x s (1024 * (i 0).val + (i 2).val)).symm
  exact Finset.sum_congr rfl fun k _ => (congrArg₂ (· * ·) (rd_at _ _ _ _ (by simp) (by simp; omega)) (rd_at _ _ _ _ (by simp) (by simp))).trans (mul_comm _ _)

/-! ## The claims -/

theorem frame_words : Cert.quiescent_GSgIn := fun m ρ _ => Cert.GSgIn.Gen.frame (F := Bits) m ρ
theorem frame_ideal : Cert.quiescent_GSgInIdeal := fun m ρ _ => Cert.GSgInIdeal.Gen.frame (F := Ideal) m ρ
theorem frame_ref : Cert.quiescent_GSgInRefIdeal := fun m ρ _ =>
  (θ_run Cert.GSgInRefIdeal.defs _ _).mono (fun r h => ⟨fun c => (h c).2, sem_eq_zero_of_no_sems (by decide) r.2⟩) (Cert.GSgInRefIdeal.Value.run (F := Ideal) m ρ)

theorem algebraic : Cert.algebraic_GSgInIdeal_GSgInRefIdeal := by
  intro m ρ m' ρ' _ hag
  refine ⟨fun c => at3 fun p r d => ∑ s ∈ range 4096, A m c s r * B m c s (1024 * p + d),
    (θ_run Cert.GSgInIdeal.defs _ _).mono (fun r h c => ⟨(h c).1.trans (arr m c), (h c).2⟩) (Cert.GSgInIdeal.Value.run_blocks (F := Ideal) m ρ),
    (θ_run Cert.GSgInRefIdeal.defs _ _).mono (fun r h c => ⟨(h c).1.trans ?_, (h c).2⟩) (Cert.GSgInRefIdeal.Value.run (F := Ideal) m' ρ')⟩
  obtain ⟨a0, a1⟩ := hag c
  rw [a0, a1]
  exact ref _ _

end Cert.GSgInIdeal.Prod
-- ==== Proof.MmDSgIn.lean ====
module
public import proofs.«01_k».proof.Proof.Sums
public import proofs.«01_k».proof.Proof.Gen.DSgInIdeal.Value
public import proofs.«01_k».proof.Proof.Gen.DSgIn.Frame
public import proofs.«01_k».proof.Proof.Gen.DSgInRefIdeal.Run
public import proofs.«01_k».proof.Defs
public import Idealize.ShloMosaic.Lib.Pipeline.ValueKit
public import Idealize.ShloMosaic.Adequacy

@[expose] public section

/-! The gradient of the input of the spatial gating's projection: what each grid point leaves, and the array. -/

set_option maxRecDepth 16384

noncomputable section

namespace Cert.DSgInIdeal.Prod

open Cert.DSgInIdeal Cert.DSgInIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a : Memref sig .tc .vmem S1024x1024 .bf16) (ha : a.IsWhole) (b : Memref sig .tc .vmem S1x1024x1024 .bf16) (hb : b.IsWhole)
  (o : Memref sig .tc .vmem S1024x1024 .f32) (ho : o.IsWhole) (s : Memref sig .tc .vmem S1024x1024 .f32) (hs : s.IsWhole)
  (x : Vec Ideal S1024x1024 .bf16) (y : Vec Ideal S1x1024x1024 .bf16) (z : Vec Ideal S1024x1024 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1024x1024) hz, View.ld_unit_zero (S := S1x1024x1024) hz3, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1024x1024) hz, View.ld_unit_zero (S := S1x1024x1024) hz3, View.ld_unit_zero (S := S1024x1024) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1024x1024) hz, View.ld_unit_zero (S := S1x1024x1024) hz3, View.ld_unit_zero (S := S1024x1024) hz, shapeCast_self]

theorem outC (h0 : ¬cond0_0 i) (h1 : cond0_1 i) (h2 : cond0_2 i) :
    out0_C_2 c i a ha b hb o ho s hs h0 h1 h2 x y z = k0_pay3 (F := Ideal) x y z := by
  unfold out0_C_2
  rw [View.read_writes_eq_canon _ _ _ (cover0_C_2 c i a ha b hb o ho s hs h0 h1 h2 x y z)]
  unfold kernelRun0_C
  dsimp only
  sl_unfold_words
  rw [View.canon_unit_zero hz, View.readCov_unit_zero (S := S1024x1024) _ hz]
  simp only [View.readAt_eq_ld, ha.read_unread, hb.read_unread, hs.read_unread, View.ld_unit_zero (S := S1024x1024) hz, View.ld_unit_zero (S := S1x1024x1024) hz3, View.ld_unit_zero (S := S1024x1024) hz, shapeCast_self]

end

variable (f g : ℕ → ℕ → EReal) (z : ℕ → ℕ → EReal)

theorem pay2_at : k0_pay2 (F := Ideal) (at2 f) (at3 fun _ => g) = at2 fun r d => ∑ k ∈ range 1024, f r k * g d k := by
  funext i
  unfold k0_pay2 k0_pay1 at2 at3
  pointwise
  exact (Finset.sum_range fun k => f (i 0).val k * g (i 1).val k).symm

theorem pay3_at : k0_pay3 (F := Ideal) (at2 f) (at3 fun _ => g) (at2 z) = at2 fun r d => z r d + ∑ k ∈ range 1024, f r k * g d k := by
  funext i
  unfold k0_pay3 k0_pay1 at2 at3
  pointwise
  exact congrArg _ (Finset.sum_range fun k => f (i 0).val k * g (i 1).val k).symm

theorem ixa : ∀ t : Fin cfg0.N, win0_0.index t (0 : Fin 2) = t.val / 8 ∧ win0_0.index t (1 : Fin 2) = t.val % 4 := (by decide +kernel : ∀ t : Fin grid0.N, _)
theorem ixb : ∀ t : Fin cfg0.N, win0_1.index t (0 : Fin 3) = t.val % 4 ∧ win0_1.index t (1 : Fin 3) = t.val / 4 % 2 ∧ win0_1.index t (2 : Fin 3) = 0 := (by decide +kernel : ∀ t : Fin grid0.N, _)
theorem ixo : ∀ t : Fin cfg0.N, win0_2.index t (0 : Fin 2) = t.val / 8 ∧ win0_2.index t (1 : Fin 2) = t.val / 4 % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg1))
@[inherit_doc A] abbrev B : ℕ → ℕ → EReal := rd (m ((c : Thread nD τ).loc main_arg0))

theorem V_a : V m c main_v0 = m ((c : Thread nD τ).loc main_arg1) := by
  simp only [V, List.flatten_cons, List.flatten_nil, List.append_nil, hostOps0, List.cons_append, List.nil_append]
  after_results_simp
  rfl
theorem V_b : V m c main_v3 = at3 fun p r x => B m c r (1024 * p + x) := by
  simp only [V, List.flatten_cons, List.flatten_nil, List.append_nil, hostOps0, List.cons_append, List.nil_append]
  after_results_simp
  funext i
  unfold at3
  pointwise
  refine rd_at _ _ _ _ ?_ ?_
  · simp
  · simp; omega

theorem blka (t : Fin cfg0.N) : (iblk m c 0 t : Vec Ideal S1024x1024 .bf16) = at2 fun r k => A m c (1024 * (t.val / 8) + r) (1024 * (t.val % 4) + k) := by
  funext i
  obtain ⟨e0, e1⟩ := ixa t
  show V m c main_v0 (((cfg0.win 0).blk t).view.emb i) = _
  rw [V_a]
  refine rd_at _ _ _ _ ?_ ?_
  · blk_simp [e0]; omega
  · blk_simp [e1]; omega

theorem blkb (t : Fin cfg0.N) : (iblk m c 1 t : Vec Ideal S1x1024x1024 .bf16) = at3 fun _ d k => B m c (1024 * (t.val / 4 % 2) + d) (1024 * (t.val % 4) + k) := by
  funext i
  obtain ⟨e0, e1, e2⟩ := ixb t
  show V m c main_v3 (((cfg0.win 1).blk t).view.emb i) = _
  rw [V_b]
  have h0 := (i 0).isLt
  unfold at3
  refine congrArg₂ (B m c) ?_ ?_
  · blk_simp [e0, e1, e2]; omega
  · blk_simp [e0, e1, e2]

/-- A term of an entry's sum in the block of run `q`. -/
abbrev term (q r d s : ℕ) : EReal := A m c (1024 * (q / 2) + r) s * B m c (1024 * (q % 2) + d) s

theorem run_q (n : ℕ) : n / 4 / 2 = n / 8 := by omega

theorem pt0 (t : Fin cfg0.N) (h : t.val % 4 = 0) : (outsAt0 (F := Ideal) m c t.val t.isLt).2 = at2 fun r d => ∑ k ∈ range 1024, term m c (t.val / 4) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 4 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1024, term m c (t.val / 4) r d (1024 * (t.val % 4) + k))
    ∧ (t.val % 4 = 3 → (outsAt0 (F := Ideal) m c t.val t.isLt).1 = at2 fun r d => a r d + ∑ k ∈ range 1024, term m c (t.val / 4) r d (1024 * (t.val % 4) + k)) := by
  have e : k0_pay3 (F := Ideal) (iblk m c 0 t) (iblk m c 1 t) (at2 a) = at2 fun r d => a r d + ∑ k ∈ range 1024, term m c (t.val / 4) r d (1024 * (t.val % 4) + k) := by
    rw [blka, blkb, pay3_at]
    simp only [term, run_q]
  by_cases h2 : t.val % 4 = 3
  · rw [outsAt0_C m c t h (by omega) h2, ih]
    dsimp only
    rw [scratchC, outC, e]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1024 * (n % 4) + 1024), term m c (n / 4) r d k :=
  acc_fold 4 1024 (term m c) _ (fun n h hm => pt0 m c ⟨n, h⟩ hm) fun n h a hm ih => (pt1 m c ⟨n, h⟩ a hm ih).1

/-- What the last point of a run writes out. -/
theorem out_val (t : Fin cfg0.N) (h : t.val % 4 = 3) : (outsAt0 (F := Ideal) m c t.val t.isLt).1 = at2 fun r d => ∑ k ∈ range 4096, term m c (t.val / 4) r d k := by
  rw [(pt1 m c t _ (by omega) (scratch_val m c _ _)).2 h]
  refine congrArg at2 (funext fun r => funext fun d => ?_)
  rw [show (t.val - 1) / 4 = t.val / 4 by omega, show (t.val - 1) % 4 = 2 by omega, h]
  exact (Finset.sum_range_add (term m c (t.val / 4) r d) (1024 * 3) 1024).symm

/-- The array: the whole product. -/
theorem arr : (dats (F := Ideal) m 0 c).arrAt 2 cfg0.N = (at2 fun r d => ∑ s ∈ range 4096, A m c r s * B m c d s) := by
  refine (dats m 0 c).arrAt_eq_of_covers 2 _ (by decide +kernel) fun t hf y => ?_
  obtain ⟨e0, e1⟩ := ixo t
  have hm := (flush0_2 t).mp hf
  blk_simp
  rw [after0_2, out_val m c t hm]
  have a0 : ((((cfg0.win 2).blk t).view.emb y : S4096x2048.Idx) 0).val = 1024 * (t.val / 8) + (y 0).val := by
    blk_simp [e0]; omega
  have a1 : ((((cfg0.win 2).blk t).view.emb y : S4096x2048.Idx) 1).val = 1024 * (t.val / 4 % 2) + (y 1).val := by
    blk_simp [e1]; omega
  unfold at2
  rw [a0, a1]
  simp only [term, run_q]

/-- The reference's result. -/
theorem ref (x : FVec Ideal Cert.DSgInRefIdeal.S4096x4096 .f32) (y : FVec Ideal Cert.DSgInRefIdeal.S2048x4096 .f32) :
    Host.dotGeneral (F := Ideal) Cert.DSgInRefIdeal.dot_S4096x4096_S2048x4096_S4096x2048_1_1_0_0_n_n none x y = at2 fun r d => ∑ s ∈ range 4096, rd x r s * rd y d s := by
  funext i
  unfold at2
  pointwise
  refine Eq.trans ?_ (Finset.sum_range fun s => rd x (i 0).val s * rd y (i 1).val s).symm
  exact Finset.sum_congr rfl fun k _ => congrArg₂ (· * ·) (rd_at _ _ _ _ rfl rfl) (rd_at _ _ _ _ rfl rfl)

/-! ## The claims -/

theorem frame_words : Cert.quiescent_DSgIn := fun m ρ _ => Cert.DSgIn.Gen.frame (F := Bits) m ρ
theorem frame_ideal : Cert.quiescent_DSgInIdeal := fun m ρ _ => Cert.DSgInIdeal.Gen.frame (F := Ideal) m ρ
theorem frame_ref : Cert.quiescent_DSgInRefIdeal := fun m ρ _ =>
  (θ_run Cert.DSgInRefIdeal.defs _ _).mono (fun r h => ⟨fun c => (h c).2, sem_eq_zero_of_no_sems (by decide) r.2⟩) (Cert.DSgInRefIdeal.Value.run (F := Ideal) m ρ)

theorem algebraic : Cert.algebraic_DSgInIdeal_DSgInRefIdeal := by
  intro m ρ m' ρ' _ hag
  refine ⟨fun c => at2 fun r d => ∑ s ∈ range 4096, A m c r s * B m c d s,
    (θ_run Cert.DSgInIdeal.defs _ _).mono (fun r h c => ⟨(h c).1.trans (arr m c), (h c).2⟩) (Cert.DSgInIdeal.Value.run_blocks (F := Ideal) m ρ),
    (θ_run Cert.DSgInRefIdeal.defs _ _).mono (fun r h c => ⟨(h c).1.trans ?_, (h c).2⟩) (Cert.DSgInRefIdeal.Value.run (F := Ideal) m' ρ')⟩
  obtain ⟨a0, a1⟩ := hag c
  rw [a0, a1]
  exact ref _ _

end Cert.DSgInIdeal.Prod
-- ==== Proof.MmGOut.lean ====
module
public import proofs.«01_k».proof.Proof.Sums
public import proofs.«01_k».proof.Proof.Gen.GOutIdeal.Value
public import proofs.«01_k».proof.Proof.Gen.GOut.Frame
public import proofs.«01_k».proof.Proof.Gen.GOutRefIdeal.Run
public import proofs.«01_k».proof.Defs
public import Idealize.ShloMosaic.Lib.Pipeline.ValueKit
public import Idealize.ShloMosaic.Adequacy

@[expose] public section

/-! The gradient of an output projection's weight: what each grid point leaves, and the array. -/

set_option maxRecDepth 16384

noncomputable section

namespace Cert.GOutIdeal.Prod

open Cert.GOutIdeal Cert.GOutIdeal.Gen Idealize.ShloMosaic Idealize.ShloMosaic.TcCoe
open Cert.Prod
open Idealize.SL.Sem
open Finset (range)

theorem hz : (![0, 0] : Fin 2 → Nat) = fun _ => 0 := funext fun a => by fin_cases a <;> rfl

section
variable (c : Dev nD) (i : grid0.Coords) (a : Memref sig .tc .vmem S1024x1024 .bf16) (ha : a.IsWhole) (b : Memref sig .tc .vmem S1024x1024 .bf16) (hb : b.IsWhole)
  (o : Memref sig .tc .vmem S1024x1024 .bf16) (ho : o.IsWhole) (s : Memref sig .tc .vmem S1024x1024 .f32) (hs : s.IsWhole)
  (x : Vec Ideal S1024x1024 .bf16) (y : Vec Ideal S1024x1024 .bf16) (z : Vec Ideal S1024x1024 .f32)

theorem scratchA (h0 : cond0_0 i) (h1 : ¬cond0_1 i) (h2 : ¬cond0_2 i) :
    sout0_A_0 c i a ha b hb o ho s hs h0 h1 h2 x y = k0_pay2 (F := Ideal) x y := by
  unfold sout0_A_0
  rw [View.read_writes_eq_canon _ _ _ (scover0_A_0 c i a ha b hb o ho s hs h0 h1 h2 x y)]
  unfold kernelRun0_A
  dsimp only
  sl_unfold_words
  rw [View.canon_unit_zero hz]
  simp only [View.readAt_eq_ld, ha.read_unread, hb.read_unread, View.ld_unit_zero (S := S1024x1024) hz, View.ld_unit_zero (S := S1024x1024) hz, View.ld_unit_zero (S := S1024x1024) hz, shapeCast_self]

theorem scratchB (h0 : ¬cond0_0 i) (h1 : cond0_1 i) (h2 : ¬cond0_2 i) :
    sout0_B_0 c i a ha b hb o ho s hs h0 h1 h2 x y z = k0_pay3 (F := Ideal) x y z := by
  unfold sout0_B_0
  rw [View.read_writes_eq_canon _ _ _ (scover0_B_0 c i a ha b hb o ho s hs h0 h1 h2 x y z)]
  unfold kernelRun0_B
  dsimp only
  sl_unfold_words
  rw [View.canon_unit_zero hz]
  simp only [View.readAt_eq_ld, ha.read_unread, hb.read_unread, hs.read_unread, View.ld_unit_zero (S := S1024x1024) hz, View.ld_unit_zero (S := S1024x1024) hz, View.ld_unit_zero (S := S1024x1024) hz, shapeCast_self]

theorem scratchC (h0 : ¬cond0_0 i) (h1 : cond0_1 i) (h2 : cond0_2 i) :
    sout0_C_0 c i a ha b hb o ho s hs h0 h1 h2 x y z = k0_pay3 (F := Ideal) x y z := by
  unfold sout0_C_0
  rw [View.read_writes_eq_canon _ _ _ (scover0_C_0 c i a ha b hb o ho s hs h0 h1 h2 x y z)]
  unfold kernelRun0_C
  dsimp only
  sl_unfold_words
  rw [View.canon_unit_zero hz]
  simp only [View.readAt_eq_ld, ha.read_unread, hb.read_unread, hs.read_unread, View.ld_unit_zero (S := S1024x1024) hz, View.ld_unit_zero (S := S1024x1024) hz, View.ld_unit_zero (S := S1024x1024) hz, shapeCast_self]

theorem outC (h0 : ¬cond0_0 i) (h1 : cond0_1 i) (h2 : cond0_2 i) :
    out0_C_2 c i a ha b hb o ho s hs h0 h1 h2 x y z = k0_pay4 (F := Ideal) (k0_pay3 x y z) := by
  unfold out0_C_2
  rw [View.read_writes_eq_canon _ _ _ (cover0_C_2 c i a ha b hb o ho s hs h0 h1 h2 x y z)]
  unfold kernelRun0_C
  dsimp only
  sl_unfold_words
  rw [View.canon_unit_zero hz, View.readCov_unit_zero (S := S1024x1024) _ hz]
  simp only [View.readAt_eq_ld, ha.read_unread, hb.read_unread, hs.read_unread, View.ld_unit_zero (S := S1024x1024) hz, View.ld_unit_zero (S := S1024x1024) hz, View.ld_unit_zero (S := S1024x1024) hz, shapeCast_self]

end

variable (f g : ℕ → ℕ → EReal) (z : ℕ → ℕ → EReal)

theorem pay2_at : k0_pay2 (F := Ideal) (at2 f) (at2 g) = at2 fun r d => ∑ k ∈ range 1024, f k r * g k d := by
  funext i
  unfold k0_pay2 k0_pay1 at2
  pointwise
  exact (Finset.sum_range fun k => f k (i 0).val * g k (i 1).val).symm

theorem pay3_at : k0_pay3 (F := Ideal) (at2 f) (at2 g) (at2 z) = at2 fun r d => z r d + ∑ k ∈ range 1024, f k r * g k d := by
  funext i
  unfold k0_pay3 k0_pay1 at2
  pointwise
  exact congrArg _ (Finset.sum_range fun k => f k (i 0).val * g k (i 1).val).symm

theorem pay4_at : k0_pay4 (F := Ideal) (at2 z) = at2 z := by
  funext i
  unfold k0_pay4
  pointwise

theorem ixa : ∀ t : Fin cfg0.N, win0_0.index t (0 : Fin 2) = t.val % 4 ∧ win0_0.index t (1 : Fin 2) = t.val / 8 := (by decide +kernel : ∀ t : Fin grid0.N, _)
theorem ixb : ∀ t : Fin cfg0.N, win0_1.index t (0 : Fin 2) = t.val % 4 ∧ win0_1.index t (1 : Fin 2) = t.val / 4 % 2 := (by decide +kernel : ∀ t : Fin grid0.N, _)
theorem ixo : ∀ t : Fin cfg0.N, win0_2.index t (0 : Fin 2) = t.val / 8 ∧ win0_2.index t (1 : Fin 2) = t.val / 4 % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v1 = m ((c : Thread nD τ).loc main_arg1) := by
  simp only [V, List.flatten_cons, List.flatten_nil, List.append_nil, hostOps0, List.cons_append, List.nil_append]
  after_results_simp
  rfl

theorem blka (t : Fin cfg0.N) : (iblk m c 0 t : Vec Ideal S1024x1024 .bf16) = at2 fun k r => A m c (1024 * (t.val % 4) + k) (1024 * (t.val / 8) + r) := by
  funext i
  obtain ⟨e0, e1⟩ := ixa t
  show V m c main_v0 (((cfg0.win 0).blk t).view.emb i) = _
  rw [V_a]
  refine rd_at _ _ _ _ ?_ ?_
  · blk_simp [e0]; omega
  · blk_simp [e1]; omega

theorem blkb (t : Fin cfg0.N) : (iblk m c 1 t : Vec Ideal S1024x1024 .bf16) = at2 fun k d => B m c (1024 * (t.val % 4) + k) (1024 * (t.val / 4 % 2) + d) := by
  funext i
  obtain ⟨e0, e1⟩ := ixb t
  show V m c main_v1 (((cfg0.win 1).blk t).view.emb i) = _
  rw [V_b]
  refine rd_at _ _ _ _ ?_ ?_
  · blk_simp [e0]; omega
  · blk_simp [e1]; omega

/-- A term of an entry's sum in the block of run `q`. -/
abbrev term (q r d s : ℕ) : EReal := A m c s (1024 * (q / 2) + r) * B m c s (1024 * (q % 2) + d)

theorem run_q (n : ℕ) : n / 4 / 2 = n / 8 := by omega

theorem pt0 (t : Fin cfg0.N) (h : t.val % 4 = 0) : (outsAt0 (F := Ideal) m c t.val t.isLt).2 = at2 fun r d => ∑ k ∈ range 1024, term m c (t.val / 4) r d k := by
  rw [outsAt0_A m c t h (by omega) (by omega)]
  dsimp only
  rw [scratchA, blka, blkb, pay2_at, h, Nat.mul_zero]
  simp only [Nat.zero_add, term, run_q]

theorem pt1 (t : Fin cfg0.N) (a : ℕ → ℕ → EReal) (h : ¬t.val % 4 = 0)
    (ih : (outsAt0 (F := Ideal) m c (t.val - 1) (Nat.lt_of_le_of_lt (Nat.sub_le _ _) t.isLt)).2 = at2 a) :
    (outsAt0 (F := Ideal) m c t.val t.isLt).2 = (at2 fun r d => a r d + ∑ k ∈ range 1024, term m c (t.val / 4) r d (1024 * (t.val % 4) + k))
    ∧ (t.val % 4 = 3 → (outsAt0 (F := Ideal) m c t.val t.isLt).1 = at2 fun r d => a r d + ∑ k ∈ range 1024, term m c (t.val / 4) r d (1024 * (t.val % 4) + k)) := by
  have e : k0_pay3 (F := Ideal) (iblk m c 0 t) (iblk m c 1 t) (at2 a) = at2 fun r d => a r d + ∑ k ∈ range 1024, term m c (t.val / 4) r d (1024 * (t.val % 4) + k) := by
    rw [blka, blkb, pay3_at]
    simp only [term, run_q]
  by_cases h2 : t.val % 4 = 3
  · rw [outsAt0_C m c t h (by omega) h2, ih]
    dsimp only
    rw [scratchC, outC, e, pay4_at]
    exact ⟨rfl, fun _ => rfl⟩
  · rw [outsAt0_B m c t h (by omega) h2, ih]
    dsimp only
    rw [scratchB, e]
    exact ⟨rfl, fun h3 => absurd h3 h2⟩

/-- What the accumulator holds after point `n`. -/
theorem scratch_val : ∀ n (h : n < cfg0.N), (outsAt0 (F := Ideal) m c n h).2 = at2 fun r d => ∑ k ∈ range (1024 * (n % 4) + 1024), term m c (n / 4) r d k :=
  acc_fold 4 1024 (term m c) _ (fun n h hm => pt0 m c ⟨n, h⟩ hm) fun n h a hm ih => (pt1 m c ⟨n, h⟩ a hm ih).1

/-- What the last point of a run writes out. -/
theorem out_val (t : Fin cfg0.N) (h : t.val % 4 = 3) : (outsAt0 (F := Ideal) m c t.val t.isLt).1 = at2 fun r d => ∑ k ∈ range 4096, term m c (t.val / 4) r d k := by
  rw [(pt1 m c t _ (by omega) (scratch_val m c _ _)).2 h]
  refine congrArg at2 (funext fun r => funext fun d => ?_)
  rw [show (t.val - 1) / 4 = t.val / 4 by omega, show (t.val - 1) % 4 = 2 by omega, h]
  exact (Finset.sum_range_add (term m c (t.val / 4) r d) (1024 * 3) 1024).symm

/-- The array: the whole product. -/
theorem arr : (dats (F := Ideal) m 0 c).arrAt 2 cfg0.N = (at2 fun r d => ∑ s ∈ range 4096, A m c s r * B m c s d) := by
  refine (dats m 0 c).arrAt_eq_of_covers 2 _ (by decide +kernel) fun t hf y => ?_
  obtain ⟨e0, e1⟩ := ixo t
  have hm := (flush0_2 t).mp hf
  blk_simp
  rw [after0_2, out_val m c t hm]
  have a0 : ((((cfg0.win 2).blk t).view.emb y : S2048x2048.Idx) 0).val = 1024 * (t.val / 8) + (y 0).val := by
    blk_simp [e0]; omega
  have a1 : ((((cfg0.win 2).blk t).view.emb y : S2048x2048.Idx) 1).val = 1024 * (t.val / 4 % 2) + (y 1).val := by
    blk_simp [e1]; omega
  unfold at2
  rw [a0, a1]
  simp only [term, run_q]

/-- The reference's result. -/
theorem ref (x : FVec Ideal Cert.GOutRefIdeal.S4096x2048 .f32) (y : FVec Ideal Cert.GOutRefIdeal.S4096x2048 .f32) :
    truncf .bf16 (transpose Cert.GOutRefIdeal.S2048x2048 [1, 0] (Host.dotGeneral (F := Ideal) Cert.GOutRefIdeal.dot_S4096x2048_S4096x2048_S2048x2048_0_0_1_1_n_n none x y)
      Cert.GOutRefIdeal.Gen.transposes_S2048x2048_S2048x2048_1_0) Cert.GOutRefIdeal.Gen.bitsLt_bf16_f32 = at2 fun r d => ∑ s ∈ range 4096, rd y s r * rd x s d := by
  funext i
  unfold at2
  pointwise
  refine Eq.trans ?_ (Finset.sum_range fun s => rd y s (i 0).val * rd x s (i 1).val).symm
  exact Finset.sum_congr rfl fun k _ => (congrArg₂ (· * ·) (rd_at _ _ _ _ rfl rfl) (rd_at _ _ _ _ rfl rfl)).trans (mul_comm _ _)

/-! ## The claims -/

theorem frame_words : Cert.quiescent_GOut := fun m ρ _ => Cert.GOut.Gen.frame (F := Bits) m ρ
theorem frame_ideal : Cert.quiescent_GOutIdeal := fun m ρ _ => Cert.GOutIdeal.Gen.frame (F := Ideal) m ρ
theorem frame_ref : Cert.quiescent_GOutRefIdeal := fun m ρ _ =>
  (θ_run Cert.GOutRefIdeal.defs _ _).mono (fun r h => ⟨fun c => (h c).2, sem_eq_zero_of_no_sems (by decide) r.2⟩) (Cert.GOutRefIdeal.Value.run (F := Ideal) m ρ)

theorem algebraic : Cert.algebraic_GOutIdeal_GOutRefIdeal := by
  intro m ρ m' ρ' _ hag
  refine ⟨fun c => at2 fun r d => ∑ s ∈ range 4096, A m c s r * B m c s d,
    (θ_run Cert.GOutIdeal.defs _ _).mono (fun r h c => ⟨(h c).1.trans (arr m c), (h c).2⟩) (Cert.GOutIdeal.Value.run_blocks (F := Ideal) m ρ),
    (θ_run Cert.GOutRefIdeal.defs _ _).mono (fun r h c => ⟨(h c).1.trans ?_, (h c).2⟩) (Cert.GOutRefIdeal.Value.run (F := Ideal) m' ρ')⟩
  obtain ⟨a0, a1⟩ := hag c
  rw [a0, a1]
  exact ref _ _

end Cert.GOutIdeal.Prod
-- ==== Proof.MmDOut.lean ====
module
public import proofs.«01_k».proof.Proof.Sums
public import proofs.«01_k».proof.Proof.Gen.DOutIdeal.Value
public import proofs.«01_k».proof.Proof.Gen.DOut.Frame
public import proofs.«01_k».proof.Proof.Gen.DOutRefIdeal.Run
public import proofs.«01_k».proof.Defs
public import Idealize.ShloMosaic.Lib.Pipeline.ValueKit
public import Idealize.ShloMosaic.Adequacy

@[expose] public section

/-! The gradient of an output projection's input: what each grid point leaves, and the array. -/

set_option maxRecDepth 16384

noncomputable section

namespace Cert.DOutIdeal.Prod

open Cert.DOutIdeal Cert.DOutIdeal.Gen Idealize.ShloMosaic Idealize.ShloMosaic.TcCoe
open Cert.Prod
open Idealize.SL.Sem
open Finset (range)

theorem hz : (![0, 0] : Fin 2 → Nat) = fun _ => 0 := funext fun a => by fin_cases a <;> rfl

theorem out_at (f g : ℕ → ℕ → EReal) : out0_2 (F := Ideal) (at2 f) (at2 g) = at2 fun r d => ∑ k ∈ range 2048, f r k * g d k := by
  unfold out0_2
  rw [View.canon_unit_zero hz]
  simp only [View.ld_unit_zero (S := S1024x2048) hz, View.ld_unit_zero (S := S1024x2048) hz]
  funext i
  unfold k0_pay1 at2
  pointwise
  exact (Finset.sum_range fun k => f (i 0).val k * g (i 1).val k).symm

theorem ixa : ∀ t : Fin cfg0.N, win0_0.index t (0 : Fin 2) = t.val / 2 ∧ win0_0.index t (1 : Fin 2) = 0 := (by decide +kernel : ∀ t : Fin grid0.N, _)
theorem ixb : ∀ t : Fin cfg0.N, win0_1.index t (0 : Fin 2) = t.val % 2 ∧ win0_1.index t (1 : Fin 2) = 0 := (by decide +kernel : ∀ t : Fin grid0.N, _)
theorem ixo : ∀ t : Fin cfg0.N, win0_2.index t (0 : Fin 2) = t.val / 2 ∧ win0_2.index t (1 : Fin 2) = t.val % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg1))
@[inherit_doc A] abbrev B : ℕ → ℕ → EReal := rd (m ((c : Thread nD τ).loc main_arg0))

theorem V_a : V m c main_v0 = m ((c : Thread nD τ).loc main_arg1) := by
  simp only [V, List.flatten_cons, List.flatten_nil, List.append_nil, hostOps0, List.cons_append, List.nil_append]
  after_results_simp
  rfl
theorem V_b : V m c main_v1 = m ((c : Thread nD τ).loc main_arg0) := by
  simp only [V, List.flatten_cons, List.flatten_nil, List.append_nil, hostOps0, List.cons_append, List.nil_append]
  after_results_simp
  rfl

theorem blka (t : Fin cfg0.N) : (iblk m c 0 t : Vec Ideal S1024x2048 .bf16) = at2 fun r k => A m c (1024 * (t.val / 2) + r) k := by
  funext i
  obtain ⟨e0, e1⟩ := ixa t
  show V m c main_v0 (((cfg0.win 0).blk t).view.emb i) = _
  rw [V_a]
  refine rd_at _ _ _ _ ?_ ?_
  · blk_simp [e0]; omega
  · blk_simp [e1]

theorem blkb (t : Fin cfg0.N) : (iblk m c 1 t : Vec Ideal S1024x2048 .bf16) = at2 fun d k => B m c (1024 * (t.val % 2) + d) k := by
  funext i
  obtain ⟨e0, e1⟩ := ixb t
  show V m c main_v1 (((cfg0.win 1).blk t).view.emb i) = _
  rw [V_b]
  refine rd_at _ _ _ _ ?_ ?_
  · blk_simp [e0]; omega
  · blk_simp [e1]

/-- The array: the whole product. -/
theorem arr : (dats (F := Ideal) m 0 c).arrAt 2 cfg0.N = (at2 fun r d => ∑ s ∈ range 2048, A m c r s * B m c d s) := by
  refine (dats m 0 c).arrAt_eq_of_covers 2 _ (by decide +kernel) fun t hf y => ?_
  obtain ⟨e0, e1⟩ := ixo t
  blk_simp
  rw [after0_2, blka, blkb, out_at]
  have a0 : ((((cfg0.win 2).blk t).view.emb y : S4096x2048.Idx) 0).val = 1024 * (t.val / 2) + (y 0).val := by
    blk_simp [e0]; omega
  have a1 : ((((cfg0.win 2).blk t).view.emb y : S4096x2048.Idx) 1).val = 1024 * (t.val % 2) + (y 1).val := by
    blk_simp [e1]; omega
  unfold at2
  rw [a0, a1]

/-- The reference's result. -/
theorem ref (x : FVec Ideal Cert.DOutRefIdeal.S4096x2048 .f32) (y : FVec Ideal Cert.DOutRefIdeal.S2048x2048 .f32) :
    Host.dotGeneral (F := Ideal) Cert.DOutRefIdeal.dot_S4096x2048_S2048x2048_S4096x2048_1_1_0_0_n_n none x y = at2 fun r d => ∑ s ∈ range 2048, rd x r s * rd y d s := by
  funext i
  unfold at2
  pointwise
  refine Eq.trans ?_ (Finset.sum_range fun s => rd x (i 0).val s * rd y (i 1).val s).symm
  exact Finset.sum_congr rfl fun k _ => congrArg₂ (· * ·) (rd_at _ _ _ _ rfl rfl) (rd_at _ _ _ _ rfl rfl)

/-! ## The claims -/

theorem frame_words : Cert.quiescent_DOut := fun m ρ _ => Cert.DOut.Gen.frame (F := Bits) m ρ
theorem frame_ideal : Cert.quiescent_DOutIdeal := fun m ρ _ => Cert.DOutIdeal.Gen.frame (F := Ideal) m ρ
theorem frame_ref : Cert.quiescent_DOutRefIdeal := fun m ρ _ =>
  (θ_run Cert.DOutRefIdeal.defs _ _).mono (fun r h => ⟨fun c => (h c).2, sem_eq_zero_of_no_sems (by decide) r.2⟩) (Cert.DOutRefIdeal.Value.run (F := Ideal) m ρ)

theorem algebraic : Cert.algebraic_DOutIdeal_DOutRefIdeal := by
  intro m ρ m' ρ' _ hag
  refine ⟨fun c => at2 fun r d => ∑ s ∈ range 2048, A m c r s * B m c d s,
    (θ_run Cert.DOutIdeal.defs _ _).mono (fun r h c => ⟨(h c).1.trans (arr m c), (h c).2⟩) (Cert.DOutIdeal.Value.run_blocks (F := Ideal) m ρ),
    (θ_run Cert.DOutRefIdeal.defs _ _).mono (fun r h c => ⟨(h c).1.trans ?_, (h c).2⟩) (Cert.DOutRefIdeal.Value.run (F := Ideal) m' ρ')⟩
  obtain ⟨a0, a1⟩ := hag c
  rw [a0, a1]
  exact ref _ _

end Cert.DOutIdeal.Prod
-- ==== Proof.MmParIn.lean ====
module
public import proofs.«01_k».proof.Proof.Sums
public import proofs.«01_k».proof.Proof.Gen.ParInIdeal.Value
public import proofs.«01_k».proof.Proof.Gen.ParIn.Frame
public import proofs.«01_k».proof.Proof.Gen.ParInRefIdeal.Run
public import proofs.«01_k».proof.Defs
public import Idealize.ShloMosaic.Lib.Pipeline.ValueKit
public import Idealize.ShloMosaic.Adequacy

@[expose] public section

/-! The product of the rows with the input projection of the parallel mixers: what each grid point leaves, and the array. -/

set_option maxRecDepth 16384

noncomputable section

namespace Cert.ParInIdeal.Prod

open Cert.ParInIdeal Cert.ParInIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

theorem out_at (f g : ℕ → ℕ → EReal) : out0_2 (F := Ideal) (at2 f) (at3 fun _ => g) = at2 fun r d => ∑ k ∈ range 2048, f r k * g k d := by
  unfold out0_2
  rw [View.canon_unit_zero hz]
  simp only [View.ld_unit_zero (S := S1024x2048) hz, View.ld_unit_zero (S := S1x2048x896) hz3]
  funext i
  unfold k0_pay1 at2 at3
  pointwise
  exact (Finset.sum_range fun k => f (i 0).val k * g k (i 1).val).symm

theorem ixa : ∀ t : Fin cfg0.N, win0_0.index t (0 : Fin 2) = t.val / 8 ∧ win0_0.index t (1 : Fin 2) = 0 := (by decide +kernel : ∀ t : Fin grid0.N, _)
theorem ixb : ∀ t : Fin cfg0.N, win0_1.index t (0 : Fin 3) = t.val % 8 / 2 ∧ win0_1.index t (1 : Fin 3) = 0 ∧ win0_1.index t (2 : Fin 3) = t.val % 2 := (by decide +kernel : ∀ t : Fin grid0.N, _)
theorem ixo : ∀ t : Fin cfg0.N, win0_2.index t (0 : Fin 2) = t.val / 8 ∧ win0_2.index t (1 : Fin 2) = t.val % 8 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v3 = at3 fun p r x => B m c r (1792 * p + x) := by
  simp only [V, List.flatten_cons, List.flatten_nil, List.append_nil, hostOps0, List.cons_append, List.nil_append]
  after_results_simp
  funext i
  unfold at3
  pointwise
  refine rd_at _ _ _ _ ?_ ?_
  · simp
  · simp; omega

theorem blka (t : Fin cfg0.N) : (iblk m c 0 t : Vec Ideal S1024x2048 .bf16) = at2 fun r k => A m c (1024 * (t.val / 8) + r) k := by
  funext i
  obtain ⟨e0, e1⟩ := ixa t
  show V m c main_v0 (((cfg0.win 0).blk t).view.emb i) = _
  rw [V_a]
  refine rd_at _ _ _ _ ?_ ?_
  · blk_simp [e0]; omega
  · blk_simp [e1]

theorem blkb (t : Fin cfg0.N) : (iblk m c 1 t : Vec Ideal S1x2048x896 .bf16) = at3 fun _ k d => B m c k (896 * (t.val % 8) + d) := by
  funext i
  obtain ⟨e0, e1, e2⟩ := ixb t
  show V m c main_v3 (((cfg0.win 1).blk t).view.emb i) = _
  rw [V_b]
  have h0 := (i 0).isLt
  unfold at3
  refine congrArg₂ (B m c) ?_ ?_
  · blk_simp [e0, e1, e2]
  · blk_simp [e0, e1, e2]; omega

/-- The array: the whole product. -/
theorem arr : (dats (F := Ideal) m 0 c).arrAt 2 cfg0.N = (at2 fun r d => ∑ s ∈ range 2048, A m c r s * B m c s d) := by
  refine (dats m 0 c).arrAt_eq_of_covers 2 _ (by decide +kernel) fun t hf y => ?_
  obtain ⟨e0, e1⟩ := ixo t
  blk_simp
  rw [after0_2, blka, blkb, out_at]
  have a0 : ((((cfg0.win 2).blk t).view.emb y : S4096x7168.Idx) 0).val = 1024 * (t.val / 8) + (y 0).val := by
    blk_simp [e0]; omega
  have a1 : ((((cfg0.win 2).blk t).view.emb y : S4096x7168.Idx) 1).val = 896 * (t.val % 8) + (y 1).val := by
    blk_simp [e1]; omega
  unfold at2
  rw [a0, a1]

/-- The reference's result. -/
theorem ref (x : FVec Ideal Cert.ParInRefIdeal.S4096x2048 .f32) (y : FVec Ideal Cert.ParInRefIdeal.S2048x7168 .f32) :
    Host.dotGeneral (F := Ideal) Cert.ParInRefIdeal.dot_S4096x2048_S2048x7168_S4096x7168_1_0_0_1_n_n none x y = at2 fun r d => ∑ s ∈ range 2048, rd x r s * rd y s d := by
  funext i
  unfold at2
  pointwise
  refine Eq.trans ?_ (Finset.sum_range fun s => rd x (i 0).val s * rd y s (i 1).val).symm
  exact Finset.sum_congr rfl fun k _ => congrArg₂ (· * ·) (rd_at _ _ _ _ rfl rfl) (rd_at _ _ _ _ rfl rfl)

/-! ## The claims -/

theorem frame_words : Cert.quiescent_ParIn := fun m ρ _ => Cert.ParIn.Gen.frame (F := Bits) m ρ
theorem frame_ideal : Cert.quiescent_ParInIdeal := fun m ρ _ => Cert.ParInIdeal.Gen.frame (F := Ideal) m ρ
theorem frame_ref : Cert.quiescent_ParInRefIdeal := fun m ρ _ =>
  (θ_run Cert.ParInRefIdeal.defs _ _).mono (fun r h => ⟨fun c => (h c).2, sem_eq_zero_of_no_sems (by decide) r.2⟩) (Cert.ParInRefIdeal.Value.run (F := Ideal) m ρ)

theorem algebraic : Cert.algebraic_ParInIdeal_ParInRefIdeal := by
  intro m ρ m' ρ' _ hag
  refine ⟨fun c => at2 fun r d => ∑ s ∈ range 2048, A m c r s * B m c s d,
    (θ_run Cert.ParInIdeal.defs _ _).mono (fun r h c => ⟨(h c).1.trans (arr m c), (h c).2⟩) (Cert.ParInIdeal.Value.run_blocks (F := Ideal) m ρ),
    (θ_run Cert.ParInRefIdeal.defs _ _).mono (fun r h c => ⟨(h c).1.trans ?_, (h c).2⟩) (Cert.ParInRefIdeal.Value.run (F := Ideal) m' ρ')⟩
  obtain ⟨a0, a1⟩ := hag c
  rw [a0, a1]
  exact ref _ _

end Cert.ParInIdeal.Prod
-- ==== Proof.MmSgIn.lean ====
module
public import proofs.«01_k».proof.Proof.Sums
public import proofs.«01_k».proof.Proof.Gen.SgInIdeal.Value
public import proofs.«01_k».proof.Proof.Gen.SgIn.Frame
public import proofs.«01_k».proof.Proof.Gen.SgInRefIdeal.Run
public import proofs.«01_k».proof.Defs
public import Idealize.ShloMosaic.Lib.Pipeline.ValueKit
public import Idealize.ShloMosaic.Adequacy

@[expose] public section

/-! The product of the rows with the input projection of the spatial gating: what each grid point leaves, and the array. -/

set_option maxRecDepth 16384

noncomputable section

namespace Cert.SgInIdeal.Prod

open Cert.SgInIdeal Cert.SgInIdeal.Gen Idealize.ShloMosaic Idealize.ShloMosaic.TcCoe
open Cert.Prod
open Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

theorem out_at (f g : ℕ → ℕ → EReal) : out0_2 (F := Ideal) (at2 f) (at3 fun _ => g) = at2 fun r d => ∑ k ∈ range 2048, f r k * g k d := by
  unfold out0_2
  rw [View.canon_unit_zero hz]
  simp only [View.ld_unit_zero (S := S1024x2048) hz, View.ld_unit_zero (S := S1x2048x1024) hz3]
  funext i
  unfold k0_pay1 at2 at3
  pointwise
  exact (Finset.sum_range fun k => f (i 0).val k * g k (i 1).val).symm

theorem ixa : ∀ t : Fin cfg0.N, win0_0.index t (0 : Fin 2) = t.val / 4 ∧ win0_0.index t (1 : Fin 2) = 0 := (by decide +kernel : ∀ t : Fin grid0.N, _)
theorem ixb : ∀ t : Fin cfg0.N, win0_1.index t (0 : Fin 3) = t.val % 4 ∧ win0_1.index t (1 : Fin 3) = 0 ∧ win0_1.index t (2 : Fin 3) = 0 := (by decide +kernel : ∀ t : Fin grid0.N, _)
theorem ixo : ∀ t : Fin cfg0.N, win0_2.index t (0 : Fin 2) = t.val / 4 ∧ win0_2.index t (1 : Fin 2) = t.val % 4 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v3 = at3 fun p r x => B m c r (1024 * p + x) := by
  simp only [V, List.flatten_cons, List.flatten_nil, List.append_nil, hostOps0, List.cons_append, List.nil_append]
  after_results_simp
  funext i
  unfold at3
  pointwise
  refine rd_at _ _ _ _ ?_ ?_
  · simp
  · simp; omega

theorem blka (t : Fin cfg0.N) : (iblk m c 0 t : Vec Ideal S1024x2048 .bf16) = at2 fun r k => A m c (1024 * (t.val / 4) + r) k := by
  funext i
  obtain ⟨e0, e1⟩ := ixa t
  show V m c main_v0 (((cfg0.win 0).blk t).view.emb i) = _
  rw [V_a]
  refine rd_at _ _ _ _ ?_ ?_
  · blk_simp [e0]; omega
  · blk_simp [e1]

theorem blkb (t : Fin cfg0.N) : (iblk m c 1 t : Vec Ideal S1x2048x1024 .bf16) = at3 fun _ k d => B m c k (1024 * (t.val % 4) + d) := by
  funext i
  obtain ⟨e0, e1, e2⟩ := ixb t
  show V m c main_v3 (((cfg0.win 1).blk t).view.emb i) = _
  rw [V_b]
  have h0 := (i 0).isLt
  unfold at3
  refine congrArg₂ (B m c) ?_ ?_
  · blk_simp [e0, e1, e2]
  · blk_simp [e0, e1, e2]

/-- The array: the whole product. -/
theorem arr : (dats (F := Ideal) m 0 c).arrAt 2 cfg0.N = (at2 fun r d => ∑ s ∈ range 2048, A m c r s * B m c s d) := by
  refine (dats m 0 c).arrAt_eq_of_covers 2 _ (by decide +kernel) fun t hf y => ?_
  obtain ⟨e0, e1⟩ := ixo t
  blk_simp
  rw [after0_2, blka, blkb, out_at]
  have a0 : ((((cfg0.win 2).blk t).view.emb y : S4096x4096.Idx) 0).val = 1024 * (t.val / 4) + (y 0).val := by
    blk_simp [e0]; omega
  have a1 : ((((cfg0.win 2).blk t).view.emb y : S4096x4096.Idx) 1).val = 1024 * (t.val % 4) + (y 1).val := by
    blk_simp [e1]; omega
  unfold at2
  rw [a0, a1]

/-- The reference's result. -/
theorem ref (x : FVec Ideal Cert.SgInRefIdeal.S4096x2048 .f32) (y : FVec Ideal Cert.SgInRefIdeal.S2048x4096 .f32) :
    Host.dotGeneral (F := Ideal) Cert.SgInRefIdeal.dot_S4096x2048_S2048x4096_S4096x4096_1_0_0_1_n_n none x y = at2 fun r d => ∑ s ∈ range 2048, rd x r s * rd y s d := by
  funext i
  unfold at2
  pointwise
  refine Eq.trans ?_ (Finset.sum_range fun s => rd x (i 0).val s * rd y s (i 1).val).symm
  exact Finset.sum_congr rfl fun k _ => congrArg₂ (· * ·) (rd_at _ _ _ _ rfl rfl) (rd_at _ _ _ _ rfl rfl)

/-! ## The claims -/

theorem frame_words : Cert.quiescent_SgIn := fun m ρ _ => Cert.SgIn.Gen.frame (F := Bits) m ρ
theorem frame_ideal : Cert.quiescent_SgInIdeal := fun m ρ _ => Cert.SgInIdeal.Gen.frame (F := Ideal) m ρ
theorem frame_ref : Cert.quiescent_SgInRefIdeal := fun m ρ _ =>
  (θ_run Cert.SgInRefIdeal.defs _ _).mono (fun r h => ⟨fun c => (h c).2, sem_eq_zero_of_no_sems (by decide) r.2⟩) (Cert.SgInRefIdeal.Value.run (F := Ideal) m ρ)

theorem algebraic : Cert.algebraic_SgInIdeal_SgInRefIdeal := by
  intro m ρ m' ρ' _ hag
  refine ⟨fun c => at2 fun r d => ∑ s ∈ range 2048, A m c r s * B m c s d,
    (θ_run Cert.SgInIdeal.defs _ _).mono (fun r h c => ⟨(h c).1.trans (arr m c), (h c).2⟩) (Cert.SgInIdeal.Value.run_blocks (F := Ideal) m ρ),
    (θ_run Cert.SgInRefIdeal.defs _ _).mono (fun r h c => ⟨(h c).1.trans ?_, (h c).2⟩) (Cert.SgInRefIdeal.Value.run (F := Ideal) m' ρ')⟩
  obtain ⟨a0, a1⟩ := hag c
  rw [a0, a1]
  exact ref _ _

end Cert.SgInIdeal.Prod
-- ==== Proof.MmOut.lean ====
module
public import proofs.«01_k».proof.Proof.Sums
public import proofs.«01_k».proof.Proof.Gen.OutIdeal.Value
public import proofs.«01_k».proof.Proof.Gen.Out.Frame
public import proofs.«01_k».proof.Proof.Gen.OutRefIdeal.Run
public import proofs.«01_k».proof.Defs
public import Idealize.ShloMosaic.Lib.Pipeline.ValueKit
public import Idealize.ShloMosaic.Adequacy

@[expose] public section

/-! The product of the rows with an output projection: what each grid point leaves, and the array. -/

set_option maxRecDepth 16384

noncomputable section

namespace Cert.OutIdeal.Prod

open Cert.OutIdeal Cert.OutIdeal.Gen Idealize.ShloMosaic Idealize.ShloMosaic.TcCoe
open Cert.Prod
open Idealize.SL.Sem
open Finset (range)

theorem hz : (![0, 0] : Fin 2 → Nat) = fun _ => 0 := funext fun a => by fin_cases a <;> rfl

theorem out_at (f g : ℕ → ℕ → EReal) : out0_2 (F := Ideal) (at2 f) (at2 g) = at2 fun r d => ∑ k ∈ range 2048, f r k * g k d := by
  unfold out0_2
  rw [View.canon_unit_zero hz]
  simp only [View.ld_unit_zero (S := S1024x2048) hz, View.ld_unit_zero (S := S2048x1024) hz]
  funext i
  unfold k0_pay1 at2
  pointwise
  exact (Finset.sum_range fun k => f (i 0).val k * g k (i 1).val).symm

theorem ixa : ∀ t : Fin cfg0.N, win0_0.index t (0 : Fin 2) = t.val / 2 ∧ win0_0.index t (1 : Fin 2) = 0 := (by decide +kernel : ∀ t : Fin grid0.N, _)
theorem ixb : ∀ t : Fin cfg0.N, win0_1.index t (0 : Fin 2) = 0 ∧ win0_1.index t (1 : Fin 2) = t.val % 2 := (by decide +kernel : ∀ t : Fin grid0.N, _)
theorem ixo : ∀ t : Fin cfg0.N, win0_2.index t (0 : Fin 2) = t.val / 2 ∧ win0_2.index t (1 : Fin 2) = t.val % 2 := (by decide +kernel : ∀ t : Fin grid0.N, _)

variable (m : (ℓ : Loc nD τ sig) → Buf (Elt Ideal) ℓ) (c : Dev nD)

/-- The operands, by row and column. -/
abbrev A : ℕ → ℕ → EReal := rd (m ((c : Thread nD τ).loc main_arg0))
@[inherit_doc A] abbrev B : ℕ → ℕ → EReal := rd (m ((c : Thread nD τ).loc main_arg1))

theorem V_a : V m c main_v0 = m ((c : Thread nD τ).loc main_arg0) := by
  simp only [V, List.flatten_cons, List.flatten_nil, List.append_nil, hostOps0, List.cons_append, List.nil_append]
  after_results_simp
  rfl
theorem V_b : V m c main_v1 = m ((c : Thread nD τ).loc main_arg1) := by
  simp only [V, List.flatten_cons, List.flatten_nil, List.append_nil, hostOps0, List.cons_append, List.nil_append]
  after_results_simp
  rfl

theorem blka (t : Fin cfg0.N) : (iblk m c 0 t : Vec Ideal S1024x2048 .bf16) = at2 fun r k => A m c (1024 * (t.val / 2) + r) k := by
  funext i
  obtain ⟨e0, e1⟩ := ixa t
  show V m c main_v0 (((cfg0.win 0).blk t).view.emb i) = _
  rw [V_a]
  refine rd_at _ _ _ _ ?_ ?_
  · blk_simp [e0]; omega
  · blk_simp [e1]

theorem blkb (t : Fin cfg0.N) : (iblk m c 1 t : Vec Ideal S2048x1024 .bf16) = at2 fun k d => B m c k (1024 * (t.val % 2) + d) := by
  funext i
  obtain ⟨e0, e1⟩ := ixb t
  show V m c main_v1 (((cfg0.win 1).blk t).view.emb i) = _
  rw [V_b]
  refine rd_at _ _ _ _ ?_ ?_
  · blk_simp [e0]
  · blk_simp [e1]; omega

/-- The array: the whole product. -/
theorem arr : (dats (F := Ideal) m 0 c).arrAt 2 cfg0.N = (at2 fun r d => ∑ s ∈ range 2048, A m c r s * B m c s d) := by
  refine (dats m 0 c).arrAt_eq_of_covers 2 _ (by decide +kernel) fun t hf y => ?_
  obtain ⟨e0, e1⟩ := ixo t
  blk_simp
  rw [after0_2, blka, blkb, out_at]
  have a0 : ((((cfg0.win 2).blk t).view.emb y : S4096x2048.Idx) 0).val = 1024 * (t.val / 2) + (y 0).val := by
    blk_simp [e0]; omega
  have a1 : ((((cfg0.win 2).blk t).view.emb y : S4096x2048.Idx) 1).val = 1024 * (t.val % 2) + (y 1).val := by
    blk_simp [e1]; omega
  unfold at2
  rw [a0, a1]

/-- The reference's result. -/
theorem ref (x : FVec Ideal Cert.OutRefIdeal.S4096x2048 .f32) (y : FVec Ideal Cert.OutRefIdeal.S2048x2048 .f32) :
    Host.dotGeneral (F := Ideal) Cert.OutRefIdeal.dot_S4096x2048_S2048x2048_S4096x2048_1_0_0_1_n_n none x y = at2 fun r d => ∑ s ∈ range 2048, rd x r s * rd y s d := by
  funext i
  unfold at2
  pointwise
  refine Eq.trans ?_ (Finset.sum_range fun s => rd x (i 0).val s * rd y s (i 1).val).symm
  exact Finset.sum_congr rfl fun k _ => congrArg₂ (· * ·) (rd_at _ _ _ _ rfl rfl) (rd_at _ _ _ _ rfl rfl)

/-! ## The claims -/

theorem frame_words : Cert.quiescent_Out := fun m ρ _ => Cert.Out.Gen.frame (F := Bits) m ρ
theorem frame_ideal : Cert.quiescent_OutIdeal := fun m ρ _ => Cert.OutIdeal.Gen.frame (F := Ideal) m ρ
theorem frame_ref : Cert.quiescent_OutRefIdeal := fun m ρ _ =>
  (θ_run Cert.OutRefIdeal.defs _ _).mono (fun r h => ⟨fun c => (h c).2, sem_eq_zero_of_no_sems (by decide) r.2⟩) (Cert.OutRefIdeal.Value.run (F := Ideal) m ρ)

theorem algebraic : Cert.algebraic_OutIdeal_OutRefIdeal := by
  intro m ρ m' ρ' _ hag
  refine ⟨fun c => at2 fun r d => ∑ s ∈ range 2048, A m c r s * B m c s d,
    (θ_run Cert.OutIdeal.defs _ _).mono (fun r h c => ⟨(h c).1.trans (arr m c), (h c).2⟩) (Cert.OutIdeal.Value.run_blocks (F := Ideal) m ρ),
    (θ_run Cert.OutRefIdeal.defs _ _).mono (fun r h c => ⟨(h c).1.trans ?_, (h c).2⟩) (Cert.OutRefIdeal.Value.run (F := Ideal) m' ρ')⟩
  obtain ⟨a0, a1⟩ := hag c
  rw [a0, a1]
  exact ref _ _

end Cert.OutIdeal.Prod
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.PreFinite
public import proofs.«01_k».proof.Proof.Grid
public import proofs.«01_k».proof.Proof.RefRun
public import proofs.«01_k».proof.Proof.ConvClaim
public import proofs.«01_k».proof.Proof.BlkClaim
public import proofs.«01_k».proof.Proof.FinClaim
public import proofs.«01_k».proof.Proof.NbwClaim
public import proofs.«01_k».proof.Proof.FwdClaim
public import proofs.«01_k».proof.Proof.CfwClaim
public import Idealize.ShloMosaic.Adequacy
public import Idealize.ShloMosaic.Init
public import proofs.«01_k».proof.Proof.Gen.GUp.Frame
public import proofs.«01_k».proof.Proof.Gen.GUpIdeal.Value
public import proofs.«01_k».proof.Proof.Gen.GUpRefIdeal.Run
public import proofs.«01_k».proof.Proof.Gen.DHf.Frame
public import proofs.«01_k».proof.Proof.Gen.DHfIdeal.Value
public import proofs.«01_k».proof.Proof.Gen.DHfRefIdeal.Run
public import proofs.«01_k».proof.Proof.Gen.GDown.Frame
public import proofs.«01_k».proof.Proof.Gen.GDownIdeal.Value
public import proofs.«01_k».proof.Proof.Gen.GDownRefIdeal.Run
public import proofs.«01_k».proof.Proof.Gen.DU.Frame
public import proofs.«01_k».proof.Proof.Gen.DUIdeal.Value
public import proofs.«01_k».proof.Proof.Gen.DURefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.GParIn.Frame
public import proofs.«01_k».proof.Proof.Gen.GParInIdeal.Value
public import proofs.«01_k».proof.Proof.Gen.GParInRefIdeal.Run
public import proofs.«01_k».proof.Proof.Gen.DParIn.Frame
public import proofs.«01_k».proof.Proof.Gen.DParInIdeal.Value
public import proofs.«01_k».proof.Proof.Gen.DParInRefIdeal.Run
public import proofs.«01_k».proof.Proof.Gen.GSgIn.Frame
public import proofs.«01_k».proof.Proof.Gen.GSgInIdeal.Value
public import proofs.«01_k».proof.Proof.Gen.GSgInRefIdeal.Run
public import proofs.«01_k».proof.Proof.Gen.DSgIn.Frame
public import proofs.«01_k».proof.Proof.Gen.DSgInIdeal.Value
public import proofs.«01_k».proof.Proof.Gen.DSgInRefIdeal.Run
public import proofs.«01_k».proof.Proof.Gen.GOut.Frame
public import proofs.«01_k».proof.Proof.Gen.GOutIdeal.Value
public import proofs.«01_k».proof.Proof.Gen.GOutRefIdeal.Run
public import proofs.«01_k».proof.Proof.Gen.DOut.Frame
public import proofs.«01_k».proof.Proof.Gen.DOutIdeal.Value
public import proofs.«01_k».proof.Proof.Gen.DOutRefIdeal.Run
public import proofs.«01_k».proof.Proof.Gen.ParIn.Frame
public import proofs.«01_k».proof.Proof.Gen.ParInIdeal.Value
public import proofs.«01_k».proof.Proof.Gen.ParInRefIdeal.Run
public import proofs.«01_k».proof.Proof.Gen.SgIn.Frame
public import proofs.«01_k».proof.Proof.Gen.SgInIdeal.Value
public import proofs.«01_k».proof.Proof.Gen.SgInRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.ConvBwd.Frame
public import proofs.«01_k».proof.Proof.Gen.BlockBwd.Frame
public import proofs.«01_k».proof.Proof.Gen.BlockBwdIdeal.Value
public import proofs.«01_k».proof.Proof.Gen.BlockBwdRefIdeal.Run
public import proofs.«01_k».proof.Proof.Gen.ConvBwdIdeal.Value
public import proofs.«01_k».proof.Proof.Gen.ConvBwdRefIdeal.Run
public import proofs.«01_k».proof.Proof.Gen.FinalLoss.Frame
public import proofs.«01_k».proof.Proof.Gen.FinalLossIdeal.Value
public import proofs.«01_k».proof.Proof.Gen.FinalLossRefIdeal.Run
public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.BlockFwd.Frame
public import proofs.«01_k».proof.Proof.Gen.BlockFwdIdeal.Value
public import proofs.«01_k».proof.Proof.Gen.BlockFwdRefIdeal.Run
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.ConvFwd.Frame
public import proofs.«01_k».proof.Proof.Gen.ConvFwdIdeal.Value
public import proofs.«01_k».proof.Proof.Gen.ConvFwdRefIdeal.Run
public import proofs.«01_k».proof.Proof.MmGUp
public import proofs.«01_k».proof.Proof.MmDHf
public import proofs.«01_k».proof.Proof.MmGDown
public import proofs.«01_k».proof.Proof.MmDU
public import proofs.«01_k».proof.Proof.MmUp
public import proofs.«01_k».proof.Proof.MmDown
public import proofs.«01_k».proof.Proof.MmGParIn
public import proofs.«01_k».proof.Proof.MmDParIn
public import proofs.«01_k».proof.Proof.MmGSgIn
public import proofs.«01_k».proof.Proof.MmDSgIn
public import proofs.«01_k».proof.Proof.MmGOut
public import proofs.«01_k».proof.Proof.MmDOut
public import proofs.«01_k».proof.Proof.MmParIn
public import proofs.«01_k».proof.Proof.MmSgIn
public import proofs.«01_k».proof.Proof.MmOut

@[expose] public section

/-! The claims. Both programs end with the gradients of `Head` (proof/Proof/Spec.lean), head by head; of the products both programs end with the
product's sums (proof/Proof/Mm….lean). -/

set_option maxRecDepth 16384

noncomputable section

namespace Cert.Proof

open Idealize.ShloMosaic Idealize.SL.Sem Idealize.ShloMosaic.TcCoe
open Cert.KernelIdeal.Step (heads up)

/-- The run of the kernel over any float values, as one statement. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The kernel over words has the text of the kernel over ideal values: its frame is the same statement, read at words. -/
theorem frame_text : Cert.quiescent_Kernel = FrameAt Bits := by sl_kernel_rfl

theorem frame_kernel : Cert.quiescent_Kernel := frame_text.mpr fun m ρ _ => Cert.KernelIdeal.Gen.frame (F := Bits) m ρ
theorem frame_ideal : Cert.quiescent_KernelIdeal := fun m ρ _ => Cert.KernelIdeal.Gen.frame (F := Ideal) m ρ
theorem frame_ideal_pre : Cert.quiescent_KernelIdeal_pre_finite := fun m ρ _ => Cert.KernelIdeal.Gen.frame (F := Ideal) m ρ
theorem frame_ref : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem frame_ref_pre : Cert.quiescent_ReferenceIdeal_pre_finite := fun m ρ _ => frame_ref m ρ trivial

/-- The gradients of the queries, the keys and the values, from the argument arrays. -/
def gq (m : (ℓ : Loc Cert.KernelIdeal.nD Cert.KernelIdeal.τ Cert.KernelIdeal.sig) → Buf (Elt Ideal) ℓ) (c : Dev Cert.KernelIdeal.nD) :
    Cert.KernelIdeal.S4096x1024.Idx → EReal := up fun t j => (Cert.KernelIdeal.Step.hA m c (j / 128)).dq t (j % 128)
@[inherit_doc gq] def gk (m : (ℓ : Loc Cert.KernelIdeal.nD Cert.KernelIdeal.τ Cert.KernelIdeal.sig) → Buf (Elt Ideal) ℓ) (c : Dev Cert.KernelIdeal.nD) :
    Cert.KernelIdeal.S4096x1024.Idx → EReal := up fun t j => (Cert.KernelIdeal.Step.hA m c (j / 128)).dk t (j % 128)
@[inherit_doc gq] def gv (m : (ℓ : Loc Cert.KernelIdeal.nD Cert.KernelIdeal.τ Cert.KernelIdeal.sig) → Buf (Elt Ideal) ℓ) (c : Dev Cert.KernelIdeal.nD) :
    Cert.KernelIdeal.S4096x1024.Idx → EReal := up fun t j => (Cert.KernelIdeal.Step.hA m c (j / 128)).dv t (j % 128)

theorem algebraic : Cert.algebraic_KernelIdeal_ReferenceIdeal_pre_finite := by
  intro m ρ m' ρ' hpre hag
  have H := fun c => Cert.Pre_finite.fin2 _ _ (hpre c)
  refine ⟨gq m, gk m, gv m, ?_, ?_⟩
  · refine (θ_run Cert.KernelIdeal.defs _ _).mono (fun r h c => ?_) (Cert.KernelIdeal.Value.run_blocks (F := Ideal) m ρ)
    obtain ⟨h5, h6, h7, h0, h1⟩ := h c
    exact ⟨h5.trans (Cert.KernelIdeal.Step.arr5 m c (H c)), h6.trans (Cert.KernelIdeal.Step.arr6 m c (H c)), h7.trans (Cert.KernelIdeal.Step.arr7 m c (H c)), h0, h1⟩
  · refine (θ_run Cert.ReferenceIdeal.defs _ _).mono (fun r h c => ?_) (Cert.ReferenceIdeal.Value.run (F := Ideal) m' ρ')
    obtain ⟨hq, hk, hv, h0, h1⟩ := h c
    obtain ⟨a0, a1⟩ := hag c
    refine ⟨hq.trans ((Cert.ReferenceIdeal.Ref.res56 m' c).trans ?_), hk.trans ((Cert.ReferenceIdeal.Ref.res54 m' c).trans ?_), hv.trans ((Cert.ReferenceIdeal.Ref.res52 m' c).trans ?_), h0, h1⟩
    · rw [a0, a1]; exact Cert.ReferenceIdeal.Ref.rq_up _ _ (H c)
    · rw [a0, a1]; exact Cert.ReferenceIdeal.Ref.rk_up _ _ (H c)
    · rw [a0, a1]; exact Cert.ReferenceIdeal.Ref.rv_up _ _ (H c)

theorem claim : Cert.Claim := ⟨Cert.Kernel.Gen.facts, Cert.KernelIdeal.Gen.facts, Cert.ReferenceIdeal.Gen.facts,
  Cert.GUp.Gen.facts, Cert.GUpIdeal.Gen.facts, Cert.GUpRefIdeal.Gen.facts,
  Cert.DHf.Gen.facts, Cert.DHfIdeal.Gen.facts, Cert.DHfRefIdeal.Gen.facts,
  Cert.GDown.Gen.facts, Cert.GDownIdeal.Gen.facts, Cert.GDownRefIdeal.Gen.facts,
  Cert.DU.Gen.facts, Cert.DUIdeal.Gen.facts, Cert.DURefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.GParIn.Gen.facts, Cert.GParInIdeal.Gen.facts, Cert.GParInRefIdeal.Gen.facts,
  Cert.DParIn.Gen.facts, Cert.DParInIdeal.Gen.facts, Cert.DParInRefIdeal.Gen.facts,
  Cert.GSgIn.Gen.facts, Cert.GSgInIdeal.Gen.facts, Cert.GSgInRefIdeal.Gen.facts,
  Cert.DSgIn.Gen.facts, Cert.DSgInIdeal.Gen.facts, Cert.DSgInRefIdeal.Gen.facts,
  Cert.GOut.Gen.facts, Cert.GOutIdeal.Gen.facts, Cert.GOutRefIdeal.Gen.facts,
  Cert.DOut.Gen.facts, Cert.DOutIdeal.Gen.facts, Cert.DOutRefIdeal.Gen.facts,
  Cert.ParIn.Gen.facts, Cert.ParInIdeal.Gen.facts, Cert.ParInRefIdeal.Gen.facts,
  Cert.SgIn.Gen.facts, Cert.SgInIdeal.Gen.facts, Cert.SgInRefIdeal.Gen.facts,
  Cert.Out.Gen.facts, Cert.OutIdeal.Gen.facts, Cert.OutRefIdeal.Gen.facts,
  Cert.ConvBwd.Gen.facts, Cert.ConvBwdIdeal.Gen.facts, Cert.ConvBwdRefIdeal.Gen.facts,
  Cert.BlockBwd.Gen.facts, Cert.BlockBwdIdeal.Gen.facts, Cert.BlockBwdRefIdeal.Gen.facts,
  Cert.FinalLoss.Gen.facts, Cert.FinalLossIdeal.Gen.facts, Cert.FinalLossRefIdeal.Gen.facts,
  Cert.NormBwd.Gen.facts, Cert.NormBwdIdeal.Gen.facts, Cert.NormBwdRefIdeal.Gen.facts,
  Cert.BlockFwd.Gen.facts, Cert.BlockFwdIdeal.Gen.facts, Cert.BlockFwdRefIdeal.Gen.facts,
  Cert.NormFwd.Gen.facts, Cert.NormFwdIdeal.Gen.facts, Cert.NormFwdRefIdeal.Gen.facts,
  Cert.ConvFwd.Gen.facts, Cert.ConvFwdIdeal.Gen.facts, Cert.ConvFwdRefIdeal.Gen.facts,
  Cert.Pre_finite.facts, Cert.Pre_finite_conv.facts,
  frame_kernel, frame_ideal, frame_ideal_pre, frame_ref, frame_ref_pre,
  Cert.GUpIdeal.Prod.frame_words, Cert.GUpIdeal.Prod.frame_ideal, Cert.GUpIdeal.Prod.frame_ref,
  Cert.DHfIdeal.Prod.frame_words, Cert.DHfIdeal.Prod.frame_ideal, Cert.DHfIdeal.Prod.frame_ref,
  Cert.GDownIdeal.Prod.frame_words, Cert.GDownIdeal.Prod.frame_ideal, Cert.GDownIdeal.Prod.frame_ref,
  Cert.DUIdeal.Prod.frame_words, Cert.DUIdeal.Prod.frame_ideal, Cert.DUIdeal.Prod.frame_ref,
  Cert.UpIdeal.Prod.frame_words, Cert.UpIdeal.Prod.frame_ideal, Cert.UpIdeal.Prod.frame_ref,
  Cert.DownIdeal.Prod.frame_words, Cert.DownIdeal.Prod.frame_ideal, Cert.DownIdeal.Prod.frame_ref,
  Cert.GParInIdeal.Prod.frame_words, Cert.GParInIdeal.Prod.frame_ideal, Cert.GParInIdeal.Prod.frame_ref,
  Cert.DParInIdeal.Prod.frame_words, Cert.DParInIdeal.Prod.frame_ideal, Cert.DParInIdeal.Prod.frame_ref,
  Cert.GSgInIdeal.Prod.frame_words, Cert.GSgInIdeal.Prod.frame_ideal, Cert.GSgInIdeal.Prod.frame_ref,
  Cert.DSgInIdeal.Prod.frame_words, Cert.DSgInIdeal.Prod.frame_ideal, Cert.DSgInIdeal.Prod.frame_ref,
  Cert.GOutIdeal.Prod.frame_words, Cert.GOutIdeal.Prod.frame_ideal, Cert.GOutIdeal.Prod.frame_ref,
  Cert.DOutIdeal.Prod.frame_words, Cert.DOutIdeal.Prod.frame_ideal, Cert.DOutIdeal.Prod.frame_ref,
  Cert.ParInIdeal.Prod.frame_words, Cert.ParInIdeal.Prod.frame_ideal, Cert.ParInIdeal.Prod.frame_ref,
  Cert.SgInIdeal.Prod.frame_words, Cert.SgInIdeal.Prod.frame_ideal, Cert.SgInIdeal.Prod.frame_ref,
  Cert.OutIdeal.Prod.frame_words, Cert.OutIdeal.Prod.frame_ideal, Cert.OutIdeal.Prod.frame_ref,
  Cert.ConvBwdIdeal.Conv.frame_words, Cert.ConvBwdIdeal.Conv.frame_ideal, Cert.ConvBwdIdeal.Conv.frame_ideal_pre,
  Cert.ConvBwdIdeal.Conv.frame_ref, Cert.ConvBwdIdeal.Conv.frame_ref_pre,
  Cert.BlockBwdIdeal.Blk.frame_words, Cert.BlockBwdIdeal.Blk.frame_ideal, Cert.BlockBwdIdeal.Blk.frame_ref,
  Cert.FinalLossIdeal.Fin.frame_words, Cert.FinalLossIdeal.Fin.frame_ideal, Cert.FinalLossIdeal.Fin.frame_ref,
  Cert.NormBwdIdeal.Nrm.frame_words, Cert.NormBwdIdeal.Nrm.frame_ideal, Cert.NormBwdIdeal.Nrm.frame_ref,
  Cert.BlockFwdIdeal.Blk.frame_words, Cert.BlockFwdIdeal.Blk.frame_ideal, Cert.BlockFwdIdeal.Blk.frame_ref,
  Cert.NormFwdIdeal.Nrm.frame_words, Cert.NormFwdIdeal.Nrm.frame_ideal, Cert.NormFwdIdeal.Nrm.frame_ref,
  Cert.ConvFwdIdeal.Conv.frame_words, Cert.ConvFwdIdeal.Conv.frame_ideal, Cert.ConvFwdIdeal.Conv.frame_ref,
  trivial, algebraic,
  trivial, Cert.GUpIdeal.Prod.algebraic, trivial, Cert.DHfIdeal.Prod.algebraic, trivial, Cert.GDownIdeal.Prod.algebraic,
  trivial, Cert.DUIdeal.Prod.algebraic, trivial, Cert.UpIdeal.Prod.algebraic, trivial, Cert.DownIdeal.Prod.algebraic,
  trivial, Cert.GParInIdeal.Prod.algebraic, trivial, Cert.DParInIdeal.Prod.algebraic, trivial, Cert.GSgInIdeal.Prod.algebraic,
  trivial, Cert.DSgInIdeal.Prod.algebraic, trivial, Cert.GOutIdeal.Prod.algebraic, trivial, Cert.DOutIdeal.Prod.algebraic,
  trivial, Cert.ParInIdeal.Prod.algebraic, trivial, Cert.SgInIdeal.Prod.algebraic, trivial, Cert.OutIdeal.Prod.algebraic,
  trivial, Cert.ConvBwdIdeal.Conv.algebraic, trivial, Cert.BlockBwdIdeal.Blk.algebraic, trivial, Cert.FinalLossIdeal.Fin.algebraic,
  trivial, Cert.NormBwdIdeal.Nrm.algebraic, trivial, Cert.BlockFwdIdeal.Blk.algebraic, trivial, Cert.NormFwdIdeal.Nrm.algebraic,
  trivial, Cert.ConvFwdIdeal.Conv.algebraic⟩

end Cert.Proof

end
